-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v11_0)) (v1 : (c : Dev Cert.Kernel2Ideal.nD) → Buf (Elt Ideal) ((c.tc : Thread Cert.Kernel2Ideal.nD Cert.Kernel2Ideal.τ).loc Cert.Kernel2Ideal.main_v21)) (v2 : (c : Dev Cert.Kernel2Ideal.nD) → Buf (Elt Ideal) ((c.tc : Thread Cert.Kernel2Ideal.nD Cert.Kernel2Ideal.τ).loc Cert.Kernel2Ideal.main_v14)) (v3 : (c : Dev Cert.Kernel2Ideal.nD) → Buf (Elt Ideal) ((c.tc : Thread Cert.Kernel2Ideal.nD Cert.Kernel2Ideal.τ).loc Cert.Kernel2Ideal.main_v17)) (v4 : (c : Dev Cert.Kernel2Ideal.nD) → Buf (Elt Ideal) ((c.tc : Thread Cert.Kernel2Ideal.nD Cert.Kernel2Ideal.τ).loc Cert.Kernel2Ideal.main_v20)) (v5 : (c : Dev Cert.Kernel2Ideal.nD) → Buf (Elt Ideal) ((c.tc : Thread Cert.Kernel2Ideal.nD Cert.Kernel2Ideal.τ).loc Cert.Kernel2Ideal.main_v24)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11_0) = v0 c
          ∧ r.2.mem ((c.tc : Thread Cert.Kernel2Ideal.nD Cert.Kernel2Ideal.τ).loc Cert.Kernel2Ideal.main_v21) = v1 c
          ∧ r.2.mem ((c.tc : Thread Cert.Kernel2Ideal.nD Cert.Kernel2Ideal.τ).loc Cert.Kernel2Ideal.main_v14) = v2 c
          ∧ r.2.mem ((c.tc : Thread Cert.Kernel2Ideal.nD Cert.Kernel2Ideal.τ).loc Cert.Kernel2Ideal.main_v17) = v3 c
          ∧ r.2.mem ((c.tc : Thread Cert.Kernel2Ideal.nD Cert.Kernel2Ideal.τ).loc Cert.Kernel2Ideal.main_v20) = v4 c
          ∧ r.2.mem ((c.tc : Thread Cert.Kernel2Ideal.nD Cert.Kernel2Ideal.τ).loc Cert.Kernel2Ideal.main_v24) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_v64) = v1 c
          ∧ r.2.mem ((c.tc : Thread Cert.Reference2Ideal.nD Cert.Reference2Ideal.τ).loc Cert.Reference2Ideal.main_v85) = v2 c
          ∧ r.2.mem ((c.tc : Thread Cert.Reference2Ideal.nD Cert.Reference2Ideal.τ).loc Cert.Reference2Ideal.main_v101) = v3 c
          ∧ r.2.mem ((c.tc : Thread Cert.Reference2Ideal.nD Cert.Reference2Ideal.τ).loc Cert.Reference2Ideal.main_v102) = v4 c
          ∧ r.2.mem ((c.tc : Thread Cert.Reference2Ideal.nD Cert.Reference2Ideal.τ).loc Cert.Reference2Ideal.main_v103) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v261) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_finite2 : Cert.Pre_finite2.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
-- ==== Pre_finite.lean ====
abbrev S16x2048x8x64 : Shape := ⟨4, ![16, 2048, 8, 64]⟩
abbrev S16x2048x8 : Shape := ⟨3, ![16, 2048, 8]⟩
abbrev S16x2048x512 : Shape := ⟨3, ![16, 2048, 512]⟩
abbrev S_ : Shape := ⟨0, ![]⟩

class Facts : Prop where
  bcast_S_S16x2048x8x64 : S_.BroadcastsInDim S16x2048x8x64 (![] : Fin 0 → Fin S16x2048x8x64.rank)
  bcast_S_S16x2048x8 : S_.BroadcastsInDim S16x2048x8 (![] : Fin 0 → Fin S16x2048x8.rank)
  bcast_S_S16x2048x512 : S_.BroadcastsInDim S16x2048x512 (![] : Fin 0 → Fin S16x2048x512.rank)

variable [Facts]

def fn {F : FTy → Type} [FloatOps F] (main_arg0 : FVec F S16x2048x8x64 .f32) (main_arg1 : FVec F S16x2048x8x64 .f32) (main_arg2 : FVec F S16x2048x8x64 .f32) (main_arg3 : FVec F S16x2048x8 .f32) (main_arg4 : FVec F S16x2048x512 .f32) : IVec S16x2048x8x64 1 × IVec S16x2048x8x64 1 × IVec S16x2048x8 1 × IVec S16x2048x512 1 :=
  let main_v0 : FVec F S16x2048x8x64 .f32 := Host.absf main_arg0
  let main_cst : FVec F S_ .f32 := constant S_ .f32 0x7F800000#32
  let main_v1 : FVec F S16x2048x8x64 .f32 := broadcastInDim S16x2048x8x64 ![] bcast_S_S16x2048x8x64 main_cst
  let main_v2 : IVec S16x2048x8x64 1 := cmpf .olt main_v0 main_v1
  let main_v3 : FVec F S16x2048x8x64 .f32 := Host.absf main_arg1
  let main_cst_0 : FVec F S_ .f32 := constant S_ .f32 0x7F800000#32
  let main_v4 : FVec F S16x2048x8x64 .f32 := broadcastInDim S16x2048x8x64 ![] bcast_S_S16x2048x8x64 main_cst_0
  let main_v5 : IVec S16x2048x8x64 1 := cmpf .olt main_v3 main_v4
  let main_v6 : FVec F S16x2048x8 .f32 := Host.absf main_arg3
  let main_cst_1 : FVec F S_ .f32 := constant S_ .f32 0x7F800000#32
  let main_v7 : FVec F S16x2048x8 .f32 := broadcastInDim S16x2048x8 ![] bcast_S_S16x2048x8 main_cst_1
  let main_v8 : IVec S16x2048x8 1 := cmpf .olt main_v6 main_v7
  let main_cst_2 : FVec F S_ .f32 := constant S_ .f32 0xFF800000#32
  let main_v9 : FVec F S16x2048x512 .f32 := broadcastInDim S16x2048x512 ![] bcast_S_S16x2048x512 main_cst_2
  let main_v10 : IVec S16x2048x512 1 := cmpf .ogt main_arg4 main_v9
  (main_v2, main_v5, main_v8, main_v10)
-- ==== Pre_finite2.lean ====
abbrev S16x2048x1024 : Shape := ⟨3, ![16, 2048, 1024]⟩
abbrev S2x1024 : Shape := ⟨2, ![2, 1024]⟩
abbrev S2x1024x3848 : Shape := ⟨3, ![2, 1024, 3848]⟩
abbrev S2x8 : Shape := ⟨2, ![2, 8]⟩
abbrev S2x3x256 : Shape := ⟨3, ![2, 3, 256]⟩
abbrev S2x8x64 : Shape := ⟨3, ![2, 8, 64]⟩
abbrev S_ : Shape := ⟨0, ![]⟩

class Facts : Prop where
  bcast_S_S2x1024 : S_.BroadcastsInDim S2x1024 (![] : Fin 0 → Fin S2x1024.rank)
  bcast_S_S2x1024x3848 : S_.BroadcastsInDim S2x1024x3848 (![] : Fin 0 → Fin S2x1024x3848.rank)

variable [Facts]

def fn {F : FTy → Type} [FloatOps F] (main_arg0 : FVec F S16x2048x1024 .f32) (main_arg1 : FVec F S2x1024 .f32) (main_arg2 : FVec F S2x1024x3848 .f32) (main_arg3 : FVec F S2x8 .f32) (main_arg4 : FVec F S2x3x256 .f32) (main_arg5 : FVec F S2x8x64 .f32) (main_arg6 : FVec F S2x8x64 .f32) : IVec S2x1024 1 × IVec S2x1024x3848 1 :=
  let main_v0 : FVec F S2x1024 .f32 := Host.absf main_arg1
  let main_cst : FVec F S_ .f32 := constant S_ .f32 0x7F800000#32
  let main_v1 : FVec F S2x1024 .f32 := broadcastInDim S2x1024 ![] bcast_S_S2x1024 main_cst
  let main_v2 : IVec S2x1024 1 := cmpf .olt main_v0 main_v1
  let main_v3 : FVec F S2x1024x3848 .f32 := Host.absf main_arg2
  let main_cst_0 : FVec F S_ .f32 := constant S_ .f32 0x7F800000#32
  let main_v4 : FVec F S2x1024x3848 .f32 := broadcastInDim S2x1024x3848 ![] bcast_S_S2x1024x3848 main_cst_0
  let main_v5 : IVec S2x1024x3848 1 := cmpf .olt main_v3 main_v4
  (main_v2, main_v5)
-- ==== Pre_finite3.lean ====
abbrev S16x2048x1024 : Shape := ⟨3, ![16, 2048, 1024]⟩
abbrev S16x2048x512 : Shape := ⟨3, ![16, 2048, 512]⟩
abbrev S16x2048x256 : Shape := ⟨3, ![16, 2048, 256]⟩
abbrev S2x31x256 : Shape := ⟨3, ![2, 31, 256]⟩
abbrev S2x256 : Shape := ⟨2, ![2, 256]⟩
abbrev S2x256x256 : Shape := ⟨3, ![2, 256, 256]⟩
abbrev S2x1024x1024 : Shape := ⟨3, ![2, 1024, 1024]⟩
abbrev S_ : Shape := ⟨0, ![]⟩

class Facts : Prop where
  bcast_S_S2x256 : S_.BroadcastsInDim S2x256 (![] : Fin 0 → Fin S2x256.rank)

variable [Facts]

def fn {F : FTy → Type} [FloatOps F] (main_arg0 : FVec F S16x2048x1024 .f32) (main_arg1 : FVec F S16x2048x512 .f32) (main_arg2 : FVec F S16x2048x256 .f32) (main_arg3 : FVec F S16x2048x512 .f32) (main_arg4 : FVec F S2x31x256 .f32) (main_arg5 : FVec F S2x256 .f32) (main_arg6 : FVec F S2x256 .f32) (main_arg7 : FVec F S2x256 .f32) (main_arg8 : FVec F S2x256x256 .f32) (main_arg9 : FVec F S2x1024x1024 .f32) : IVec S2x256 1 × IVec S2x256 1 :=
  let main_v0 : FVec F S2x256 .f32 := Host.absf main_arg6
  let main_cst : FVec F S_ .f32 := constant S_ .f32 0x7F800000#32
  let main_v1 : FVec F S2x256 .f32 := broadcastInDim S2x256 ![] bcast_S_S2x256 main_cst
  let main_v2 : IVec S2x256 1 := cmpf .olt main_v0 main_v1
  let main_v3 : FVec F S2x256 .f32 := Host.absf main_arg7
  let main_cst_0 : FVec F S_ .f32 := constant S_ .f32 0x7F800000#32
  let main_v4 : FVec F S2x256 .f32 := broadcastInDim S2x256 ![] bcast_S_S2x256 main_cst_0
  let main_v5 : IVec S2x256 1 := cmpf .olt main_v3 main_v4
  (main_v2, main_v5)
-- ==== Kernel.lean ====
abbrev S16x2048x8x64 : Shape := ⟨4, ![16, 2048, 8, 64]⟩
abbrev S16x2048x8 : Shape := ⟨3, ![16, 2048, 8]⟩
abbrev S16x2048x512 : Shape := ⟨3, ![16, 2048, 512]⟩
abbrev S_ : Shape := ⟨0, ![]⟩
abbrev S16x8x2048 : Shape := ⟨3, ![16, 8, 2048]⟩
abbrev S16x8x1x2048 : Shape := ⟨4, ![16, 8, 1, 2048]⟩
abbrev S16x8x16x2048 : Shape := ⟨4, ![16, 8, 16, 2048]⟩
abbrev S16x8x48x2048 : Shape := ⟨4, ![16, 8, 48, 2048]⟩
abbrev S16x8x64x2048 : Shape := ⟨4, ![16, 8, 64, 2048]⟩
abbrev S16x8x128x2048 : Shape := ⟨4, ![16, 8, 128, 2048]⟩
abbrev S16x8x2048x128 : Shape := ⟨4, ![16, 8, 2048, 128]⟩
abbrev S16x8x80x2048 : Shape := ⟨4, ![16, 8, 80, 2048]⟩
abbrev S1x8x128x2048 : Shape := ⟨4, ![1, 8, 128, 2048]⟩
abbrev S1x8x2048x128 : Shape := ⟨4, ![1, 8, 2048, 128]⟩
abbrev S1x8x80x2048 : Shape := ⟨4, ![1, 8, 80, 2048]⟩
abbrev S1x8x64x2048 : Shape := ⟨4, ![1, 8, 64, 2048]⟩
abbrev S4x2048x256 : Shape := ⟨3, ![4, 2048, 256]⟩
abbrev S4x8x256 : Shape := ⟨3, ![4, 8, 256]⟩
abbrev S256x256 : Shape := ⟨2, ![256, 256]⟩
abbrev S1x1x128x256 : Shape := ⟨4, ![1, 1, 128, 256]⟩
abbrev S128x256 : Shape := ⟨2, ![128, 256]⟩
abbrev S1x1x256x128 : Shape := ⟨4, ![1, 1, 256, 128]⟩
abbrev S256x128 : Shape := ⟨2, ![256, 128]⟩
abbrev S1x256x256 : Shape := ⟨3, ![1, 256, 256]⟩
abbrev S256 : Shape := ⟨1, ![256]⟩
abbrev S1x256 : Shape := ⟨2, ![1, 256]⟩
abbrev S8x256 : Shape := ⟨2, ![8, 256]⟩
abbrev S1x8x256 : Shape := ⟨3, ![1, 8, 256]⟩
abbrev S1x1x256 : Shape := ⟨3, ![1, 1, 256]⟩
abbrev S1x1x80x256 : Shape := ⟨4, ![1, 1, 80, 256]⟩
abbrev S80x256 : Shape := ⟨2, ![80, 256]⟩
abbrev S64x256 : Shape := ⟨2, ![64, 256]⟩
abbrev S1x1x64x256 : Shape := ⟨4, ![1, 1, 64, 256]⟩

abbrev nBuf : Space → Nat
  | .hbm => 114
  | .vmem => 12
  | .smem => 0
  | _ => 0

abbrev bufTy : (tb : Table) → Fin (tcTables nBuf tb) → BufTy
  | .hbm, ⟨0, _⟩ => ⟨S16x2048x8x64, .f32⟩
  | .hbm, ⟨1, _⟩ => ⟨S16x2048x8x64, .f32⟩
  | .hbm, ⟨2, _⟩ => ⟨S16x2048x8x64, .f32⟩
  | .hbm, ⟨3, _⟩ => ⟨S16x2048x8, .f32⟩
  | .hbm, ⟨4, _⟩ => ⟨S16x2048x512, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S16x2048x8, .f32⟩
  | .hbm, ⟨14, _⟩ => ⟨S16x8x2048, .f32⟩
  | .hbm, ⟨15, _⟩ => ⟨S16x8x2048, .f32⟩
  | .hbm, ⟨16, _⟩ => ⟨S16x8x2048, .f32⟩
  | .hbm, ⟨17, _⟩ => ⟨S16x8x1x2048, .f32⟩
  | .hbm, ⟨18, _⟩ => ⟨S16x8x1x2048, .bf16⟩
  | .hbm, ⟨19, _⟩ => ⟨S16x8x1x2048, .f32⟩
  | .hbm, ⟨20, _⟩ => ⟨S16x8x1x2048, .f32⟩
  | .hbm, ⟨21, _⟩ => ⟨S16x8x1x2048, .bf16⟩
  | .hbm, ⟨22, _⟩ => ⟨S16x8x1x2048, .f32⟩
  | .hbm, ⟨23, _⟩ => ⟨S16x8x1x2048, .f32⟩
  | .hbm, ⟨24, _⟩ => ⟨S16x8x1x2048, .bf16⟩
  | .hbm, ⟨25, _⟩ => ⟨S16x8x1x2048, .f32⟩
  | .hbm, ⟨26, _⟩ => ⟨S16x8x16x2048, .i32⟩
  | .hbm, ⟨27, _⟩ => ⟨S_, .i32⟩
  | .hbm, ⟨28, _⟩ => ⟨S16x8x16x2048, .i32⟩
  | .hbm, ⟨29, _⟩ => ⟨S16x8x16x2048, .i1⟩
  | .hbm, ⟨30, _⟩ => ⟨S_, .i32⟩
  | .hbm, ⟨31, _⟩ => ⟨S16x8x16x2048, .i32⟩
  | .hbm, ⟨32, _⟩ => ⟨S16x8x16x2048, .i1⟩
  | .hbm, ⟨33, _⟩ => ⟨S16x8x16x2048, .f32⟩
  | .hbm, ⟨34, _⟩ => ⟨S16x8x16x2048, .f32⟩
  | .hbm, ⟨35, _⟩ => ⟨S16x8x16x2048, .f32⟩
  | .hbm, ⟨36, _⟩ => ⟨S16x8x16x2048, .f32⟩
  | .hbm, ⟨37, _⟩ => ⟨S16x8x16x2048, .f32⟩
  | .hbm, ⟨38, _⟩ => ⟨S_, .i32⟩
  | .hbm, ⟨39, _⟩ => ⟨S16x8x16x2048, .i32⟩
  | .hbm, ⟨40, _⟩ => ⟨S16x8x16x2048, .i1⟩
  | .hbm, ⟨41, _⟩ => ⟨S_, .i32⟩
  | .hbm, ⟨42, _⟩ => ⟨S16x8x16x2048, .i32⟩
  | .hbm, ⟨43, _⟩ => ⟨S16x8x16x2048, .i1⟩
  | .hbm, ⟨44, _⟩ => ⟨S_, .f32⟩
  | .hbm, ⟨45, _⟩ => ⟨S_, .f32⟩
  | .hbm, ⟨46, _⟩ => ⟨S16x8x16x2048, .f32⟩
  | .hbm, ⟨47, _⟩ => ⟨S16x8x16x2048, .f32⟩
  | .hbm, ⟨48, _⟩ => ⟨S16x8x16x2048, .f32⟩
  | .hbm, ⟨49, _⟩ => ⟨S16x8x16x2048, .f32⟩
  | .hbm, ⟨50, _⟩ => ⟨S16x8x16x2048, .f32⟩
  | .hbm, ⟨51, _⟩ => ⟨S_, .i32⟩
  | .hbm, ⟨52, _⟩ => ⟨S16x8x16x2048, .i32⟩
  | .hbm, ⟨53, _⟩ => ⟨S16x8x16x2048, .i1⟩
  | .hbm, ⟨54, _⟩ => ⟨S_, .i32⟩
  | .hbm, ⟨55, _⟩ => ⟨S16x8x16x2048, .i32⟩
  | .hbm, ⟨56, _⟩ => ⟨S16x8x16x2048, .i1⟩
  | .hbm, ⟨57, _⟩ => ⟨S16x8x16x2048, .f32⟩
  | .hbm, ⟨58, _⟩ => ⟨S16x8x16x2048, .f32⟩
  | .hbm, ⟨59, _⟩ => ⟨S16x8x16x2048, .f32⟩
  | .hbm, ⟨60, _⟩ => ⟨S16x8x16x2048, .f32⟩
  | .hbm, ⟨61, _⟩ => ⟨S16x8x16x2048, .f32⟩
  | .hbm, ⟨62, _⟩ => ⟨S_, .i32⟩
  | .hbm, ⟨63, _⟩ => ⟨S16x8x16x2048, .i32⟩
  | .hbm, ⟨64, _⟩ => ⟨S16x8x16x2048, .i1⟩
  | .hbm, ⟨65, _⟩ => ⟨S_, .i32⟩
  | .hbm, ⟨66, _⟩ => ⟨S16x8x16x2048, .i32⟩
  | .hbm, ⟨67, _⟩ => ⟨S16x8x16x2048, .i1⟩
  | .hbm, ⟨68, _⟩ => ⟨S16x8x16x2048, .f32⟩
  | .hbm, ⟨69, _⟩ => ⟨S_, .f32⟩
  | .hbm, ⟨70, _⟩ => ⟨S_, .f32⟩
  | .hbm, ⟨71, _⟩ => ⟨S16x8x16x2048, .f32⟩
  | .hbm, ⟨72, _⟩ => ⟨S16x8x16x2048, .f32⟩
  | .hbm, ⟨73, _⟩ => ⟨S_, .f32⟩
  | .hbm, ⟨74, _⟩ => ⟨S_, .f32⟩
  | .hbm, ⟨75, _⟩ => ⟨S16x8x16x2048, .f32⟩
  | .hbm, ⟨76, _⟩ => ⟨S16x8x16x2048, .f32⟩
  | .hbm, ⟨77, _⟩ => ⟨S_, .f32⟩
  | .hbm, ⟨78, _⟩ => ⟨S16x8x48x2048, .f32⟩
  | .hbm, ⟨79, _⟩ => ⟨S16x8x16x2048, .i32⟩
  | .hbm, ⟨80, _⟩ => ⟨S_, .i32⟩
  | .hbm, ⟨81, _⟩ => ⟨S16x8x16x2048, .i32⟩
  | .hbm, ⟨82, _⟩ => ⟨S16x8x16x2048, .i1⟩
  | .hbm, ⟨83, _⟩ => ⟨S_, .f32⟩
  | .hbm, ⟨84, _⟩ => ⟨S_, .f32⟩
  | .hbm, ⟨85, _⟩ => ⟨S16x8x16x2048, .f32⟩
  | .hbm, ⟨86, _⟩ => ⟨S16x8x16x2048, .f32⟩
  | .hbm, ⟨87, _⟩ => ⟨S16x8x16x2048, .f32⟩
  | .hbm, ⟨88, _⟩ => ⟨S16x2048x8x64, .f32⟩
  | .hbm, ⟨89, _⟩ => ⟨S16x2048x8x64, .f32⟩
  | .hbm, ⟨90, _⟩ => ⟨S16x8x64x2048, .f32⟩
  | .hbm, ⟨91, _⟩ => ⟨S16x8x128x2048, .f32⟩
  | .hbm, ⟨92, _⟩ => ⟨S16x8x128x2048, .bf16⟩
  | .hbm, ⟨93, _⟩ => ⟨S16x8x64x2048, .f32⟩
  | .hbm, ⟨94, _⟩ => ⟨S16x8x128x2048, .f32⟩
  | .hbm, ⟨95, _⟩ => ⟨S16x8x2048x128, .f32⟩
  | .hbm, ⟨96, _⟩ => ⟨S16x8x2048x128, .bf16⟩
  | .hbm, ⟨97, _⟩ => ⟨S16x8x64x2048, .f32⟩
  | .hbm, ⟨98, _⟩ => ⟨S16x8x16x2048, .f32⟩
  | .hbm, ⟨99, _⟩ => ⟨S16x8x80x2048, .f32⟩
  | .hbm, ⟨100, _⟩ => ⟨S16x8x80x2048, .bf16⟩
  | .hbm, ⟨101, _⟩ => ⟨S16x2048x8x64, .f32⟩
  | .hbm, ⟨102, _⟩ => ⟨S16x8x64x2048, .f32⟩
  | .hbm, ⟨103, _⟩ => ⟨S_, .f32⟩
  | .hbm, ⟨104, _⟩ => ⟨S16x8x64x2048, .f32⟩
  | .hbm, ⟨105, _⟩ => ⟨S16x8x64x2048, .f32⟩
  | .hbm, ⟨106, _⟩ => ⟨S16x8x64x2048, .f32⟩
  | .hbm, ⟨107, _⟩ => ⟨S16x8x64x2048, .f32⟩
  | .hbm, ⟨108, _⟩ => ⟨S16x8x64x2048, .f32⟩
  | .hbm, ⟨109, _⟩ => ⟨S16x8x64x2048, .bf16⟩
  | .hbm, ⟨110, _⟩ => ⟨S16x8x64x2048, .bf16⟩
  | .hbm, ⟨111, _⟩ => ⟨S16x2048x8x64, .bf16⟩
  | .hbm, ⟨112, _⟩ => ⟨S16x2048x8x64, .f32⟩
  | .hbm, ⟨113, _⟩ => ⟨S16x2048x512, .f32⟩
  | .local _ .vmem, ⟨0, _⟩ => ⟨S1x8x128x2048, .bf16⟩
  | .local _ .vmem, ⟨1, _⟩ => ⟨S1x8x128x2048, .bf16⟩
  | .local _ .vmem, ⟨2, _⟩ => ⟨S1x8x2048x128, .bf16⟩
  | .local _ .vmem, ⟨3, _⟩ => ⟨S1x8x2048x128, .bf16⟩
  | .local _ .vmem, ⟨4, _⟩ => ⟨S1x8x80x2048, .bf16⟩
  | .local _ .vmem, ⟨5, _⟩ => ⟨S1x8x80x2048, .bf16⟩
  | .local _ .vmem, ⟨6, _⟩ => ⟨S1x8x64x2048, .bf16⟩
  | .local _ .vmem, ⟨7, _⟩ => ⟨S1x8x64x2048, .bf16⟩
  | .local _ .vmem, ⟨8, _⟩ => ⟨S1x8x64x2048, .bf16⟩
  | .local _ .vmem, ⟨9, _⟩ => ⟨S1x8x64x2048, .bf16⟩
  | .local _ .vmem, ⟨10, _⟩ => ⟨S4x2048x256, .f32⟩
  | .local _ .vmem, ⟨11, _⟩ => ⟨S4x8x256, .f32⟩
  | _, _ => ⟨S16x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_call0_cst : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_call1_v0 : Ref sig .tc := ⟨.hbm, 33, rfl⟩
abbrev main_call1_v1 : Ref sig .tc := ⟨.hbm, 34, rfl⟩
abbrev main_v21 : Ref sig .tc := ⟨.hbm, 35, rfl⟩
abbrev main_call2_v0 : Ref sig .tc := ⟨.hbm, 36, rfl⟩
abbrev main_v22 : Ref sig .tc := ⟨.hbm, 37, rfl⟩
abbrev main_c_3 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_cst_6 : Ref sig .tc := ⟨.hbm, 45, rfl⟩
abbrev main_call3_v0 : Ref sig .tc := ⟨.hbm, 46, rfl⟩
abbrev main_call3_v1 : Ref sig .tc := ⟨.hbm, 47, rfl⟩
abbrev main_v27 : Ref sig .tc := ⟨.hbm, 48, rfl⟩
abbrev main_call4_v0 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_c_8 : Ref sig .tc := ⟨.hbm, 54, rfl⟩
abbrev main_v31 : Ref sig .tc := ⟨.hbm, 55, rfl⟩
abbrev main_v32 : Ref sig .tc := ⟨.hbm, 56, rfl⟩
abbrev main_call5_v0 : Ref sig .tc := ⟨.hbm, 57, rfl⟩
abbrev main_call5_v1 : Ref sig .tc := ⟨.hbm, 58, rfl⟩
abbrev main_v33 : Ref sig .tc := ⟨.hbm, 59, rfl⟩
abbrev main_call6_v0 : Ref sig .tc := ⟨.hbm, 60, rfl⟩
abbrev main_v34 : Ref sig .tc := ⟨.hbm, 61, rfl⟩
abbrev main_c_9 : Ref sig .tc := ⟨.hbm, 62, rfl⟩
abbrev main_v35 : Ref sig .tc := ⟨.hbm, 63, rfl⟩
abbrev main_v36 : Ref sig .tc := ⟨.hbm, 64, rfl⟩
abbrev main_c_10 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_11 : Ref sig .tc := ⟨.hbm, 69, rfl⟩
abbrev main_call7_v0 : Ref sig .tc := ⟨.hbm, 70, rfl⟩
abbrev main_call7_v1 : Ref sig .tc := ⟨.hbm, 71, rfl⟩
abbrev main_v40 : Ref sig .tc := ⟨.hbm, 72, rfl⟩
abbrev main_cst_12 : Ref sig .tc := ⟨.hbm, 73, rfl⟩
abbrev main_call8_v0 : Ref sig .tc := ⟨.hbm, 74, rfl⟩
abbrev main_call8_v1 : Ref sig .tc := ⟨.hbm, 75, rfl⟩
abbrev main_v41 : Ref sig .tc := ⟨.hbm, 76, rfl⟩
abbrev main_cst_13 : Ref sig .tc := ⟨.hbm, 77, rfl⟩
abbrev main_v42 : Ref sig .tc := ⟨.hbm, 78, rfl⟩
abbrev main_v43 : Ref sig .tc := ⟨.hbm, 79, rfl⟩
abbrev main_c_14 : Ref sig .tc := ⟨.hbm, 80, rfl⟩
abbrev main_v44 : Ref sig .tc := ⟨.hbm, 81, rfl⟩
abbrev main_v45 : Ref sig .tc := ⟨.hbm, 82, rfl⟩
abbrev main_cst_15 : Ref sig .tc := ⟨.hbm, 83, rfl⟩
abbrev main_cst_16 : Ref sig .tc := ⟨.hbm, 84, rfl⟩
abbrev main_call9_v0 : Ref sig .tc := ⟨.hbm, 85, rfl⟩
abbrev main_call9_v1 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_cst_17 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c3_i32 : BitVec 32 := 3#32
  let v191 : BitVec 32 := Scalar.addi c0_i32 c3_i32
  let c1_i32 : BitVec 32 := 1#32
  ⟨c0_i32, v191, c1_i32⟩
def k0_off1 (k0_t1 : Fin k0_t1_loop.trips) (c0_i32_1907 : BitVec 32) : Fin 4 → Nat :=
  let c0_1916 : Index := 0#32
  let c0_i32 : BitVec 32 := 0#32
  let c1_i32 : BitVec 32 := 1#32
  let arg8 : BitVec 32 := Scf.iv c0_i32 c1_i32 k0_t1
  let c2_i32 : BitVec 32 := 2#32
  let v1932 : BitVec 32 := Scalar.muli arg8 c2_i32
  let v1933 : BitVec 32 := Scalar.addi v1932 c0_i32_1907
  let v1942 : Index := Scalar.indexCast v1933
  let c0_1917 : Index := 0#32
  let c1536_1918 : Index := 1536#32
  ![0, v1942.toNat, 0, 1536]
def k0_off2 (k0_t1 : Fin k0_t1_loop.trips) (c0_i32_1907 : BitVec 32) : Fin 4 → Nat :=
  let c0_1919 : Index := 0#32
  let c0_i32 : BitVec 32 := 0#32
  let c1_i32 : BitVec 32 := 1#32
  let arg8 : BitVec 32 := Scf.iv c0_i32 c1_i32 k0_t1
  let c2_i32 : BitVec 32 := 2#32
  let v1932 : BitVec 32 := Scalar.muli arg8 c2_i32
  let v1933 : BitVec 32 := Scalar.addi v1932 c0_i32_1907
  let v1945 : Index := Scalar.indexCast v1933
  let c0_1920 : Index := 0#32
  let c0_1921 : Index := 0#32
  ![0, v1945.toNat, 0, 0]
def k0_off3 (k0_t1 : Fin k0_t1_loop.trips) (c0_i32_1907 : BitVec 32) : Fin 4 → Nat :=
  let c0_1944 : Index := 0#32
  let c0_i32 : BitVec 32 := 0#32
  let c1_i32 : BitVec 32 := 1#32
  let arg8 : BitVec 32 := Scf.iv c0_i32 c1_i32 k0_t1
  let c2_i32 : BitVec 32 := 2#32
  let v1932 : BitVec 32 := Scalar.muli arg8 c2_i32
  let v1933 : BitVec 32 := Scalar.addi v1932 c0_i32_1907
  let v1974 : Index := Scalar.indexCast v1933
  let c0_1945 : Index := 0#32
  let c0_1946 : Index := 0#32
  ![0, v1974.toNat, 0, 0]
def k0_off4 (k0_t1 : Fin k0_t1_loop.trips) (c0_i32_1907 : BitVec 32) : Fin 4 → Nat :=
  let c0_1961 : Index := 0#32
  let c0_i32 : BitVec 32 := 0#32
  let c1_i32 : BitVec 32 := 1#32
  let arg8 : BitVec 32 := Scf.iv c0_i32 c1_i32 k0_t1
  let c2_i32 : BitVec 32 := 2#32
  let v1932 : BitVec 32 := Scalar.muli arg8 c2_i32
  let v1933 : BitVec 32 := Scalar.addi v1932 c0_i32_1907
  let v1993 : Index := Scalar.indexCast v1933
  let c256_1962 : Index := 256#32
  let c0_1963 : Index := 0#32
  ![0, v1993.toNat, 256, 0]
def k0_off5 (k0_t1 : Fin k0_t1_loop.trips) (c0_i32_1907 : BitVec 32) : Fin 4 → Nat :=
  let c0_1986 : Index := 0#32
  let c0_i32 : BitVec 32 := 0#32
  let c1_i32 : BitVec 32 := 1#32
  let arg8 : BitVec 32 := Scf.iv c0_i32 c1_i32 k0_t1
  let c2_i32 : BitVec 32 := 2#32
  let v1932 : BitVec 32 := Scalar.muli arg8 c2_i32
  let v1933 : BitVec 32 := Scalar.addi v1932 c0_i32_1907
  let v2024 : Index := Scalar.indexCast v1933
  let c0_1987 : Index := 0#32
  let c256_1988 : Index := 256#32
  ![0, v2024.toNat, 0, 256]
def k0_off6 (k0_t1 : Fin k0_t1_loop.trips) (c0_i32_1907 : BitVec 32) : Fin 4 → Nat :=
  let c0_2003 : Index := 0#32
  let c0_i32 : BitVec 32 := 0#32
  let c1_i32 : BitVec 32 := 1#32
  let arg8 : BitVec 32 := Scf.iv c0_i32 c1_i32 k0_t1
  let c2_i32 : BitVec 32 := 2#32
  let v1932 : BitVec 32 := Scalar.muli arg8 c2_i32
  let v1933 : BitVec 32 := Scalar.addi v1932 c0_i32_1907
  let v2045 : Index := Scalar.indexCast v1933
  let c512_2004 : Index := 512#32
  let c0_2005 : Index := 0#32
  ![0, v2045.toNat, 512, 0]
def k0_off7 (k0_t1 : Fin k0_t1_loop.trips) (c0_i32_1907 : BitVec 32) : Fin 4 → Nat :=
  let c0_2028 : Index := 0#32
  let c0_i32 : BitVec 32 := 0#32
  let c1_i32 : BitVec 32 := 1#32
  let arg8 : BitVec 32 := Scf.iv c0_i32 c1_i32 k0_t1
  let c2_i32 : BitVec 32 := 2#32
  let v1932 : BitVec 32 := Scalar.muli arg8 c2_i32
  let v1933 : BitVec 32 := Scalar.addi v1932 c0_i32_1907
  let v2076 : Index := Scalar.indexCast v1933
  let c0_2029 : Index := 0#32
  let c512_2030 : Index := 512#32
  ![0, v2076.toNat, 0, 512]
def k0_off8 (k0_t1 : Fin k0_t1_loop.trips) (c0_i32_1907 : BitVec 32) : Fin 4 → Nat :=
  let c0_2045 : Index := 0#32
  let c0_i32 : BitVec 32 := 0#32
  let c1_i32 : BitVec 32 := 1#32
  let arg8 : BitVec 32 := Scf.iv c0_i32 c1_i32 k0_t1
  let c2_i32 : BitVec 32 := 2#32
  let v1932 : BitVec 32 := Scalar.muli arg8 c2_i32
  let v1933 : BitVec 32 := Scalar.addi v1932 c0_i32_1907
  let v2097 : Index := Scalar.indexCast v1933
  let c768_2046 : Index := 768#32
  let c0_2047 : Index := 0#32
  ![0, v2097.toNat, 768, 0]
def k0_off9 (k0_t1 : Fin k0_t1_loop.trips) (c0_i32_1907 : BitVec 32) : Fin 4 → Nat :=
  let c0_2070 : Index := 0#32
  let c0_i32 : BitVec 32 := 0#32
  let c1_i32 : BitVec 32 := 1#32
  let arg8 : BitVec 32 := Scf.iv c0_i32 c1_i32 k0_t1
  let c2_i32 : BitVec 32 := 2#32
  let v1932 : BitVec 32 := Scalar.muli arg8 c2_i32
  let v1933 : BitVec 32 := Scalar.addi v1932 c0_i32_1907
  let v2128 : Index := Scalar.indexCast v1933
  let c0_2071 : Index := 0#32
  let c768_2072 : Index := 768#32
  ![0, v2128.toNat, 0, 768]
def k0_off10 (k0_t1 : Fin k0_t1_loop.trips) (c0_i32_1907 : BitVec 32) : Fin 4 → Nat :=
  let c0_2087 : Index := 0#32
  let c0_i32 : BitVec 32 := 0#32
  let c1_i32 : BitVec 32 := 1#32
  let arg8 : BitVec 32 := Scf.iv c0_i32 c1_i32 k0_t1
  let c2_i32 : BitVec 32 := 2#32
  let v1932 : BitVec 32 := Scalar.muli arg8 c2_i32
  let v1933 : BitVec 32 := Scalar.addi v1932 c0_i32_1907
  let v2149 : Index := Scalar.indexCast v1933
  let c1024_2088 : Index := 1024#32
  let c0_2089 : Index := 0#32
  ![0, v2149.toNat, 1024, 0]
def k0_off11 (k0_t1 : Fin k0_t1_loop.trips) (c0_i32_1907 : BitVec 32) : Fin 4 → Nat :=
  let c0_2112 : Index := 0#32
  let c0_i32 : BitVec 32 := 0#32
  let c1_i32 : BitVec 32 := 1#32
  let arg8 : BitVec 32 := Scf.iv c0_i32 c1_i32 k0_t1
  let c2_i32 : BitVec 32 := 2#32
  let v1932 : BitVec 32 := Scalar.muli arg8 c2_i32
  let v1933 : BitVec 32 := Scalar.addi v1932 c0_i32_1907
  let v2180 : Index := Scalar.indexCast v1933
  let c0_2113 : Index := 0#32
  let c1024_2114 : Index := 1024#32
  ![0, v2180.toNat, 0, 1024]
def k0_off12 (k0_t1 : Fin k0_t1_loop.trips) (c0_i32_1907 : BitVec 32) : Fin 4 → Nat :=
  let c0_2129 : Index := 0#32
  let c0_i32 : BitVec 32 := 0#32
  let c1_i32 : BitVec 32 := 1#32
  let arg8 : BitVec 32 := Scf.iv c0_i32 c1_i32 k0_t1
  let c2_i32 : BitVec 32 := 2#32
  let v1932 : BitVec 32 := Scalar.muli arg8 c2_i32
  let v1933 : BitVec 32 := Scalar.addi v1932 c0_i32_1907
  let v2201 : Index := Scalar.indexCast v1933
  let c1280_2130 : Index := 1280#32
  let c0_2131 : Index := 0#32
  ![0, v2201.toNat, 1280, 0]
def k0_off13 (k0_t1 : Fin k0_t1_loop.trips) (c0_i32_1907 : BitVec 32) : Fin 4 → Nat :=
  let c0_2154 : Index := 0#32
  let c0_i32 : BitVec 32 := 0#32
  let c1_i32 : BitVec 32 := 1#32
  let arg8 : BitVec 32 := Scf.iv c0_i32 c1_i32 k0_t1
  let c2_i32 : BitVec 32 := 2#32
  let v1932 : BitVec 32 := Scalar.muli arg8 c2_i32
  let v1933 : BitVec 32 := Scalar.addi v1932 c0_i32_1907
  let v2232 : Index := Scalar.indexCast v1933
  let c0_2155 : Index := 0#32
  let c1280_2156 : Index := 1280#32
  ![0, v2232.toNat, 0, 1280]
def k0_off14 (k0_t1 : Fin k0_t1_loop.trips) (c0_i32_1907 : BitVec 32) : Fin 4 → Nat :=
  let c0_2171 : Index := 0#32
  let c0_i32 : BitVec 32 := 0#32
  let c1_i32 : BitVec 32 := 1#32
  let arg8 : BitVec 32 := Scf.iv c0_i32 c1_i32 k0_t1
  let c2_i32 : BitVec 32 := 2#32
  let v1932 : BitVec 32 := Scalar.muli arg8 c2_i32
  let v1933 : BitVec 32 := Scalar.addi v1932 c0_i32_1907
  let v2253 : Index := Scalar.indexCast v1933
  let c1536_2172 : Index := 1536#32
  let c0_2173 : Index := 0#32
  ![0, v2253.toNat, 1536, 0]
def k0_off15 (k0_t1 : Fin k0_t1_loop.trips) (c0_i32_1907 : BitVec 32) : Fin 4 → Nat :=
  let c0_2204 : Index := 0#32
  let c0_i32 : BitVec 32 := 0#32
  let c1_i32 : BitVec 32 := 1#32
  let arg8 : BitVec 32 := Scf.iv c0_i32 c1_i32 k0_t1
  let c2_i32 : BitVec 32 := 2#32
  let v1932 : BitVec 32 := Scalar.muli arg8 c2_i32
  let v1933 : BitVec 32 := Scalar.addi v1932 c0_i32_1907
  let v2298 : Index := Scalar.indexCast v1933
  let c0_2205 : Index := 0#32
  let c1536_2206 : Index := 1536#32
  ![0, v2298.toNat, 0, 1536]
def k0_off16 (k0_t1 : Fin k0_t1_loop.trips) (c0_i32_1907 : BitVec 32) : Fin 4 → Nat :=
  let c0_2224 : Index := 0#32
  let c0_i32 : BitVec 32 := 0#32
  let c1_i32 : BitVec 32 := 1#32
  let arg8 : BitVec 32 := Scf.iv c0_i32 c1_i32 k0_t1
  let c2_i32 : BitVec 32 := 2#32
  let v1932 : BitVec 32 := Scalar.muli arg8 c2_i32
  let v1933 : BitVec 32 := Scalar.addi v1932 c0_i32_1907
  let v2324 : Index := Scalar.indexCast v1933
  let c0_2225 : Index := 0#32
  let c1792_2226 : Index := 1792#32
  ![0, v2324.toNat, 0, 1792]
def k0_off17 (k0_t1 : Fin k0_t1_loop.trips) (c0_i32_1907 : BitVec 32) : Fin 4 → Nat :=
  let c0_2238 : Index := 0#32
  let c0_i32 : BitVec 32 := 0#32
  let c1_i32 : BitVec 32 := 1#32
  let arg8 : BitVec 32 := Scf.iv c0_i32 c1_i32 k0_t1
  let c2_i32 : BitVec 32 := 2#32
  let v1932 : BitVec 32 := Scalar.muli arg8 c2_i32
  let v1933 : BitVec 32 := Scalar.addi v1932 c0_i32_1907
  let v2346 : Index := Scalar.indexCast v1933
  let c0_2239 : Index := 0#32
  let c1792_2240 : Index := 1792#32
  ![0, v2346.toNat, 0, 1792]
def k0_off18 (k0_t1 : Fin k0_t1_loop.trips) (c0_i32_1907 : BitVec 32) : Fin 4 → Nat :=
  let c0_2250 : Index := 0#32
  let c0_i32 : BitVec 32 := 0#32
  let c1_i32 : BitVec 32 := 1#32
  let arg8 : BitVec 32 := Scf.iv c0_i32 c1_i32 k0_t1
  let c2_i32 : BitVec 32 := 2#32
  let v1932 : BitVec 32 := Scalar.muli arg8 c2_i32
  let v1933 : BitVec 32 := Scalar.addi v1932 c0_i32_1907
  let v2370 : Index := Scalar.indexCast v1933
  let c0_2251 : Index := 0#32
  let c1280_2252 : Index := 1280#32
  ![0, v2370.toNat, 0, 1280]
def k0_off19 (k0_t1 : Fin k0_t1_loop.trips) (c0_i32_1907 : BitVec 32) : Fin 4 → Nat :=
  let c0_2530 : Index := 0#32
  let c0_i32 : BitVec 32 := 0#32
  let c1_i32 : BitVec 32 := 1#32
  let arg8 : BitVec 32 := Scf.iv c0_i32 c1_i32 k0_t1
  let c2_i32 : BitVec 32 := 2#32
  let v1932 : BitVec 32 := Scalar.muli arg8 c2_i32
  let v1933 : BitVec 32 := Scalar.addi v1932 c0_i32_1907
  let v2722 : Index := Scalar.indexCast v1933
  let c0_2531 : Index := 0#32
  let c1536_2532 : Index := 1536#32
  ![0, v2722.toNat, 0, 1536]
def k0_off20 (k0_t1 : Fin k0_t1_loop.trips) (c0_i32_1907 : BitVec 32) : Fin 4 → Nat :=
  let c0_2542 : Index := 0#32
  let c0_i32 : BitVec 32 := 0#32
  let c1_i32 : BitVec 32 := 1#32
  let arg8 : BitVec 32 := Scf.iv c0_i32 c1_i32 k0_t1
  let c2_i32 : BitVec 32 := 2#32
  let v1932 : BitVec 32 := Scalar.muli arg8 c2_i32
  let v1933 : BitVec 32 := Scalar.addi v1932 c0_i32_1907
  let v2746 : Index := Scalar.indexCast v1933
  let c0_2543 : Index := 0#32
  let c1024_2544 : Index := 1024#32
  ![0, v2746.toNat, 0, 1024]
def k0_off21 (k0_t1 : Fin k0_t1_loop.trips) (c0_i32_1907 : BitVec 32) : Fin 4 → Nat :=
  let c0_2780 : Index := 0#32
  let c0_i32 : BitVec 32 := 0#32
  let c1_i32 : BitVec 32 := 1#32
  let arg8 : BitVec 32 := Scf.iv c0_i32 c1_i32 k0_t1
  let c2_i32 : BitVec 32 := 2#32
  let v1932 : BitVec 32 := Scalar.muli arg8 c2_i32
  let v1933 : BitVec 32 := Scalar.addi v1932 c0_i32_1907
  let v3046 : Index := Scalar.indexCast v1933
  let c0_2781 : Index := 0#32
  let c1280_2782 : Index := 1280#32
  ![0, v3046.toNat, 0, 1280]
def k0_off22 (k0_t1 : Fin k0_t1_loop.trips) (c0_i32_1907 : BitVec 32) : Fin 4 → Nat :=
  let c0_2792 : Index := 0#32
  let c0_i32 : BitVec 32 := 0#32
  let c1_i32 : BitVec 32 := 1#32
  let arg8 : BitVec 32 := Scf.iv c0_i32 c1_i32 k0_t1
  let c2_i32 : BitVec 32 := 2#32
  let v1932 : BitVec 32 := Scalar.muli arg8 c2_i32
  let v1933 : BitVec 32 := Scalar.addi v1932 c0_i32_1907
  let v3070 : Index := Scalar.indexCast v1933
  let c0_2793 : Index := 0#32
  let c768_2794 : Index := 768#32
  ![0, v3070.toNat, 0, 768]
def k0_off23 (k0_t1 : Fin k0_t1_loop.trips) (c0_i32_1907 : BitVec 32) : Fin 4 → Nat :=
  let c0_2988 : Index := 0#32
  let c0_i32 : BitVec 32 := 0#32
  let c1_i32 : BitVec 32 := 1#32
  let arg8 : BitVec 32 := Scf.iv c0_i32 c1_i32 k0_t1
  let c2_i32 : BitVec 32 := 2#32
  let v1932 : BitVec 32 := Scalar.muli arg8 c2_i32
  let v1933 : BitVec 32 := Scalar.addi v1932 c0_i32_1907
  let v3318 : Index := Scalar.indexCast v1933
  let c0_2989 : Index := 0#32
  let c1024_2990 : Index := 1024#32
  ![0, v3318.toNat, 0, 1024]
def k0_off24 (k0_t1 : Fin k0_t1_loop.trips) (c0_i32_1907 : BitVec 32) : Fin 4 → Nat :=
  let c0_3000 : Index := 0#32
  let c0_i32 : BitVec 32 := 0#32
  let c1_i32 : BitVec 32 := 1#32
  let arg8 : BitVec 32 := Scf.iv c0_i32 c1_i32 k0_t1
  let c2_i32 : BitVec 32 := 2#32
  let v1932 : BitVec 32 := Scalar.muli arg8 c2_i32
  let v1933 : BitVec 32 := Scalar.addi v1932 c0_i32_1907
  let v3342 : Index := Scalar.indexCast v1933
  let c0_3001 : Index := 0#32
  let c512_3002 : Index := 512#32
  ![0, v3342.toNat, 0, 512]
def k0_off25 (k0_t1 : Fin k0_t1_loop.trips) (c0_i32_1907 : BitVec 32) : Fin 4 → Nat :=
  let c0_3154 : Index := 0#32
  let c0_i32 : BitVec 32 := 0#32
  let c1_i32 : BitVec 32 := 1#32
  let arg8 : BitVec 32 := Scf.iv c0_i32 c1_i32 k0_t1
  let c2_i32 : BitVec 32 := 2#32
  let v1932 : BitVec 32 := Scalar.muli arg8 c2_i32
  let v1933 : BitVec 32 := Scalar.addi v1932 c0_i32_1907
  let v3538 : Index := Scalar.indexCast v1933
  let c0_3155 : Index := 0#32
  let c768_3156 : Index := 768#32
  ![0, v3538.toNat, 0, 768]
def k0_off26 (k0_t1 : Fin k0_t1_loop.trips) (c0_i32_1907 : BitVec 32) : Fin 4 → Nat :=
  let c0_3166 : Index := 0#32
  let c0_i32 : BitVec 32 := 0#32
  let c1_i32 : BitVec 32 := 1#32
  let arg8 : BitVec 32 := Scf.iv c0_i32 c1_i32 k0_t1
  let c2_i32 : BitVec 32 := 2#32
  let v1932 : BitVec 32 := Scalar.muli arg8 c2_i32
  let v1933 : BitVec 32 := Scalar.addi v1932 c0_i32_1907
  let v3562 : Index := Scalar.indexCast v1933
  let c0_3167 : Index := 0#32
  let c256_3168 : Index := 256#32
  ![0, v3562.toNat, 0, 256]
def k0_off27 (k0_t1 : Fin k0_t1_loop.trips) (c0_i32_1907 : BitVec 32) : Fin 4 → Nat :=
  let c0_3278 : Index := 0#32
  let c0_i32 : BitVec 32 := 0#32
  let c1_i32 : BitVec 32 := 1#32
  let arg8 : BitVec 32 := Scf.iv c0_i32 c1_i32 k0_t1
  let c2_i32 : BitVec 32 := 2#32
  let v1932 : BitVec 32 := Scalar.muli arg8 c2_i32
  let v1933 : BitVec 32 := Scalar.addi v1932 c0_i32_1907
  let v3706 : Index := Scalar.indexCast v1933
  let c0_3279 : Index := 0#32
  let c512_3280 : Index := 512#32
  ![0, v3706.toNat, 0, 512]
def k0_off28 (k0_t1 : Fin k0_t1_loop.trips) (c0_i32_1907 : BitVec 32) : Fin 4 → Nat :=
  let c0_3290 : Index := 0#32
  let c0_i32 : BitVec 32 := 0#32
  let c1_i32 : BitVec 32 := 1#32
  let arg8 : BitVec 32 := Scf.iv c0_i32 c1_i32 k0_t1
  let c2_i32 : BitVec 32 := 2#32
  let v1932 : BitVec 32 := Scalar.muli arg8 c2_i32
  let v1933 : BitVec 32 := Scalar.addi v1932 c0_i32_1907
  let v3730 : Index := Scalar.indexCast v1933
  let c0_3291 : Index := 0#32
  let c0_3292 : Index := 0#32
  ![0, v3730.toNat, 0, 0]
def k0_off29 (k0_t1 : Fin k0_t1_loop.trips) (c0_i32_1907 : BitVec 32) : Fin 4 → Nat :=
  let c0_3360 : Index := 0#32
  let c0_i32 : BitVec 32 := 0#32
  let c1_i32 : BitVec 32 := 1#32
  let arg8 : BitVec 32 := Scf.iv c0_i32 c1_i32 k0_t1
  let c2_i32 : BitVec 32 := 2#32
  let v1932 : BitVec 32 := Scalar.muli arg8 c2_i32
  let v1933 : BitVec 32 := Scalar.addi v1932 c0_i32_1907
  let v3822 : Index := Scalar.indexCast v1933
  let c0_3361 : Index := 0#32
  let c256_3362 : Index := 256#32
  ![0, v3822.toNat, 0, 256]
def k0_off30 (k0_t1 : Fin k0_t1_loop.trips) (c0_i32_1912 : BitVec 32) : Fin 4 → Nat :=
  let c0_3372 : Index := 0#32
  let c0_i32 : BitVec 32 := 0#32
  let c1_i32 : BitVec 32 := 1#32
  let arg8 : BitVec 32 := Scf.iv c0_i32 c1_i32 k0_t1
  let c1_i32_1910 : BitVec 32 := 1#32
  let v1936 : BitVec 32 := Scalar.addi arg8 c1_i32_1910
  let c2_i32_1911 : BitVec 32 := 2#32
  let v1937 : BitVec 32 := Scalar.muli v1936 c2_i32_1911
  let v1938 : BitVec 32 := Scalar.addi v1937 c0_i32_1912
  let v3846 : Index := Scalar.indexCast v1938
  let c0_3373 : Index := 0#32
  let c1792_3374 : Index := 1792#32
  ![0, v3846.toNat, 0, 1792]
def k0_off31 (k0_t1 : Fin k0_t1_loop.trips) (c0_i32_1912 : BitVec 32) : Fin 4 → Nat :=
  let c0_3375 : Index := 0#32
  let c0_i32 : BitVec 32 := 0#32
  let c1_i32 : BitVec 32 := 1#32
  let arg8 : BitVec 32 := Scf.iv c0_i32 c1_i32 k0_t1
  let c1_i32_1910 : BitVec 32 := 1#32
  let v1936 : BitVec 32 := Scalar.addi arg8 c1_i32_1910
  let c2_i32_1911 : BitVec 32 := 2#32
  let v1937 : BitVec 32 := Scalar.muli v1936 c2_i32_1911
  let v1938 : BitVec 32 := Scalar.addi v1937 c0_i32_1912
  let v3849 : Index := Scalar.indexCast v1938
  let c0_3376 : Index := 0#32
  let c0_3377 : Index := 0#32
  ![0, v3849.toNat, 0, 0]
def k0_off32 (k0_t1 : Fin k0_t1_loop.trips) (c0_i32_1912 : BitVec 32) : Fin 4 → Nat :=
  let c0_3417 : Index := 0#32
  let c0_i32 : BitVec 32 := 0#32
  let c1_i32 : BitVec 32 := 1#32
  let arg8 : BitVec 32 := Scf.iv c0_i32 c1_i32 k0_t1
  let c1_i32_1910 : BitVec 32 := 1#32
  let v1936 : BitVec 32 := Scalar.addi arg8 c1_i32_1910
  let c2_i32_1911 : BitVec 32 := 2#32
  let v1937 : BitVec 32 := Scalar.muli v1936 c2_i32_1911
  let v1938 : BitVec 32 := Scalar.addi v1937 c0_i32_1912
  let v3897 : Index := Scalar.indexCast v1938
  let c256_3418 : Index := 256#32
  let c0_3419 : Index := 0#32
  ![0, v3897.toNat, 256, 0]
def k0_off33 (k0_t1 : Fin k0_t1_loop.trips) (c0_i32_1912 : BitVec 32) : Fin 4 → Nat :=
  let c0_3439 : Index := 0#32
  let c0_i32 : BitVec 32 := 0#32
  let c1_i32 : BitVec 32 := 1#32
  let arg8 : BitVec 32 := Scf.iv c0_i32 c1_i32 k0_t1
  let c1_i32_1910 : BitVec 32 := 1#32
  let v1936 : BitVec 32 := Scalar.addi arg8 c1_i32_1910
  let c2_i32_1911 : BitVec 32 := 2#32
  let v1937 : BitVec 32 := Scalar.muli v1936 c2_i32_1911
  let v1938 : BitVec 32 := Scalar.addi v1937 c0_i32_1912
  let v3923 : Index := Scalar.indexCast v1938
  let c512_3440 : Index := 512#32
  let c0_3441 : Index := 0#32
  ![0, v3923.toNat, 512, 0]
def k0_off34 (k0_t1 : Fin k0_t1_loop.trips) (c0_i32_1912 : BitVec 32) : Fin 4 → Nat :=
  let c0_3461 : Index := 0#32
  let c0_i32 : BitVec 32 := 0#32
  let c1_i32 : BitVec 32 := 1#32
  let arg8 : BitVec 32 := Scf.iv c0_i32 c1_i32 k0_t1
  let c1_i32_1910 : BitVec 32 := 1#32
  let v1936 : BitVec 32 := Scalar.addi arg8 c1_i32_1910
  let c2_i32_1911 : BitVec 32 := 2#32
  let v1937 : BitVec 32 := Scalar.muli v1936 c2_i32_1911
  let v1938 : BitVec 32 := Scalar.addi v1937 c0_i32_1912
  let v3949 : Index := Scalar.indexCast v1938
  let c768_3462 : Index := 768#32
  let c0_3463 : Index := 0#32
  ![0, v3949.toNat, 768, 0]
def k0_off35 (k0_t1 : Fin k0_t1_loop.trips) (c0_i32_1912 : BitVec 32) : Fin 4 → Nat :=
  let c0_3483 : Index := 0#32
  let c0_i32 : BitVec 32 := 0#32
  let c1_i32 : BitVec 32 := 1#32
  let arg8 : BitVec 32 := Scf.iv c0_i32 c1_i32 k0_t1
  let c1_i32_1910 : BitVec 32 := 1#32
  let v1936 : BitVec 32 := Scalar.addi arg8 c1_i32_1910
  let c2_i32_1911 : BitVec 32 := 2#32
  let v1937 : BitVec 32 := Scalar.muli v1936 c2_i32_1911
  let v1938 : BitVec 32 := Scalar.addi v1937 c0_i32_1912
  let v3975 : Index := Scalar.indexCast v1938
  let c1024_3484 : Index := 1024#32
  let c0_3485 : Index := 0#32
  ![0, v3975.toNat, 1024, 0]
def k0_off36 (k0_t1 : Fin k0_t1_loop.trips) (c0_i32_1912 : BitVec 32) : Fin 4 → Nat :=
  let c0_3505 : Index := 0#32
  let c0_i32 : BitVec 32 := 0#32
  let c1_i32 : BitVec 32 := 1#32
  let arg8 : BitVec 32 := Scf.iv c0_i32 c1_i32 k0_t1
  let c1_i32_1910 : BitVec 32 := 1#32
  let v1936 : BitVec 32 := Scalar.addi arg8 c1_i32_1910
  let c2_i32_1911 : BitVec 32 := 2#32
  let v1937 : BitVec 32 := Scalar.muli v1936 c2_i32_1911
  let v1938 : BitVec 32 := Scalar.addi v1937 c0_i32_1912
  let v4001 : Index := Scalar.indexCast v1938
  let c1280_3506 : Index := 1280#32
  let c0_3507 : Index := 0#32
  ![0, v4001.toNat, 1280, 0]
def k0_off37 (k0_t1 : Fin k0_t1_loop.trips) (c0_i32_1912 : BitVec 32) : Fin 4 → Nat :=
  let c0_3527 : Index := 0#32
  let c0_i32 : BitVec 32 := 0#32
  let c1_i32 : BitVec 32 := 1#32
  let arg8 : BitVec 32 := Scf.iv c0_i32 c1_i32 k0_t1
  let c1_i32_1910 : BitVec 32 := 1#32
  let v1936 : BitVec 32 := Scalar.addi arg8 c1_i32_1910
  let c2_i32_1911 : BitVec 32 := 2#32
  let v1937 : BitVec 32 := Scalar.muli v1936 c2_i32_1911
  let v1938 : BitVec 32 := Scalar.addi v1937 c0_i32_1912
  let v4027 : Index := Scalar.indexCast v1938
  let c1536_3528 : Index := 1536#32
  let c0_3529 : Index := 0#32
  ![0, v4027.toNat, 1536, 0]
def k0_off38 (k0_t1 : Fin k0_t1_loop.trips) (c0_i32_1912 : BitVec 32) : Fin 4 → Nat :=
  let c0_3549 : Index := 0#32
  let c0_i32 : BitVec 32 := 0#32
  let c1_i32 : BitVec 32 := 1#32
  let arg8 : BitVec 32 := Scf.iv c0_i32 c1_i32 k0_t1
  let c1_i32_1910 : BitVec 32 := 1#32
  let v1936 : BitVec 32 := Scalar.addi arg8 c1_i32_1910
  let c2_i32_1911 : BitVec 32 := 2#32
  let v1937 : BitVec 32 := Scalar.muli v1936 c2_i32_1911
  let v1938 : BitVec 32 := Scalar.addi v1937 c0_i32_1912
  let v4053 : Index := Scalar.indexCast v1938
  let c1792_3550 : Index := 1792#32
  let c0_3551 : Index := 0#32
  ![0, v4053.toNat, 1792, 0]
def k0_off39 (k0_t1 : Fin k0_t1_loop.trips) (c0_i32_1907 : BitVec 32) : Fin 4 → Nat :=
  let c0_3576 : Index := 0#32
  let c0_i32 : BitVec 32 := 0#32
  let c1_i32 : BitVec 32 := 1#32
  let arg8 : BitVec 32 := Scf.iv c0_i32 c1_i32 k0_t1
  let c2_i32 : BitVec 32 := 2#32
  let v1932 : BitVec 32 := Scalar.muli arg8 c2_i32
  let v1933 : BitVec 32 := Scalar.addi v1932 c0_i32_1907
  let v4094 : Index := Scalar.indexCast v1933
  let c0_3577 : Index := 0#32
  let c0_3578 : Index := 0#32
  ![0, v4094.toNat, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x80x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x64x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S16x2048x8x64 : Shape := ⟨4, ![16, 2048, 8, 64]⟩
abbrev S16x2048x8 : Shape := ⟨3, ![16, 2048, 8]⟩
abbrev S16x2048x512 : Shape := ⟨3, ![16, 2048, 512]⟩
abbrev S_ : Shape := ⟨0, ![]⟩
abbrev S16x8x2048 : Shape := ⟨3, ![16, 8, 2048]⟩
abbrev S16x8x2048x2048 : Shape := ⟨4, ![16, 8, 2048, 2048]⟩
abbrev S16x8x2048x1 : Shape := ⟨4, ![16, 8, 2048, 1]⟩
abbrev S16x8x1x2048 : Shape := ⟨4, ![16, 8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S16x8x64x2048 : Shape := ⟨4, ![16, 8, 64, 2048]⟩

abbrev nBuf : Space → Nat
  | .hbm => 58
  | .vmem => 0
  | .smem => 0
  | _ => 0

abbrev bufTy : (tb : Table) → Fin (tcTables nBuf tb) → BufTy
  | .hbm, ⟨0, _⟩ => ⟨S16x2048x8x64, .f32⟩
  | .hbm, ⟨1, _⟩ => ⟨S16x2048x8x64, .f32⟩
  | .hbm, ⟨2, _⟩ => ⟨S16x2048x8x64, .f32⟩
  | .hbm, ⟨3, _⟩ => ⟨S16x2048x8, .f32⟩
  | .hbm, ⟨4, _⟩ => ⟨S16x2048x512, .f32⟩
  | .hbm, ⟨5, _⟩ => ⟨S_, .f32⟩
  | .hbm, ⟨6, _⟩ => ⟨S_, .f32⟩
  | .hbm, ⟨7, _⟩ => ⟨S16x2048x8, .f32⟩
  | .hbm, ⟨8, _⟩ => ⟨S16x8x2048, .f32⟩
  | .hbm, ⟨9, _⟩ => ⟨S16x8x2048x2048, .f32⟩
  | .hbm, ⟨10, _⟩ => ⟨S_, .f32⟩
  | .hbm, ⟨11, _⟩ => ⟨S16x8x2048x2048, .f32⟩
  | .hbm, ⟨12, _⟩ => ⟨S16x8x2048x2048, .f32⟩
  | .hbm, ⟨13, _⟩ => ⟨S16x8x2048x1, .f32⟩
  | .hbm, ⟨14, _⟩ => ⟨S16x8x1x2048, .f32⟩
  | .hbm, ⟨15, _⟩ => ⟨S16x8x2048x2048, .f32⟩
  | .hbm, ⟨16, _⟩ => ⟨S16x8x2048x2048, .f32⟩
  | .hbm, ⟨17, _⟩ => ⟨S16x8x2048x2048, .f32⟩
  | .hbm, ⟨18, _⟩ => ⟨S2048, .i32⟩
  | .hbm, ⟨19, _⟩ => ⟨S2048x1, .i32⟩
  | .hbm, ⟨20, _⟩ => ⟨S2048, .i32⟩
  | .hbm, ⟨21, _⟩ => ⟨S1x2048, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S16x8x2048x2048, .f32⟩
  | .hbm, ⟨26, _⟩ => ⟨S_, .f32⟩
  | .hbm, ⟨27, _⟩ => ⟨S_, .f32⟩
  | .hbm, ⟨28, _⟩ => ⟨S16x8x2048x2048, .i1⟩
  | .hbm, ⟨29, _⟩ => ⟨S16x8x2048x2048, .f32⟩
  | .hbm, ⟨30, _⟩ => ⟨S16x8x2048x2048, .f32⟩
  | .hbm, ⟨31, _⟩ => ⟨S_, .f32⟩
  | .hbm, ⟨32, _⟩ => ⟨S16x8x2048, .f32⟩
  | .hbm, ⟨33, _⟩ => ⟨S_, .f32⟩
  | .hbm, ⟨34, _⟩ => ⟨S16x8x2048, .f32⟩
  | .hbm, ⟨35, _⟩ => ⟨S16x8x2048, .f32⟩
  | .hbm, ⟨36, _⟩ => ⟨S16x8x2048x1, .f32⟩
  | .hbm, ⟨37, _⟩ => ⟨S16x8x2048x2048, .f32⟩
  | .hbm, ⟨38, _⟩ => ⟨S16x8x2048x2048, .f32⟩
  | .hbm, ⟨39, _⟩ => ⟨S16x8x2048x2048, .f32⟩
  | .hbm, ⟨40, _⟩ => ⟨S_, .f32⟩
  | .hbm, ⟨41, _⟩ => ⟨S16x8x2048, .f32⟩
  | .hbm, ⟨42, _⟩ => ⟨S16x8x2048x1, .f32⟩
  | .hbm, ⟨43, _⟩ => ⟨S16x8x2048x2048, .f32⟩
  | .hbm, ⟨44, _⟩ => ⟨S16x8x2048x2048, .f32⟩
  | .hbm, ⟨45, _⟩ => ⟨S16x8x64x2048, .f32⟩
  | .hbm, ⟨46, _⟩ => ⟨S16x2048x8x64, .f32⟩
  | .hbm, ⟨47, _⟩ => ⟨S16x2048x512, .f32⟩
  | .hbm, ⟨48, _⟩ => ⟨S16x2048x512, .f32⟩
  | .hbm, ⟨49, _⟩ => ⟨S16x2048x512, .f32⟩
  | .hbm, ⟨50, _⟩ => ⟨S_, .f32⟩
  | .hbm, ⟨51, _⟩ => ⟨S16x2048x512, .f32⟩
  | .hbm, ⟨52, _⟩ => ⟨S16x2048x512, .f32⟩
  | .hbm, ⟨53, _⟩ => ⟨S_, .f32⟩
  | .hbm, ⟨54, _⟩ => ⟨S16x2048x512, .f32⟩
  | .hbm, ⟨55, _⟩ => ⟨S16x2048x512, .f32⟩
  | .hbm, ⟨56, _⟩ => ⟨S16x2048x512, .f32⟩
  | .hbm, ⟨57, _⟩ => ⟨S16x2048x512, .f32⟩
  | _, _ => ⟨S16x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call2_v0 : Ref sig .tc := ⟨.hbm, 48, rfl⟩
abbrev main_call2_v1 : Ref sig .tc := ⟨.hbm, 49, rfl⟩
abbrev main_call2_cst : Ref sig .tc := ⟨.hbm, 50, rfl⟩
abbrev main_call2_v2 : Ref sig .tc := ⟨.hbm, 51, rfl⟩
abbrev main_call2_v3 : Ref sig .tc := ⟨.hbm, 52, rfl⟩
abbrev main_call2_cst_0 : Ref sig .tc := ⟨.hbm, 53, rfl⟩
abbrev main_call2_v4 : Ref sig .tc := ⟨.hbm, 54, rfl⟩
abbrev main_call2_v5 : Ref sig .tc := ⟨.hbm, 55, rfl⟩
abbrev main_v33 : Ref sig .tc := ⟨.hbm, 56, rfl⟩
abbrev main_v34 : Ref sig .tc := ⟨.hbm, 57, rfl⟩

abbrev nD : Nat := 1
abbrev τ : Topo := Topo.v7x

variable {F : FTy → Type} [FloatOps F]
-- ==== Kernel2.lean ====
abbrev S16x2048x1024 : Shape := ⟨3, ![16, 2048, 1024]⟩
abbrev S2x1024 : Shape := ⟨2, ![2, 1024]⟩
abbrev S2x1024x3848 : Shape := ⟨3, ![2, 1024, 3848]⟩
abbrev S2x8 : Shape := ⟨2, ![2, 8]⟩
abbrev S2x3x256 : Shape := ⟨3, ![2, 3, 256]⟩
abbrev S2x8x64 : Shape := ⟨3, ![2, 8, 64]⟩
abbrev S2x3848x1024 : Shape := ⟨3, ![2, 3848, 1024]⟩
abbrev S_ : Shape := ⟨0, ![]⟩
abbrev S2x1x1024 : Shape := ⟨3, ![2, 1, 1024]⟩
abbrev S2x8x1 : Shape := ⟨3, ![2, 8, 1]⟩
abbrev S2x512x1 : Shape := ⟨3, ![2, 512, 1]⟩
abbrev S16x2048x512 : Shape := ⟨3, ![16, 2048, 512]⟩
abbrev S16x2048x256 : Shape := ⟨3, ![16, 2048, 256]⟩
abbrev S16x8x128x2048 : Shape := ⟨4, ![16, 8, 128, 2048]⟩
abbrev S16x8x2048x128 : Shape := ⟨4, ![16, 8, 2048, 128]⟩
abbrev S16x8x80x2048 : Shape := ⟨4, ![16, 8, 80, 2048]⟩
abbrev S16x8x64x2048 : Shape := ⟨4, ![16, 8, 64, 2048]⟩
abbrev S1x1024x1024 : Shape := ⟨3, ![1, 1024, 1024]⟩
abbrev S1x1x1024 : Shape := ⟨3, ![1, 1, 1024]⟩
abbrev S1x3848x1024 : Shape := ⟨3, ![1, 3848, 1024]⟩
abbrev S1x8x1 : Shape := ⟨3, ![1, 8, 1]⟩
abbrev S1x3x256 : Shape := ⟨3, ![1, 3, 256]⟩
abbrev S1x512x1 : Shape := ⟨3, ![1, 512, 1]⟩
abbrev S1x1024x512 : Shape := ⟨3, ![1, 1024, 512]⟩
abbrev S1x1024x256 : Shape := ⟨3, ![1, 1024, 256]⟩
abbrev S1x8x128x1024 : Shape := ⟨4, ![1, 8, 128, 1024]⟩
abbrev S1x8x1024x128 : Shape := ⟨4, ![1, 8, 1024, 128]⟩
abbrev S1x8x80x1024 : Shape := ⟨4, ![1, 8, 80, 1024]⟩
abbrev S1x8x64x1024 : Shape := ⟨4, ![1, 8, 64, 1024]⟩
abbrev S1032x256 : Shape := ⟨2, ![1032, 256]⟩
abbrev S8x128 : Shape := ⟨2, ![8, 128]⟩
abbrev S8x256 : Shape := ⟨2, ![8, 256]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S3848x1024 : Shape := ⟨2, ![3848, 1024]⟩
abbrev S768x1024 : Shape := ⟨2, ![768, 1024]⟩
abbrev S1024x768 : Shape := ⟨2, ![1024, 768]⟩
abbrev S1024x256 : Shape := ⟨2, ![1024, 256]⟩
abbrev S3x256 : Shape := ⟨2, ![3, 256]⟩
abbrev S1x256 : Shape := ⟨2, ![1, 256]⟩
abbrev S520x1024 : Shape := ⟨2, ![520, 1024]⟩
abbrev S512x1024 : Shape := ⟨2, ![512, 1024]⟩
abbrev S8x1024 : Shape := ⟨2, ![8, 1024]⟩
abbrev S8x1 : Shape := ⟨2, ![8, 1]⟩
abbrev S16x1024 : Shape := ⟨2, ![16, 1024]⟩
abbrev S48x1024 : Shape := ⟨2, ![48, 1024]⟩
abbrev S8x64x1024 : Shape := ⟨3, ![8, 64, 1024]⟩
abbrev S8x1x1024 : Shape := ⟨3, ![8, 1, 1024]⟩
abbrev S512x1 : Shape := ⟨2, ![512, 1]⟩
abbrev S64x1024 : Shape := ⟨2, ![64, 1024]⟩
abbrev S1x1x64x1024 : Shape := ⟨4, ![1, 1, 64, 1024]⟩
abbrev S1x1x16x1024 : Shape := ⟨4, ![1, 1, 16, 1024]⟩
abbrev S1x1x48x1024 : Shape := ⟨4, ![1, 1, 48, 1024]⟩
abbrev S128x1024 : Shape := ⟨2, ![128, 1024]⟩
abbrev S1024x128 : Shape := ⟨2, ![1024, 128]⟩
abbrev S1x1x1024x128 : Shape := ⟨4, ![1, 1, 1024, 128]⟩
abbrev S16x2048x8x64 : Shape := ⟨4, ![16, 2048, 8, 64]⟩
abbrev S16x8x2048x64 : Shape := ⟨4, ![16, 8, 2048, 64]⟩

abbrev nBuf : Space → Nat
  | .hbm => 40
  | .vmem => 22
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S2x1024x3848, .f32⟩
  | .hbm, ⟨3, _⟩ => ⟨S2x8, .f32⟩
  | .hbm, ⟨4, _⟩ => ⟨S2x3x256, .f32⟩
  | .hbm, ⟨5, _⟩ => ⟨S2x8x64, .f32⟩
  | .hbm, ⟨6, _⟩ => ⟨S2x8x64, .f32⟩
  | .hbm, ⟨7, _⟩ => ⟨S2x3848x1024, .f32⟩
  | .hbm, ⟨8, _⟩ => ⟨S2x3848x1024, .bf16⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S2x1x1024, .f32⟩
  | .hbm, ⟨16, _⟩ => ⟨S2x8x1, .f32⟩
  | .hbm, ⟨17, _⟩ => ⟨S2x8x64, .f32⟩
  | .hbm, ⟨18, _⟩ => ⟨S2x8x64, .f32⟩
  | .hbm, ⟨19, _⟩ => ⟨S2x512x1, .f32⟩
  | .hbm, ⟨20, _⟩ => ⟨S2x512x1, .f32⟩
  | .hbm, ⟨21, _⟩ => ⟨S16x2048x512, .f32⟩
  | .hbm, ⟨22, _⟩ => ⟨S16x2048x256, .bf16⟩
  | .hbm, ⟨23, _⟩ => ⟨S16x8x128x2048, .bf16⟩
  | .hbm, ⟨24, _⟩ => ⟨S16x8x2048x128, .bf16⟩
  | .hbm, ⟨25, _⟩ => ⟨S16x8x80x2048, .bf16⟩
  | .hbm, ⟨26, _⟩ => ⟨S16x8x64x2048, .bf16⟩
  | .hbm, ⟨27, _⟩ => ⟨S16x8x64x2048, .bf16⟩
  | .hbm, ⟨28, _⟩ => ⟨S16x2048x8x64, .bf16⟩
  | .hbm, ⟨29, _⟩ => ⟨S16x2048x8x64, .f32⟩
  | .hbm, ⟨30, _⟩ => ⟨S16x8x2048x64, .bf16⟩
  | .hbm, ⟨31, _⟩ => ⟨S16x2048x8x64, .bf16⟩
  | .hbm, ⟨32, _⟩ => ⟨S16x2048x8x64, .f32⟩
  | .hbm, ⟨33, _⟩ => ⟨S16x8x64x2048, .bf16⟩
  | .hbm, ⟨34, _⟩ => ⟨S16x2048x8x64, .bf16⟩
  | .hbm, ⟨35, _⟩ => ⟨S16x2048x8x64, .f32⟩
  | .hbm, ⟨36, _⟩ => ⟨S16x2048x256, .f32⟩
  | .hbm, ⟨37, _⟩ => ⟨S16x2048x8x64, .bf16⟩
  | .hbm, ⟨38, _⟩ => ⟨S16x2048x8x64, .f32⟩
  | .hbm, ⟨39, _⟩ => ⟨S16x2048x512, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x3848x1024, .bf16⟩
  | .local _ .vmem, ⟨4, _⟩ => ⟨S1x8x1, .f32⟩
  | .local _ .vmem, ⟨5, _⟩ => ⟨S1x3x256, .f32⟩
  | .local _ .vmem, ⟨6, _⟩ => ⟨S1x512x1, .f32⟩
  | .local _ .vmem, ⟨7, _⟩ => ⟨S1x512x1, .f32⟩
  | .local _ .vmem, ⟨8, _⟩ => ⟨S1x1024x512, .f32⟩
  | .local _ .vmem, ⟨9, _⟩ => ⟨S1x1024x512, .f32⟩
  | .local _ .vmem, ⟨10, _⟩ => ⟨S1x1024x256, .bf16⟩
  | .local _ .vmem, ⟨11, _⟩ => ⟨S1x1024x256, .bf16⟩
  | .local _ .vmem, ⟨12, _⟩ => ⟨S1x8x128x1024, .bf16⟩
  | .local _ .vmem, ⟨13, _⟩ => ⟨S1x8x128x1024, .bf16⟩
  | .local _ .vmem, ⟨14, _⟩ => ⟨S1x8x1024x128, .bf16⟩
  | .local _ .vmem, ⟨15, _⟩ => ⟨S1x8x1024x128, .bf16⟩
  | .local _ .vmem, ⟨16, _⟩ => ⟨S1x8x80x1024, .bf16⟩
  | .local _ .vmem, ⟨17, _⟩ => ⟨S1x8x80x1024, .bf16⟩
  | .local _ .vmem, ⟨18, _⟩ => ⟨S1x8x64x1024, .bf16⟩
  | .local _ .vmem, ⟨19, _⟩ => ⟨S1x8x64x1024, .bf16⟩
  | .local _ .vmem, ⟨20, _⟩ => ⟨S1032x256, .f32⟩
  | .local _ .vmem, ⟨21, _⟩ => ⟨S8x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev main_v11_3 : Ref sig .tc := ⟨.hbm, 24, rfl⟩
abbrev main_v11_4 : Ref sig .tc := ⟨.hbm, 25, rfl⟩
abbrev main_v11_5 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x3848x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x8x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x80x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x64x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference2Ideal.lean ====
abbrev S16x2048x1024 : Shape := ⟨3, ![16, 2048, 1024]⟩
abbrev S2x1024 : Shape := ⟨2, ![2, 1024]⟩
abbrev S2x1024x3848 : Shape := ⟨3, ![2, 1024, 3848]⟩
abbrev S2x8 : Shape := ⟨2, ![2, 8]⟩
abbrev S2x3x256 : Shape := ⟨3, ![2, 3, 256]⟩
abbrev S2x8x64 : Shape := ⟨3, ![2, 8, 64]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1024x3848 : Shape := ⟨3, ![1, 1024, 3848]⟩
abbrev S1024x3848 : Shape := ⟨2, ![1024, 3848]⟩
abbrev S16x2048x3848 : Shape := ⟨3, ![16, 2048, 3848]⟩
abbrev S16x2048x256 : Shape := ⟨3, ![16, 2048, 256]⟩
abbrev S16x2048x512 : Shape := ⟨3, ![16, 2048, 512]⟩
abbrev S1x3x256 : Shape := ⟨3, ![1, 3, 256]⟩
abbrev S3x256 : Shape := ⟨2, ![3, 256]⟩
abbrev S16x2050x256 : Shape := ⟨3, ![16, 2050, 256]⟩
abbrev S1x256 : Shape := ⟨2, ![1, 256]⟩
abbrev S256 : Shape := ⟨1, ![256]⟩
abbrev S1x1x256 : Shape := ⟨3, ![1, 1, 256]⟩
abbrev S16x2048x8x64 : Shape := ⟨4, ![16, 2048, 8, 64]⟩
abbrev S1x8x64 : Shape := ⟨3, ![1, 8, 64]⟩
abbrev S8x64 : Shape := ⟨2, ![8, 64]⟩
abbrev S16x2048x8 : Shape := ⟨3, ![16, 2048, 8]⟩
abbrev S16x2048x8x1 : Shape := ⟨4, ![16, 2048, 8, 1]⟩
abbrev S1x1x8x64 : Shape := ⟨4, ![1, 1, 8, 64]⟩

abbrev nBuf : Space → Nat
  | .hbm => 150
  | .vmem => 0
  | .smem => 0
  | _ => 0

abbrev hbmTy0_0 (i : Nat) : BufTy := match i % 128 with
  | 0 => ⟨S16x2048x1024, .f32⟩
  | 1 => ⟨S2x1024, .f32⟩
  | 2 => ⟨S2x1024x3848, .f32⟩
  | 3 => ⟨S2x8, .f32⟩
  | 4 => ⟨S2x3x256, .f32⟩
  | 5 => ⟨S2x8x64, .f32⟩
  | 6 => ⟨S2x8x64, .f32⟩
  | 7 => ⟨S1x1024, .f32⟩
  | 8 => ⟨S1024, .f32⟩
  | 9 => ⟨S16x2048x1024, .f32⟩
  | 10 => ⟨S_, .f32⟩
  | 11 => ⟨S16x2048, .f32⟩
  | 12 => ⟨S16x2048x1, .f32⟩
  | 13 => ⟨S_, .f32⟩
  | 14 => ⟨S16x2048x1, .f32⟩
  | 15 => ⟨S16x2048x1, .f32⟩
  | 16 => ⟨S_, .f32⟩
  | 17 => ⟨S16x2048x1, .f32⟩
  | 18 => ⟨S16x2048x1, .f32⟩
  | 19 => ⟨S16x2048x1, .f32⟩
  | 20 => ⟨S16x2048x1024, .f32⟩
  | 21 => ⟨S16x2048x1024, .f32⟩
  | 22 => ⟨S1x1x1024, .f32⟩
  | 23 => ⟨S16x2048x1024, .f32⟩
  | 24 => ⟨S16x2048x1024, .f32⟩
  | 25 => ⟨S1x1024x3848, .f32⟩
  | 26 => ⟨S1024x3848, .f32⟩
  | 27 => ⟨S16x2048x3848, .f32⟩
  | 28 => ⟨S16x2048x256, .f32⟩
  | 29 => ⟨S16x2048x256, .f32⟩
  | 30 => ⟨S16x2048x256, .f32⟩
  | 31 => ⟨S16x2048x256, .f32⟩
  | 32 => ⟨S16x2048x256, .f32⟩
  | 33 => ⟨S16x2048x256, .f32⟩
  | 34 => ⟨S16x2048x256, .f32⟩
  | 35 => ⟨S16x2048x512, .f32⟩
  | 36 => ⟨S16x2048x512, .f32⟩
  | 37 => ⟨S16x2048x512, .f32⟩
  | 38 => ⟨S16x2048x512, .f32⟩
  | 39 => ⟨S16x2048x256, .f32⟩
  | 40 => ⟨S16x2048x256, .f32⟩
  | 41 => ⟨S_, .f32⟩
  | 42 => ⟨S16x2048x256, .f32⟩
  | 43 => ⟨S16x2048x256, .f32⟩
  | 44 => ⟨S_, .f32⟩
  | 45 => ⟨S16x2048x256, .f32⟩
  | 46 => ⟨S16x2048x256, .f32⟩
  | 47 => ⟨S16x2048x256, .f32⟩
  | 48 => ⟨S16x2048x256, .f32⟩
  | 49 => ⟨S16x2048x256, .f32⟩
  | 50 => ⟨S_, .f32⟩
  | 51 => ⟨S16x2048x256, .f32⟩
  | 52 => ⟨S16x2048x256, .f32⟩
  | 53 => ⟨S_, .f32⟩
  | 54 => ⟨S16x2048x256, .f32⟩
  | 55 => ⟨S16x2048x256, .f32⟩
  | 56 => ⟨S16x2048x256, .f32⟩
  | 57 => ⟨S16x2048x512, .f32⟩
  | 58 => ⟨S16x2048x256, .f32⟩
  | 59 => ⟨S1x3x256, .f32⟩
  | 60 => ⟨S3x256, .f32⟩
  | 61 => ⟨S_, .i32⟩
  | 62 => ⟨S_, .f32⟩
  | 63 => ⟨S16x2050x256, .f32⟩
  | 64 => ⟨S1x256, .f32⟩
  | 65 => ⟨S256, .f32⟩
  | 66 => ⟨S16x2048x256, .f32⟩
  | 67 => ⟨S1x1x256, .f32⟩
  | 68 => ⟨S16x2048x256, .f32⟩
  | 69 => ⟨S16x2048x256, .f32⟩
  | 70 => ⟨S1x256, .f32⟩
  | 71 => ⟨S256, .f32⟩
  | 72 => ⟨S16x2048x256, .f32⟩
  | 73 => ⟨S1x1x256, .f32⟩
  | 74 => ⟨S16x2048x256, .f32⟩
  | 75 => ⟨S16x2048x256, .f32⟩
  | 76 => ⟨S16x2048x256, .f32⟩
  | 77 => ⟨S1x256, .f32⟩
  | 78 => ⟨S256, .f32⟩
  | 79 => ⟨S16x2048x256, .f32⟩
  | 80 => ⟨S1x1x256, .f32⟩
  | 81 => ⟨S16x2048x256, .f32⟩
  | 82 => ⟨S16x2048x256, .f32⟩
  | 83 => ⟨S16x2048x256, .f32⟩
  | 84 => ⟨S16x2048x256, .f32⟩
  | 85 => ⟨S16x2048x256, .f32⟩
  | 86 => ⟨S16x2048x256, .f32⟩
  | 87 => ⟨S_, .f32⟩
  | 88 => ⟨S16x2048x256, .f32⟩
  | 89 => ⟨S16x2048x256, .f32⟩
  | 90 => ⟨S_, .f32⟩
  | 91 => ⟨S16x2048x256, .f32⟩
  | 92 => ⟨S16x2048x256, .f32⟩
  | 93 => ⟨S16x2048x256, .f32⟩
  | 94 => ⟨S16x2048x256, .f32⟩
  | 95 => ⟨S16x2048x8x64, .f32⟩
  | 96 => ⟨S1x8x64, .f32⟩
  | 97 => ⟨S8x64, .f32⟩
  | 98 => ⟨S16x2048x8x64, .f32⟩
  | 99 => ⟨S_, .f32⟩
  | 100 => ⟨S16x2048x8, .f32⟩
  | 101 => ⟨S16x2048x8x1, .f32⟩
  | 102 => ⟨S_, .f32⟩
  | 103 => ⟨S16x2048x8x1, .f32⟩
  | 104 => ⟨S16x2048x8x1, .f32⟩
  | 105 => ⟨S_, .f32⟩
  | 106 => ⟨S16x2048x8x1, .f32⟩
  | 107 => ⟨S16x2048x8x1, .f32⟩
  | 108 => ⟨S16x2048x8x1, .f32⟩
  | 109 => ⟨S16x2048x8x64, .f32⟩
  | 110 => ⟨S16x2048x8x64, .f32⟩
  | 111 => ⟨S1x1x8x64, .f32⟩
  | 112 => ⟨S16x2048x8x64, .f32⟩
  | 113 => ⟨S16x2048x8x64, .f32⟩
  | 114 => ⟨S_, .f32⟩
  | 115 => ⟨S16x2048x8x64, .f32⟩
  | 116 => ⟨S16x2048x8x64, .f32⟩
  | 117 => ⟨S_, .f32⟩
  | 118 => ⟨S_, .f32⟩
  | 119 => ⟨S16x2048x8x64, .f32⟩
  | 120 => ⟨S16x2048x8x64, .f32⟩
  | 121 => ⟨S16x2048x8x64, .f32⟩
  | 122 => ⟨S1x8x64, .f32⟩
  | 123 => ⟨S8x64, .f32⟩
  | 124 => ⟨S16x2048x8x64, .f32⟩
  | 125 => ⟨S_, .f32⟩
  | 126 => ⟨S16x2048x8, .f32⟩
  | 127 => ⟨S16x2048x8x1, .f32⟩
  | _ => ⟨S16x2048x1024, .f32⟩

abbrev hbmTy0_1 (i : Nat) : BufTy := match i % 128 with
  | 0 => ⟨S_, .f32⟩
  | 1 => ⟨S16x2048x8x1, .f32⟩
  | 2 => ⟨S16x2048x8x1, .f32⟩
  | 3 => ⟨S_, .f32⟩
  | 4 => ⟨S16x2048x8x1, .f32⟩
  | 5 => ⟨S16x2048x8x1, .f32⟩
  | 6 => ⟨S16x2048x8x1, .f32⟩
  | 7 => ⟨S16x2048x8x64, .f32⟩
  | 8 => ⟨S16x2048x8x64, .f32⟩
  | 9 => ⟨S1x1x8x64, .f32⟩
  | 10 => ⟨S16x2048x8x64, .f32⟩
  | 11 => ⟨S16x2048x8x64, .f32⟩
  | 12 => ⟨S16x2048x8x64, .f32⟩
  | 13 => ⟨S16x2048x512, .f32⟩
  | 14 => ⟨S16x2048x512, .f32⟩
  | 15 => ⟨S_, .f32⟩
  | 16 => ⟨S16x2048x512, .f32⟩
  | 17 => ⟨S16x2048x512, .f32⟩
  | 18 => ⟨S_, .f32⟩
  | 19 => ⟨S16x2048x512, .f32⟩
  | 20 => ⟨S16x2048x512, .f32⟩
  | 21 => ⟨S16x2048x512, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c : Ref sig .tc := ⟨.hbm, 61, rfl⟩
abbrev main_call1_v0 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_call2_v0 : Ref sig .tc := ⟨.hbm, 85, rfl⟩
abbrev main_call2_v1 : Ref sig .tc := ⟨.hbm, 86, rfl⟩
abbrev main_call2_cst : Ref sig .tc := ⟨.hbm, 87, rfl⟩
abbrev main_call2_v2 : Ref sig .tc := ⟨.hbm, 88, rfl⟩
abbrev main_call2_v3 : Ref sig .tc := ⟨.hbm, 89, rfl⟩
abbrev main_call2_cst_0 : Ref sig .tc := ⟨.hbm, 90, rfl⟩
abbrev main_call2_v4 : Ref sig .tc := ⟨.hbm, 91, rfl⟩
abbrev main_call2_v5 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_4 : Ref sig .tc := ⟨.hbm, 99, rfl⟩
abbrev main_v69 : Ref sig .tc := ⟨.hbm, 100, rfl⟩
abbrev main_v70 : Ref sig .tc := ⟨.hbm, 101, rfl⟩
abbrev main_cst_5 : Ref sig .tc := ⟨.hbm, 102, rfl⟩
abbrev main_v71 : Ref sig .tc := ⟨.hbm, 103, rfl⟩
abbrev main_v72 : Ref sig .tc := ⟨.hbm, 104, rfl⟩
abbrev main_cst_6 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_7 : Ref sig .tc := ⟨.hbm, 114, rfl⟩
abbrev main_v81 : Ref sig .tc := ⟨.hbm, 115, rfl⟩
abbrev main_v82 : Ref sig .tc := ⟨.hbm, 116, rfl⟩
abbrev main_cst_8 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_9 : Ref sig .tc := ⟨.hbm, 125, rfl⟩
abbrev main_v90 : Ref sig .tc := ⟨.hbm, 126, rfl⟩
abbrev main_v91 : Ref sig .tc := ⟨.hbm, 127, rfl⟩
abbrev main_cst_10 : Ref sig .tc := ⟨.hbm, 128, rfl⟩
abbrev main_v92 : Ref sig .tc := ⟨.hbm, 129, rfl⟩
abbrev main_v93 : Ref sig .tc := ⟨.hbm, 130, rfl⟩
abbrev main_cst_11 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_call3_v0 : Ref sig .tc := ⟨.hbm, 141, rfl⟩
abbrev main_call3_v1 : Ref sig .tc := ⟨.hbm, 142, rfl⟩
abbrev main_call3_cst : Ref sig .tc := ⟨.hbm, 143, rfl⟩
abbrev main_call3_v2 : Ref sig .tc := ⟨.hbm, 144, rfl⟩
abbrev main_call3_v3 : Ref sig .tc := ⟨.hbm, 145, rfl⟩
abbrev main_call3_cst_0 : Ref sig .tc := ⟨.hbm, 146, rfl⟩
abbrev main_call3_v4 : Ref sig .tc := ⟨.hbm, 147, rfl⟩
abbrev main_call3_v5 : Ref sig .tc := ⟨.hbm, 148, rfl⟩
abbrev main_v103 : Ref sig .tc := ⟨.hbm, 149, rfl⟩

abbrev nD : Nat := 1
abbrev τ : Topo := Topo.v7x

variable {F : FTy → Type} [FloatOps F]
-- ==== Kernel3.lean ====
abbrev S16x2048x1024 : Shape := ⟨3, ![16, 2048, 1024]⟩
abbrev S16x2048x512 : Shape := ⟨3, ![16, 2048, 512]⟩
abbrev S16x2048x256 : Shape := ⟨3, ![16, 2048, 256]⟩
abbrev S2x31x256 : Shape := ⟨3, ![2, 31, 256]⟩
abbrev S2x256 : Shape := ⟨2, ![2, 256]⟩
abbrev S2x256x256 : Shape := ⟨3, ![2, 256, 256]⟩
abbrev S2x1024x1024 : Shape := ⟨3, ![2, 1024, 1024]⟩
abbrev S2x1x256 : Shape := ⟨3, ![2, 1, 256]⟩
abbrev S16x512x2048 : Shape := ⟨3, ![16, 512, 2048]⟩
abbrev S1x1024x1024 : Shape := ⟨3, ![1, 1024, 1024]⟩
abbrev S1x1024x512 : Shape := ⟨3, ![1, 1024, 512]⟩
abbrev S1x1024x256 : Shape := ⟨3, ![1, 1024, 256]⟩
abbrev S1x512x1024 : Shape := ⟨3, ![1, 512, 1024]⟩
abbrev S1x31x256 : Shape := ⟨3, ![1, 31, 256]⟩
abbrev S1x1x256 : Shape := ⟨3, ![1, 1, 256]⟩
abbrev S1x256x256 : Shape := ⟨3, ![1, 256, 256]⟩
abbrev S1056x256 : Shape := ⟨2, ![1056, 256]⟩
abbrev S7x1048x256 : Shape := ⟨3, ![7, 1048, 256]⟩
abbrev S1024x1024 : Shape := ⟨2, ![1024, 1024]⟩
abbrev S32x256 : Shape := ⟨2, ![32, 256]⟩
abbrev S512x1024 : Shape := ⟨2, ![512, 1024]⟩
abbrev S1024x256 : Shape := ⟨2, ![1024, 256]⟩
abbrev S256x1024 : Shape := ⟨2, ![256, 1024]⟩
abbrev S1048x256 : Shape := ⟨2, ![1048, 256]⟩
abbrev S1x1048x256 : Shape := ⟨3, ![1, 1048, 256]⟩
abbrev S1x256 : Shape := ⟨2, ![1, 256]⟩
abbrev S512x256 : Shape := ⟨2, ![512, 256]⟩
abbrev S1x512x256 : Shape := ⟨3, ![1, 512, 256]⟩
abbrev S31x256 : Shape := ⟨2, ![31, 256]⟩
abbrev S512 : Shape := ⟨1, ![512]⟩
abbrev S512x1 : Shape := ⟨2, ![512, 1]⟩
abbrev S256x256 : Shape := ⟨2, ![256, 256]⟩

abbrev nBuf : Space → Nat
  | .hbm => 19
  | .vmem => 20
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x256, .f32⟩
  | .hbm, ⟨3, _⟩ => ⟨S16x2048x512, .f32⟩
  | .hbm, ⟨4, _⟩ => ⟨S2x31x256, .f32⟩
  | .hbm, ⟨5, _⟩ => ⟨S2x256, .f32⟩
  | .hbm, ⟨6, _⟩ => ⟨S2x256, .f32⟩
  | .hbm, ⟨7, _⟩ => ⟨S2x256, .f32⟩
  | .hbm, ⟨8, _⟩ => ⟨S2x256x256, .f32⟩
  | .hbm, ⟨9, _⟩ => ⟨S2x1024x1024, .f32⟩
  | .hbm, ⟨10, _⟩ => ⟨S2x1x256, .f32⟩
  | .hbm, ⟨11, _⟩ => ⟨S2x1x256, .f32⟩
  | .hbm, ⟨12, _⟩ => ⟨S2x1x256, .f32⟩
  | .hbm, ⟨13, _⟩ => ⟨S2x256x256, .bf16⟩
  | .hbm, ⟨14, _⟩ => ⟨S16x512x2048, .f32⟩
  | .hbm, ⟨15, _⟩ => ⟨S16x512x2048, .bf16⟩
  | .hbm, ⟨16, _⟩ => ⟨S16x2048x256, .bf16⟩
  | .hbm, ⟨17, _⟩ => ⟨S2x1024x1024, .bf16⟩
  | .hbm, ⟨18, _⟩ => ⟨S16x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x256, .bf16⟩
  | .local _ .vmem, ⟨5, _⟩ => ⟨S1x1024x256, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x31x256, .f32⟩
  | .local _ .vmem, ⟨9, _⟩ => ⟨S1x1x256, .f32⟩
  | .local _ .vmem, ⟨10, _⟩ => ⟨S1x1x256, .f32⟩
  | .local _ .vmem, ⟨11, _⟩ => ⟨S1x1x256, .f32⟩
  | .local _ .vmem, ⟨12, _⟩ => ⟨S1x256x256, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x1024x1024, .f32⟩
  | .local _ .vmem, ⟨16, _⟩ => ⟨S1x1024x1024, .f32⟩
  | .local _ .vmem, ⟨17, _⟩ => ⟨S1056x256, .f32⟩
  | .local _ .vmem, ⟨18, _⟩ => ⟨S7x1048x256, .f32⟩
  | .local _ .vmem, ⟨19, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x31x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference3Ideal.lean ====
abbrev S16x2048x1024 : Shape := ⟨3, ![16, 2048, 1024]⟩
abbrev S16x2048x512 : Shape := ⟨3, ![16, 2048, 512]⟩
abbrev S16x2048x256 : Shape := ⟨3, ![16, 2048, 256]⟩
abbrev S2x31x256 : Shape := ⟨3, ![2, 31, 256]⟩
abbrev S2x256 : Shape := ⟨2, ![2, 256]⟩
abbrev S2x256x256 : Shape := ⟨3, ![2, 256, 256]⟩
abbrev S2x1024x1024 : Shape := ⟨3, ![2, 1024, 1024]⟩
abbrev S1x31x256 : Shape := ⟨3, ![1, 31, 256]⟩
abbrev S31x256 : Shape := ⟨2, ![31, 256]⟩
abbrev S_ : Shape := ⟨0, ![]⟩
abbrev S16x2078x256 : Shape := ⟨3, ![16, 2078, 256]⟩
abbrev S1x256 : Shape := ⟨2, ![1, 256]⟩
abbrev S256 : Shape := ⟨1, ![256]⟩
abbrev S1x1x256 : Shape := ⟨3, ![1, 1, 256]⟩
abbrev S16x2048 : Shape := ⟨2, ![16, 2048]⟩
abbrev S16x2048x1 : Shape := ⟨3, ![16, 2048, 1]⟩
abbrev S1x256x256 : Shape := ⟨3, ![1, 256, 256]⟩
abbrev S256x256 : Shape := ⟨2, ![256, 256]⟩
abbrev S1x1024x1024 : Shape := ⟨3, ![1, 1024, 1024]⟩
abbrev S1024x1024 : Shape := ⟨2, ![1024, 1024]⟩

abbrev nBuf : Space → Nat
  | .hbm => 287
  | .vmem => 0
  | .smem => 0
  | _ => 0

abbrev hbmTy0_0 (i : Nat) : BufTy := match i % 128 with
  | 0 => ⟨S16x2048x1024, .f32⟩
  | 1 => ⟨S16x2048x512, .f32⟩
  | 2 => ⟨S16x2048x256, .f32⟩
  | 3 => ⟨S16x2048x512, .f32⟩
  | 4 => ⟨S2x31x256, .f32⟩
  | 5 => ⟨S2x256, .f32⟩
  | 6 => ⟨S2x256, .f32⟩
  | 7 => ⟨S2x256, .f32⟩
  | 8 => ⟨S2x256x256, .f32⟩
  | 9 => ⟨S2x1024x1024, .f32⟩
  | 10 => ⟨S16x2048x256, .f32⟩
  | 11 => ⟨S1x31x256, .f32⟩
  | 12 => ⟨S31x256, .f32⟩
  | 13 => ⟨S_, .i32⟩
  | 14 => ⟨S_, .f32⟩
  | 15 => ⟨S16x2078x256, .f32⟩
  | 16 => ⟨S1x256, .f32⟩
  | 17 => ⟨S256, .f32⟩
  | 18 => ⟨S16x2048x256, .f32⟩
  | 19 => ⟨S1x1x256, .f32⟩
  | 20 => ⟨S16x2048x256, .f32⟩
  | 21 => ⟨S16x2048x256, .f32⟩
  | 22 => ⟨S1x256, .f32⟩
  | 23 => ⟨S256, .f32⟩
  | 24 => ⟨S16x2048x256, .f32⟩
  | 25 => ⟨S1x1x256, .f32⟩
  | 26 => ⟨S16x2048x256, .f32⟩
  | 27 => ⟨S16x2048x256, .f32⟩
  | 28 => ⟨S16x2048x256, .f32⟩
  | 29 => ⟨S1x256, .f32⟩
  | 30 => ⟨S256, .f32⟩
  | 31 => ⟨S16x2048x256, .f32⟩
  | 32 => ⟨S1x1x256, .f32⟩
  | 33 => ⟨S16x2048x256, .f32⟩
  | 34 => ⟨S16x2048x256, .f32⟩
  | 35 => ⟨S16x2048x256, .f32⟩
  | 36 => ⟨S1x256, .f32⟩
  | 37 => ⟨S256, .f32⟩
  | 38 => ⟨S16x2048x256, .f32⟩
  | 39 => ⟨S1x1x256, .f32⟩
  | 40 => ⟨S16x2048x256, .f32⟩
  | 41 => ⟨S16x2048x256, .f32⟩
  | 42 => ⟨S16x2048x256, .f32⟩
  | 43 => ⟨S1x256, .f32⟩
  | 44 => ⟨S256, .f32⟩
  | 45 => ⟨S16x2048x256, .f32⟩
  | 46 => ⟨S1x1x256, .f32⟩
  | 47 => ⟨S16x2048x256, .f32⟩
  | 48 => ⟨S16x2048x256, .f32⟩
  | 49 => ⟨S16x2048x256, .f32⟩
  | 50 => ⟨S1x256, .f32⟩
  | 51 => ⟨S256, .f32⟩
  | 52 => ⟨S16x2048x256, .f32⟩
  | 53 => ⟨S1x1x256, .f32⟩
  | 54 => ⟨S16x2048x256, .f32⟩
  | 55 => ⟨S16x2048x256, .f32⟩
  | 56 => ⟨S16x2048x256, .f32⟩
  | 57 => ⟨S1x256, .f32⟩
  | 58 => ⟨S256, .f32⟩
  | 59 => ⟨S16x2048x256, .f32⟩
  | 60 => ⟨S1x1x256, .f32⟩
  | 61 => ⟨S16x2048x256, .f32⟩
  | 62 => ⟨S16x2048x256, .f32⟩
  | 63 => ⟨S16x2048x256, .f32⟩
  | 64 => ⟨S1x256, .f32⟩
  | 65 => ⟨S256, .f32⟩
  | 66 => ⟨S16x2048x256, .f32⟩
  | 67 => ⟨S1x1x256, .f32⟩
  | 68 => ⟨S16x2048x256, .f32⟩
  | 69 => ⟨S16x2048x256, .f32⟩
  | 70 => ⟨S16x2048x256, .f32⟩
  | 71 => ⟨S1x256, .f32⟩
  | 72 => ⟨S256, .f32⟩
  | 73 => ⟨S16x2048x256, .f32⟩
  | 74 => ⟨S1x1x256, .f32⟩
  | 75 => ⟨S16x2048x256, .f32⟩
  | 76 => ⟨S16x2048x256, .f32⟩
  | 77 => ⟨S16x2048x256, .f32⟩
  | 78 => ⟨S1x256, .f32⟩
  | 79 => ⟨S256, .f32⟩
  | 80 => ⟨S16x2048x256, .f32⟩
  | 81 => ⟨S1x1x256, .f32⟩
  | 82 => ⟨S16x2048x256, .f32⟩
  | 83 => ⟨S16x2048x256, .f32⟩
  | 84 => ⟨S16x2048x256, .f32⟩
  | 85 => ⟨S1x256, .f32⟩
  | 86 => ⟨S256, .f32⟩
  | 87 => ⟨S16x2048x256, .f32⟩
  | 88 => ⟨S1x1x256, .f32⟩
  | 89 => ⟨S16x2048x256, .f32⟩
  | 90 => ⟨S16x2048x256, .f32⟩
  | 91 => ⟨S16x2048x256, .f32⟩
  | 92 => ⟨S1x256, .f32⟩
  | 93 => ⟨S256, .f32⟩
  | 94 => ⟨S16x2048x256, .f32⟩
  | 95 => ⟨S1x1x256, .f32⟩
  | 96 => ⟨S16x2048x256, .f32⟩
  | 97 => ⟨S16x2048x256, .f32⟩
  | 98 => ⟨S16x2048x256, .f32⟩
  | 99 => ⟨S1x256, .f32⟩
  | 100 => ⟨S256, .f32⟩
  | 101 => ⟨S16x2048x256, .f32⟩
  | 102 => ⟨S1x1x256, .f32⟩
  | 103 => ⟨S16x2048x256, .f32⟩
  | 104 => ⟨S16x2048x256, .f32⟩
  | 105 => ⟨S16x2048x256, .f32⟩
  | 106 => ⟨S1x256, .f32⟩
  | 107 => ⟨S256, .f32⟩
  | 108 => ⟨S16x2048x256, .f32⟩
  | 109 => ⟨S1x1x256, .f32⟩
  | 110 => ⟨S16x2048x256, .f32⟩
  | 111 => ⟨S16x2048x256, .f32⟩
  | 112 => ⟨S16x2048x256, .f32⟩
  | 113 => ⟨S1x256, .f32⟩
  | 114 => ⟨S256, .f32⟩
  | 115 => ⟨S16x2048x256, .f32⟩
  | 116 => ⟨S1x1x256, .f32⟩
  | 117 => ⟨S16x2048x256, .f32⟩
  | 118 => ⟨S16x2048x256, .f32⟩
  | 119 => ⟨S16x2048x256, .f32⟩
  | 120 => ⟨S1x256, .f32⟩
  | 121 => ⟨S256, .f32⟩
  | 122 => ⟨S16x2048x256, .f32⟩
  | 123 => ⟨S1x1x256, .f32⟩
  | 124 => ⟨S16x2048x256, .f32⟩
  | 125 => ⟨S16x2048x256, .f32⟩
  | 126 => ⟨S16x2048x256, .f32⟩
  | 127 => ⟨S1x256, .f32⟩
  | _ => ⟨S16x2048x1024, .f32⟩

abbrev hbmTy0_1 (i : Nat) : BufTy := match i % 128 with
  | 0 => ⟨S256, .f32⟩
  | 1 => ⟨S16x2048x256, .f32⟩
  | 2 => ⟨S1x1x256, .f32⟩
  | 3 => ⟨S16x2048x256, .f32⟩
  | 4 => ⟨S16x2048x256, .f32⟩
  | 5 => ⟨S16x2048x256, .f32⟩
  | 6 => ⟨S1x256, .f32⟩
  | 7 => ⟨S256, .f32⟩
  | 8 => ⟨S16x2048x256, .f32⟩
  | 9 => ⟨S1x1x256, .f32⟩
  | 10 => ⟨S16x2048x256, .f32⟩
  | 11 => ⟨S16x2048x256, .f32⟩
  | 12 => ⟨S16x2048x256, .f32⟩
  | 13 => ⟨S1x256, .f32⟩
  | 14 => ⟨S256, .f32⟩
  | 15 => ⟨S16x2048x256, .f32⟩
  | 16 => ⟨S1x1x256, .f32⟩
  | 17 => ⟨S16x2048x256, .f32⟩
  | 18 => ⟨S16x2048x256, .f32⟩
  | 19 => ⟨S16x2048x256, .f32⟩
  | 20 => ⟨S1x256, .f32⟩
  | 21 => ⟨S256, .f32⟩
  | 22 => ⟨S16x2048x256, .f32⟩
  | 23 => ⟨S1x1x256, .f32⟩
  | 24 => ⟨S16x2048x256, .f32⟩
  | 25 => ⟨S16x2048x256, .f32⟩
  | 26 => ⟨S16x2048x256, .f32⟩
  | 27 => ⟨S1x256, .f32⟩
  | 28 => ⟨S256, .f32⟩
  | 29 => ⟨S16x2048x256, .f32⟩
  | 30 => ⟨S1x1x256, .f32⟩
  | 31 => ⟨S16x2048x256, .f32⟩
  | 32 => ⟨S16x2048x256, .f32⟩
  | 33 => ⟨S16x2048x256, .f32⟩
  | 34 => ⟨S1x256, .f32⟩
  | 35 => ⟨S256, .f32⟩
  | 36 => ⟨S16x2048x256, .f32⟩
  | 37 => ⟨S1x1x256, .f32⟩
  | 38 => ⟨S16x2048x256, .f32⟩
  | 39 => ⟨S16x2048x256, .f32⟩
  | 40 => ⟨S16x2048x256, .f32⟩
  | 41 => ⟨S1x256, .f32⟩
  | 42 => ⟨S256, .f32⟩
  | 43 => ⟨S16x2048x256, .f32⟩
  | 44 => ⟨S1x1x256, .f32⟩
  | 45 => ⟨S16x2048x256, .f32⟩
  | 46 => ⟨S16x2048x256, .f32⟩
  | 47 => ⟨S16x2048x256, .f32⟩
  | 48 => ⟨S1x256, .f32⟩
  | 49 => ⟨S256, .f32⟩
  | 50 => ⟨S16x2048x256, .f32⟩
  | 51 => ⟨S1x1x256, .f32⟩
  | 52 => ⟨S16x2048x256, .f32⟩
  | 53 => ⟨S16x2048x256, .f32⟩
  | 54 => ⟨S16x2048x256, .f32⟩
  | 55 => ⟨S1x256, .f32⟩
  | 56 => ⟨S256, .f32⟩
  | 57 => ⟨S16x2048x256, .f32⟩
  | 58 => ⟨S1x1x256, .f32⟩
  | 59 => ⟨S16x2048x256, .f32⟩
  | 60 => ⟨S16x2048x256, .f32⟩
  | 61 => ⟨S16x2048x256, .f32⟩
  | 62 => ⟨S1x256, .f32⟩
  | 63 => ⟨S256, .f32⟩
  | 64 => ⟨S16x2048x256, .f32⟩
  | 65 => ⟨S1x1x256, .f32⟩
  | 66 => ⟨S16x2048x256, .f32⟩
  | 67 => ⟨S16x2048x256, .f32⟩
  | 68 => ⟨S16x2048x256, .f32⟩
  | 69 => ⟨S1x256, .f32⟩
  | 70 => ⟨S256, .f32⟩
  | 71 => ⟨S16x2048x256, .f32⟩
  | 72 => ⟨S1x1x256, .f32⟩
  | 73 => ⟨S16x2048x256, .f32⟩
  | 74 => ⟨S16x2048x256, .f32⟩
  | 75 => ⟨S16x2048x256, .f32⟩
  | 76 => ⟨S1x256, .f32⟩
  | 77 => ⟨S256, .f32⟩
  | 78 => ⟨S16x2048x256, .f32⟩
  | 79 => ⟨S1x1x256, .f32⟩
  | 80 => ⟨S16x2048x256, .f32⟩
  | 81 => ⟨S16x2048x256, .f32⟩
  | 82 => ⟨S16x2048x256, .f32⟩
  | 83 => ⟨S1x256, .f32⟩
  | 84 => ⟨S256, .f32⟩
  | 85 => ⟨S16x2048x256, .f32⟩
  | 86 => ⟨S1x1x256, .f32⟩
  | 87 => ⟨S16x2048x256, .f32⟩
  | 88 => ⟨S16x2048x256, .f32⟩
  | 89 => ⟨S16x2048x256, .f32⟩
  | 90 => ⟨S1x256, .f32⟩
  | 91 => ⟨S256, .f32⟩
  | 92 => ⟨S16x2048x256, .f32⟩
  | 93 => ⟨S1x1x256, .f32⟩
  | 94 => ⟨S16x2048x256, .f32⟩
  | 95 => ⟨S16x2048x256, .f32⟩
  | 96 => ⟨S16x2048x256, .f32⟩
  | 97 => ⟨S1x256, .f32⟩
  | 98 => ⟨S256, .f32⟩
  | 99 => ⟨S16x2048x256, .f32⟩
  | 100 => ⟨S1x1x256, .f32⟩
  | 101 => ⟨S16x2048x256, .f32⟩
  | 102 => ⟨S16x2048x256, .f32⟩
  | 103 => ⟨S16x2048x256, .f32⟩
  | 104 => ⟨S1x256, .f32⟩
  | 105 => ⟨S256, .f32⟩
  | 106 => ⟨S1x1x256, .f32⟩
  | 107 => ⟨S16x2048x256, .f32⟩
  | 108 => ⟨S16x2048x256, .f32⟩
  | 109 => ⟨S1x256, .f32⟩
  | 110 => ⟨S256, .f32⟩
  | 111 => ⟨S1x256, .f32⟩
  | 112 => ⟨S256, .f32⟩
  | 113 => ⟨S_, .f32⟩
  | 114 => ⟨S16x2048, .f32⟩
  | 115 => ⟨S16x2048x1, .f32⟩
  | 116 => ⟨S_, .f32⟩
  | 117 => ⟨S16x2048x1, .f32⟩
  | 118 => ⟨S16x2048x1, .f32⟩
  | 119 => ⟨S16x2048x256, .f32⟩
  | 120 => ⟨S16x2048x256, .f32⟩
  | 121 => ⟨S16x2048x256, .f32⟩
  | 122 => ⟨S_, .f32⟩
  | 123 => ⟨S16x2048, .f32⟩
  | 124 => ⟨S16x2048x1, .f32⟩
  | 125 => ⟨S_, .f32⟩
  | 126 => ⟨S16x2048x1, .f32⟩
  | 127 => ⟨S16x2048x1, .f32⟩
  | _ => ⟨S16x2048x1024, .f32⟩

abbrev hbmTy0_2 (i : Nat) : BufTy := match i % 128 with
  | 0 => ⟨S_, .f32⟩
  | 1 => ⟨S16x2048x1, .f32⟩
  | 2 => ⟨S16x2048x1, .f32⟩
  | 3 => ⟨S16x2048x1, .f32⟩
  | 4 => ⟨S16x2048x256, .f32⟩
  | 5 => ⟨S16x2048x256, .f32⟩
  | 6 => ⟨S1x1x256, .f32⟩
  | 7 => ⟨S16x2048x256, .f32⟩
  | 8 => ⟨S16x2048x256, .f32⟩
  | 9 => ⟨S1x1x256, .f32⟩
  | 10 => ⟨S16x2048x256, .f32⟩
  | 11 => ⟨S16x2048x256, .f32⟩
  | 12 => ⟨S16x2048x256, .f32⟩
  | 13 => ⟨S16x2048x256, .f32⟩
  | 14 => ⟨S_, .f32⟩
  | 15 => ⟨S16x2048x256, .f32⟩
  | 16 => ⟨S16x2048x256, .f32⟩
  | 17 => ⟨S_, .f32⟩
  | 18 => ⟨S16x2048x256, .f32⟩
  | 19 => ⟨S16x2048x256, .f32⟩
  | 20 => ⟨S16x2048x256, .f32⟩
  | 21 => ⟨S1x256x256, .f32⟩
  | 22 => ⟨S256x256, .f32⟩
  | 23 => ⟨S16x2048x256, .f32⟩
  | 24 => ⟨S16x2048x256, .f32⟩
  | 25 => ⟨S16x2048x256, .f32⟩
  | 26 => ⟨S16x2048x1024, .f32⟩
  | 27 => ⟨S1x1024x1024, .f32⟩
  | 28 => ⟨S1024x1024, .f32⟩
  | 29 => ⟨S16x2048x1024, .f32⟩
  | 30 => ⟨S16x2048x1024, .f32⟩
  | _ => ⟨S16x2048x1024, .f32⟩

abbrev hbmTy (i : Nat) : BufTy := match i / 128 with
  | 0 => hbmTy0_0 i
  | 1 => hbmTy0_1 i
  | 2 => hbmTy0_2 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_call0_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩
abbrev main_v164 : Ref sig .tc := ⟨.hbm, 176, rfl⟩
abbrev main_v165 : Ref sig .tc := ⟨.hbm, 177, rfl⟩
abbrev main_v166 : Ref sig .tc := ⟨.hbm, 178, rfl⟩
abbrev main_v167 : Ref sig .tc := ⟨.hbm, 179, rfl⟩
abbrev main_v168 : Ref sig .tc := ⟨.hbm, 180, rfl⟩
abbrev main_v169 : Ref sig .tc := ⟨.hbm, 181, rfl⟩
abbrev main_v170 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_v174 : Ref sig .tc := ⟨.hbm, 186, rfl⟩
abbrev main_v175 : Ref sig .tc := ⟨.hbm, 187, rfl⟩
abbrev main_v176 : Ref sig .tc := ⟨.hbm, 188, rfl⟩
abbrev main_v177 : Ref sig .tc := ⟨.hbm, 189, rfl⟩
abbrev main_v178 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_v182 : Ref sig .tc := ⟨.hbm, 194, rfl⟩
abbrev main_v183 : Ref sig .tc := ⟨.hbm, 195, rfl⟩
abbrev main_v184 : Ref sig .tc := ⟨.hbm, 196, rfl⟩
abbrev main_v185 : Ref sig .tc := ⟨.hbm, 197, rfl⟩
abbrev main_v186 : Ref sig .tc := ⟨.hbm, 198, rfl⟩
abbrev main_v187 : Ref sig .tc := ⟨.hbm, 199, rfl⟩
abbrev main_v188 : Ref sig .tc := ⟨.hbm, 200, rfl⟩
abbrev main_v189 : Ref sig .tc := ⟨.hbm, 201, rfl⟩
abbrev main_v190 : Ref sig .tc := ⟨.hbm, 202, rfl⟩
abbrev main_v191 : Ref sig .tc := ⟨.hbm, 203, rfl⟩
abbrev main_v192 : Ref sig .tc := ⟨.hbm, 204, rfl⟩
abbrev main_v193 : Ref sig .tc := ⟨.hbm, 205, rfl⟩
abbrev main_v194 : Ref sig .tc := ⟨.hbm, 206, rfl⟩
abbrev main_v195 : Ref sig .tc := ⟨.hbm, 207, rfl⟩
abbrev main_v196 : Ref sig .tc := ⟨.hbm, 208, rfl⟩
abbrev main_v197 : Ref sig .tc := ⟨.hbm, 209, rfl⟩
abbrev main_v198 : Ref sig .tc := ⟨.hbm, 210, rfl⟩
abbrev main_v199 : Ref sig .tc := ⟨.hbm, 211, rfl⟩
abbrev main_v200 : Ref sig .tc := ⟨.hbm, 212, rfl⟩
abbrev main_v201 : Ref sig .tc := ⟨.hbm, 213, rfl⟩
abbrev main_v202 : Ref sig .tc := ⟨.hbm, 214, rfl⟩
abbrev main_v203 : Ref sig .tc := ⟨.hbm, 215, rfl⟩
abbrev main_v204 : Ref sig .tc := ⟨.hbm, 216, rfl⟩
abbrev main_v205 : Ref sig .tc := ⟨.hbm, 217, rfl⟩
abbrev main_v206 : Ref sig .tc := ⟨.hbm, 218, rfl⟩
abbrev main_v207 : Ref sig .tc := ⟨.hbm, 219, rfl⟩
abbrev main_v208 : Ref sig .tc := ⟨.hbm, 220, rfl⟩
abbrev main_v209 : Ref sig .tc := ⟨.hbm, 221, rfl⟩
abbrev main_v210 : Ref sig .tc := ⟨.hbm, 222, rfl⟩
abbrev main_v211 : Ref sig .tc := ⟨.hbm, 223, rfl⟩
abbrev main_v212 : Ref sig .tc := ⟨.hbm, 224, rfl⟩
abbrev main_v213 : Ref sig .tc := ⟨.hbm, 225, rfl⟩
abbrev main_v214 : Ref sig .tc := ⟨.hbm, 226, rfl⟩
abbrev main_v215 : Ref sig .tc := ⟨.hbm, 227, rfl⟩
abbrev main_v216 : Ref sig .tc := ⟨.hbm, 228, rfl⟩
abbrev main_v217 : Ref sig .tc := ⟨.hbm, 229, rfl⟩
abbrev main_v218 : Ref sig .tc := ⟨.hbm, 230, rfl⟩
abbrev main_v219 : Ref sig .tc := ⟨.hbm, 231, rfl⟩
abbrev main_v220 : Ref sig .tc := ⟨.hbm, 232, rfl⟩
abbrev main_v221 : Ref sig .tc := ⟨.hbm, 233, rfl⟩
abbrev main_v222 : Ref sig .tc := ⟨.hbm, 234, rfl⟩
abbrev main_v223 : Ref sig .tc := ⟨.hbm, 235, rfl⟩
abbrev main_v224 : Ref sig .tc := ⟨.hbm, 236, rfl⟩
abbrev main_v225 : Ref sig .tc := ⟨.hbm, 237, rfl⟩
abbrev main_v226 : Ref sig .tc := ⟨.hbm, 238, rfl⟩
abbrev main_v227 : Ref sig .tc := ⟨.hbm, 239, rfl⟩
abbrev main_v228 : Ref sig .tc := ⟨.hbm, 240, rfl⟩
abbrev main_cst : Ref sig .tc := ⟨.hbm, 241, rfl⟩
abbrev main_v229 : Ref sig .tc := ⟨.hbm, 242, rfl⟩
abbrev main_v230 : Ref sig .tc := ⟨.hbm, 243, rfl⟩
abbrev main_cst_0 : Ref sig .tc := ⟨.hbm, 244, rfl⟩
abbrev main_v231 : Ref sig .tc := ⟨.hbm, 245, rfl⟩
abbrev main_v232 : Ref sig .tc := ⟨.hbm, 246, rfl⟩
abbrev main_v233 : Ref sig .tc := ⟨.hbm, 247, rfl⟩
abbrev main_v234 : Ref sig .tc := ⟨.hbm, 248, rfl⟩
abbrev main_v235 : Ref sig .tc := ⟨.hbm, 249, rfl⟩
abbrev main_cst_1 : Ref sig .tc := ⟨.hbm, 250, rfl⟩
abbrev main_v236 : Ref sig .tc := ⟨.hbm, 251, rfl⟩
abbrev main_v237 : Ref sig .tc := ⟨.hbm, 252, rfl⟩
abbrev main_cst_2 : Ref sig .tc := ⟨.hbm, 253, rfl⟩
abbrev main_v238 : Ref sig .tc := ⟨.hbm, 254, rfl⟩
abbrev main_v239 : Ref sig .tc := ⟨.hbm, 255, rfl⟩
abbrev main_cst_3 : Ref sig .tc := ⟨.hbm, 256, rfl⟩
abbrev main_v240 : Ref sig .tc := ⟨.hbm, 257, rfl⟩
abbrev main_v241 : Ref sig .tc := ⟨.hbm, 258, rfl⟩
abbrev main_v242 : Ref sig .tc := ⟨.hbm, 259, rfl⟩
abbrev main_v243 : Ref sig .tc := ⟨.hbm, 260, rfl⟩
abbrev main_v244 : Ref sig .tc := ⟨.hbm, 261, rfl⟩
abbrev main_v245 : Ref sig .tc := ⟨.hbm, 262, rfl⟩
abbrev main_v246 : Ref sig .tc := ⟨.hbm, 263, rfl⟩
abbrev main_v247 : Ref sig .tc := ⟨.hbm, 264, rfl⟩
abbrev main_v248 : Ref sig .tc := ⟨.hbm, 265, rfl⟩
abbrev main_v249 : Ref sig .tc := ⟨.hbm, 266, rfl⟩
abbrev main_v250 : Ref sig .tc := ⟨.hbm, 267, rfl⟩
abbrev main_call1_v0 : Ref sig .tc := ⟨.hbm, 268, rfl⟩
abbrev main_call1_v1 : Ref sig .tc := ⟨.hbm, 269, rfl⟩
abbrev main_call1_cst : Ref sig .tc := ⟨.hbm, 270, rfl⟩
abbrev main_call1_v2 : Ref sig .tc := ⟨.hbm, 271, rfl⟩
abbrev main_call1_v3 : Ref sig .tc := ⟨.hbm, 272, rfl⟩
abbrev main_call1_cst_0 : Ref sig .tc := ⟨.hbm, 273, rfl⟩
abbrev main_call1_v4 : Ref sig .tc := ⟨.hbm, 274, rfl⟩
abbrev main_call1_v5 : Ref sig .tc := ⟨.hbm, 275, rfl⟩
abbrev main_v251 : Ref sig .tc := ⟨.hbm, 276, rfl⟩
abbrev main_v252 : Ref sig .tc := ⟨.hbm, 277, rfl⟩
abbrev main_v253 : Ref sig .tc := ⟨.hbm, 278, rfl⟩
abbrev main_v254 : Ref sig .tc := ⟨.hbm, 279, rfl⟩
abbrev main_v255 : Ref sig .tc := ⟨.hbm, 280, rfl⟩
abbrev main_v256 : Ref sig .tc := ⟨.hbm, 281, rfl⟩
abbrev main_v257 : Ref sig .tc := ⟨.hbm, 282, rfl⟩
abbrev main_v258 : Ref sig .tc := ⟨.hbm, 283, rfl⟩
abbrev main_v259 : Ref sig .tc := ⟨.hbm, 284, rfl⟩
abbrev main_v260 : Ref sig .tc := ⟨.hbm, 285, rfl⟩
abbrev main_v261 : Ref sig .tc := ⟨.hbm, 286, rfl⟩

abbrev nD : Nat := 1
abbrev τ : Topo := Topo.v7x

variable {F : FTy → Type} [FloatOps F]
-- ==== Proof.InTile.lean ====
/- The in-projection kernel's tile over the extended reals, read at an index: the normalized rows, the projections as products
   of rows, the gate, the two normalized heads. -/
module

public import proofs.«01_k».proof.Proof.Gen.Kernel2Ideal.Frame
public import Idealize.ShloMosaic.Lib.Pipeline.ValueKit.Tiles
public import Idealize.ShloMosaic.Lib.Pointwise

@[expose] public section

set_option maxRecDepth 16384

noncomputable section

namespace Inproj

open Cert.Kernel2Ideal Cert.Kernel2Ideal.Gen
open Idealize.ShloMosaic Idealize.ShloMosaic.TcCoe

/-- One over the root of a mean square, the mean given as the sum and the count. -/
def inv (s n : EReal) : EReal := Ideal.rsqrt (Ideal.div s n + Ideal.ofBits .f32 0x358637BD#32)

/-- A row of the block, normalized. -/
def hid (x0 : FVec Ideal S1x1024x1024 .f32) (x1 : FVec Ideal S1x1x1024 .f32) (t k : Fin 1024) : EReal :=
  x0 (Idealize.ShloMosaic.ix3 0 t k)
    * inv (∑ j : Fin 1024, x0 (Idealize.ShloMosaic.ix3 0 t j) * x0 (Idealize.ShloMosaic.ix3 0 t j)) (Ideal.ofBits .f32 0x44800000#32)
    * x1 (Idealize.ShloMosaic.ix3 0 0 k)

/-- One projected value: the normalized row against a row of the weights. -/
def pr (x0 : FVec Ideal S1x1024x1024 .f32) (x1 : FVec Ideal S1x1x1024 .f32) (x2 : FVec Ideal S1x3848x1024 .bf16)
    (t : Fin 1024) (o : Fin 3848) : EReal := ∑ k : Fin 1024, hid x0 x1 t k * x2 (Idealize.ShloMosaic.ix3 0 o k)

/-- The kernel's gate. -/
def half : EReal := Ideal.ofBits .f32 0x3F000000#32
def sg (x : EReal) : EReal := half * Ideal.tanh (half * x) + half
def sl (x : EReal) : EReal := half * x * Ideal.tanh (half * x) + half * x

variable (x0 : FVec Ideal S1x1024x1024 .f32) (x1 : FVec Ideal S1x1x1024 .f32) (x2 : FVec Ideal S1x3848x1024 .bf16)

theorem hid_at (t k : Fin 1024) : k0_pay6 (F := Ideal) x0 x1 (Idealize.ShloMosaic.ix2 t k) = hid x0 x1 t k := by
  pointwise [k0_pay6, hid, inv]

theorem w_at (M : Memref sig .tc .vmem S1x3848x1024 .bf16) (hM : M.IsWhole) (h) (r : Fin 3848) (k : Fin 1024) :
    View.read (Elt Ideal) ((M.view.slice (Rect.unit ![0, 0, 0] ![1, 3848, 1024] Gen.inb_S1x3848x1024_S1x3848x1024_0_0_0)).reshape S3848x1024 h)
      (hM.unread x2) (Idealize.ShloMosaic.ix2 r k) = x2 (Idealize.ShloMosaic.ix3 0 r k) := by
  have e := congrFun (hM.read_unread (Val := Elt Ideal) x2)
  show View.read (Elt Ideal) M.view (hM.unread x2) ((Rect.unit ![0, 0, 0] ![1, 3848, 1024] Gen.inb_S1x3848x1024_S1x3848x1024_0_0_0).emb (Shape.reshapeEquiv h (Idealize.ShloMosaic.ix2 r k))) = _
  rw [e]
  have h' : S1x3848x1024.ShapeCasts S3848x1024 := h
  have e1 : shapeCast S3848x1024 (x2 : FVec Ideal S1x3848x1024 .bf16) h' (Idealize.ShloMosaic.ix2 r k) = x2 (Idealize.ShloMosaic.ix3 0 r k) := by
    pointwise []
  refine Eq.trans (congrArg x2 ?_) e1
  funext a
  apply Fin.ext
  match a with
  | ⟨0, _⟩ => exact (Nat.zero_add _).trans (Nat.one_mul _)
  | ⟨1, _⟩ => exact (Nat.zero_add _).trans (Nat.one_mul _)
  | ⟨2, _⟩ => exact (Nat.zero_add _).trans (Nat.one_mul _)

theorem p768 (w : FVec Ideal S768x1024 .bf16) (t : Fin 1024) (o : Fin 768) :
    k0_pay7 (F := Ideal) x0 x1 w (Idealize.ShloMosaic.ix2 t o) = ∑ k : Fin 1024, hid x0 x1 t k * w (Idealize.ShloMosaic.ix2 o k) := by
  have e : ∀ k, k0_pay6 (F := Ideal) x0 x1 (Idealize.ShloMosaic.ix2 t k) = hid x0 x1 t k := hid_at x0 x1 t
  unfold k0_pay7
  simp only [← e]
  generalize k0_pay6 (F := Ideal) x0 x1 = H
  pointwise []

theorem p520 (h : FVec Ideal S1024x1024 .bf16) (w : FVec Ideal S520x1024 .bf16) (t : Fin 1024) (o : Fin 520) :
    k0_pay19 (F := Ideal) h (k0_pay18 w) (constant S520x1024 .f32 0x00000000#32) (Idealize.ShloMosaic.ix2 o t)
      = ∑ k : Fin 1024, w (Idealize.ShloMosaic.ix2 o k) * h (Idealize.ShloMosaic.ix2 t k) := by
  pointwise [k0_pay19, k0_pay18]

theorem p512 (h : FVec Ideal S1024x1024 .bf16) (w : FVec Ideal S512x1024 .bf16) (t : Fin 1024) (o : Fin 512) :
    k0_pay32 (F := Ideal) h w (Idealize.ShloMosaic.ix2 o t) = ∑ k : Fin 1024, w (Idealize.ShloMosaic.ix2 o k) * h (Idealize.ShloMosaic.ix2 t k) := by
  pointwise [k0_pay32]

/-- A head's row, normalized and scaled by its gain. -/
def hn (p : Fin 512 → EReal) (g : EReal) (o : Fin 512) : EReal :=
  p o * inv (∑ r : Fin 64, p ⟨o.val / 64 * 64 + r.val, by omega⟩ * p ⟨o.val / 64 * 64 + r.val, by omega⟩) (Ideal.ofBits .f32 0x42800000#32) * g

theorem hn_at (h : FVec Ideal S1024x1024 .bf16) (w : FVec Ideal S512x1024 .bf16) (g : FVec Ideal S1x512x1 .f32) (t : Fin 1024) (o : Fin 512) :
    k0_pay28 (F := Ideal) h w g (Idealize.ShloMosaic.ix2 o t)
      = hn (fun o => k0_pay32 (F := Ideal) h w (Idealize.ShloMosaic.ix2 o t)) (g (Idealize.ShloMosaic.ix3 0 o 0)) o := by
  have e : k0_pay28 (F := Ideal) h w g = k0_pay31 (k0_pay29 h w) (k0_pay30 h w) g := rfl
  have e2 : k0_pay29 h w = shapeCast S8x64x1024 (k0_pay32 (F := Ideal) h w) shapeCasts_S512x1024_S8x64x1024 := rfl
  rw [e]
  unfold k0_pay30
  rw [e2]
  generalize k0_pay32 (F := Ideal) h w = P
  pointwise [k0_pay31, hn, inv]

/-! ## The loads of weight rows, and the projections over them -/

theorem ld_at (W : S3848x1024.Idx → Elt Ideal .bf16) (o n : ℕ) (inb : ∀ a, (![o, 0] : Fin 2 → ℕ) a + (![n, 1024] : Fin 2 → ℕ) a ≤ S3848x1024.size a)
    (r : Fin n) (k : Fin 1024) (i : Fin 3848) (hi : i.val = o + r.val) :
    View.ld W (Rect.unit ![o, 0] ![n, 1024] inb) (Idealize.ShloMosaic.ix2 r k) = W (Idealize.ShloMosaic.ix2 i k) := by
  refine View.ld_unit_apply_of W _ _ _ _ _ fun a => ?_
  match a with
  | ⟨0, _⟩ => exact hi
  | ⟨1, _⟩ => exact (Nat.zero_add _).symm

variable {x2} in
theorem pv_at {W : S3848x1024.Idx → Elt Ideal .bf16} (hW : ∀ r k, W (Idealize.ShloMosaic.ix2 r k) = x2 (Idealize.ShloMosaic.ix3 0 r k))
    (o : ℕ) (inb) (r : Fin 512) (t : Fin 1024) (i : Fin 3848) (hi : i.val = o + r.val) :
    k0_pay32 (F := Ideal) (k0_pay6 (F := Ideal) x0 x1) (View.ld W (Rect.unit ![o, 0] ![512, 1024] inb)) (Idealize.ShloMosaic.ix2 r t) = pr x0 x1 x2 t i := by
  refine (p512 _ _ t r).trans (Finset.sum_congr rfl fun k _ => ?_)
  refine (mul_comm _ _).trans (congrArg₂ (· * ·) (hid_at x0 x1 t k) ?_)
  exact (ld_at W o 512 inb r k i hi).trans (hW i k)

variable {x2} in
theorem pz_at {W : S3848x1024.Idx → Elt Ideal .bf16} (hW : ∀ r k, W (Idealize.ShloMosaic.ix2 r k) = x2 (Idealize.ShloMosaic.ix3 0 r k))
    (inb) (r : Fin 512) (t : Fin 1024) (i : Fin 3848) (hi : i.val = 3328 + r.val) :
    k0_pay20 (F := Ideal) (k0_pay6 (F := Ideal) x0 x1) (k0_pay18 (View.ld W (Rect.unit ![3328, 0] ![520, 1024] inb)))
      (constant S520x1024 .f32 0x00000000#32) (Idealize.ShloMosaic.ix2 r t) = pr x0 x1 x2 t i := by
  have e : k0_pay20 (F := Ideal) (k0_pay6 (F := Ideal) x0 x1) (k0_pay18 (View.ld W (Rect.unit ![3328, 0] ![520, 1024] inb)))
      (constant S520x1024 .f32 0x00000000#32) (Idealize.ShloMosaic.ix2 r t)
      = k0_pay19 (F := Ideal) (k0_pay6 (F := Ideal) x0 x1) (k0_pay18 (View.ld W (Rect.unit ![3328, 0] ![520, 1024] inb)))
      (constant S520x1024 .f32 0x00000000#32) (Idealize.ShloMosaic.ix2 ⟨r.val, by omega⟩ t) := by
    unfold k0_pay20
    generalize k0_pay19 (F := Ideal) _ _ _ = P
    pointwise []
  refine e.trans ((p520 _ _ t _).trans (Finset.sum_congr rfl fun k _ => ?_))
  refine (mul_comm _ _).trans (congrArg₂ (· * ·) (hid_at x0 x1 t k) ?_)
  exact (ld_at W 3328 520 inb _ k i hi).trans (hW i k)

variable {x2} in
theorem pu_at {W : S3848x1024.Idx → Elt Ideal .bf16} (hW : ∀ r k, W (Idealize.ShloMosaic.ix2 r k) = x2 (Idealize.ShloMosaic.ix3 0 r k))
    (inb) (r : Fin 768) (t : Fin 1024) (i : Fin 3848) (hi : i.val = r.val) :
    k0_pay7 (F := Ideal) x0 x1 (View.ld W (Rect.unit ![0, 0] ![768, 1024] inb)) (Idealize.ShloMosaic.ix2 t r) = pr x0 x1 x2 t i := by
  refine (p768 x0 x1 _ t r).trans (Finset.sum_congr rfl fun k _ => ?_)
  exact congrArg _ ((ld_at W 0 768 inb r k i (hi.trans (Nat.zero_add _).symm)).trans (hW i k))

/-- A head's normalized row, over the projections. -/
def hv (t : Fin 1024) (o : ℕ) (ho : o + 512 ≤ 3848) (g : EReal) (r : Fin 512) : EReal :=
  hn (fun r => pr x0 x1 x2 t ⟨o + r.val, by omega⟩) g r

variable {x2} in
theorem ph_at {W : S3848x1024.Idx → Elt Ideal .bf16} (hW : ∀ r k, W (Idealize.ShloMosaic.ix2 r k) = x2 (Idealize.ShloMosaic.ix3 0 r k))
    (o : ℕ) (ho : o + 512 ≤ 3848) (inb) (g : FVec Ideal S1x512x1 .f32) (r : Fin 512) (t : Fin 1024) :
    k0_pay28 (F := Ideal) (k0_pay6 (F := Ideal) x0 x1) (View.ld W (Rect.unit ![o, 0] ![512, 1024] inb)) g (Idealize.ShloMosaic.ix2 r t)
      = hv x0 x1 x2 t o ho (g (Idealize.ShloMosaic.ix3 0 r 0)) r := by
  refine (hn_at _ _ g t r).trans ?_
  unfold hv
  refine congrArg (fun p => hn p _ r) (funext fun r' => ?_)
  exact pv_at x0 x1 hW o inb r' t _ rfl

/-! ## The pieces -/

theorem piece_row (P : FVec Ideal S512x1024 .f32) (o : ℕ) (hs : S512x1024.Slices ![o, 0] S64x1024) (hb) (hc) (x : S1x1x64x1024.Idx)
    (i : Fin 512) (j : Fin 1024) (hi : i.val = o + (x 2).val) (hj : j.val = (x 3).val) :
    shapeCast S1x1x64x1024 (truncf .bf16 (extractStridedSlice S64x1024 ![o, 0] P hs) hb) hc x = P (Idealize.ShloMosaic.ix2 i j) := by
  have h0 : (x 0).val < 1 := (x 0).isLt
  have h1 : (x 1).val < 1 := (x 1).isLt
  obtain ⟨i, ii⟩ := i
  obtain rfl : i = _ := hi
  obtain rfl : j = x 3 := Fin.ext hj
  pointwise []

theorem piece_col (P : FVec Ideal S512x1024 .f32) (E : FVec Ideal S16x1024 .f32) (Z : FVec Ideal S48x1024 .f32) (o : ℕ)
    (hs : S512x1024.Slices ![o, 0] S64x1024) (hb) (hc) (hcat) (ht) (x : S1x1x1024x128.Idx)
    (i : Fin 512) (j : Fin 1024) (hx : (x 3).val < 64) (hi : i.val = o + (x 3).val) (hj : j.val = (x 2).val) :
    shapeCast S1x1x1024x128 (truncf .bf16 (transpose S1024x128 [1, 0] (concatenate S128x1024 0
      [⟨S64x1024, extractStridedSlice S64x1024 ![o, 0] P hs⟩, ⟨S16x1024, E⟩, ⟨S48x1024, Z⟩] hcat) ht) hb) hc x = P (Idealize.ShloMosaic.ix2 i j) := by
  have h0 : (x 0).val < 1 := (x 0).isLt
  have h1 : (x 1).val < 1 := (x 1).isLt
  obtain ⟨i, ii⟩ := i
  obtain rfl : i = _ := hi
  obtain rfl : j = x 2 := Fin.ext hj
  pointwise []
  exact dif_pos hx

theorem piece_gate (P : FVec Ideal S512x1024 .f32) (x : S1x8x64x1024.Idx) (i : Fin 512) (j : Fin 1024)
    (hi : i.val = 64 * (x 1).val + (x 2).val) (hj : j.val = (x 3).val) :
    k0_pay33 P x = sl (P (Idealize.ShloMosaic.ix2 i j)) := by
  have h0 : (x 0).val < 1 := (x 0).isLt
  obtain ⟨i, ii⟩ := i
  obtain rfl : i = (x 1).val * 64 + (x 2).val := hi.trans (by omega)
  obtain rfl : j = x 3 := Fin.ext hj
  pointwise [k0_pay33, sl, half]

theorem piece_u1 (w : FVec Ideal S768x1024 .bf16) (x : S1x1024x256.Idx) (i i' : Fin 768) (j : Fin 1024)
    (hi : i.val = (x 2).val) (hi' : i'.val = 256 + (x 2).val) (hj : j.val = (x 1).val) :
    k0_pay9 (k0_pay8 x0 x1 w) x = k0_pay7 (F := Ideal) x0 x1 w (Idealize.ShloMosaic.ix2 j i) * sg (k0_pay7 (F := Ideal) x0 x1 w (Idealize.ShloMosaic.ix2 j i')) := by
  have h0 : (x 0).val < 1 := (x 0).isLt
  unfold k0_pay8
  generalize k0_pay7 (F := Ideal) x0 x1 w = P
  obtain ⟨i, ii⟩ := i
  obtain rfl : i = _ := hi
  obtain ⟨i', ii'⟩ := i'
  obtain rfl : i' = _ := hi'
  obtain rfl : j = x 1 := Fin.ext hj
  pointwise [k0_pay9, sg, half]

theorem piece_u2 (P : FVec Ideal S1024x768 .f32) (x : S1x1024x256.Idx) (i : Fin 768) (j : Fin 1024)
    (hi : i.val = 512 + (x 2).val) (hj : j.val = (x 1).val) :
    k0_pay10 P x = sl (P (Idealize.ShloMosaic.ix2 j i)) := by
  have h0 : (x 0).val < 1 := (x 0).isLt
  obtain ⟨i, ii⟩ := i
  obtain rfl : i = _ := hi
  obtain rfl : j = x 1 := Fin.ext hj
  pointwise [k0_pay10, sl, half]

end Inproj
-- ==== Proof.InPoint.lean ====
/- The in-projection kernel's output blocks at a point, read at an index: each is a function of the point's blocks of rows,
   gains and weights alone, whatever the scratch holds. -/
module

public import proofs.«01_k».proof.Proof.InTile

@[expose] public section

set_option maxRecDepth 16384

noncomputable section

namespace Inproj

open Cert.Kernel2Ideal Cert.Kernel2Ideal.Gen
open Idealize.ShloMosaic Idealize.ShloMosaic.TcCoe

/-- The first result's block at an index. -/
def B7 (x0 : FVec Ideal S1x1024x1024 .f32) (x1 : FVec Ideal S1x1x1024 .f32) (x2 : FVec Ideal S1x3848x1024 .bf16) (y : S1x1024x512.Idx) : EReal :=
  if (y 2).val < 256 then pr x0 x1 x2 (y 1) ⟨(y 2).val, by have := (y 2).isLt; change (y 2).val < 512 at this; omega⟩
      * sg (pr x0 x1 x2 (y 1) ⟨256 + (y 2).val, by have := (y 2).isLt; change (y 2).val < 512 at this; omega⟩)
  else sl (pr x0 x1 x2 (y 1) ⟨256 + (y 2).val, by have := (y 2).isLt; change (y 2).val < 512 at this; omega⟩)

def row (h : Fin 8) (r : Fin 64) : Fin 512 := ⟨64 * h.val + r.val, by omega⟩

theorem out7_A (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x3848x1024 .bf16) (harg4 : arg4.IsWhole) (arg5 : Memref sig .tc .vmem S1x8x1 .f32) (harg5 : arg5.IsWhole) (arg6 : Memref sig .tc .vmem S1x3x256 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x1024x512 .f32) (harg9 : arg9.IsWhole) (arg10 : Memref sig .tc .vmem S1x1024x256 .bf16) (harg10 : arg10.IsWhole) (arg11 : Memref sig .tc .vmem S1x8x128x1024 .bf16) (harg11 : arg11.IsWhole) (arg12 : Memref sig .tc .vmem S1x8x1024x128 .bf16) (harg12 : arg12.IsWhole) (arg13 : Memref sig .tc .vmem S1x8x80x1024 .bf16) (harg13 : arg13.IsWhole) (arg14 : Memref sig .tc .vmem S1x8x64x1024 .bf16) (harg14 : arg14.IsWhole) (arg15 : Memref sig .tc .vmem S1032x256 .f32) (harg15 : arg15.IsWhole) (arg16 : Memref sig .tc .vmem S8x128 .f32) (harg16 : arg16.IsWhole) (hc0 : cond0_0 i) (x0 : Vec Ideal S1x1024x1024 .f32) (x1 : Vec Ideal S1x1x1024 .f32) (x2 : Vec Ideal S1x3848x1024 .bf16) (x3 : Vec Ideal S1x8x1 .f32) (x4 : Vec Ideal S1x3x256 .f32) (x5 : Vec Ideal S1x512x1 .f32) (x6 : Vec Ideal S1x512x1 .f32) (y : S1x1024x512.Idx) :
    out0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 y = B7 x0 x1 x2 y := by
  frame_out
  generalize hW : View.read (Elt Ideal) _ _ = W
  have hW' : ∀ r k, W (Idealize.ShloMosaic.ix2 r k) = x2 (Idealize.ShloMosaic.ix3 0 r k) := fun r k => by
    rw [← hW]; exact w_at x2 arg4 harg4 _ r k
  unfold B7
  canon_tiles x h
  · have x2_lt : (x 2).val < 256 := (x 2).isLt
    rw [if_neg (by omega)]
    refine (piece_u2 _ x ⟨512 + (x 2).val, by omega⟩ (y 1) rfl (by omega)).trans (congrArg sl ?_)
    exact pu_at x0 x1 hW' _ _ _ _ (by show 256 + (y 2).val = 512 + (x 2).val; omega)
  · have x2_lt : (x 2).val < 256 := (x 2).isLt
    rw [if_pos (by omega)]
    refine (piece_u1 x0 x1 _ x ⟨(x 2).val, by omega⟩ ⟨256 + (x 2).val, by omega⟩ (y 1) rfl rfl (by omega)).trans ?_
    exact congrArg₂ (· * ·) (pu_at x0 x1 hW' _ _ _ _ (by show (y 2).val = (x 2).val; omega))
      (congrArg sg (pu_at x0 x1 hW' _ _ _ _ (by show 256 + (y 2).val = 256 + (x 2).val; omega)))

theorem out11_A (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x3848x1024 .bf16) (harg4 : arg4.IsWhole) (arg5 : Memref sig .tc .vmem S1x8x1 .f32) (harg5 : arg5.IsWhole) (arg6 : Memref sig .tc .vmem S1x3x256 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x1024x512 .f32) (harg9 : arg9.IsWhole) (arg10 : Memref sig .tc .vmem S1x1024x256 .bf16) (harg10 : arg10.IsWhole) (arg11 : Memref sig .tc .vmem S1x8x128x1024 .bf16) (harg11 : arg11.IsWhole) (arg12 : Memref sig .tc .vmem S1x8x1024x128 .bf16) (harg12 : arg12.IsWhole) (arg13 : Memref sig .tc .vmem S1x8x80x1024 .bf16) (harg13 : arg13.IsWhole) (arg14 : Memref sig .tc .vmem S1x8x64x1024 .bf16) (harg14 : arg14.IsWhole) (arg15 : Memref sig .tc .vmem S1032x256 .f32) (harg15 : arg15.IsWhole) (arg16 : Memref sig .tc .vmem S8x128 .f32) (harg16 : arg16.IsWhole) (hc0 : cond0_0 i) (x0 : Vec Ideal S1x1024x1024 .f32) (x1 : Vec Ideal S1x1x1024 .f32) (x2 : Vec Ideal S1x3848x1024 .bf16) (x3 : Vec Ideal S1x8x1 .f32) (x4 : Vec Ideal S1x3x256 .f32) (x5 : Vec Ideal S1x512x1 .f32) (x6 : Vec Ideal S1x512x1 .f32) (y : S1x8x80x1024.Idx) (hy : (y 2).val < 64) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 y = pr x0 x1 x2 (y 3) ⟨2816 + (row (y 1) ⟨(y 2).val, hy⟩).val, by omega⟩ := by
  frame_out
  generalize hW : View.read (Elt Ideal) _ _ = W
  have hW' : ∀ r k, W (Idealize.ShloMosaic.ix2 r k) = x2 (Idealize.ShloMosaic.ix3 0 r k) := fun r k => by
    rw [← hW]; exact w_at x2 arg4 harg4 _ r k
  have y1_lt : (y 1).val < 8 := (y 1).isLt
  refine Eq.trans ?_ (pv_at x0 x1 hW' 2816 Gen.inb_S3848x1024_S512x1024_2816_0 (row (y 1) ⟨(y 2).val, hy⟩) (y 3) _ rfl)
  generalize k0_pay32 (F := Ideal) _ _ = P
  canon_tiles x h using (View.cover_of_tiledBy _ ![1, 1, 16, 1024] (by sl_kernel_rfl) y)
  all_goals first | (exfalso; omega) | skip
  all_goals open_payloads
  all_goals
    have x1_lt : (x 1).val < 1 := (x 1).isLt
    exact piece_row P _ _ _ _ x _ _ (by show 64 * (y 1).val + (y 2).val = _; omega) (by omega)

theorem out9_A (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x3848x1024 .bf16) (harg4 : arg4.IsWhole) (arg5 : Memref sig .tc .vmem S1x8x1 .f32) (harg5 : arg5.IsWhole) (arg6 : Memref sig .tc .vmem S1x3x256 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x1024x512 .f32) (harg9 : arg9.IsWhole) (arg10 : Memref sig .tc .vmem S1x1024x256 .bf16) (harg10 : arg10.IsWhole) (arg11 : Memref sig .tc .vmem S1x8x128x1024 .bf16) (harg11 : arg11.IsWhole) (arg12 : Memref sig .tc .vmem S1x8x1024x128 .bf16) (harg12 : arg12.IsWhole) (arg13 : Memref sig .tc .vmem S1x8x80x1024 .bf16) (harg13 : arg13.IsWhole) (arg14 : Memref sig .tc .vmem S1x8x64x1024 .bf16) (harg14 : arg14.IsWhole) (arg15 : Memref sig .tc .vmem S1032x256 .f32) (harg15 : arg15.IsWhole) (arg16 : Memref sig .tc .vmem S8x128 .f32) (harg16 : arg16.IsWhole) (hc0 : cond0_0 i) (x0 : Vec Ideal S1x1024x1024 .f32) (x1 : Vec Ideal S1x1x1024 .f32) (x2 : Vec Ideal S1x3848x1024 .bf16) (x3 : Vec Ideal S1x8x1 .f32) (x4 : Vec Ideal S1x3x256 .f32) (x5 : Vec Ideal S1x512x1 .f32) (x6 : Vec Ideal S1x512x1 .f32) (y : S1x8x128x1024.Idx) (hy : (y 2).val < 64) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 y = hv x0 x1 x2 (y 3) 1792 (by omega) (x5 (Idealize.ShloMosaic.ix3 0 (row (y 1) ⟨(y 2).val, hy⟩) 0)) (row (y 1) ⟨(y 2).val, hy⟩) := by
  frame_out
  generalize hW : View.read (Elt Ideal) _ _ = W
  have hW' : ∀ r k, W (Idealize.ShloMosaic.ix2 r k) = x2 (Idealize.ShloMosaic.ix3 0 r k) := fun r k => by
    rw [← hW]; exact w_at x2 arg4 harg4 _ r k
  have y1_lt : (y 1).val < 8 := (y 1).isLt
  refine Eq.trans ?_ (ph_at x0 x1 hW' 1792 (by omega) Gen.inb_S3848x1024_S512x1024_1792_0 x5 (row (y 1) ⟨(y 2).val, hy⟩) (y 3))
  generalize k0_pay28 (F := Ideal) _ _ _ = P
  canon_tiles x h using (View.cover_of_tiledBy _ ![1, 1, 16, 1024] (by sl_kernel_rfl) y)
  all_goals first | (exfalso; omega) | skip
  all_goals open_payloads
  all_goals
    have x1_lt : (x 1).val < 1 := (x 1).isLt
    exact piece_row P _ _ _ _ x _ _ (by show 64 * (y 1).val + (y 2).val = _; omega) (by omega)

theorem out10_A (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x3848x1024 .bf16) (harg4 : arg4.IsWhole) (arg5 : Memref sig .tc .vmem S1x8x1 .f32) (harg5 : arg5.IsWhole) (arg6 : Memref sig .tc .vmem S1x3x256 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x1024x512 .f32) (harg9 : arg9.IsWhole) (arg10 : Memref sig .tc .vmem S1x1024x256 .bf16) (harg10 : arg10.IsWhole) (arg11 : Memref sig .tc .vmem S1x8x128x1024 .bf16) (harg11 : arg11.IsWhole) (arg12 : Memref sig .tc .vmem S1x8x1024x128 .bf16) (harg12 : arg12.IsWhole) (arg13 : Memref sig .tc .vmem S1x8x80x1024 .bf16) (harg13 : arg13.IsWhole) (arg14 : Memref sig .tc .vmem S1x8x64x1024 .bf16) (harg14 : arg14.IsWhole) (arg15 : Memref sig .tc .vmem S1032x256 .f32) (harg15 : arg15.IsWhole) (arg16 : Memref sig .tc .vmem S8x128 .f32) (harg16 : arg16.IsWhole) (hc0 : cond0_0 i) (x0 : Vec Ideal S1x1024x1024 .f32) (x1 : Vec Ideal S1x1x1024 .f32) (x2 : Vec Ideal S1x3848x1024 .bf16) (x3 : Vec Ideal S1x8x1 .f32) (x4 : Vec Ideal S1x3x256 .f32) (x5 : Vec Ideal S1x512x1 .f32) (x6 : Vec Ideal S1x512x1 .f32) (y : S1x8x1024x128.Idx) (hy : (y 3).val < 64) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 y = hv x0 x1 x2 (y 2) 2304 (by omega) (x6 (Idealize.ShloMosaic.ix3 0 (row (y 1) ⟨(y 3).val, hy⟩) 0)) (row (y 1) ⟨(y 3).val, hy⟩) := by
  frame_out
  generalize hW : View.read (Elt Ideal) _ _ = W
  have hW' : ∀ r k, W (Idealize.ShloMosaic.ix2 r k) = x2 (Idealize.ShloMosaic.ix3 0 r k) := fun r k => by
    rw [← hW]; exact w_at x2 arg4 harg4 _ r k
  have y1_lt : (y 1).val < 8 := (y 1).isLt
  refine Eq.trans ?_ (ph_at x0 x1 hW' 2304 (by omega) Gen.inb_S3848x1024_S512x1024_2304_0 x6 (row (y 1) ⟨(y 3).val, hy⟩) (y 2))
  have e : ∀ (h : FVec Ideal S1024x1024 .bf16) (w : FVec Ideal S512x1024 .bf16) (g : FVec Ideal S1x512x1 .f32),
      k0_pay28 (F := Ideal) h w g = k0_pay31 (F := Ideal) (k0_pay29 h w) (k0_pay30 h w) g := fun _ _ _ => rfl
  rw [e]
  generalize k0_pay31 (F := Ideal) _ _ _ = P
  canon_tiles x h
  all_goals open_payloads
  all_goals
    have x1_lt : (x 1).val < 1 := (x 1).isLt
    exact piece_col P _ _ _ _ _ _ _ _ x _ _ (by omega) (by show 64 * (y 1).val + (y 3).val = _; omega) (by omega)

theorem out12_A (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x3848x1024 .bf16) (harg4 : arg4.IsWhole) (arg5 : Memref sig .tc .vmem S1x8x1 .f32) (harg5 : arg5.IsWhole) (arg6 : Memref sig .tc .vmem S1x3x256 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x1024x512 .f32) (harg9 : arg9.IsWhole) (arg10 : Memref sig .tc .vmem S1x1024x256 .bf16) (harg10 : arg10.IsWhole) (arg11 : Memref sig .tc .vmem S1x8x128x1024 .bf16) (harg11 : arg11.IsWhole) (arg12 : Memref sig .tc .vmem S1x8x1024x128 .bf16) (harg12 : arg12.IsWhole) (arg13 : Memref sig .tc .vmem S1x8x80x1024 .bf16) (harg13 : arg13.IsWhole) (arg14 : Memref sig .tc .vmem S1x8x64x1024 .bf16) (harg14 : arg14.IsWhole) (arg15 : Memref sig .tc .vmem S1032x256 .f32) (harg15 : arg15.IsWhole) (arg16 : Memref sig .tc .vmem S8x128 .f32) (harg16 : arg16.IsWhole) (hc0 : cond0_0 i) (x0 : Vec Ideal S1x1024x1024 .f32) (x1 : Vec Ideal S1x1x1024 .f32) (x2 : Vec Ideal S1x3848x1024 .bf16) (x3 : Vec Ideal S1x8x1 .f32) (x4 : Vec Ideal S1x3x256 .f32) (x5 : Vec Ideal S1x512x1 .f32) (x6 : Vec Ideal S1x512x1 .f32) (y : S1x8x64x1024.Idx) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 y = sl (pr x0 x1 x2 (y 3) ⟨3328 + (row (y 1) (y 2)).val, by omega⟩) := by
  frame_out
  generalize hW : View.read (Elt Ideal) _ _ = W
  have hW' : ∀ r k, W (Idealize.ShloMosaic.ix2 r k) = x2 (Idealize.ShloMosaic.ix3 0 r k) := fun r k => by
    rw [← hW]; exact w_at x2 arg4 harg4 _ r k
  have y1_lt : (y 1).val < 8 := (y 1).isLt
  have y2_lt : (y 2).val < 64 := (y 2).isLt
  refine (piece_gate _ y (row (y 1) (y 2)) (y 3) rfl rfl).trans (congrArg sl ?_)
  exact pz_at x0 x1 hW' _ (row (y 1) (y 2)) (y 3) _ rfl

theorem out7_B (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x3848x1024 .bf16) (harg4 : arg4.IsWhole) (arg5 : Memref sig .tc .vmem S1x8x1 .f32) (harg5 : arg5.IsWhole) (arg6 : Memref sig .tc .vmem S1x3x256 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x1024x512 .f32) (harg9 : arg9.IsWhole) (arg10 : Memref sig .tc .vmem S1x1024x256 .bf16) (harg10 : arg10.IsWhole) (arg11 : Memref sig .tc .vmem S1x8x128x1024 .bf16) (harg11 : arg11.IsWhole) (arg12 : Memref sig .tc .vmem S1x8x1024x128 .bf16) (harg12 : arg12.IsWhole) (arg13 : Memref sig .tc .vmem S1x8x80x1024 .bf16) (harg13 : arg13.IsWhole) (arg14 : Memref sig .tc .vmem S1x8x64x1024 .bf16) (harg14 : arg14.IsWhole) (arg15 : Memref sig .tc .vmem S1032x256 .f32) (harg15 : arg15.IsWhole) (arg16 : Memref sig .tc .vmem S8x128 .f32) (harg16 : arg16.IsWhole) (hc0 : ¬cond0_0 i) (x0 : Vec Ideal S1x1024x1024 .f32) (x1 : Vec Ideal S1x1x1024 .f32) (x2 : Vec Ideal S1x3848x1024 .bf16) (x3 : Vec Ideal S1x8x1 .f32) (x4 : Vec Ideal S1x3x256 .f32) (x5 : Vec Ideal S1x512x1 .f32) (x6 : Vec Ideal S1x512x1 .f32) (xs0 : Vec Ideal S1032x256 .f32) (xs1 : Vec Ideal S8x128 .f32) (y : S1x1024x512.Idx) :
    out0_B_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 xs0 xs1 y = B7 x0 x1 x2 y := by
  frame_out
  generalize hW : View.read (Elt Ideal) _ _ = W
  have hW' : ∀ r k, W (Idealize.ShloMosaic.ix2 r k) = x2 (Idealize.ShloMosaic.ix3 0 r k) := fun r k => by
    rw [← hW]; exact w_at x2 arg4 harg4 _ r k
  unfold B7
  canon_tiles x h
  · have x2_lt : (x 2).val < 256 := (x 2).isLt
    rw [if_neg (by omega)]
    refine (piece_u2 _ x ⟨512 + (x 2).val, by omega⟩ (y 1) rfl (by omega)).trans (congrArg sl ?_)
    exact pu_at x0 x1 hW' _ _ _ _ (by show 256 + (y 2).val = 512 + (x 2).val; omega)
  · have x2_lt : (x 2).val < 256 := (x 2).isLt
    rw [if_pos (by omega)]
    refine (piece_u1 x0 x1 _ x ⟨(x 2).val, by omega⟩ ⟨256 + (x 2).val, by omega⟩ (y 1) rfl rfl (by omega)).trans ?_
    exact congrArg₂ (· * ·) (pu_at x0 x1 hW' _ _ _ _ (by show (y 2).val = (x 2).val; omega))
      (congrArg sg (pu_at x0 x1 hW' _ _ _ _ (by show 256 + (y 2).val = 256 + (x 2).val; omega)))

theorem out11_B (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x3848x1024 .bf16) (harg4 : arg4.IsWhole) (arg5 : Memref sig .tc .vmem S1x8x1 .f32) (harg5 : arg5.IsWhole) (arg6 : Memref sig .tc .vmem S1x3x256 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x1024x512 .f32) (harg9 : arg9.IsWhole) (arg10 : Memref sig .tc .vmem S1x1024x256 .bf16) (harg10 : arg10.IsWhole) (arg11 : Memref sig .tc .vmem S1x8x128x1024 .bf16) (harg11 : arg11.IsWhole) (arg12 : Memref sig .tc .vmem S1x8x1024x128 .bf16) (harg12 : arg12.IsWhole) (arg13 : Memref sig .tc .vmem S1x8x80x1024 .bf16) (harg13 : arg13.IsWhole) (arg14 : Memref sig .tc .vmem S1x8x64x1024 .bf16) (harg14 : arg14.IsWhole) (arg15 : Memref sig .tc .vmem S1032x256 .f32) (harg15 : arg15.IsWhole) (arg16 : Memref sig .tc .vmem S8x128 .f32) (harg16 : arg16.IsWhole) (hc0 : ¬cond0_0 i) (x0 : Vec Ideal S1x1024x1024 .f32) (x1 : Vec Ideal S1x1x1024 .f32) (x2 : Vec Ideal S1x3848x1024 .bf16) (x3 : Vec Ideal S1x8x1 .f32) (x4 : Vec Ideal S1x3x256 .f32) (x5 : Vec Ideal S1x512x1 .f32) (x6 : Vec Ideal S1x512x1 .f32) (xs0 : Vec Ideal S1032x256 .f32) (xs1 : Vec Ideal S8x128 .f32) (y : S1x8x80x1024.Idx) (hy : (y 2).val < 64) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 xs0 xs1 y = pr x0 x1 x2 (y 3) ⟨2816 + (row (y 1) ⟨(y 2).val, hy⟩).val, by omega⟩ := by
  frame_out
  generalize hW : View.read (Elt Ideal) _ _ = W
  have hW' : ∀ r k, W (Idealize.ShloMosaic.ix2 r k) = x2 (Idealize.ShloMosaic.ix3 0 r k) := fun r k => by
    rw [← hW]; exact w_at x2 arg4 harg4 _ r k
  have y1_lt : (y 1).val < 8 := (y 1).isLt
  refine Eq.trans ?_ (pv_at x0 x1 hW' 2816 Gen.inb_S3848x1024_S512x1024_2816_0 (row (y 1) ⟨(y 2).val, hy⟩) (y 3) _ rfl)
  generalize k0_pay32 (F := Ideal) _ _ = P
  canon_tiles x h using (View.cover_of_tiledBy _ ![1, 1, 16, 1024] (by sl_kernel_rfl) y)
  all_goals first | (exfalso; omega) | skip
  all_goals open_payloads
  all_goals
    have x1_lt : (x 1).val < 1 := (x 1).isLt
    exact piece_row P _ _ _ _ x _ _ (by show 64 * (y 1).val + (y 2).val = _; omega) (by omega)

theorem out9_B (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x3848x1024 .bf16) (harg4 : arg4.IsWhole) (arg5 : Memref sig .tc .vmem S1x8x1 .f32) (harg5 : arg5.IsWhole) (arg6 : Memref sig .tc .vmem S1x3x256 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x1024x512 .f32) (harg9 : arg9.IsWhole) (arg10 : Memref sig .tc .vmem S1x1024x256 .bf16) (harg10 : arg10.IsWhole) (arg11 : Memref sig .tc .vmem S1x8x128x1024 .bf16) (harg11 : arg11.IsWhole) (arg12 : Memref sig .tc .vmem S1x8x1024x128 .bf16) (harg12 : arg12.IsWhole) (arg13 : Memref sig .tc .vmem S1x8x80x1024 .bf16) (harg13 : arg13.IsWhole) (arg14 : Memref sig .tc .vmem S1x8x64x1024 .bf16) (harg14 : arg14.IsWhole) (arg15 : Memref sig .tc .vmem S1032x256 .f32) (harg15 : arg15.IsWhole) (arg16 : Memref sig .tc .vmem S8x128 .f32) (harg16 : arg16.IsWhole) (hc0 : ¬cond0_0 i) (x0 : Vec Ideal S1x1024x1024 .f32) (x1 : Vec Ideal S1x1x1024 .f32) (x2 : Vec Ideal S1x3848x1024 .bf16) (x3 : Vec Ideal S1x8x1 .f32) (x4 : Vec Ideal S1x3x256 .f32) (x5 : Vec Ideal S1x512x1 .f32) (x6 : Vec Ideal S1x512x1 .f32) (xs0 : Vec Ideal S1032x256 .f32) (xs1 : Vec Ideal S8x128 .f32) (y : S1x8x128x1024.Idx) (hy : (y 2).val < 64) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 xs0 xs1 y = hv x0 x1 x2 (y 3) 1792 (by omega) (x5 (Idealize.ShloMosaic.ix3 0 (row (y 1) ⟨(y 2).val, hy⟩) 0)) (row (y 1) ⟨(y 2).val, hy⟩) := by
  frame_out
  generalize hW : View.read (Elt Ideal) _ _ = W
  have hW' : ∀ r k, W (Idealize.ShloMosaic.ix2 r k) = x2 (Idealize.ShloMosaic.ix3 0 r k) := fun r k => by
    rw [← hW]; exact w_at x2 arg4 harg4 _ r k
  have y1_lt : (y 1).val < 8 := (y 1).isLt
  refine Eq.trans ?_ (ph_at x0 x1 hW' 1792 (by omega) Gen.inb_S3848x1024_S512x1024_1792_0 x5 (row (y 1) ⟨(y 2).val, hy⟩) (y 3))
  generalize k0_pay28 (F := Ideal) _ _ _ = P
  canon_tiles x h using (View.cover_of_tiledBy _ ![1, 1, 16, 1024] (by sl_kernel_rfl) y)
  all_goals first | (exfalso; omega) | skip
  all_goals open_payloads
  all_goals
    have x1_lt : (x 1).val < 1 := (x 1).isLt
    exact piece_row P _ _ _ _ x _ _ (by show 64 * (y 1).val + (y 2).val = _; omega) (by omega)

theorem out10_B (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x3848x1024 .bf16) (harg4 : arg4.IsWhole) (arg5 : Memref sig .tc .vmem S1x8x1 .f32) (harg5 : arg5.IsWhole) (arg6 : Memref sig .tc .vmem S1x3x256 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x1024x512 .f32) (harg9 : arg9.IsWhole) (arg10 : Memref sig .tc .vmem S1x1024x256 .bf16) (harg10 : arg10.IsWhole) (arg11 : Memref sig .tc .vmem S1x8x128x1024 .bf16) (harg11 : arg11.IsWhole) (arg12 : Memref sig .tc .vmem S1x8x1024x128 .bf16) (harg12 : arg12.IsWhole) (arg13 : Memref sig .tc .vmem S1x8x80x1024 .bf16) (harg13 : arg13.IsWhole) (arg14 : Memref sig .tc .vmem S1x8x64x1024 .bf16) (harg14 : arg14.IsWhole) (arg15 : Memref sig .tc .vmem S1032x256 .f32) (harg15 : arg15.IsWhole) (arg16 : Memref sig .tc .vmem S8x128 .f32) (harg16 : arg16.IsWhole) (hc0 : ¬cond0_0 i) (x0 : Vec Ideal S1x1024x1024 .f32) (x1 : Vec Ideal S1x1x1024 .f32) (x2 : Vec Ideal S1x3848x1024 .bf16) (x3 : Vec Ideal S1x8x1 .f32) (x4 : Vec Ideal S1x3x256 .f32) (x5 : Vec Ideal S1x512x1 .f32) (x6 : Vec Ideal S1x512x1 .f32) (xs0 : Vec Ideal S1032x256 .f32) (xs1 : Vec Ideal S8x128 .f32) (y : S1x8x1024x128.Idx) (hy : (y 3).val < 64) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 xs0 xs1 y = hv x0 x1 x2 (y 2) 2304 (by omega) (x6 (Idealize.ShloMosaic.ix3 0 (row (y 1) ⟨(y 3).val, hy⟩) 0)) (row (y 1) ⟨(y 3).val, hy⟩) := by
  frame_out
  generalize hW : View.read (Elt Ideal) _ _ = W
  have hW' : ∀ r k, W (Idealize.ShloMosaic.ix2 r k) = x2 (Idealize.ShloMosaic.ix3 0 r k) := fun r k => by
    rw [← hW]; exact w_at x2 arg4 harg4 _ r k
  have y1_lt : (y 1).val < 8 := (y 1).isLt
  refine Eq.trans ?_ (ph_at x0 x1 hW' 2304 (by omega) Gen.inb_S3848x1024_S512x1024_2304_0 x6 (row (y 1) ⟨(y 3).val, hy⟩) (y 2))
  have e : ∀ (h : FVec Ideal S1024x1024 .bf16) (w : FVec Ideal S512x1024 .bf16) (g : FVec Ideal S1x512x1 .f32),
      k0_pay28 (F := Ideal) h w g = k0_pay31 (F := Ideal) (k0_pay29 h w) (k0_pay30 h w) g := fun _ _ _ => rfl
  rw [e]
  generalize k0_pay31 (F := Ideal) _ _ _ = P
  canon_tiles x h
  all_goals open_payloads
  all_goals
    have x1_lt : (x 1).val < 1 := (x 1).isLt
    exact piece_col P _ _ _ _ _ _ _ _ x _ _ (by omega) (by show 64 * (y 1).val + (y 3).val = _; omega) (by omega)

theorem out12_B (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x3848x1024 .bf16) (harg4 : arg4.IsWhole) (arg5 : Memref sig .tc .vmem S1x8x1 .f32) (harg5 : arg5.IsWhole) (arg6 : Memref sig .tc .vmem S1x3x256 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x1024x512 .f32) (harg9 : arg9.IsWhole) (arg10 : Memref sig .tc .vmem S1x1024x256 .bf16) (harg10 : arg10.IsWhole) (arg11 : Memref sig .tc .vmem S1x8x128x1024 .bf16) (harg11 : arg11.IsWhole) (arg12 : Memref sig .tc .vmem S1x8x1024x128 .bf16) (harg12 : arg12.IsWhole) (arg13 : Memref sig .tc .vmem S1x8x80x1024 .bf16) (harg13 : arg13.IsWhole) (arg14 : Memref sig .tc .vmem S1x8x64x1024 .bf16) (harg14 : arg14.IsWhole) (arg15 : Memref sig .tc .vmem S1032x256 .f32) (harg15 : arg15.IsWhole) (arg16 : Memref sig .tc .vmem S8x128 .f32) (harg16 : arg16.IsWhole) (hc0 : ¬cond0_0 i) (x0 : Vec Ideal S1x1024x1024 .f32) (x1 : Vec Ideal S1x1x1024 .f32) (x2 : Vec Ideal S1x3848x1024 .bf16) (x3 : Vec Ideal S1x8x1 .f32) (x4 : Vec Ideal S1x3x256 .f32) (x5 : Vec Ideal S1x512x1 .f32) (x6 : Vec Ideal S1x512x1 .f32) (xs0 : Vec Ideal S1032x256 .f32) (xs1 : Vec Ideal S8x128 .f32) (y : S1x8x64x1024.Idx) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 xs0 xs1 y = sl (pr x0 x1 x2 (y 3) ⟨3328 + (row (y 1) (y 2)).val, by omega⟩) := by
  frame_out
  generalize hW : View.read (Elt Ideal) _ _ = W
  have hW' : ∀ r k, W (Idealize.ShloMosaic.ix2 r k) = x2 (Idealize.ShloMosaic.ix3 0 r k) := fun r k => by
    rw [← hW]; exact w_at x2 arg4 harg4 _ r k
  have y1_lt : (y 1).val < 8 := (y 1).isLt
  have y2_lt : (y 2).val < 64 := (y 2).isLt
  refine (piece_gate _ y (row (y 1) (y 2)) (y 3) rfl rfl).trans (congrArg sl ?_)
  exact pz_at x0 x1 hW' _ (row (y 1) (y 2)) (y 3) _ rfl

end Inproj
-- ==== Proof.Sched.lean ====
/- The attention kernel's body as a schedule: the scores of one block of keys, the weighted sum of one block of values,
   and the order in which the heads and the blocks of queries follow one another. The printed body is this schedule by
   computation (`body_eq`, in `SchedEq`). -/
module

public import proofs.«01_k».proof.KernelIdeal
public import proofs.«01_k».proof.Proof.Gen.KernelIdeal
public import Idealize.ShloMosaic.Lib.Tactic

@[expose] public section

noncomputable section

namespace Fox

open Idealize.ShloMosaic Idealize.ShloMosaic.TcCoe Idealize.SL.Sem Cert.KernelIdeal Cert.KernelIdeal.Facts₀ Cert.KernelIdeal.Facts

/-- One head as the kernel reaches it: its number, and the offsets of its tiles in the queries, the keys, the values and
    the gates (and the result, tiled as the gates are), by the tile's number along the positions. -/
structure Head where
  h : Fin 8
  q : ℕ → Fin 4 → ℕ
  k : ℕ → Fin 4 → ℕ
  v : ℕ → Fin 4 → ℕ
  g : ℕ → Fin 4 → ℕ
  q_eq : ∀ i : Fin 8, q i.val = ![0, h.val, 0, 256 * i.val]
  k_eq : ∀ i : Fin 8, k i.val = ![0, h.val, 256 * i.val, 0]
  v_eq : ∀ i : Fin 8, v i.val = ![0, h.val, 0, 256 * i.val]
  g_eq : ∀ i : Fin 8, g i.val = ![0, h.val, 0, 256 * i.val]

theorem inb_q (h i : Fin 8) : ∀ a, (![0, h.val, 0, 256 * i.val] : Fin 4 → ℕ) a + S1x1x128x256.size a ≤ S1x8x128x2048.size a := by
  revert h i; decide +kernel
theorem inb_k (h i : Fin 8) : ∀ a, (![0, h.val, 256 * i.val, 0] : Fin 4 → ℕ) a + S1x1x256x128.size a ≤ S1x8x2048x128.size a := by
  revert h i; decide +kernel
theorem inb_v (h i : Fin 8) : ∀ a, (![0, h.val, 0, 256 * i.val] : Fin 4 → ℕ) a + S1x1x80x256.size a ≤ S1x8x80x2048.size a := by
  revert h i; decide +kernel
theorem inb_g (h i : Fin 8) : ∀ a, (![0, h.val, 0, 256 * i.val] : Fin 4 → ℕ) a + S1x1x64x256.size a ≤ S1x8x64x2048.size a := by
  revert h i; decide +kernel
theorem inb_s (b : Fin 4) (i : Fin 8) : ∀ a, (![b.val, 256 * i.val, 0] : Fin 3 → ℕ) a + S1x256x256.size a ≤ S4x2048x256.size a := by
  revert b i; decide +kernel
theorem inb_m (b : Fin 4) : ∀ a, (![b.val, 0, 0] : Fin 3 → ℕ) a + S1x8x256.size a ≤ S4x8x256.size a := by
  revert b; decide +kernel
theorem inb_m1 (b : Fin 4) : ∀ a, (![b.val, 0, 0] : Fin 3 → ℕ) a + S1x1x256.size a ≤ S4x8x256.size a := by
  revert b; decide +kernel
theorem packed_g (h i : Fin 8) : (Rect.unit (s := S1x8x64x2048) ![0, h.val, 0, 256 * i.val] S1x1x64x256.size (inb_g h i)).PackedRows (EltTy.packing .bf16) := by
  revert h i; decide +kernel

namespace Head
variable (O : Head)
theorem q_inb (i : Fin 8) : ∀ a, O.q i.val a + S1x1x128x256.size a ≤ S1x8x128x2048.size a := by rw [O.q_eq]; exact inb_q O.h i
theorem k_inb (i : Fin 8) : ∀ a, O.k i.val a + S1x1x256x128.size a ≤ S1x8x2048x128.size a := by rw [O.k_eq]; exact inb_k O.h i
theorem v_inb (i : Fin 8) : ∀ a, O.v i.val a + S1x1x80x256.size a ≤ S1x8x80x2048.size a := by rw [O.v_eq]; exact inb_v O.h i
theorem g_inb (i : Fin 8) : ∀ a, O.g i.val a + S1x1x64x256.size a ≤ S1x8x64x2048.size a := by rw [O.g_eq]; exact inb_g O.h i

theorem packed_congr {off off' : Fin 4 → ℕ} (e : off = off') (p : ∀ a, off a + S1x1x64x256.size a ≤ S1x8x64x2048.size a)
    (p' : ∀ a, off' a + S1x1x64x256.size a ≤ S1x8x64x2048.size a)
    (h : (Rect.unit (s := S1x8x64x2048) off S1x1x64x256.size p).PackedRows (EltTy.packing .bf16)) :
    (Rect.unit (s := S1x8x64x2048) off' S1x1x64x256.size p').PackedRows (EltTy.packing .bf16) := by
  subst e; exact h

theorem g_packed (i : Fin 8) : (Rect.unit (s := S1x8x64x2048) (O.g i.val) S1x1x64x256.size (O.g_inb i)).PackedRows (EltTy.packing .bf16) :=
  packed_congr (O.g_eq i).symm _ _ (packed_g O.h i)
end Head

/-! ## The values of one step -/

variable {F : FTy → Type} [FloatOps F] [Named F] [Cert.KernelIdeal.Facts]

/-- The causal mask of a diagonal tile: key row no later than query column. -/
def causal : IVec S256x256 1 :=
  cmpi .sle (iota .tc S256x256 32 [0] iota_S256x256_d0_w32) (iota .tc S256x256 32 [1] iota_S256x256_d1_w32)

/-- The scores of one tile of keys against one tile of queries, with the mask on the diagonal tile. -/
def scoreV (diag : Bool) (a : FVec F S1x1x128x256 .bf16) (b : FVec F S1x1x256x128 .bf16) : FVec F S256x256 .f32 :=
  bif diag then
    select causal (matmul dot_S256x128_S128x256_S256x256_1_0_0_1_n_n none (shapeCast S256x128 b shapeCasts_S1x1x256x128_S256x128)
      (shapeCast S128x256 a shapeCasts_S1x1x128x256_S128x256) (constant S256x256 .f32 0x00000000#32))
      (broadcast S256x256 (Named.named κ "mask" 0xF149F2CA#32))
  else matmul dot_S256x128_S128x256_S256x256_1_0_0_1_n_n none (shapeCast S256x128 b shapeCasts_S1x1x256x128_S256x128)
      (shapeCast S128x256 a shapeCasts_S1x1x128x256_S128x256) (constant S256x256 .f32 0x00000000#32)

/-- The largest score of each query in one tile. -/
def rowMax (s : FVec F S256x256 .f32) : FVec F S1x256 .f32 :=
  shapeCast S1x256 (multiReduction .maximumf [0] S256 s 0xFF800000#32 reduces_S256x256_S256 (.inl rfl) rfl) shapeCasts_S256_S1x256

/-- The running maximum after one more tile. -/
def stepMax (m : Option (FVec F S1x256 .f32)) (s : FVec F S256x256 .f32) : FVec F S1x256 .f32 :=
  match m with
  | none => rowMax s
  | some m => maximumf m (rowMax s)

/-- The maximum as the scratch holds it: eight copies of the row. -/
def spread (m : FVec F S1x256 .f32) : FVec F S1x8x256 .f32 :=
  shapeCast S1x8x256 (broadcastTo S8x256 (shapeCast S1x256 m shapeCasts_S1x256_S1x256) broadcasts_S1x256_S8x256) shapeCasts_S8x256_S1x8x256

/-- One tile's share of the weighted sum of values (and, in row 64, of the weights). -/
def weighV (s : FVec F S1x256x256 .f32) (m : FVec F S1x1x256 .f32) (v : FVec F S1x1x80x256 .bf16) : FVec F S80x256 .f32 :=
  matmul dot_S80x256_S256x256_S80x256_1_0_0_1_n_n none (shapeCast S80x256 v shapeCasts_S1x1x80x256_S80x256)
    (truncf .bf16 (exp2 (subf (shapeCast S256x256 s shapeCasts_S1x256x256_S256x256)
      (broadcastTo S256x256 (shapeCast S1x256 m shapeCasts_S1x1x256_S1x256) broadcasts_S1x256_S256x256))) bitsLt_bf16_f32)
    (constant S80x256 .f32 0x00000000#32)

/-- The weighted sum after one more tile. -/
def stepAcc (acc : Option (FVec F S80x256 .f32)) (d : FVec F S80x256 .f32) : FVec F S80x256 .f32 :=
  match acc with
  | none => d
  | some a => addf a d

/-- The result of one tile of queries: the weighted sum over the sum of the weights, gated. -/
def outV (acc : FVec F S80x256 .f32) (gate : FVec F S1x1x64x256 .bf16) : FVec F S1x1x64x256 .bf16 :=
  shapeCast S1x1x64x256 (truncf .bf16 (mulf (divf (extractStridedSlice S64x256 ![0, 0] acc slices_S80x256_o0_0_S64x256)
      (broadcastTo S64x256 (extractStridedSlice S1x256 ![64, 0] acc slices_S80x256_o64_0_S1x256) broadcasts_S1x256_S64x256))
    (extf .f32 (shapeCast S64x256 gate shapeCasts_S1x1x64x256_S64x256) bitsLt_bf16_f32)) bitsLt_bf16_f32) shapeCasts_S64x256_S1x1x64x256

/-! ## The schedule -/

/-- The effects of the kernel's core. -/
abbrev Eff (F : FTy → Type) := TpuEff nD τ sig (Elt F) Λ₀ (.tc : Proc τ)

section Prog
variable (arg1 : Memref sig .tc .vmem S1x8x128x2048 .bf16) (arg2 : Memref sig .tc .vmem S1x8x2048x128 .bf16)
  (arg3 : Memref sig .tc .vmem S1x8x80x2048 .bf16) (arg4 : Memref sig .tc .vmem S1x8x64x2048 .bf16)
  (arg5 : Memref sig .tc .vmem S1x8x64x2048 .bf16) (harg5 : arg5.IsWhole)
  (arg6 : Memref sig .tc .vmem S4x2048x256 .f32) (arg7 : Memref sig .tc .vmem S4x8x256 .f32)

/-- The end of a block's scores: the maximum goes to the scratch. -/
def putMax (buf : Fin 4) (m : FVec F S1x256 .f32) : Prog (Eff F) PUnit := do
  let _ ← (Prog.lift (.load arg7 (Rect.unit (s := S4x8x256) ![buf.val, 0, 0] S1x8x256.size (inb_m buf)).toLoadRect (View.loadsAt_vmem h_S1x8x256)) : Prog (Eff F) (Vec F S1x8x256 .f32))
  Prog.lift (.store arg7 (Rect.unit (s := S4x8x256) ![buf.val, 0, 0] S1x8x256.size (inb_m buf)) (spread m) Finset.univ (View.stores_vmem_bits_univ h_S1x8x256 rfl) (.inl rfl))

/-- One tile of scores: computed, stored in the scratch, its maximum taken. -/
def scoreP (O : Head) (buf : Fin 4) (i c : Fin 8) (m : Option (FVec F S1x256 .f32)) : Prog (Eff F) (FVec F S1x256 .f32) := do
  let a ← (Prog.lift (.load arg1 (Rect.unit (s := S1x8x128x2048) (O.q i.val) S1x1x128x256.size (O.q_inb i)).toLoadRect (View.loadsAt_vmem h_S1x1x128x256)) : Prog (Eff F) (Vec F S1x1x128x256 .bf16))
  let b ← (Prog.lift (.load arg2 (Rect.unit (s := S1x8x2048x128) (O.k c.val) S1x1x256x128.size (O.k_inb c)).toLoadRect (View.loadsAt_vmem h_S1x1x256x128)) : Prog (Eff F) (Vec F S1x1x256x128 .bf16))
  let _ ← (Prog.lift (.load arg6 (Rect.unit (s := S4x2048x256) ![buf.val, 256 * c.val, 0] S1x256x256.size (inb_s buf c)).toLoadRect (View.loadsAt_vmem h_S1x256x256)) : Prog (Eff F) (Vec F S1x256x256 .f32))
  Prog.lift (.store arg6 (Rect.unit (s := S4x2048x256) ![buf.val, 256 * c.val, 0] S1x256x256.size (inb_s buf c))
    (shapeCast S1x256x256 (scoreV (Nat.beq c.val i.val) a b) shapeCasts_S256x256_S1x256x256) Finset.univ (View.stores_vmem_bits_univ h_S1x256x256 rfl) (.inl rfl))
  let m' := stepMax m (scoreV (Nat.beq c.val i.val) a b)
  bif Nat.beq c.val i.val then (putMax arg7 buf m').bind fun _ => pure m' else pure m'

/-- One tile's share of the weighted sum, from the scores and the maximum in the scratch. -/
def weighP (O : Head) (buf : Fin 4) (c : Fin 8) (acc : Option (FVec F S80x256 .f32)) : Prog (Eff F) (FVec F S80x256 .f32) := do
  let s ← (Prog.lift (.load arg6 (Rect.unit (s := S4x2048x256) ![buf.val, 256 * c.val, 0] S1x256x256.size (inb_s buf c)).toLoadRect (View.loadsAt_vmem h_S1x256x256)) : Prog (Eff F) (Vec F S1x256x256 .f32))
  let m ← (Prog.lift (.load arg7 (Rect.unit (s := S4x8x256) ![buf.val, 0, 0] S1x1x256.size (inb_m1 buf)).toLoadRect (View.loadsAt_vmem h_S1x1x256)) : Prog (Eff F) (Vec F S1x1x256 .f32))
  let v ← (Prog.lift (.load arg3 (Rect.unit (s := S1x8x80x2048) (O.v c.val) S1x1x80x256.size (O.v_inb c)).toLoadRect (View.loadsAt_vmem h_S1x1x80x256)) : Prog (Eff F) (Vec F S1x1x80x256 .bf16))
  pure (stepAcc acc (weighV s m v))

/-- The result of one tile of queries goes out. -/
def putOut (O : Head) (i : Fin 8) (acc : Option (FVec F S80x256 .f32)) : Prog (Eff F) PUnit :=
  match acc with
  | none => pure ⟨⟩
  | some acc => do
    let gate ← (Prog.lift (.load arg4 (Rect.unit (s := S1x8x64x2048) (O.g i.val) S1x1x64x256.size (O.g_inb i)).toLoadRect (View.loadsAt_vmem h_S1x1x64x256)) : Prog (Eff F) (Vec F S1x1x64x256 .bf16))
    let _ ← (Prog.lift (.load arg5 (Rect.unit (s := S1x8x64x2048) (O.g i.val) S1x1x64x256.size (O.g_inb i)).toLoadRect (View.loadsAt_vmem h_S1x1x64x256)) : Prog (Eff F) (Vec F S1x1x64x256 .bf16))
    Prog.lift (.store arg5 (Rect.unit (s := S1x8x64x2048) (O.g i.val) S1x1x64x256.size (O.g_inb i)) (outV acc gate) Finset.univ
      (View.stores_vmem h_S1x1x64x256 (harg5.storeExact_slice rfl _ (O.g_packed i)) (fun _ => rfl)) (.inl rfl))

/-- What two heads carry through a pass over the tiles: running maxima of the block being scored, weighted sums of the
    block being finished. -/
structure Regs (F : FTy → Type) where
  m0 : Option (FVec F S1x256 .f32)
  m1 : Option (FVec F S1x256 .f32)
  a0 : Option (FVec F S80x256 .f32)
  a1 : Option (FVec F S80x256 .f32)

/-- The scratch buffer of head `g` of the pair in slot `slot`. -/
def bufOf (slot : Bool) (g : Bool) : Fin 4 :=
  match slot, g with
  | false, false => 0
  | false, true => 1
  | true, false => 2
  | true, true => 3

/-- A block to be scored: two heads, the block of queries, the slot its scores go to. -/
structure Job where
  o0 : Head
  o1 : Head
  i : Fin 8
  slot : Bool

/-- The scoring half of one step: tile `c` of both heads, if it is not past the diagonal. -/
def scoreStep (nxt : Job) (c : Fin 8) (r : Regs F) : Prog (Eff F) (Regs F) :=
  bif Nat.ble c.val nxt.i.val then do
    let m0 ← scoreP arg1 arg2 arg6 arg7 nxt.o0 (bufOf nxt.slot false) nxt.i c r.m0
    let m1 ← scoreP arg1 arg2 arg6 arg7 nxt.o1 (bufOf nxt.slot true) nxt.i c r.m1
    pure { r with m0 := some m0, m1 := some m1 }
  else pure r

/-- The finishing half of one step. -/
def weighStep (cur : Job) (c : Fin 8) (r : Regs F) : Prog (Eff F) (Regs F) :=
  bif Nat.ble c.val cur.i.val then do
    let a0 ← weighP arg3 arg6 arg7 cur.o0 (bufOf cur.slot false) c r.a0
    let a1 ← weighP arg3 arg6 arg7 cur.o1 (bufOf cur.slot true) c r.a1
    pure { r with a0 := some a0, a1 := some a1 }
  else pure r

/-- The tiles of one pass, in order. -/
def tiles : List (Fin 8) :=
  [⟨0, by decide⟩, ⟨1, by decide⟩, ⟨2, by decide⟩, ⟨3, by decide⟩, ⟨4, by decide⟩, ⟨5, by decide⟩, ⟨6, by decide⟩, ⟨7, by decide⟩]

/-- One pass: the next block scored (if there is one) while the current block is finished. -/
def pass (cur : Job) (nxt : Option Job) : List (Fin 8) → Regs F → Prog (Eff F) (Regs F)
  | [], r => pure r
  | c :: cs, r => do
    let r ← match nxt with
      | none => pure r
      | some n => scoreStep arg1 arg2 arg6 arg7 n c r
    let r ← weighStep arg3 arg6 arg7 cur c r
    pass cur nxt cs r

/-- One pass and its results. -/
def pairP (cur : Job) (nxt : Option Job) : Prog (Eff F) PUnit := do
  let r ← pass arg1 arg2 arg3 arg6 arg7 cur nxt tiles ⟨none, none, none, none⟩
  putOut arg4 arg5 harg5 cur.o0 cur.i r.a0
  putOut arg4 arg5 harg5 cur.o1 cur.i r.a1

/-- A chain of blocks: each finished while the next is scored; after the last, `nxt`. -/
def chainP : List Job → Option Job → Prog (Eff F) PUnit
  | [], _ => pure ⟨⟩
  | [j], nxt => pairP arg1 arg2 arg3 arg4 arg5 harg5 arg6 arg7 j nxt
  | j :: j' :: js, nxt => do
    pairP arg1 arg2 arg3 arg4 arg5 harg5 arg6 arg7 j (some j')
    chainP (j' :: js) nxt

/-- The blocks of one pair of heads, last block first, the slots alternating. -/
def jobs (o0 o1 : Head) : List Job :=
  [⟨o0, o1, ⟨7, by decide⟩, false⟩, ⟨o0, o1, ⟨6, by decide⟩, true⟩, ⟨o0, o1, ⟨5, by decide⟩, false⟩, ⟨o0, o1, ⟨4, by decide⟩, true⟩,
   ⟨o0, o1, ⟨3, by decide⟩, false⟩, ⟨o0, o1, ⟨2, by decide⟩, true⟩, ⟨o0, o1, ⟨1, by decide⟩, false⟩, ⟨o0, o1, ⟨0, by decide⟩, true⟩]

/-- The scores of one head's block alone. -/
def warmP (O : Head) (buf : Fin 4) (i : Fin 8) : List (Fin 8) → Option (FVec F S1x256 .f32) → Prog (Eff F) PUnit
  | [], _ => pure ⟨⟩
  | c :: cs, m => do
    let m ← scoreP arg1 arg2 arg6 arg7 O buf i c m
    warmP O buf i cs (some m)

end Prog

/-! ## The heads, as the loop's trip and as the straight-line parts reach them -/

/-- A head at literal offsets. -/
def headLit (h : Fin 8) : Head where
  h := h
  q i := ![0, h.val, 0, 256 * i]
  k i := ![0, h.val, 256 * i, 0]
  v i := ![0, h.val, 0, 256 * i]
  g i := ![0, h.val, 0, 256 * i]
  q_eq _ := rfl
  k_eq _ := rfl
  v_eq _ := rfl
  g_eq _ := rfl

end Fox

end
-- ==== Proof.Triples.lean ====
/- Triples over a kernel body that reads four buffers and writes three: what each access does to the contents, as
   functions on indices, and how triples compose. -/
module

public import proofs.«01_k».proof.Proof.Sched
public import Idealize.ShloMosaic.Lib.Exec
public import Idealize.ShloMosaic.Lib.Tactic
public import Idealize.ShloMosaic.Lib.Pipeline.Kit

@[expose] public section

noncomputable section

namespace Fox

open Cert.KernelIdeal Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [Cert.KernelIdeal.Facts]

/-! ## Contents and rectangles -/

/-- Contents with a rectangle overwritten. -/
@[irreducible] def put {s : Shape} {α : Type} (r : Rect s) (d : s.Idx → α) (w : r.shape.Idx → α) : s.Idx → α := fun y =>
  @dite α (∃ x, r.emb x = y) (Classical.propDecidable _) (fun h => w h.choose) (fun _ => d y)

theorem put_emb {s : Shape} {α : Type} (r : Rect s) (d : s.Idx → α) (w : r.shape.Idx → α) (x : r.shape.Idx) :
    put r d w (r.emb x) = w x := by
  unfold put
  rw [dif_pos ⟨x, rfl⟩]
  exact congrArg w (r.emb.injective (Exists.choose_spec (p := fun x' => r.emb x' = r.emb x) ⟨x, rfl⟩))

theorem put_of_not {s : Shape} {α : Type} (r : Rect s) (d : s.Idx → α) (w : r.shape.Idx → α) (y : s.Idx) (h : ∀ x, r.emb x ≠ y) :
    put r d w y = d y := by
  unfold put
  rw [dif_neg fun ⟨x, hx⟩ => h x hx]

section
variable {sg : RefSig} {κ : Kind} {sp : Space} {s : Shape} {e : EltTy} {Val : EltTy → Type}

theorem read_write_put (v : View sg κ sp s e) (r : Rect s) (f : v.ty.Contents Val) (w : r.shape.Idx → Val e) :
    v.read Val ((v.slice r).write Val f w Finset.univ) = put r (v.read Val f) w := by
  funext y
  by_cases h : ∃ x, r.emb x = y
  · obtain ⟨x, rfl⟩ := h
    rw [View.read_slice_write_emb r f w (Finset.mem_univ x), put_emb]
  · rw [put_of_not r _ w y fun x hx => h ⟨x, hx⟩]
    refine View.read_slice_write_of_not_mem r f w _ fun hm => ?_
    obtain ⟨x, -, hx⟩ := Finset.mem_map.mp hm
    exact h ⟨x, hx⟩
end

/-! ## The state and the triples -/

/-- The three buffers the body writes: the result, the scores, the maxima. -/
structure St (F : FTy → Type) where
  y : S1x8x64x2048.Idx → Elt F .bf16
  s : S4x2048x256.Idx → Elt F .f32
  m : S4x8x256.Idx → Elt F .f32

local notation "𝕄" => MT nD τ sig Unit (Elt F) ℕ (UR sig nD τ) ℕ

section Tr
variable (𝒱 : Variants) (c : Dev nD) (bd : Option 𝒱.V) (E : Set ℕ)
  (arg1 : Memref sig .tc .vmem S1x8x128x2048 .bf16) (arg2 : Memref sig .tc .vmem S1x8x2048x128 .bf16)
  (arg3 : Memref sig .tc .vmem S1x8x80x2048 .bf16) (arg4 : Memref sig .tc .vmem S1x8x64x2048 .bf16)
  (arg5 : Memref sig .tc .vmem S1x8x64x2048 .bf16)
  (arg6 : Memref sig .tc .vmem S4x2048x256 .f32) (arg7 : Memref sig .tc .vmem S4x8x256 .f32)
  (x1 : S1x8x128x2048.Idx → Elt F .bf16) (x2 : S1x8x2048x128.Idx → Elt F .bf16)
  (x3 : S1x8x80x2048.Idx → Elt F .bf16) (x4 : S1x8x64x2048.Idx → Elt F .bf16)

/-- Everything the body touches, held: the inputs at their blocks, the rest at a state. -/
def Held (σ : St F) : sProp 𝕄 :=
  iprop(owns (c : Thread nD τ) arg1 fullShare x1 ∗ owns (c : Thread nD τ) arg2 fullShare x2
    ∗ owns (c : Thread nD τ) arg3 fullShare x3 ∗ owns (c : Thread nD τ) arg4 fullShare x4
    ∗ owns (c : Thread nD τ) arg5 fullShare σ.y ∗ owns (c : Thread nD τ) arg6 fullShare σ.s
    ∗ owns (c : Thread nD τ) arg7 fullShare σ.m)

/-- From any state of `P` the program runs to its return, at a value and a state of `Q`. -/
def Tr {α : Type} (P : St F → Prop) (p : Prog (Eff F) α) (Q : α → St F → Prop) : Prop :=
  ∀ σ, P σ → (Held c arg1 arg2 arg3 arg4 arg5 arg6 arg7 x1 x2 x3 x4 σ : sProp 𝕄)
    ⊢ wp frame (wpE (defs₀ (F := F)) 𝒱 (c : Thread nD τ) bd) E p
        (fun a => iprop(∃ σ', ⌜Q a σ'⌝ ∗ Held c arg1 arg2 arg3 arg4 arg5 arg6 arg7 x1 x2 x3 x4 σ'))

local notation "TR" => Tr 𝒱 c bd E arg1 arg2 arg3 arg4 arg5 arg6 arg7 x1 x2 x3 x4

theorem Tr.pre {α : Type} {P P' : St F → Prop} {p : Prog (Eff F) α} {Q : α → St F → Prop}
    (h : TR P p Q) (hP : ∀ σ, P' σ → P σ) : TR P' p Q := fun σ hσ => h σ (hP σ hσ)

theorem Tr.post {α : Type} {P : St F → Prop} {p : Prog (Eff F) α} {Q Q' : α → St F → Prop}
    (h : TR P p Q) (hQ : ∀ a σ, Q a σ → Q' a σ) : TR P p Q' := fun σ hσ => by
  refine (h σ hσ).trans (wp_mono _ _ _ fun a => ?_)
  iintro ⟨%σ', %hq, H⟩
  iexists σ'
  isplitr
  · ipureintro; exact hQ a σ' hq
  · iexact H

theorem Tr.ret {α : Type} {P : St F → Prop} (a : α) : TR P (pure a : Prog (Eff F) α) (fun b σ => b = a ∧ P σ) := fun σ hσ => by
  rw [Prog.pure_eq_ret, wp_ret]
  iintro H
  imodintro
  iexists σ
  isplitr
  · ipureintro; exact ⟨rfl, hσ⟩
  · iexact H

theorem Tr.bind {α β : Type} {P : St F → Prop} {p : Prog (Eff F) α} {R : α → St F → Prop} {k : α → Prog (Eff F) β}
    {Q : β → St F → Prop} (h : TR P p R) (hk : ∀ a, TR (R a) (k a) Q) : TR P (p >>= k) Q := fun σ hσ => by
  rw [wp_bind]
  refine (h σ hσ).trans (wp_mono _ _ _ fun a => ?_)
  iintro ⟨%σ', %hr, H⟩
  iapply (hk a σ' hr)
  iexact H

/-! ### The accesses -/

section Access
variable {sp : CoreSpace} {s : Shape} {e : EltTy} {α : Type} {Q : α → sProp 𝕄}

/-- A load of a rectangle of held contents: the program continues at the contents there. -/
theorem owns_load (a : Memref sig .tc sp s e) (r : Rect s) (hl : a.view.LoadsAt r.toLoadRect) (d : s.Idx → Elt F e)
    (k : (r.toLoadRect.shape.Idx → Elt F e) → Prog (Eff F) α) (Q : α → sProp 𝕄) :
    (owns (c : Thread nD τ) a fullShare d : sProp 𝕄)
      ⊢ iprop((owns (c : Thread nD τ) a fullShare d -∗ wp frame (wpE (defs₀ (F := F)) 𝒱 (c : Thread nD τ) bd) E (k fun x => d (r.emb x)) Q)
        -∗ wp frame (wpE (defs₀ (F := F)) 𝒱 (c : Thread nD τ) bd) E (.op (.load a r.toLoadRect hl) k) Q) := by
  unfold owns
  iintro ⟨%f, %hf, H⟩ HK
  have h := wp_load_rect (Ix := Unit) (Name := ℕ) (U := UR sig nD τ) (Lvl := ℕ) (defs := defs₀ (F := F)) 𝒱 (c : Thread nD τ) bd (Γ := .empty) E (m := a) (r := r) (hl := hl) (k := k)
    (S := a.view.set) (q := fullShare) (f := f) (Q := Q) (View.set_slice_subset _ _)
  iapply h $$ [H]
  · iexact H
  · iintro H
    have e : (a.access r).read (Elt F) f = fun x => d (r.emb x) := by subst hf; rfl
    rw [e]
    iapply HK
    iexists f
    isplitr
    · ipureintro; exact hf
    · iexact H

/-- A store of a rectangle of held contents: the program continues at the contents overwritten there. -/
theorem owns_store (a : Memref sig .tc sp s e) (r : Rect s) (w : r.shape.Idx → Elt F e) (hx : (a.access r).Stores Finset.univ)
    (hm : Finset.univ = Finset.univ ∨ ∀ a, r.stride a = 1) (d : s.Idx → Elt F e) (k : PUnit → Prog (Eff F) α) (Q : α → sProp 𝕄) :
    (owns (c : Thread nD τ) a fullShare d : sProp 𝕄)
      ⊢ iprop((owns (c : Thread nD τ) a fullShare (put r d w) -∗ wp frame (wpE (defs₀ (F := F)) 𝒱 (c : Thread nD τ) bd) E (k ⟨⟩) Q)
        -∗ wp frame (wpE (defs₀ (F := F)) 𝒱 (c : Thread nD τ) bd) E (.op (.store a r w Finset.univ hx hm) k) Q) := by
  unfold owns
  iintro ⟨%f, %hf, H⟩ HK
  have h := wp_store (Ix := Unit) (Name := ℕ) (U := UR sig nD τ) (Lvl := ℕ) (defs := defs₀ (F := F)) 𝒱 (c : Thread nD τ) bd (Γ := .empty) E (m := a) (r := r) (w := w) (hx := hx) (hm := hm) (k := k)
    (S := a.view.set) (f := f) (Q := Q) (View.set_slice_subset _ _)
  iapply h $$ [H]
  · iexact H
  · iintro H
    iapply HK
    iexists _
    isplitr
    swap
    · iexact H
    · ipureintro; rw [read_write_put, hf]
end Access

theorem Tr.load1 {P : St F → Prop} (r : Rect S1x8x128x2048) (hl : arg1.view.LoadsAt r.toLoadRect) :
    TR P (Prog.lift (.load arg1 r.toLoadRect hl)) (fun x σ => (x = fun i => x1 (r.emb i)) ∧ P σ) := fun σ hσ => by
  unfold Held
  iintro ⟨H1, H2, H3, H4, H5, H6, H7⟩
  iapply (owns_load 𝒱 c bd E arg1 r hl _ _ _) $$ [H1]
  · iexact H1
  · iintro H1
    rw [wp_ret]
    imodintro
    iexists σ
    isplitr
    · ipureintro; exact ⟨rfl, hσ⟩
    · isplitl [H1]; · iexact H1
      isplitl [H2]; · iexact H2
      isplitl [H3]; · iexact H3
      isplitl [H4]; · iexact H4
      isplitl [H5]; · iexact H5
      isplitl [H6]; · iexact H6
      iexact H7

theorem Tr.load2 {P : St F → Prop} (r : Rect S1x8x2048x128) (hl : arg2.view.LoadsAt r.toLoadRect) :
    TR P (Prog.lift (.load arg2 r.toLoadRect hl)) (fun x σ => (x = fun i => x2 (r.emb i)) ∧ P σ) := fun σ hσ => by
  unfold Held
  iintro ⟨H1, H2, H3, H4, H5, H6, H7⟩
  iapply (owns_load 𝒱 c bd E arg2 r hl _ _ _) $$ [H2]
  · iexact H2
  · iintro H2
    rw [wp_ret]
    imodintro
    iexists σ
    isplitr
    · ipureintro; exact ⟨rfl, hσ⟩
    · isplitl [H1]; · iexact H1
      isplitl [H2]; · iexact H2
      isplitl [H3]; · iexact H3
      isplitl [H4]; · iexact H4
      isplitl [H5]; · iexact H5
      isplitl [H6]; · iexact H6
      iexact H7

theorem Tr.load3 {P : St F → Prop} (r : Rect S1x8x80x2048) (hl : arg3.view.LoadsAt r.toLoadRect) :
    TR P (Prog.lift (.load arg3 r.toLoadRect hl)) (fun x σ => (x = fun i => x3 (r.emb i)) ∧ P σ) := fun σ hσ => by
  unfold Held
  iintro ⟨H1, H2, H3, H4, H5, H6, H7⟩
  iapply (owns_load 𝒱 c bd E arg3 r hl _ _ _) $$ [H3]
  · iexact H3
  · iintro H3
    rw [wp_ret]
    imodintro
    iexists σ
    isplitr
    · ipureintro; exact ⟨rfl, hσ⟩
    · isplitl [H1]; · iexact H1
      isplitl [H2]; · iexact H2
      isplitl [H3]; · iexact H3
      isplitl [H4]; · iexact H4
      isplitl [H5]; · iexact H5
      isplitl [H6]; · iexact H6
      iexact H7

theorem Tr.load4 {P : St F → Prop} (r : Rect S1x8x64x2048) (hl : arg4.view.LoadsAt r.toLoadRect) :
    TR P (Prog.lift (.load arg4 r.toLoadRect hl)) (fun x σ => (x = fun i => x4 (r.emb i)) ∧ P σ) := fun σ hσ => by
  unfold Held
  iintro ⟨H1, H2, H3, H4, H5, H6, H7⟩
  iapply (owns_load 𝒱 c bd E arg4 r hl _ _ _) $$ [H4]
  · iexact H4
  · iintro H4
    rw [wp_ret]
    imodintro
    iexists σ
    isplitr
    · ipureintro; exact ⟨rfl, hσ⟩
    · isplitl [H1]; · iexact H1
      isplitl [H2]; · iexact H2
      isplitl [H3]; · iexact H3
      isplitl [H4]; · iexact H4
      isplitl [H5]; · iexact H5
      isplitl [H6]; · iexact H6
      iexact H7

theorem Tr.load5 {P : St F → Prop} (r : Rect S1x8x64x2048) (hl : arg5.view.LoadsAt r.toLoadRect) :
    TR P (Prog.lift (.load arg5 r.toLoadRect hl)) (fun x σ => (x = fun i => σ.y (r.emb i)) ∧ P σ) := fun σ hσ => by
  unfold Held
  iintro ⟨H1, H2, H3, H4, H5, H6, H7⟩
  iapply (owns_load 𝒱 c bd E arg5 r hl _ _ _) $$ [H5]
  · iexact H5
  · iintro H5
    rw [wp_ret]
    imodintro
    iexists σ
    isplitr
    · ipureintro; exact ⟨rfl, hσ⟩
    · isplitl [H1]; · iexact H1
      isplitl [H2]; · iexact H2
      isplitl [H3]; · iexact H3
      isplitl [H4]; · iexact H4
      isplitl [H5]; · iexact H5
      isplitl [H6]; · iexact H6
      iexact H7

theorem Tr.load6 {P : St F → Prop} (r : Rect S4x2048x256) (hl : arg6.view.LoadsAt r.toLoadRect) :
    TR P (Prog.lift (.load arg6 r.toLoadRect hl)) (fun x σ => (x = fun i => σ.s (r.emb i)) ∧ P σ) := fun σ hσ => by
  unfold Held
  iintro ⟨H1, H2, H3, H4, H5, H6, H7⟩
  iapply (owns_load 𝒱 c bd E arg6 r hl _ _ _) $$ [H6]
  · iexact H6
  · iintro H6
    rw [wp_ret]
    imodintro
    iexists σ
    isplitr
    · ipureintro; exact ⟨rfl, hσ⟩
    · isplitl [H1]; · iexact H1
      isplitl [H2]; · iexact H2
      isplitl [H3]; · iexact H3
      isplitl [H4]; · iexact H4
      isplitl [H5]; · iexact H5
      isplitl [H6]; · iexact H6
      iexact H7

theorem Tr.load7 {P : St F → Prop} (r : Rect S4x8x256) (hl : arg7.view.LoadsAt r.toLoadRect) :
    TR P (Prog.lift (.load arg7 r.toLoadRect hl)) (fun x σ => (x = fun i => σ.m (r.emb i)) ∧ P σ) := fun σ hσ => by
  unfold Held
  iintro ⟨H1, H2, H3, H4, H5, H6, H7⟩
  iapply (owns_load 𝒱 c bd E arg7 r hl _ _ _) $$ [H7]
  · iexact H7
  · iintro H7
    rw [wp_ret]
    imodintro
    iexists σ
    isplitr
    · ipureintro; exact ⟨rfl, hσ⟩
    · isplitl [H1]; · iexact H1
      isplitl [H2]; · iexact H2
      isplitl [H3]; · iexact H3
      isplitl [H4]; · iexact H4
      isplitl [H5]; · iexact H5
      isplitl [H6]; · iexact H6
      iexact H7

theorem Tr.store5 {P : St F → Prop} (r : Rect S1x8x64x2048) (w : r.shape.Idx → Elt F .bf16) (hx : (arg5.access r).Stores Finset.univ)
    (hm : Finset.univ = Finset.univ ∨ ∀ a, r.stride a = 1) :
    TR (fun σ => P { σ with y := put r σ.y w }) (Prog.lift (.store arg5 r w Finset.univ hx hm)) (fun _ σ => P σ) := fun σ hσ => by
  unfold Held
  iintro ⟨H1, H2, H3, H4, H5, H6, H7⟩
  iapply (owns_store 𝒱 c bd E arg5 r w hx hm _ _ _) $$ [H5]
  · iexact H5
  · iintro H5
    rw [wp_ret]
    imodintro
    iexists { σ with y := put r σ.y w }
    isplitr
    · ipureintro; exact hσ
    · isplitl [H1]; · iexact H1
      isplitl [H2]; · iexact H2
      isplitl [H3]; · iexact H3
      isplitl [H4]; · iexact H4
      isplitl [H5]; · iexact H5
      isplitl [H6]; · iexact H6
      iexact H7

theorem Tr.store6 {P : St F → Prop} (r : Rect S4x2048x256) (w : r.shape.Idx → Elt F .f32) (hx : (arg6.access r).Stores Finset.univ)
    (hm : Finset.univ = Finset.univ ∨ ∀ a, r.stride a = 1) :
    TR (fun σ => P { σ with s := put r σ.s w }) (Prog.lift (.store arg6 r w Finset.univ hx hm)) (fun _ σ => P σ) := fun σ hσ => by
  unfold Held
  iintro ⟨H1, H2, H3, H4, H5, H6, H7⟩
  iapply (owns_store 𝒱 c bd E arg6 r w hx hm _ _ _) $$ [H6]
  · iexact H6
  · iintro H6
    rw [wp_ret]
    imodintro
    iexists { σ with s := put r σ.s w }
    isplitr
    · ipureintro; exact hσ
    · isplitl [H1]; · iexact H1
      isplitl [H2]; · iexact H2
      isplitl [H3]; · iexact H3
      isplitl [H4]; · iexact H4
      isplitl [H5]; · iexact H5
      isplitl [H6]; · iexact H6
      iexact H7

theorem Tr.store7 {P : St F → Prop} (r : Rect S4x8x256) (w : r.shape.Idx → Elt F .f32) (hx : (arg7.access r).Stores Finset.univ)
    (hm : Finset.univ = Finset.univ ∨ ∀ a, r.stride a = 1) :
    TR (fun σ => P { σ with m := put r σ.m w }) (Prog.lift (.store arg7 r w Finset.univ hx hm)) (fun _ σ => P σ) := fun σ hσ => by
  unfold Held
  iintro ⟨H1, H2, H3, H4, H5, H6, H7⟩
  iapply (owns_store 𝒱 c bd E arg7 r w hx hm _ _ _) $$ [H7]
  · iexact H7
  · iintro H7
    rw [wp_ret]
    imodintro
    iexists { σ with m := put r σ.m w }
    isplitr
    · ipureintro; exact hσ
    · isplitl [H1]; · iexact H1
      isplitl [H2]; · iexact H2
      isplitl [H3]; · iexact H3
      isplitl [H4]; · iexact H4
      isplitl [H5]; · iexact H5
      isplitl [H6]; · iexact H6
      iexact H7

end Tr

end Fox
-- ==== Proof.Spec.lean ====
/- What the attention kernel leaves, as a function of its blocks: the scores of a tile, the running maxima, the weighted
   sums, the results; and what it means for the scratch to hold them. -/
module

public import proofs.«01_k».proof.Proof.Triples

@[expose] public section

noncomputable section

namespace Fox

open Cert.KernelIdeal Cert.KernelIdeal.Facts₀ Cert.KernelIdeal.Facts
open Idealize.ShloMosaic Idealize.ShloMosaic.TcCoe

variable {F : FTy → Type} [FloatOps F] [Named F] [Cert.KernelIdeal.Facts]

/-! ## Tiles -/

abbrev rQ (h i : Fin 8) : Rect S1x8x128x2048 := Rect.unit ![0, h.val, 0, 256 * i.val] S1x1x128x256.size (inb_q h i)
abbrev rK (h i : Fin 8) : Rect S1x8x2048x128 := Rect.unit ![0, h.val, 256 * i.val, 0] S1x1x256x128.size (inb_k h i)
abbrev rV (h i : Fin 8) : Rect S1x8x80x2048 := Rect.unit ![0, h.val, 0, 256 * i.val] S1x1x80x256.size (inb_v h i)
abbrev rG (h i : Fin 8) : Rect S1x8x64x2048 := Rect.unit ![0, h.val, 0, 256 * i.val] S1x1x64x256.size (inb_g h i)
abbrev rS (b : Fin 4) (i : Fin 8) : Rect S4x2048x256 := Rect.unit ![b.val, 256 * i.val, 0] S1x256x256.size (inb_s b i)
abbrev rM (b : Fin 4) : Rect S4x8x256 := Rect.unit ![b.val, 0, 0] S1x8x256.size (inb_m b)
abbrev rR (b : Fin 4) : Rect S4x8x256 := Rect.unit ![b.val, 0, 0] S1x1x256.size (inb_m1 b)

theorem unit_emb_congr {s : Shape} {off off' size : Fin s.rank → ℕ} (e : off = off') (p : ∀ a, off a + size a ≤ s.size a)
    (p' : ∀ a, off' a + size a ≤ s.size a) (x : (Rect.unit off size p).shape.Idx) :
    (Rect.unit off size p).emb x = (Rect.unit off' size p').emb x := by
  subst e; rfl

theorem unit_emb_val {s : Shape} {off size : Fin s.rank → ℕ} (p : ∀ a, off a + size a ≤ s.size a)
    (x : (Rect.unit off size p).shape.Idx) (a : Fin s.rank) : ((Rect.unit off size p).emb x a).val = off a + (x a).val := by
  show off a + 1 * (x a).val = _
  rw [one_mul]

/-- Two places of two rectangles that are one, on one axis. -/
theorem unit_emb_axis {s : Shape} {off off' size : Fin s.rank → ℕ} {p : ∀ a, off a + size a ≤ s.size a}
    {p' : ∀ a, off' a + size a ≤ s.size a} {z : (Rect.unit off size p).shape.Idx} {x : (Rect.unit off' size p').shape.Idx}
    (h : (Rect.unit off size p).emb z = (Rect.unit off' size p').emb x) (a : Fin s.rank) :
    off a + (z a).val = off' a + (x a).val ∧ (z a).val < size a ∧ (x a).val < size a := by
  refine ⟨?_, (z a).isLt, (x a).isLt⟩
  rw [← unit_emb_val p z a, ← unit_emb_val p' x a, h]

/-- The first of the eight copies of a row. -/
def rowOf {α : Type} (w : S1x8x256.Idx → α) : S1x1x256.Idx → α := fun x =>
  w ((Rect.unit (s := S1x8x256) ![0, 0, 0] S1x1x256.size (by decide)).emb x)

section
variable (x1 : S1x8x128x2048.Idx → Elt F .bf16) (x2 : S1x8x2048x128.Idx → Elt F .bf16)
  (x3 : S1x8x80x2048.Idx → Elt F .bf16) (x4 : S1x8x64x2048.Idx → Elt F .bf16)

def qT (h i : Fin 8) : FVec F S1x1x128x256 .bf16 := fun x => x1 ((rQ h i).emb x)
def kT (h c : Fin 8) : FVec F S1x1x256x128 .bf16 := fun x => x2 ((rK h c).emb x)
def vT (h c : Fin 8) : FVec F S1x1x80x256 .bf16 := fun x => x3 ((rV h c).emb x)
def gT (h i : Fin 8) : FVec F S1x1x64x256 .bf16 := fun x => x4 ((rG h i).emb x)

/-- The tile numbered `n`. -/
abbrev tl (n : ℕ) : Fin 8 := ⟨n % 8, Nat.mod_lt _ (by decide)⟩

/-- The scores of keys tile `c` against queries tile `i`. -/
def scoreT (h i c : Fin 8) : FVec F S256x256 .f32 := scoreV (Nat.beq c.val i.val) (qT x1 h i) (kT x2 h c)
/-- The maxima over the tiles up to `n`. -/
def maxV (h i : Fin 8) : ℕ → FVec F S1x256 .f32
  | 0 => rowMax (scoreT x1 x2 h i (tl 0))
  | n + 1 => maximumf (maxV h i n) (rowMax (scoreT x1 x2 h i (tl (n + 1))))
/-- The share of tile `c` in the weighted sum of queries tile `i`. -/
def shareT (h i c : Fin 8) : FVec F S80x256 .f32 :=
  weighV (shapeCast S1x256x256 (scoreT x1 x2 h i c) shapeCasts_S256x256_S1x256x256) (rowOf (spread (maxV x1 x2 h i i.val))) (vT x3 h c)
/-- The weighted sum over the tiles up to `n`. -/
def accV (h i : Fin 8) : ℕ → FVec F S80x256 .f32
  | 0 => shareT x1 x2 x3 h i (tl 0)
  | n + 1 => addf (accV h i n) (shareT x1 x2 x3 h i (tl (n + 1)))
/-- The result of queries tile `i`. -/
def outT (h i : Fin 8) : FVec F S1x1x64x256 .bf16 := outV (accV x1 x2 x3 h i i.val) (gT x4 h i)

/-- The register of the running maximum before tile `n`; past the diagonal it stays. -/
def regM (h i : Fin 8) (n : ℕ) : Option (FVec F S1x256 .f32) :=
  match min n (i.val + 1) with
  | 0 => none
  | k + 1 => some (maxV x1 x2 h i k)
/-- The register of the weighted sum before tile `n`. -/
def regA (h i : Fin 8) (n : ℕ) : Option (FVec F S80x256 .f32) :=
  match min n (i.val + 1) with
  | 0 => none
  | k + 1 => some (accV x1 x2 x3 h i k)

theorem tl_val (c : Fin 8) : tl c.val = c := Fin.ext (Nat.mod_eq_of_lt c.isLt)

theorem stepMax_regM (h i c : Fin 8) (hc : c.val ≤ i.val) :
    stepMax (regM x1 x2 h i c.val) (scoreT x1 x2 h i c) = maxV x1 x2 h i c.val := by
  obtain ⟨c, hlt⟩ := c
  unfold regM
  rw [Nat.min_eq_left (show c ≤ i.val + 1 by simp at hc; omega)]
  have e := tl_val ⟨c, hlt⟩
  cases c with
  | zero => simp only [stepMax, maxV]
  | succ k => simp only [stepMax, maxV]; rw [e]

theorem stepAcc_regA (h i c : Fin 8) (hc : c.val ≤ i.val) :
    stepAcc (regA x1 x2 x3 h i c.val) (shareT x1 x2 x3 h i c) = accV x1 x2 x3 h i c.val := by
  obtain ⟨c, hlt⟩ := c
  unfold regA
  rw [Nat.min_eq_left (show c ≤ i.val + 1 by simp at hc; omega)]
  have e := tl_val ⟨c, hlt⟩
  cases c with
  | zero => simp only [stepAcc, accV]
  | succ k => simp only [stepAcc, accV]; rw [e]

theorem regM_succ (h i c : Fin 8) (hc : c.val ≤ i.val) : regM x1 x2 h i (c.val + 1) = some (maxV x1 x2 h i c.val) := by
  unfold regM; rw [Nat.min_eq_left (by omega)]
theorem regA_succ (h i c : Fin 8) (hc : c.val ≤ i.val) : regA x1 x2 x3 h i (c.val + 1) = some (accV x1 x2 x3 h i c.val) := by
  unfold regA; rw [Nat.min_eq_left (by omega)]
theorem regM_past (h i : Fin 8) (n : ℕ) (hc : i.val < n) : regM x1 x2 h i (n + 1) = regM x1 x2 h i n := by
  unfold regM; rw [Nat.min_eq_right (by omega), Nat.min_eq_right (by omega)]
theorem regA_past (h i : Fin 8) (n : ℕ) (hc : i.val < n) : regA x1 x2 x3 h i (n + 1) = regA x1 x2 x3 h i n := by
  unfold regA; rw [Nat.min_eq_right (by omega), Nat.min_eq_right (by omega)]
theorem regM_zero (h i : Fin 8) : regM x1 x2 h i 0 = none := by unfold regM; rw [Nat.min_eq_left (by omega)]
theorem regA_zero (h i : Fin 8) : regA x1 x2 x3 h i 0 = none := by unfold regA; rw [Nat.min_eq_left (by omega)]
theorem regA_end (h i : Fin 8) : regA x1 x2 x3 h i 8 = some (accV x1 x2 x3 h i i.val) := by
  unfold regA; rw [Nat.min_eq_right (by omega)]

/-! ## What a head's loads read -/

theorem read_q (O : Head) (i : Fin 8) :
    (fun x => x1 ((Rect.unit (s := S1x8x128x2048) (O.q i.val) S1x1x128x256.size (O.q_inb i)).emb x)) = qT x1 O.h i :=
  funext fun x => congrArg x1 (unit_emb_congr (O.q_eq i) _ _ x)
theorem read_k (O : Head) (i : Fin 8) :
    (fun x => x2 ((Rect.unit (s := S1x8x2048x128) (O.k i.val) S1x1x256x128.size (O.k_inb i)).emb x)) = kT x2 O.h i :=
  funext fun x => congrArg x2 (unit_emb_congr (O.k_eq i) _ _ x)
theorem read_v (O : Head) (i : Fin 8) :
    (fun x => x3 ((Rect.unit (s := S1x8x80x2048) (O.v i.val) S1x1x80x256.size (O.v_inb i)).emb x)) = vT x3 O.h i :=
  funext fun x => congrArg x3 (unit_emb_congr (O.v_eq i) _ _ x)
theorem read_g (O : Head) (i : Fin 8) :
    (fun x => x4 ((Rect.unit (s := S1x8x64x2048) (O.g i.val) S1x1x64x256.size (O.g_inb i)).emb x)) = gT x4 O.h i :=
  funext fun x => congrArg x4 (unit_emb_congr (O.g_eq i) _ _ x)
end

/-! ## What the scratch and the result hold -/

def tileAt (σ : St F) (b : Fin 4) (c : Fin 8) : FVec F S1x256x256 .f32 := fun x => σ.s ((rS b c).emb x)
def blkAt (σ : St F) (b : Fin 4) : FVec F S1x8x256 .f32 := fun x => σ.m ((rM b).emb x)
def yAt (σ : St F) (h i : Fin 8) : FVec F S1x1x64x256 .bf16 := fun x => σ.y ((rG h i).emb x)

theorem rowAt_eq (σ : St F) (b : Fin 4) : (fun x => σ.m ((rR b).emb x)) = rowOf (blkAt σ b) := by
  funext x
  unfold rowOf blkAt
  refine congrArg σ.m (funext fun a => Fin.ext ?_)
  refine (unit_emb_val (inb_m1 b) x a).trans (Eq.symm ((unit_emb_val (inb_m b) _ a).trans (congrArg _ ((unit_emb_val (s := S1x8x256) (off := ![0, 0, 0]) (by decide) x a).trans ?_))))
  fin_cases a <;> exact Nat.zero_add _

theorem tileAt_put_same (σ : St F) (b : Fin 4) (c : Fin 8) (w : FVec F S1x256x256 .f32) :
    tileAt { σ with s := put (rS b c) σ.s w } b c = w := funext fun x =>
  show put (rS b c) σ.s w ((rS b c).emb x) = w x from put_emb (rS b c) σ.s w x
theorem tileAt_put_ne (σ : St F) (b b' : Fin 4) (c c' : Fin 8) (w : FVec F S1x256x256 .f32) (h : b ≠ b' ∨ c ≠ c') :
    tileAt { σ with s := put (rS b c) σ.s w } b' c' = tileAt σ b' c' := funext fun x => by
  refine put_of_not (rS b c) σ.s w _ fun z hz => ?_
  obtain ⟨h0, z0, x0⟩ := unit_emb_axis hz 0
  obtain ⟨h1, z1, x1⟩ := unit_emb_axis hz 1
  change b.val + _ = b'.val + _ at h0
  change 256 * c.val + _ = 256 * c'.val + _ at h1
  change _ < 1 at z0 x0
  change _ < 256 at z1 x1
  rcases h with h | h
  · exact h (Fin.ext (by omega))
  · exact h (Fin.ext (by omega))
theorem blkAt_put_same (σ : St F) (b : Fin 4) (w : FVec F S1x8x256 .f32) :
    blkAt { σ with m := put (rM b) σ.m w } b = w := funext fun x => put_emb (rM b) σ.m w x
theorem blkAt_put_ne (σ : St F) (b b' : Fin 4) (w : FVec F S1x8x256 .f32) (h : b ≠ b') :
    blkAt { σ with m := put (rM b) σ.m w } b' = blkAt σ b' := funext fun x => by
  refine put_of_not (rM b) σ.m w _ fun z hz => ?_
  obtain ⟨h0, z0, x0⟩ := unit_emb_axis hz 0
  change b.val + _ = b'.val + _ at h0
  change _ < 1 at z0 x0
  exact h (Fin.ext (by omega))
theorem yAt_put_same (σ : St F) (O : Head) (i : Fin 8) (w : FVec F S1x1x64x256 .bf16) :
    yAt { σ with y := put (Rect.unit (s := S1x8x64x2048) (O.g i.val) S1x1x64x256.size (O.g_inb i)) σ.y w } O.h i = w := funext fun x => by
  have e := unit_emb_congr (s := S1x8x64x2048) (size := S1x1x64x256.size) (O.g_eq i) (O.g_inb i) (inb_g O.h i) x
  have h := put_emb (Rect.unit (s := S1x8x64x2048) (O.g i.val) S1x1x64x256.size (O.g_inb i)) σ.y w x
  rw [e] at h
  exact h
theorem yAt_put_ne (σ : St F) (O : Head) (i h' i' : Fin 8) (w : FVec F S1x1x64x256 .bf16) (h : O.h ≠ h' ∨ i ≠ i') :
    yAt { σ with y := put (Rect.unit (s := S1x8x64x2048) (O.g i.val) S1x1x64x256.size (O.g_inb i)) σ.y w } h' i' = yAt σ h' i' := funext fun x => by
  refine put_of_not (Rect.unit (s := S1x8x64x2048) (O.g i.val) S1x1x64x256.size (O.g_inb i)) σ.y w _ fun z hz => ?_
  rw [unit_emb_congr (O.g_eq i) (O.g_inb i) (inb_g O.h i) z] at hz
  obtain ⟨h1, z1, x1⟩ := unit_emb_axis hz 1
  obtain ⟨h3, z3, x3⟩ := unit_emb_axis hz 3
  change O.h.val + _ = h'.val + _ at h1
  change 256 * i.val + _ = 256 * i'.val + _ at h3
  change _ < 1 at z1 x1
  change _ < 256 at z3 x3
  rcases h with h | h
  · exact h (Fin.ext (by omega))
  · exact h (Fin.ext (by omega))

section
variable (x1 : S1x8x128x2048.Idx → Elt F .bf16) (x2 : S1x8x2048x128.Idx → Elt F .bf16)
  (x3 : S1x8x80x2048.Idx → Elt F .bf16) (x4 : S1x8x64x2048.Idx → Elt F .bf16)

/-- Buffer `b` holds the scores of head `h`'s block `i` in the tiles before `n`, and past the diagonal the maxima. -/
def Part (b : Fin 4) (h i : Fin 8) (n : ℕ) (σ : St F) : Prop :=
  (∀ c : Fin 8, c.val < n → c.val ≤ i.val → tileAt σ b c = shapeCast S1x256x256 (scoreT x1 x2 h i c) shapeCasts_S256x256_S1x256x256)
    ∧ (i.val < n → blkAt σ b = spread (maxV x1 x2 h i i.val))

/-- The result holds what it should at every tile of `D`. -/
def Done (D : Fin 8 → Fin 8 → Prop) (σ : St F) : Prop := ∀ h i, D h i → yAt σ h i = outT x1 x2 x3 x4 h i

theorem Part.zero (b : Fin 4) (h i : Fin 8) (σ : St F) : Part x1 x2 b h i 0 σ :=
  ⟨fun _ hc => absurd hc (Nat.not_lt_zero _), fun hi => absurd hi (Nat.not_lt_zero _)⟩

/-- What does not change under a change of the scratch in buffer `b` alone. -/
def Keeps (b : Fin 4) (R : St F → Prop) : Prop := ∀ σ σ' : St F, σ'.y = σ.y → (∀ b', b' ≠ b → ∀ c, tileAt σ' b' c = tileAt σ b' c) →
  (∀ b', b' ≠ b → blkAt σ' b' = blkAt σ b') → R σ → R σ'

theorem Part.keeps {b b' : Fin 4} (hb : b' ≠ b) (h i : Fin 8) (n : ℕ) : Keeps b (Part x1 x2 b' h i n) :=
  fun σ σ' _ ht hm hp => ⟨fun c hc hi => (ht b' hb c).trans (hp.1 c hc hi), fun hi => (hm b' hb).trans (hp.2 hi)⟩
theorem Done.keeps (b : Fin 4) (D : Fin 8 → Fin 8 → Prop) : Keeps b (Done x1 x2 x3 x4 D) :=
  fun σ σ' hy _ _ hd h i hD => by have := hd h i hD; unfold yAt at this ⊢; rw [hy]; exact this
theorem Keeps.and {b : Fin 4} {R R' : St F → Prop} (h : Keeps b R) (h' : Keeps b R') : Keeps b (fun σ => R σ ∧ R' σ) :=
  fun σ σ' hy ht hm hr => ⟨h σ σ' hy ht hm hr.1, h' σ σ' hy ht hm hr.2⟩
theorem Keeps.true (b : Fin 4) : Keeps b (fun _ : St F => True) := fun _ _ _ _ _ _ => trivial
end

end Fox
-- ==== Proof.Sweep.lean ====
/- The schedule's triples: what one tile, one pass, a chain of passes and a loop of chains leave. -/
module

public import proofs.«01_k».proof.Proof.Spec

@[expose] public section

noncomputable section

namespace Fox

open Cert.KernelIdeal Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [Cert.KernelIdeal.Facts]

/-! ## Orders and slots -/

/-- A list of tiles that runs from `n` to the last. -/
def Asc : ℕ → List (Fin 8) → Prop
  | n, [] => n = 8
  | n, c :: cs => c.val = n ∧ Asc (n + 1) cs

theorem asc_tiles : Asc 0 tiles := ⟨rfl, rfl, rfl, rfl, rfl, rfl, rfl, rfl, rfl⟩

theorem bufOf_ne_slot (s g g' : Bool) : bufOf s g ≠ bufOf (!s) g' := by cases s <;> cases g <;> cases g' <;> decide
theorem bufOf_ne_slot' (s g g' : Bool) : bufOf (!s) g ≠ bufOf s g' := by cases s <;> cases g <;> cases g' <;> decide
theorem bufOf_ne (s : Bool) : bufOf s false ≠ bufOf s true := by cases s <;> decide

/-- Slots alternate along a chain and into what comes after it. -/
def Alt : List Job → Option Job → Prop
  | [], _ => True
  | [j], nxt => ∀ n, nxt = some n → n.slot = !j.slot
  | j :: j' :: js, nxt => j'.slot = !j.slot ∧ Alt (j' :: js) nxt

section
variable (x1 : S1x8x128x2048.Idx → Elt F .bf16) (x2 : S1x8x2048x128.Idx → Elt F .bf16)
  (x3 : S1x8x80x2048.Idx → Elt F .bf16) (x4 : S1x8x64x2048.Idx → Elt F .bf16)

/-- Both heads of a job scored in the tiles before `n`. -/
def JobPart (j : Job) (n : ℕ) (σ : St F) : Prop :=
  Part x1 x2 (bufOf j.slot false) j.o0.h j.i n σ ∧ Part x1 x2 (bufOf j.slot true) j.o1.h j.i n σ

/-- The same of the job that follows, if any. -/
def NxtPart (nxt : Option Job) (n : ℕ) (σ : St F) : Prop := ∀ j, nxt = some j → JobPart x1 x2 j n σ

/-- The registers of a pass before tile `n`. -/
def regsAt (cur : Job) (nxt : Option Job) (n : ℕ) : Regs F where
  m0 := nxt.elim none fun j => regM x1 x2 j.o0.h j.i n
  m1 := nxt.elim none fun j => regM x1 x2 j.o1.h j.i n
  a0 := regA x1 x2 x3 cur.o0.h cur.i n
  a1 := regA x1 x2 x3 cur.o1.h cur.i n

theorem Part.past {b : Fin 4} {h i : Fin 8} {n : ℕ} {σ : St F} (hn : i.val < n) (hp : Part x1 x2 b h i n σ) :
    Part x1 x2 b h i (n + 1) σ := ⟨fun c _ hi => hp.1 c (by omega) hi, fun _ => hp.2 hn⟩

theorem Part.put_y {b : Fin 4} {h i : Fin 8} {n : ℕ} {σ : St F} (y : S1x8x64x2048.Idx → Elt F .bf16) (hp : Part x1 x2 b h i n σ) :
    Part x1 x2 b h i n { σ with y := y } := hp
end

section Tr
variable (𝒱 : Variants) (c : Dev nD) (bd : Option 𝒱.V) (E : Set ℕ)
  (arg1 : Memref sig .tc .vmem S1x8x128x2048 .bf16) (arg2 : Memref sig .tc .vmem S1x8x2048x128 .bf16)
  (arg3 : Memref sig .tc .vmem S1x8x80x2048 .bf16) (arg4 : Memref sig .tc .vmem S1x8x64x2048 .bf16)
  (arg5 : Memref sig .tc .vmem S1x8x64x2048 .bf16) (harg5 : arg5.IsWhole)
  (arg6 : Memref sig .tc .vmem S4x2048x256 .f32) (arg7 : Memref sig .tc .vmem S4x8x256 .f32)
  (x1 : S1x8x128x2048.Idx → Elt F .bf16) (x2 : S1x8x2048x128.Idx → Elt F .bf16)
  (x3 : S1x8x80x2048.Idx → Elt F .bf16) (x4 : S1x8x64x2048.Idx → Elt F .bf16)

local notation "TR" => Tr 𝒱 c bd E arg1 arg2 arg3 arg4 arg5 arg6 arg7 x1 x2 x3 x4

theorem Tr.pull {α : Type} {φ : Prop} {P : St F → Prop} {p : Prog (Eff F) α} {Q : α → St F → Prop}
    (h : φ → TR P p Q) : TR (fun σ => φ ∧ P σ) p Q := fun σ hσ => h hσ.1 σ hσ.2

/-- One tile of scores. -/
theorem scoreP_tr (O : Head) (b : Fin 4) (i t : Fin 8) (ht : t.val ≤ i.val) (R : St F → Prop) (hR : Keeps b R) :
    TR (fun σ => Part x1 x2 b O.h i t.val σ ∧ R σ) (scoreP arg1 arg2 arg6 arg7 O b i t (regM x1 x2 O.h i t.val))
      (fun m σ => m = maxV x1 x2 O.h i t.val ∧ Part x1 x2 b O.h i (t.val + 1) σ ∧ R σ) := by
  unfold scoreP
  refine Tr.bind 𝒱 c bd E _ _ _ _ _ _ _ _ _ _ _ (Tr.load1 𝒱 c bd E _ _ _ _ _ _ _ _ _ _ _ _ _) fun a => Tr.pull 𝒱 c bd E _ _ _ _ _ _ _ _ _ _ _ fun ha => ?_
  rw [read_q] at ha
  subst ha
  refine Tr.bind 𝒱 c bd E _ _ _ _ _ _ _ _ _ _ _ (Tr.load2 𝒱 c bd E _ _ _ _ _ _ _ _ _ _ _ _ _) fun k => Tr.pull 𝒱 c bd E _ _ _ _ _ _ _ _ _ _ _ fun hk => ?_
  rw [read_k] at hk
  subst hk
  refine Tr.bind 𝒱 c bd E _ _ _ _ _ _ _ _ _ _ _ (Tr.load6 𝒱 c bd E _ _ _ _ _ _ _ _ _ _ _ _ _) fun _ => ?_
  refine Tr.bind 𝒱 c bd E _ _ _ _ _ _ _ _ _ _ _
    (R := fun _ σ => (∀ c' : Fin 8, c'.val < t.val + 1 → c'.val ≤ i.val → tileAt σ b c' = shapeCast S1x256x256 (scoreT x1 x2 O.h i c') shapeCasts_S256x256_S1x256x256) ∧ R σ)
    (Tr.pre 𝒱 c bd E _ _ _ _ _ _ _ _ _ _ _ (Tr.store6 𝒱 c bd E _ _ _ _ _ _ _ _ _ _ _ _ _ _ _) ?_) fun _ => ?_
  · rintro σ ⟨-, hp, hr⟩
    refine ⟨fun c' hc' hi' => ?_, ?_⟩
    · by_cases e : t = c'
      · subst e
        exact tileAt_put_same σ b t _
      · exact (tileAt_put_ne σ b b t c' _ (.inr e)).trans (hp.1 c' (by have := Fin.val_ne_of_ne e; omega) hi')
    · exact hR σ _ rfl (fun b' hb c' => tileAt_put_ne σ b b' t c' _ (.inl hb.symm)) (fun _ _ => rfl) hr
  · have hm : stepMax (regM x1 x2 O.h i t.val) (scoreV (Nat.beq t.val i.val) (qT x1 O.h i) (kT x2 O.h t)) = maxV x1 x2 O.h i t.val :=
      stepMax_regM x1 x2 O.h i t ht
    dsimp only
    rw [hm]
    cases hb : Nat.beq t.val i.val
    · have hne : t.val ≠ i.val := Nat.ne_of_beq_eq_false hb
      refine Tr.post 𝒱 c bd E _ _ _ _ _ _ _ _ _ _ _ (Tr.ret 𝒱 c bd E _ _ _ _ _ _ _ _ _ _ _ _) ?_
      rintro m σ ⟨rfl, hp, hr⟩
      exact ⟨rfl, ⟨hp, fun h => absurd h (by omega)⟩, hr⟩
    · have he : t.val = i.val := Nat.eq_of_beq_eq_true hb
      refine Tr.bind 𝒱 c bd E _ _ _ _ _ _ _ _ _ _ _ (R := fun _ σ => Part x1 x2 b O.h i (t.val + 1) σ ∧ R σ) ?_ fun _ => ?_
      · unfold putMax
        refine Tr.bind 𝒱 c bd E _ _ _ _ _ _ _ _ _ _ _ (Tr.load7 𝒱 c bd E _ _ _ _ _ _ _ _ _ _ _ _ _) fun _ => ?_
        refine Tr.pre 𝒱 c bd E _ _ _ _ _ _ _ _ _ _ _ (Tr.store7 𝒱 c bd E _ _ _ _ _ _ _ _ _ _ _ (P := fun σ => Part x1 x2 b O.h i (t.val + 1) σ ∧ R σ) _ _ _ _) ?_
        rintro σ ⟨-, hp, hr⟩
        refine ⟨⟨fun c' h1 h2 => hp c' h1 h2, fun _ => ?_⟩, ?_⟩
        · rw [← he]; exact blkAt_put_same σ b _
        · exact hR σ _ rfl (fun _ _ _ => rfl) (fun b' hb => blkAt_put_ne σ b b' _ hb.symm) hr
      · refine Tr.post 𝒱 c bd E _ _ _ _ _ _ _ _ _ _ _ (Tr.ret 𝒱 c bd E _ _ _ _ _ _ _ _ _ _ _ _) ?_
        rintro m σ ⟨rfl, h⟩
        exact ⟨rfl, h⟩

/-- One tile's share of the weighted sum. -/
theorem weighP_tr (O : Head) (b : Fin 4) (i t : Fin 8) (ht : t.val ≤ i.val) (P : St F → Prop) (hP : ∀ σ, P σ → Part x1 x2 b O.h i 8 σ) :
    TR P (weighP arg3 arg6 arg7 O b t (regA x1 x2 x3 O.h i t.val))
      (fun a σ => a = accV x1 x2 x3 O.h i t.val ∧ P σ) := by
  unfold weighP
  refine Tr.bind 𝒱 c bd E _ _ _ _ _ _ _ _ _ _ _ (Tr.post 𝒱 c bd E _ _ _ _ _ _ _ _ _ _ _ (Tr.load6 𝒱 c bd E _ _ _ _ _ _ _ _ _ _ _ _ _)
    (Q' := fun s σ => s = shapeCast S1x256x256 (scoreT x1 x2 O.h i t) shapeCasts_S256x256_S1x256x256 ∧ P σ) ?_) fun s => Tr.pull 𝒱 c bd E _ _ _ _ _ _ _ _ _ _ _ fun hs => ?_
  · rintro s σ ⟨rfl, hp⟩
    exact ⟨(hP σ hp).1 t t.isLt ht, hp⟩
  subst hs
  refine Tr.bind 𝒱 c bd E _ _ _ _ _ _ _ _ _ _ _ (Tr.post 𝒱 c bd E _ _ _ _ _ _ _ _ _ _ _ (Tr.load7 𝒱 c bd E _ _ _ _ _ _ _ _ _ _ _ _ _)
    (Q' := fun m σ => m = rowOf (spread (maxV x1 x2 O.h i i.val)) ∧ P σ) ?_) fun m => Tr.pull 𝒱 c bd E _ _ _ _ _ _ _ _ _ _ _ fun hm => ?_
  · rintro m σ ⟨rfl, hp⟩
    exact ⟨(rowAt_eq σ b).trans (congrArg rowOf ((hP σ hp).2 i.isLt)), hp⟩
  subst hm
  refine Tr.bind 𝒱 c bd E _ _ _ _ _ _ _ _ _ _ _ (Tr.load3 𝒱 c bd E _ _ _ _ _ _ _ _ _ _ _ _ _) fun v => Tr.pull 𝒱 c bd E _ _ _ _ _ _ _ _ _ _ _ fun hv => ?_
  rw [read_v] at hv
  subst hv
  refine Tr.post 𝒱 c bd E _ _ _ _ _ _ _ _ _ _ _ (Tr.ret 𝒱 c bd E _ _ _ _ _ _ _ _ _ _ _ _) ?_
  rintro a σ ⟨rfl, hp⟩
  exact ⟨stepAcc_regA x1 x2 x3 O.h i t ht, hp⟩

/-- The scoring half of a step. -/
theorem scoreStep_tr (j : Job) (t : Fin 8) (r : Regs F) (h0 : r.m0 = regM x1 x2 j.o0.h j.i t.val) (h1 : r.m1 = regM x1 x2 j.o1.h j.i t.val)
    (R : St F → Prop) (hR : ∀ g, Keeps (bufOf j.slot g) R) :
    TR (fun σ => JobPart x1 x2 j t.val σ ∧ R σ) (scoreStep arg1 arg2 arg6 arg7 j t r)
      (fun r' σ => r' = { r with m0 := regM x1 x2 j.o0.h j.i (t.val + 1), m1 := regM x1 x2 j.o1.h j.i (t.val + 1) }
        ∧ JobPart x1 x2 j (t.val + 1) σ ∧ R σ) := by
  unfold scoreStep
  cases hb : Nat.ble t.val j.i.val
  · have hlt : j.i.val < t.val := by
      by_contra h
      rw [Nat.ble_eq_true_of_le (by omega)] at hb
      exact absurd hb (by decide)
    refine Tr.post 𝒱 c bd E _ _ _ _ _ _ _ _ _ _ _ (Tr.ret 𝒱 c bd E _ _ _ _ _ _ _ _ _ _ _ _) ?_
    rintro r' σ ⟨rfl, hp, hr⟩
    refine ⟨?_, ⟨hp.1.past x1 x2 hlt, hp.2.past x1 x2 hlt⟩, hr⟩
    rw [regM_past x1 x2 _ _ _ hlt, regM_past x1 x2 _ _ _ hlt, ← h0, ← h1]
  · have hle : t.val ≤ j.i.val := Nat.le_of_ble_eq_true hb
    rw [h0, h1]
    refine Tr.bind 𝒱 c bd E _ _ _ _ _ _ _ _ _ _ _
      (Tr.pre 𝒱 c bd E _ _ _ _ _ _ _ _ _ _ _ (scoreP_tr 𝒱 c bd E arg1 arg2 arg3 arg4 arg5 arg6 arg7 x1 x2 x3 x4 j.o0 (bufOf j.slot false) j.i t hle
        (fun σ => Part x1 x2 (bufOf j.slot true) j.o1.h j.i t.val σ ∧ R σ) ((Part.keeps x1 x2 (bufOf_ne j.slot).symm _ _ _).and (hR false))) ?_)
      fun m0 => Tr.pull 𝒱 c bd E _ _ _ _ _ _ _ _ _ _ _ fun hm0 => ?_
    · rintro σ ⟨⟨ha, hb⟩, hr⟩
      exact ⟨ha, hb, hr⟩
    subst hm0
    refine Tr.bind 𝒱 c bd E _ _ _ _ _ _ _ _ _ _ _
      (Tr.pre 𝒱 c bd E _ _ _ _ _ _ _ _ _ _ _ (scoreP_tr 𝒱 c bd E arg1 arg2 arg3 arg4 arg5 arg6 arg7 x1 x2 x3 x4 j.o1 (bufOf j.slot true) j.i t hle
        (fun σ => Part x1 x2 (bufOf j.slot false) j.o0.h j.i (t.val + 1) σ ∧ R σ) ((Part.keeps x1 x2 (bufOf_ne j.slot) _ _ _).and (hR true))) ?_)
      fun m1 => Tr.pull 𝒱 c bd E _ _ _ _ _ _ _ _ _ _ _ fun hm1 => ?_
    · rintro σ ⟨ha, hb, hr⟩
      exact ⟨hb, ha, hr⟩
    subst hm1
    refine Tr.post 𝒱 c bd E _ _ _ _ _ _ _ _ _ _ _ (Tr.ret 𝒱 c bd E _ _ _ _ _ _ _ _ _ _ _ _) ?_
    rintro r' σ ⟨rfl, ha, hb, hr⟩
    refine ⟨?_, ⟨hb, ha⟩, hr⟩
    rw [regM_succ x1 x2 _ _ _ hle, regM_succ x1 x2 _ _ _ hle]

/-- The finishing half of a step. -/
theorem weighStep_tr (j : Job) (t : Fin 8) (r : Regs F) (h0 : r.a0 = regA x1 x2 x3 j.o0.h j.i t.val) (h1 : r.a1 = regA x1 x2 x3 j.o1.h j.i t.val)
    (P : St F → Prop) (hP : ∀ σ, P σ → JobPart x1 x2 j 8 σ) :
    TR P (weighStep arg3 arg6 arg7 j t r)
      (fun r' σ => r' = { r with a0 := regA x1 x2 x3 j.o0.h j.i (t.val + 1), a1 := regA x1 x2 x3 j.o1.h j.i (t.val + 1) } ∧ P σ) := by
  unfold weighStep
  cases hb : Nat.ble t.val j.i.val
  · have hlt : j.i.val < t.val := by
      by_contra h
      rw [Nat.ble_eq_true_of_le (by omega)] at hb
      exact absurd hb (by decide)
    refine Tr.post 𝒱 c bd E _ _ _ _ _ _ _ _ _ _ _ (Tr.ret 𝒱 c bd E _ _ _ _ _ _ _ _ _ _ _ _) ?_
    rintro r' σ ⟨rfl, hp⟩
    refine ⟨?_, hp⟩
    rw [regA_past x1 x2 x3 _ _ _ hlt, regA_past x1 x2 x3 _ _ _ hlt, ← h0, ← h1]
  · have hle : t.val ≤ j.i.val := Nat.le_of_ble_eq_true hb
    rw [h0, h1]
    refine Tr.bind 𝒱 c bd E _ _ _ _ _ _ _ _ _ _ _ (weighP_tr 𝒱 c bd E arg1 arg2 arg3 arg4 arg5 arg6 arg7 x1 x2 x3 x4 j.o0 (bufOf j.slot false) j.i t hle P fun σ h => (hP σ h).1)
      fun a0 => Tr.pull 𝒱 c bd E _ _ _ _ _ _ _ _ _ _ _ fun ha0 => ?_
    subst ha0
    refine Tr.bind 𝒱 c bd E _ _ _ _ _ _ _ _ _ _ _ (weighP_tr 𝒱 c bd E arg1 arg2 arg3 arg4 arg5 arg6 arg7 x1 x2 x3 x4 j.o1 (bufOf j.slot true) j.i t hle P fun σ h => (hP σ h).2)
      fun a1 => Tr.pull 𝒱 c bd E _ _ _ _ _ _ _ _ _ _ _ fun ha1 => ?_
    subst ha1
    refine Tr.post 𝒱 c bd E _ _ _ _ _ _ _ _ _ _ _ (Tr.ret 𝒱 c bd E _ _ _ _ _ _ _ _ _ _ _ _) ?_
    rintro r' σ ⟨rfl, hp⟩
    refine ⟨?_, hp⟩
    rw [regA_succ x1 x2 x3 _ _ _ hle, regA_succ x1 x2 x3 _ _ _ hle]

/-- A pass from tile `n` on. -/
theorem pass_tr (cur : Job) (nxt : Option Job) (hs : ∀ j, nxt = some j → j.slot = !cur.slot) (D : St F → Prop) (hD : ∀ b, Keeps b D) :
    ∀ (cs : List (Fin 8)) (n : ℕ), Asc n cs →
      TR (fun σ => NxtPart x1 x2 nxt n σ ∧ JobPart x1 x2 cur 8 σ ∧ D σ) (pass arg1 arg2 arg3 arg6 arg7 cur nxt cs (regsAt x1 x2 x3 cur nxt n))
        (fun r σ => r = regsAt x1 x2 x3 cur nxt 8 ∧ NxtPart x1 x2 nxt 8 σ ∧ JobPart x1 x2 cur 8 σ ∧ D σ)
  | [], n, h => by
    cases h
    exact Tr.ret 𝒱 c bd E _ _ _ _ _ _ _ _ _ _ _ _
  | t :: cs, n, h => by
    obtain ⟨rfl, h⟩ := h
    unfold pass
    have hk : ∀ r : Regs F, TR (fun σ => r = { regsAt x1 x2 x3 cur nxt (t.val + 1) with a0 := regA x1 x2 x3 cur.o0.h cur.i t.val, a1 := regA x1 x2 x3 cur.o1.h cur.i t.val }
          ∧ NxtPart x1 x2 nxt (t.val + 1) σ ∧ JobPart x1 x2 cur 8 σ ∧ D σ)
        (weighStep arg3 arg6 arg7 cur t r >>= fun r => pass arg1 arg2 arg3 arg6 arg7 cur nxt cs r)
        (fun r σ => r = regsAt x1 x2 x3 cur nxt 8 ∧ NxtPart x1 x2 nxt 8 σ ∧ JobPart x1 x2 cur 8 σ ∧ D σ) := fun r => by
      refine Tr.pull 𝒱 c bd E _ _ _ _ _ _ _ _ _ _ _ fun hr => ?_
      subst hr
      refine Tr.bind 𝒱 c bd E _ _ _ _ _ _ _ _ _ _ _ (weighStep_tr 𝒱 c bd E arg1 arg2 arg3 arg4 arg5 arg6 arg7 x1 x2 x3 x4 cur t _ rfl rfl _ fun σ hσ => hσ.2.1)
        fun r => Tr.pull 𝒱 c bd E _ _ _ _ _ _ _ _ _ _ _ fun hr => ?_
      subst hr
      exact pass_tr cur nxt hs D hD cs (t.val + 1) h
    cases nxt with
    | none =>
      refine Tr.bind 𝒱 c bd E _ _ _ _ _ _ _ _ _ _ _ (Tr.post 𝒱 c bd E _ _ _ _ _ _ _ _ _ _ _ (Tr.ret 𝒱 c bd E _ _ _ _ _ _ _ _ _ _ _ _) ?_) hk
      rintro r σ ⟨rfl, -, hp⟩
      exact ⟨rfl, fun j hj => (by cases hj), hp⟩
    | some j =>
      have hj : j.slot = !cur.slot := hs j rfl
      refine Tr.bind 𝒱 c bd E _ _ _ _ _ _ _ _ _ _ _ (Tr.post 𝒱 c bd E _ _ _ _ _ _ _ _ _ _ _ (Tr.pre 𝒱 c bd E _ _ _ _ _ _ _ _ _ _ _
        (scoreStep_tr 𝒱 c bd E arg1 arg2 arg3 arg4 arg5 arg6 arg7 x1 x2 x3 x4 j t (regsAt x1 x2 x3 cur (some j) t.val) rfl rfl (fun σ => JobPart x1 x2 cur 8 σ ∧ D σ) ?_) ?_) ?_) hk
      · intro g
        refine Keeps.and (Keeps.and (Part.keeps x1 x2 ?_ _ _ _) (Part.keeps x1 x2 ?_ _ _ _)) (hD _)
        · rw [hj]; exact bufOf_ne_slot _ _ _
        · rw [hj]; exact bufOf_ne_slot _ _ _
      · rintro σ ⟨hn, hp⟩
        exact ⟨hn j rfl, hp⟩
      · rintro r σ ⟨rfl, hn, hp⟩
        exact ⟨rfl, fun j' hj' => (by cases hj'; exact hn), hp⟩

/-- A tile of the result goes out. -/
theorem putOut_tr (O : Head) (i : Fin 8) (D : Fin 8 → Fin 8 → Prop) (R : St F → Prop) (hR : ∀ σ y, R σ → R { σ with y := y }) :
    TR (fun σ => Done x1 x2 x3 x4 D σ ∧ R σ) (putOut arg4 arg5 harg5 O i (some (accV x1 x2 x3 O.h i i.val)))
      (fun _ σ => Done x1 x2 x3 x4 (fun h' i' => D h' i' ∨ (h' = O.h ∧ i' = i)) σ ∧ R σ) := by
  unfold putOut
  refine Tr.bind 𝒱 c bd E _ _ _ _ _ _ _ _ _ _ _ (Tr.load4 𝒱 c bd E _ _ _ _ _ _ _ _ _ _ _ _ _) fun g => Tr.pull 𝒱 c bd E _ _ _ _ _ _ _ _ _ _ _ fun hg => ?_
  rw [read_g] at hg
  subst hg
  refine Tr.bind 𝒱 c bd E _ _ _ _ _ _ _ _ _ _ _ (Tr.load5 𝒱 c bd E _ _ _ _ _ _ _ _ _ _ _ _ _) fun _ => ?_
  refine Tr.pre 𝒱 c bd E _ _ _ _ _ _ _ _ _ _ _
    (Tr.store5 𝒱 c bd E _ _ _ _ _ _ _ _ _ _ _ (P := fun σ => Done x1 x2 x3 x4 (fun h' i' => D h' i' ∨ (h' = O.h ∧ i' = i)) σ ∧ R σ) _ _ _ _) ?_
  rintro σ ⟨-, hd, hr⟩
  refine ⟨fun h' i' hD => ?_, hR _ _ hr⟩
  by_cases e : O.h = h' ∧ i = i'
  · obtain ⟨rfl, rfl⟩ := e
    exact yAt_put_same σ O i _
  · refine (yAt_put_ne σ O i h' i' _ ?_).trans (hd h' i' ?_)
    · by_cases e' : O.h = h'
      · exact .inr fun e'' => e ⟨e', e''⟩
      · exact .inl e'
    · rcases hD with hD | ⟨rfl, rfl⟩
      · exact hD
      · exact absurd ⟨rfl, rfl⟩ e

/-- The tiles of the result a job finishes. -/
def Job.outs (j : Job) (h i : Fin 8) : Prop := (h = j.o0.h ∨ h = j.o1.h) ∧ i = j.i

/-- One pass and its results. -/
theorem pairP_tr (cur : Job) (nxt : Option Job) (hs : ∀ j, nxt = some j → j.slot = !cur.slot) (D : Fin 8 → Fin 8 → Prop) :
    TR (fun σ => JobPart x1 x2 cur 8 σ ∧ Done x1 x2 x3 x4 D σ) (pairP arg1 arg2 arg3 arg4 arg5 harg5 arg6 arg7 cur nxt)
      (fun _ σ => NxtPart x1 x2 nxt 8 σ ∧ Done x1 x2 x3 x4 (fun h i => D h i ∨ cur.outs h i) σ) := by
  unfold pairP
  have e0 : regsAt x1 x2 x3 cur nxt 0 = ⟨none, none, none, none⟩ := by
    unfold regsAt
    cases nxt <;> simp only [Option.elim, regM_zero, regA_zero]
  rw [← e0]
  refine Tr.bind 𝒱 c bd E _ _ _ _ _ _ _ _ _ _ _ (Tr.pre 𝒱 c bd E _ _ _ _ _ _ _ _ _ _ _
    (pass_tr 𝒱 c bd E arg1 arg2 arg3 arg4 arg5 arg6 arg7 x1 x2 x3 x4 cur nxt hs (Done x1 x2 x3 x4 D) (fun b => Done.keeps x1 x2 x3 x4 b D) tiles 0 asc_tiles) ?_)
    fun r => Tr.pull 𝒱 c bd E _ _ _ _ _ _ _ _ _ _ _ fun hr => ?_
  · rintro σ ⟨hp, hd⟩
    exact ⟨fun j _ => ⟨Part.zero x1 x2 _ _ _ σ, Part.zero x1 x2 _ _ _ σ⟩, hp, hd⟩
  subst hr
  have ea0 : (regsAt x1 x2 x3 cur nxt 8).a0 = some (accV x1 x2 x3 cur.o0.h cur.i cur.i.val) := regA_end x1 x2 x3 _ _
  have ea1 : (regsAt x1 x2 x3 cur nxt 8).a1 = some (accV x1 x2 x3 cur.o1.h cur.i cur.i.val) := regA_end x1 x2 x3 _ _
  rw [ea0, ea1]
  have hy : ∀ (σ : St F) y, NxtPart x1 x2 nxt 8 σ → NxtPart x1 x2 nxt 8 { σ with y := y } := fun σ y h => h
  refine Tr.bind 𝒱 c bd E _ _ _ _ _ _ _ _ _ _ _ (Tr.pre 𝒱 c bd E _ _ _ _ _ _ _ _ _ _ _
    (putOut_tr 𝒱 c bd E arg1 arg2 arg3 arg4 arg5 harg5 arg6 arg7 x1 x2 x3 x4 cur.o0 cur.i D (NxtPart x1 x2 nxt 8) hy) ?_) fun _ => ?_
  · rintro σ ⟨hn, -, hd⟩
    exact ⟨hd, hn⟩
  refine Tr.post 𝒱 c bd E _ _ _ _ _ _ _ _ _ _ _ (putOut_tr 𝒱 c bd E arg1 arg2 arg3 arg4 arg5 harg5 arg6 arg7 x1 x2 x3 x4 cur.o1 cur.i _ (NxtPart x1 x2 nxt 8) hy) ?_
  rintro _ σ ⟨hd, hn⟩
  refine ⟨hn, fun h i hD => hd h i ?_⟩
  rcases hD with hD | ⟨hD | hD, hi⟩
  · exact .inl (.inl hD)
  · exact .inl (.inr ⟨hD, hi⟩)
  · exact .inr ⟨hD, hi⟩

/-- A chain of blocks. -/
theorem chainP_tr (nxt : Option Job) : ∀ (js : List Job) (j : Job), Alt (j :: js) nxt → ∀ (D : Fin 8 → Fin 8 → Prop),
    TR (fun σ => JobPart x1 x2 j 8 σ ∧ Done x1 x2 x3 x4 D σ) (chainP arg1 arg2 arg3 arg4 arg5 harg5 arg6 arg7 (j :: js) nxt)
      (fun _ σ => NxtPart x1 x2 nxt 8 σ ∧ Done x1 x2 x3 x4 (fun h i => D h i ∨ ∃ k ∈ j :: js, k.outs h i) σ)
  | [], j, ha, D => by
    unfold chainP
    refine Tr.post 𝒱 c bd E _ _ _ _ _ _ _ _ _ _ _ (pairP_tr 𝒱 c bd E arg1 arg2 arg3 arg4 arg5 harg5 arg6 arg7 x1 x2 x3 x4 j nxt ha D) ?_
    rintro _ σ ⟨hn, hd⟩
    refine ⟨hn, fun h i hD => hd h i ?_⟩
    rcases hD with hD | ⟨k, hk, ho⟩
    · exact .inl hD
    · cases List.mem_singleton.mp hk
      exact .inr ho
  | j' :: js, j, ha, D => by
    unfold chainP
    refine Tr.bind 𝒱 c bd E _ _ _ _ _ _ _ _ _ _ _ (pairP_tr 𝒱 c bd E arg1 arg2 arg3 arg4 arg5 harg5 arg6 arg7 x1 x2 x3 x4 j (some j') (fun k hk => by cases hk; exact ha.1) D) fun _ => ?_
    refine Tr.post 𝒱 c bd E _ _ _ _ _ _ _ _ _ _ _ (Tr.pre 𝒱 c bd E _ _ _ _ _ _ _ _ _ _ _ (chainP_tr nxt js j' ha.2 (fun h i => D h i ∨ j.outs h i)) ?_) ?_
    · rintro σ ⟨hn, hd⟩
      exact ⟨hn j' rfl, hd⟩
    · rintro _ σ ⟨hn, hd⟩
      refine ⟨hn, fun h i hD => hd h i ?_⟩
      rcases hD with hD | ⟨k, hk, ho⟩
      · exact .inl (.inl hD)
      · rcases List.mem_cons.mp hk with rfl | hk
        · exact .inl (.inr ho)
        · exact .inr ⟨k, hk, ho⟩

/-- The scores of one head's last block. -/
theorem warmP_tr (O : Head) (b : Fin 4) (i : Fin 8) (hi : i.val = 7) (R : St F → Prop) (hR : Keeps b R) :
    ∀ (cs : List (Fin 8)) (n : ℕ), Asc n cs →
      TR (fun σ => Part x1 x2 b O.h i n σ ∧ R σ) (warmP arg1 arg2 arg6 arg7 O b i cs (regM x1 x2 O.h i n))
        (fun _ σ => Part x1 x2 b O.h i 8 σ ∧ R σ)
  | [], n, h => by
    cases h
    exact Tr.post 𝒱 c bd E _ _ _ _ _ _ _ _ _ _ _ (Tr.ret 𝒱 c bd E _ _ _ _ _ _ _ _ _ _ _ _) fun _ _ h => h.2
  | t :: cs, n, h => by
    obtain ⟨rfl, h⟩ := h
    have hle : t.val ≤ i.val := by have := t.isLt; omega
    unfold warmP
    refine Tr.bind 𝒱 c bd E _ _ _ _ _ _ _ _ _ _ _ (scoreP_tr 𝒱 c bd E arg1 arg2 arg3 arg4 arg5 arg6 arg7 x1 x2 x3 x4 O b i t hle R hR) fun m => Tr.pull 𝒱 c bd E _ _ _ _ _ _ _ _ _ _ _ fun hm => ?_
    subst hm
    rw [← regM_succ x1 x2 O.h i t hle]
    exact warmP_tr O b i hi R hR cs (t.val + 1) h

/-- A loop whose trips keep an invariant. -/
theorem Tr.loop {w : ℕ} (l : Scf.Loop w) (hok : l.OK) (body : Fin l.trips → Unit → Prog (Eff F) Unit) (I : ℕ → St F → Prop)
    (hb : ∀ k : Fin l.trips, TR (I k.val) (body k ()) (fun _ => I (k.val + 1))) :
    TR (I 0) (Scf.Loop.for l hok () body) (fun _ => I l.trips) := fun σ hσ => by
  have h := Scf.wp_for (M := MT nD τ sig Unit (Elt F) ℕ (UR sig nD τ) ℕ) frame (wpE (defs₀ (F := F)) 𝒱 (c : Thread nD τ) bd) E l.lb l.ub l.st hok () body
    (fun n _ => iprop(∃ σ', ⌜I n σ'⌝ ∗ Held c arg1 arg2 arg3 arg4 arg5 arg6 arg7 x1 x2 x3 x4 σ'))
    (fun k _ => by
      iintro ⟨%σ', %hI, H⟩
      iapply (hb k σ' hI)
      iexact H)
    (Q := fun _ => iprop(∃ σ', ⌜I l.trips σ'⌝ ∗ Held c arg1 arg2 arg3 arg4 arg5 arg6 arg7 x1 x2 x3 x4 σ'))
  iintro H
  iapply h
  isplitl [H]
  · iexists σ
    isplitr
    · ipureintro; exact hσ
    · iexact H
  · iintro %_ H
    iexact H

end Tr

end Fox
-- ==== Proof.SchedEq.lean ====
/- The printed body is the schedule, by computation. -/
module

public import proofs.«01_k».proof.Proof.Sched
public import proofs.«01_k».proof.Proof.Gen.KernelIdeal.Skeleton

@[expose] public section

noncomputable section

namespace Fox

open Idealize.ShloMosaic Idealize.ShloMosaic.TcCoe Idealize.SL.Sem Cert.KernelIdeal Cert.KernelIdeal.Facts₀ Cert.KernelIdeal.Facts Cert.KernelIdeal.Gen

variable {F : FTy → Type} [FloatOps F] [Named F] [Cert.KernelIdeal.Facts]

/-- The offsets of the current pair's tiles of queries, in trip `k`, second head if `r` is one. -/
def curQ (k : Fin k0_t1_loop.trips) (r : BitVec 32) : ℕ → Fin 4 → ℕ
  | 0 => k0_off28 k r | 1 => k0_off26 k r | 2 => k0_off24 k r | 3 => k0_off22 k r | 4 => k0_off20 k r | 5 => k0_off18 k r
  | 6 => k0_off1 k r | _ => ![0, 2 * k.val + r.toNat, 0, 1792]
def curK (k : Fin k0_t1_loop.trips) (r : BitVec 32) : ℕ → Fin 4 → ℕ
  | 0 => k0_off2 k r | 1 => k0_off4 k r | 2 => k0_off6 k r | 3 => k0_off8 k r | 4 => k0_off10 k r | 5 => k0_off12 k r
  | 6 => k0_off14 k r | _ => ![0, 2 * k.val + r.toNat, 1792, 0]
def curV (k : Fin k0_t1_loop.trips) (r : BitVec 32) : ℕ → Fin 4 → ℕ
  | 0 => k0_off3 k r | 1 => k0_off5 k r | 2 => k0_off7 k r | 3 => k0_off9 k r | 4 => k0_off11 k r | 5 => k0_off13 k r
  | 6 => k0_off15 k r | _ => k0_off16 k r
def curG (k : Fin k0_t1_loop.trips) (r : BitVec 32) : ℕ → Fin 4 → ℕ
  | 0 => k0_off39 k r | 1 => k0_off29 k r | 2 => k0_off27 k r | 3 => k0_off25 k r | 4 => k0_off23 k r | 5 => k0_off21 k r
  | 6 => k0_off19 k r | _ => k0_off17 k r
/-- The offsets of the next pair's tiles: only its last block is scored in the trip. -/
def nxtQ (k : Fin k0_t1_loop.trips) (r : BitVec 32) : ℕ → Fin 4 → ℕ
  | 7 => k0_off30 k r | i => ![0, 2 * k.val + r.toNat + 2, 0, 256 * i]
def nxtK (k : Fin k0_t1_loop.trips) (r : BitVec 32) : ℕ → Fin 4 → ℕ
  | 0 => k0_off31 k r | 1 => k0_off32 k r | 2 => k0_off33 k r | 3 => k0_off34 k r | 4 => k0_off35 k r | 5 => k0_off36 k r
  | 6 => k0_off37 k r | _ => k0_off38 k r

theorem trips_le (k : Fin k0_t1_loop.trips) : k.val < 3 := Nat.lt_of_lt_of_le k.isLt k0_t1_abs.2.1

/-- The current pair's heads in trip `k`. -/
def headCur (k : Fin k0_t1_loop.trips) (r : Fin 2) : Head where
  h := ⟨2 * k.val + r.val, by have := trips_le k; omega⟩
  q := curQ k (BitVec.ofNat 32 r.val)
  k := curK k (BitVec.ofNat 32 r.val)
  v := curV k (BitVec.ofNat 32 r.val)
  g := curG k (BitVec.ofNat 32 r.val)
  q_eq i := by
    fin_cases i
    · exact k0_off28_eq k r
    · exact k0_off26_eq k r
    · exact k0_off24_eq k r
    · exact k0_off22_eq k r
    · exact k0_off20_eq k r
    · exact k0_off18_eq k r
    · exact k0_off1_eq k r
    · fin_cases r <;> rfl
  k_eq i := by
    fin_cases i
    · exact k0_off2_eq k r
    · exact k0_off4_eq k r
    · exact k0_off6_eq k r
    · exact k0_off8_eq k r
    · exact k0_off10_eq k r
    · exact k0_off12_eq k r
    · exact k0_off14_eq k r
    · fin_cases r <;> rfl
  v_eq i := by
    fin_cases i
    · exact k0_off3_eq k r
    · exact k0_off5_eq k r
    · exact k0_off7_eq k r
    · exact k0_off9_eq k r
    · exact k0_off11_eq k r
    · exact k0_off13_eq k r
    · exact k0_off15_eq k r
    · exact k0_off16_eq k r
  g_eq i := by
    fin_cases i
    · exact k0_off39_eq k r
    · exact k0_off29_eq k r
    · exact k0_off27_eq k r
    · exact k0_off25_eq k r
    · exact k0_off23_eq k r
    · exact k0_off21_eq k r
    · exact k0_off19_eq k r
    · exact k0_off17_eq k r

/-- The next pair's heads in trip `k`. -/
def headNxt (k : Fin k0_t1_loop.trips) (r : Fin 2) : Head where
  h := ⟨2 * k.val + r.val + 2, by have := trips_le k; omega⟩
  q := nxtQ k (BitVec.ofNat 32 r.val)
  k := nxtK k (BitVec.ofNat 32 r.val)
  v i := ![0, 2 * k.val + r.val + 2, 0, 256 * i]
  g i := ![0, 2 * k.val + r.val + 2, 0, 256 * i]
  q_eq i := by
    fin_cases i
    · fin_cases r <;> rfl
    · fin_cases r <;> rfl
    · fin_cases r <;> rfl
    · fin_cases r <;> rfl
    · fin_cases r <;> rfl
    · fin_cases r <;> rfl
    · fin_cases r <;> rfl
    · exact k0_off30_eq k r
  k_eq i := by
    fin_cases i
    · exact k0_off31_eq k r
    · exact k0_off32_eq k r
    · exact k0_off33_eq k r
    · exact k0_off34_eq k r
    · exact k0_off35_eq k r
    · exact k0_off36_eq k r
    · exact k0_off37_eq k r
    · exact k0_off38_eq k r
  v_eq i := rfl
  g_eq i := rfl

section
variable (i : grid0.Coords) (arg1 : Memref sig .tc .vmem S1x8x128x2048 .bf16) (harg1 : arg1.IsWhole) (arg2 : Memref sig .tc .vmem S1x8x2048x128 .bf16) (harg2 : arg2.IsWhole) (arg3 : Memref sig .tc .vmem S1x8x80x2048 .bf16) (harg3 : arg3.IsWhole) (arg4 : Memref sig .tc .vmem S1x8x64x2048 .bf16) (harg4 : arg4.IsWhole) (arg5 : Memref sig .tc .vmem S1x8x64x2048 .bf16) (harg5 : arg5.IsWhole) (arg6 : Memref sig .tc .vmem S4x2048x256 .f32) (harg6 : arg6.IsWhole) (arg7 : Memref sig .tc .vmem S4x8x256 .f32) (harg7 : arg7.IsWhole)

/-- One trip: the eight blocks of the current pair of heads, and the scores of the next pair's last block. -/
def tripP (k : Fin k0_t1_loop.trips) : Prog (Eff F) PUnit :=
  chainP arg1 arg2 arg3 arg4 arg5 harg5 arg6 arg7 (jobs (headCur k 0) (headCur k 1)) (some ⟨headNxt k 0, headNxt k 1, ⟨7, by decide⟩, false⟩)

set_option maxRecDepth 100000 in
set_option maxHeartbeats 0 in
theorem trip_eq (v187 : FVec F S8x256 .f32) (k : Fin k0_t1_loop.trips) :
    k0_t1_body (F := F) i arg1 harg1 arg2 harg2 arg3 harg3 arg4 harg4 arg5 harg5 arg6 harg6 arg7 harg7 causal v187 k ()
      = tripP arg1 arg2 arg3 arg4 arg5 harg5 arg6 arg7 k := by
  rfl

end

end Fox
-- ==== Proof.SchedBody.lean ====
/- The printed body of the kernel is the schedule: both heads of the first pair scored at their last block, three trips,
   and the last pair of heads. -/
module

public import proofs.«01_k».proof.Proof.SchedEq

@[expose] public section

noncomputable section

namespace Fox

open Idealize.ShloMosaic Idealize.ShloMosaic.TcCoe Idealize.SL.Sem Cert.KernelIdeal Cert.KernelIdeal.Facts₀ Cert.KernelIdeal.Facts Cert.KernelIdeal.Gen

variable {F : FTy → Type} [FloatOps F] [Named F] [Cert.KernelIdeal.Facts]

theorem bind_assoc3 {α β γ δ : Type} (p : Prog (Eff F) α) (f : α → Prog (Eff F) β) (g : β → Prog (Eff F) γ) (h : γ → Prog (Eff F) δ) :
    ((p.bind f).bind g).bind h = p.bind fun a => ((f a).bind g).bind h := by
  show ((p >>= f) >>= g) >>= h = p >>= fun a => (f a >>= g) >>= h
  simp only [bind_assoc]

section
variable (i : grid0.Coords) (arg1 : Memref sig .tc .vmem S1x8x128x2048 .bf16) (harg1 : arg1.IsWhole) (arg2 : Memref sig .tc .vmem S1x8x2048x128 .bf16) (harg2 : arg2.IsWhole) (arg3 : Memref sig .tc .vmem S1x8x80x2048 .bf16) (harg3 : arg3.IsWhole) (arg4 : Memref sig .tc .vmem S1x8x64x2048 .bf16) (harg4 : arg4.IsWhole) (arg5 : Memref sig .tc .vmem S1x8x64x2048 .bf16) (harg5 : arg5.IsWhole) (arg6 : Memref sig .tc .vmem S4x2048x256 .f32) (harg6 : arg6.IsWhole) (arg7 : Memref sig .tc .vmem S4x8x256 .f32) (harg7 : arg7.IsWhole)

/-- The body over any trip: the first pair's last block scored, the trips, the last pair. -/
def bodyOf (trip : Fin k0_t1_loop.trips → Unit → Prog (Eff F) Unit) : Prog (Eff F) PUnit := do
  warmP arg1 arg2 arg6 arg7 (headLit 0) 0 ⟨7, by decide⟩ tiles none
  warmP arg1 arg2 arg6 arg7 (headLit 1) 1 ⟨7, by decide⟩ tiles none
  Scf.Loop.for k0_t1_loop Facts₀.k0_t1_ok ⟨⟩ trip
  chainP arg1 arg2 arg3 arg4 arg5 harg5 arg6 arg7 (jobs (headLit 6) (headLit 7)) none

/-- The first scores after the loop. -/
def after1 : Prog (Eff F) (Σ' (v201 : FVec F S1x256 .f32), FVec F S1x256 .f32) := do
  let m0 ← scoreP arg1 arg2 arg6 arg7 (headLit 6) 2 ⟨6, by decide⟩ ⟨0, by decide⟩ none
  let m1 ← scoreP arg1 arg2 arg6 arg7 (headLit 7) 3 ⟨6, by decide⟩ ⟨0, by decide⟩ none
  pure ⟨m0, m1⟩

/-- The straight-line parts after them. -/
def after2 (w : Σ' (v201 : FVec F S1x256 .f32), FVec F S1x256 .f32) : Prog (Eff F) (Σ' (v2 : IVec S256x256 1) (v1721 : FVec F S80x256 .f32) (v1733 : FVec F S80x256 .f32), FVec F S256x256 .bf16) := do
  let ⟨v201, v211⟩ := w
  let v2 : IVec S256x256 1 := causal
  let ⟨v222, v233, v238⟩ : Σ' (v222 : FVec F S80x256 .f32) (v233 : FVec F S80x256 .f32), FVec F S256x256 .f32 ← k0_part76 i arg1 harg1 arg2 harg2 arg3 harg3 arg4 harg4 arg5 harg5 arg6 harg6 arg7 harg7
  let ⟨v244, v255, v267⟩ : Σ' (v244 : FVec F S1x256 .f32) (v255 : FVec F S1x256 .f32), FVec F S80x256 .f32 ← k0_part77 i arg1 harg1 arg2 harg2 arg3 harg3 arg4 harg4 arg5 harg5 arg6 harg6 arg7 harg7 v201 v211 v222 v238
  let ⟨v279, v290, v295⟩ : Σ' (v279 : FVec F S80x256 .f32) (v290 : FVec F S1x256 .f32), FVec F S256x256 .f32 ← k0_part78 i arg1 harg1 arg2 harg2 arg3 harg3 arg4 harg4 arg5 harg5 arg6 harg6 arg7 harg7 v233 v244
  let ⟨v301, v313, v325⟩ : Σ' (v301 : FVec F S1x256 .f32) (v313 : FVec F S80x256 .f32), FVec F S80x256 .f32 ← k0_part79 i arg1 harg1 arg2 harg2 arg3 harg3 arg4 harg4 arg5 harg5 arg6 harg6 arg7 harg7 v255 v267 v279 v295
  let ⟨v336, v347, v355⟩ : Σ' (v336 : FVec F S1x256 .f32) (v347 : FVec F S1x256 .f32), FVec F S256x256 .bf16 ← k0_part80 i arg1 harg1 arg2 harg2 arg3 harg3 arg4 harg4 arg5 harg5 arg6 harg6 arg7 harg7 v290 v301
  let ⟨v359, v371, v382⟩ : Σ' (v359 : FVec F S80x256 .f32) (v371 : FVec F S80x256 .f32), FVec F S1x256 .f32 ← k0_part81 i arg1 harg1 arg2 harg2 arg3 harg3 arg4 harg4 arg5 harg5 arg6 harg6 arg7 harg7 v313 v325 v336 v355
  let ⟨v393, v405, v413⟩ : Σ' (v393 : FVec F S1x256 .f32) (v405 : FVec F S80x256 .f32), FVec F S256x256 .bf16 ← k0_part82 i arg1 harg1 arg2 harg2 arg3 harg3 arg4 harg4 arg5 harg5 arg6 harg6 arg7 harg7 v347 v359
  let ⟨v417, v428, v439⟩ : Σ' (v417 : FVec F S80x256 .f32) (v428 : FVec F S1x256 .f32), FVec F S1x256 .f32 ← k0_part83 i arg1 harg1 arg2 harg2 arg3 harg3 arg4 harg4 arg5 harg5 arg6 harg6 arg7 harg7 v371 v382 v393 v413
  let ⟨v451, v463, v468, v469⟩ : Σ' (v451 : FVec F S80x256 .f32) (v463 : FVec F S80x256 .f32) (v468 : FVec F S256x256 .f32), FVec F S256x256 .f32 ← k0_part84 i arg1 harg1 arg2 harg2 arg3 harg3 arg4 harg4 arg5 harg5 arg6 harg6 arg7 harg7 v405 v417
  k0_part85 i arg1 harg1 arg2 harg2 arg3 harg3 arg4 harg4 arg5 harg5 arg6 harg6 arg7 harg7 v2 v428 v439 v468 v469
  let ⟨v511, v523, v531⟩ : Σ' (v511 : FVec F S80x256 .f32) (v523 : FVec F S80x256 .f32), FVec F S256x256 .bf16 ← k0_part86 i arg1 harg1 arg2 harg2 arg3 harg3 arg4 harg4 arg5 harg5 arg6 harg6 arg7 harg7 v451 v463
  let ⟨v563, v564⟩ : Σ' (v563 : FVec F S64x256 .f32), Vec F S1x1x64x256 .bf16 ← k0_part87 i arg1 harg1 arg2 harg2 arg3 harg3 arg4 harg4 arg5 harg5 arg6 harg6 arg7 harg7 v511 v523 v531
  let ⟨v581, v591⟩ : Σ' (v581 : FVec F S1x256 .f32), FVec F S1x256 .f32 ← k0_part88 i arg1 harg1 arg2 harg2 arg3 harg3 arg4 harg4 arg5 harg5 arg6 harg6 arg7 harg7 v563 v564
  let ⟨v602, v613, v618⟩ : Σ' (v602 : FVec F S80x256 .f32) (v613 : FVec F S80x256 .f32), FVec F S256x256 .f32 ← k0_part89 i arg1 harg1 arg2 harg2 arg3 harg3 arg4 harg4 arg5 harg5 arg6 harg6 arg7 harg7
  let ⟨v624, v635, v647⟩ : Σ' (v624 : FVec F S1x256 .f32) (v635 : FVec F S1x256 .f32), FVec F S80x256 .f32 ← k0_part90 i arg1 harg1 arg2 harg2 arg3 harg3 arg4 harg4 arg5 harg5 arg6 harg6 arg7 harg7 v581 v591 v602 v618
  let ⟨v659, v670, v675⟩ : Σ' (v659 : FVec F S80x256 .f32) (v670 : FVec F S1x256 .f32), FVec F S256x256 .f32 ← k0_part91 i arg1 harg1 arg2 harg2 arg3 harg3 arg4 harg4 arg5 harg5 arg6 harg6 arg7 harg7 v613 v624
  let ⟨v681, v693, v705⟩ : Σ' (v681 : FVec F S1x256 .f32) (v693 : FVec F S80x256 .f32), FVec F S80x256 .f32 ← k0_part92 i arg1 harg1 arg2 harg2 arg3 harg3 arg4 harg4 arg5 harg5 arg6 harg6 arg7 harg7 v635 v647 v659 v675
  let ⟨v716, v727, v735⟩ : Σ' (v716 : FVec F S1x256 .f32) (v727 : FVec F S1x256 .f32), FVec F S256x256 .bf16 ← k0_part93 i arg1 harg1 arg2 harg2 arg3 harg3 arg4 harg4 arg5 harg5 arg6 harg6 arg7 harg7 v670 v681
  let ⟨v739, v751, v762⟩ : Σ' (v739 : FVec F S80x256 .f32) (v751 : FVec F S80x256 .f32), FVec F S1x256 .f32 ← k0_part94 i arg1 harg1 arg2 harg2 arg3 harg3 arg4 harg4 arg5 harg5 arg6 harg6 arg7 harg7 v693 v705 v716 v735
  let ⟨v773, v785, v793⟩ : Σ' (v773 : FVec F S1x256 .f32) (v785 : FVec F S80x256 .f32), FVec F S256x256 .bf16 ← k0_part95 i arg1 harg1 arg2 harg2 arg3 harg3 arg4 harg4 arg5 harg5 arg6 harg6 arg7 harg7 v727 v739
  let ⟨v797, v820, cst_851⟩ : Σ' (v797 : FVec F S80x256 .f32) (v820 : FVec F S256x256 .f32), F .f32 ← k0_part96 i arg1 harg1 arg2 harg2 arg3 harg3 arg4 harg4 arg5 harg5 arg6 harg6 arg7 harg7 v2 v751 v762 v793
  let ⟨v845, v853⟩ : Σ' (v845 : FVec F S80x256 .f32), FVec F S256x256 .bf16 ← k0_part97 i arg1 harg1 arg2 harg2 arg3 harg3 arg4 harg4 arg5 harg5 arg6 harg6 arg7 harg7 v2 v773 v785 v820 cst_851
  let ⟨v881, v885⟩ : Σ' (v881 : FVec F S80x256 .f32), FVec F S64x256 .f32 ← k0_part98 i arg1 harg1 arg2 harg2 arg3 harg3 arg4 harg4 arg5 harg5 arg6 harg6 arg7 harg7 v797 v845 v853
  let v915 : FVec F S1x256 .f32 ← k0_part99 i arg1 harg1 arg2 harg2 arg3 harg3 arg4 harg4 arg5 harg5 arg6 harg6 arg7 harg7 v881 v885
  let ⟨v925, v936, v944⟩ : Σ' (v925 : FVec F S1x256 .f32) (v936 : FVec F S80x256 .f32), FVec F S256x256 .bf16 ← k0_part100 i arg1 harg1 arg2 harg2 arg3 harg3 arg4 harg4 arg5 harg5 arg6 harg6 arg7 harg7
  let ⟨v947, v958, v969⟩ : Σ' (v947 : FVec F S80x256 .f32) (v958 : FVec F S1x256 .f32), FVec F S1x256 .f32 ← k0_part101 i arg1 harg1 arg2 harg2 arg3 harg3 arg4 harg4 arg5 harg5 arg6 harg6 arg7 harg7 v915 v925 v944
  let ⟨v981, v993, v998⟩ : Σ' (v981 : FVec F S80x256 .f32) (v993 : FVec F S80x256 .f32), FVec F S256x256 .f32 ← k0_part102 i arg1 harg1 arg2 harg2 arg3 harg3 arg4 harg4 arg5 harg5 arg6 harg6 arg7 harg7 v936 v947
  let ⟨v1004, v1015, v1027⟩ : Σ' (v1004 : FVec F S1x256 .f32) (v1015 : FVec F S1x256 .f32), FVec F S80x256 .f32 ← k0_part103 i arg1 harg1 arg2 harg2 arg3 harg3 arg4 harg4 arg5 harg5 arg6 harg6 arg7 harg7 v958 v969 v981 v998
  let ⟨v1039, v1050, v1055⟩ : Σ' (v1039 : FVec F S80x256 .f32) (v1050 : FVec F S1x256 .f32), FVec F S256x256 .f32 ← k0_part104 i arg1 harg1 arg2 harg2 arg3 harg3 arg4 harg4 arg5 harg5 arg6 harg6 arg7 harg7 v993 v1004
  let ⟨v1061, v1073, v1085⟩ : Σ' (v1061 : FVec F S1x256 .f32) (v1073 : FVec F S80x256 .f32), FVec F S80x256 .f32 ← k0_part105 i arg1 harg1 arg2 harg2 arg3 harg3 arg4 harg4 arg5 harg5 arg6 harg6 arg7 harg7 v1015 v1027 v1039 v1055
  let v1115 : FVec F S1x256 .f32 ← k0_part106 i arg1 harg1 arg2 harg2 arg3 harg3 arg4 harg4 arg5 harg5 arg6 harg6 arg7 harg7 v2 v1050
  let ⟨v1133, v1145, v1146⟩ : Σ' (v1133 : FVec F S80x256 .f32) (v1145 : FVec F S80x256 .f32), Vec F S1x256x256 .f32 ← k0_part107 i arg1 harg1 arg2 harg2 arg3 harg3 arg4 harg4 arg5 harg5 arg6 harg6 arg7 harg7 v1061 v1073 v1085 v1115
  let ⟨v1169, v1178, v1179⟩ : Σ' (v1169 : FVec F S80x256 .f32) (v1178 : FVec F S64x256 .bf16), Vec F S1x1x64x256 .bf16 ← k0_part108 i arg1 harg1 arg2 harg2 arg3 harg3 arg4 harg4 arg5 harg5 arg6 harg6 arg7 harg7 v1133 v1145 v1146
  let ⟨v1203, v1205, v1207⟩ : Σ' (v1203 : FVec F S1x256 .f32) (v1205 : FVec F S128x256 .bf16), FVec F S256x128 .bf16 ← k0_part109 i arg1 harg1 arg2 harg2 arg3 harg3 arg4 harg4 arg5 harg5 arg6 harg6 arg7 harg7 v1169 v1178 v1179
  let ⟨v1213, v1224, v1235⟩ : Σ' (v1213 : FVec F S1x256 .f32) (v1224 : FVec F S80x256 .f32), FVec F S80x256 .f32 ← k0_part110 i arg1 harg1 arg2 harg2 arg3 harg3 arg4 harg4 arg5 harg5 arg6 harg6 arg7 harg7 v1205 v1207
  let ⟨v1246, v1257, v1265⟩ : Σ' (v1246 : FVec F S1x256 .f32) (v1257 : FVec F S1x256 .f32), FVec F S256x256 .bf16 ← k0_part111 i arg1 harg1 arg2 harg2 arg3 harg3 arg4 harg4 arg5 harg5 arg6 harg6 arg7 harg7 v1203 v1213
  let ⟨v1269, v1281, v1292⟩ : Σ' (v1269 : FVec F S80x256 .f32) (v1281 : FVec F S80x256 .f32), FVec F S1x256 .f32 ← k0_part112 i arg1 harg1 arg2 harg2 arg3 harg3 arg4 harg4 arg5 harg5 arg6 harg6 arg7 harg7 v1224 v1235 v1246 v1265
  let ⟨v1303, v1315, v1323⟩ : Σ' (v1303 : FVec F S1x256 .f32) (v1315 : FVec F S80x256 .f32), FVec F S256x256 .bf16 ← k0_part113 i arg1 harg1 arg2 harg2 arg3 harg3 arg4 harg4 arg5 harg5 arg6 harg6 arg7 harg7 v1257 v1269
  let ⟨v1327, v1350, cst_1375⟩ : Σ' (v1327 : FVec F S80x256 .f32) (v1350 : FVec F S256x256 .f32), F .f32 ← k0_part114 i arg1 harg1 arg2 harg2 arg3 harg3 arg4 harg4 arg5 harg5 arg6 harg6 arg7 harg7 v2 v1281 v1292 v1323
  let ⟨v1375, v1383⟩ : Σ' (v1375 : FVec F S80x256 .f32), FVec F S256x256 .bf16 ← k0_part115 i arg1 harg1 arg2 harg2 arg3 harg3 arg4 harg4 arg5 harg5 arg6 harg6 arg7 harg7 v2 v1303 v1315 v1350 cst_1375
  let ⟨v1411, v1415⟩ : Σ' (v1411 : FVec F S80x256 .f32), FVec F S64x256 .f32 ← k0_part116 i arg1 harg1 arg2 harg2 arg3 harg3 arg4 harg4 arg5 harg5 arg6 harg6 arg7 harg7 v1327 v1375 v1383
  let v1445 : FVec F S1x256 .f32 ← k0_part117 i arg1 harg1 arg2 harg2 arg3 harg3 arg4 harg4 arg5 harg5 arg6 harg6 arg7 harg7 v1411 v1415
  let ⟨v1455, v1466, v1474⟩ : Σ' (v1455 : FVec F S1x256 .f32) (v1466 : FVec F S80x256 .f32), FVec F S256x256 .bf16 ← k0_part118 i arg1 harg1 arg2 harg2 arg3 harg3 arg4 harg4 arg5 harg5 arg6 harg6 arg7 harg7
  let ⟨v1477, v1488, v1499⟩ : Σ' (v1477 : FVec F S80x256 .f32) (v1488 : FVec F S1x256 .f32), FVec F S1x256 .f32 ← k0_part119 i arg1 harg1 arg2 harg2 arg3 harg3 arg4 harg4 arg5 harg5 arg6 harg6 arg7 harg7 v1445 v1455 v1474
  let ⟨v1511, v1523, v1528, v1529⟩ : Σ' (v1511 : FVec F S80x256 .f32) (v1523 : FVec F S80x256 .f32) (v1528 : FVec F S256x256 .f32), FVec F S256x256 .f32 ← k0_part120 i arg1 harg1 arg2 harg2 arg3 harg3 arg4 harg4 arg5 harg5 arg6 harg6 arg7 harg7 v1466 v1477
  k0_part121 i arg1 harg1 arg2 harg2 arg3 harg3 arg4 harg4 arg5 harg5 arg6 harg6 arg7 harg7 v2 v1488 v1499 v1528 v1529
  let ⟨v1571, v1583, v1591⟩ : Σ' (v1571 : FVec F S80x256 .f32) (v1583 : FVec F S80x256 .f32), FVec F S256x256 .bf16 ← k0_part122 i arg1 harg1 arg2 harg2 arg3 harg3 arg4 harg4 arg5 harg5 arg6 harg6 arg7 harg7 v1511 v1523
  let ⟨v1623, v1624⟩ : Σ' (v1623 : FVec F S64x256 .f32), Vec F S1x1x64x256 .bf16 ← k0_part123 i arg1 harg1 arg2 harg2 arg3 harg3 arg4 harg4 arg5 harg5 arg6 harg6 arg7 harg7 v1571 v1583 v1591
  let ⟨v1641, v1651⟩ : Σ' (v1641 : FVec F S1x256 .f32), FVec F S1x256 .f32 ← k0_part124 i arg1 harg1 arg2 harg2 arg3 harg3 arg4 harg4 arg5 harg5 arg6 harg6 arg7 harg7 v1623 v1624
  let ⟨v1662, v1673, v1678, v1679⟩ : Σ' (v1662 : FVec F S80x256 .f32) (v1673 : FVec F S80x256 .f32) (v1678 : FVec F S256x256 .f32), FVec F S256x256 .f32 ← k0_part125 i arg1 harg1 arg2 harg2 arg3 harg3 arg4 harg4 arg5 harg5 arg6 harg6 arg7 harg7
  k0_part126 i arg1 harg1 arg2 harg2 arg3 harg3 arg4 harg4 arg5 harg5 arg6 harg6 arg7 harg7 v2 v1641 v1651 v1678 v1679
  let ⟨v1721, v1733, v1741⟩ : Σ' (v1721 : FVec F S80x256 .f32) (v1733 : FVec F S80x256 .f32), FVec F S256x256 .bf16 ← k0_part127 i arg1 harg1 arg2 harg2 arg3 harg3 arg4 harg4 arg5 harg5 arg6 harg6 arg7 harg7 v1662 v1673
  pure ⟨v2, v1721, v1733, v1741⟩

/-- The last parts. -/
def after3 (w : Σ' (v2 : IVec S256x256 1) (v1721 : FVec F S80x256 .f32) (v1733 : FVec F S80x256 .f32), FVec F S256x256 .bf16) : Prog (Eff F) PUnit := do
  let ⟨v2, v1721, v1733, v1741⟩ := w
  let ⟨v1773, v1774⟩ : Σ' (v1773 : FVec F S64x256 .f32), Vec F S1x1x64x256 .bf16 ← k0_part128 i arg1 harg1 arg2 harg2 arg3 harg3 arg4 harg4 arg5 harg5 arg6 harg6 arg7 harg7 v1721 v1733 v1741
  let ⟨v1800, v1802⟩ : Σ' (v1800 : FVec F S128x256 .bf16), FVec F S256x128 .bf16 ← k0_part129 i arg1 harg1 arg2 harg2 arg3 harg3 arg4 harg4 arg5 harg5 arg6 harg6 arg7 harg7 v2 v1773 v1774
  let ⟨v1826, v1834⟩ : Σ' (v1826 : FVec F S80x256 .f32), FVec F S256x256 .bf16 ← k0_part130 i arg1 harg1 arg2 harg2 arg3 harg3 arg4 harg4 arg5 harg5 arg6 harg6 arg7 harg7 v2 v1800 v1802
  let ⟨v1861, v1865⟩ : Σ' (v1861 : FVec F S80x256 .f32), FVec F S64x256 .f32 ← k0_part131 i arg1 harg1 arg2 harg2 arg3 harg3 arg4 harg4 arg5 harg5 arg6 harg6 arg7 harg7 v1826 v1834
  let v1896 : FVec F S80x256 .f32 ← k0_part132 i arg1 harg1 arg2 harg2 arg3 harg3 arg4 harg4 arg5 harg5 arg6 harg6 arg7 harg7 v1861 v1865
  let v1928 : FVec F S64x256 .bf16 ← k0_part133 i arg1 harg1 arg2 harg2 arg3 harg3 arg4 harg4 arg5 harg5 arg6 harg6 arg7 harg7 v1896
  have v1931 : FVec F S1x1x64x256 .bf16 := shapeCast S1x1x64x256 v1928 Facts₀.shapeCasts_S64x256_S1x1x64x256
  Prog.lift (.store arg5 (Rect.unit (s := S1x8x64x2048) ![0, 7, 0, 0] S1x1x64x256.size Facts₀.inb_S1x8x64x2048_S1x1x64x256_0_7_0_0) v1931 Finset.univ (View.stores_vmem Facts₀.h_S1x1x64x256 (harg5.storeExact_slice rfl _ Facts₀.packedbf16_S1x8x64x2048_S1x1x64x256_0_7_0_0) (fun _ => rfl)) (.inl rfl))
  pure ⟨⟩

set_option maxRecDepth 100000 in
set_option maxHeartbeats 0 in
theorem body_grouped :
    cc0_fox_attention (F := F) i arg1 harg1 arg2 harg2 arg3 harg3 arg4 harg4 arg5 harg5 arg6 harg6 arg7 harg7
      = (warmP arg1 arg2 arg6 arg7 (headLit 0) 0 ⟨7, by decide⟩ tiles none).bind fun _ =>
        (warmP arg1 arg2 arg6 arg7 (headLit 1) 1 ⟨7, by decide⟩ tiles none).bind fun _ =>
        (((Scf.Loop.for k0_t1_loop Facts₀.k0_t1_ok ⟨⟩
          (k0_t1_body (F := F) i arg1 harg1 arg2 harg2 arg3 harg3 arg4 harg4 arg5 harg5 arg6 harg6 arg7 harg7 causal (constant S8x256 .f32 0x00000000#32))).bind
          fun _ => after1 arg1 arg2 arg6 arg7).bind
          (after2 i arg1 harg1 arg2 harg2 arg3 harg3 arg4 harg4 arg5 harg5 arg6 harg6 arg7 harg7)).bind
          (after3 i arg1 harg1 arg2 harg2 arg3 harg3 arg4 harg4 arg5 harg5 arg6 harg6 arg7 harg7) := by
  rfl

set_option maxRecDepth 100000 in
set_option maxHeartbeats 0 in
theorem after_eq :
    ((after1 (F := F) arg1 arg2 arg6 arg7).bind (after2 i arg1 harg1 arg2 harg2 arg3 harg3 arg4 harg4 arg5 harg5 arg6 harg6 arg7 harg7)).bind
        (after3 i arg1 harg1 arg2 harg2 arg3 harg3 arg4 harg4 arg5 harg5 arg6 harg6 arg7 harg7)
      = chainP arg1 arg2 arg3 arg4 arg5 harg5 arg6 arg7 (jobs (headLit 6) (headLit 7)) none := by
  rfl

theorem body_eq_of :
    cc0_fox_attention (F := F) i arg1 harg1 arg2 harg2 arg3 harg3 arg4 harg4 arg5 harg5 arg6 harg6 arg7 harg7
      = bodyOf arg1 arg2 arg3 arg4 arg5 harg5 arg6 arg7
          (k0_t1_body (F := F) i arg1 harg1 arg2 harg2 arg3 harg3 arg4 harg4 arg5 harg5 arg6 harg6 arg7 harg7 causal (constant S8x256 .f32 0x00000000#32)) := by
  rw [body_grouped]
  refine congrArg (Prog.bind _) (funext fun _ => congrArg (Prog.bind _) (funext fun _ => ?_))
  refine (bind_assoc3 _ _ _ _).trans (congrArg (Prog.bind _) (funext fun _ => ?_))
  exact (after_eq i arg1 harg1 arg2 harg2 arg3 harg3 arg4 harg4 arg5 harg5 arg6 harg6 arg7 harg7)

/-- The body is the schedule. -/
theorem body_eq :
    cc0_fox_attention (F := F) i arg1 harg1 arg2 harg2 arg3 harg3 arg4 harg4 arg5 harg5 arg6 harg6 arg7 harg7
      = bodyOf arg1 arg2 arg3 arg4 arg5 harg5 arg6 arg7 (fun k _ => tripP arg1 arg2 arg3 arg4 arg5 harg5 arg6 arg7 k) :=
  (body_eq_of i arg1 harg1 arg2 harg2 arg3 harg3 arg4 harg4 arg5 harg5 arg6 harg6 arg7 harg7).trans
    (congrArg _ (funext fun k => funext fun _ => trip_eq i arg1 harg1 arg2 harg2 arg3 harg3 arg4 harg4 arg5 harg5 arg6 harg6 arg7 harg7 _ k))

end

end Fox
-- ==== Proof.Run.lean ====
/- The attention kernel's run: what the body leaves at a point, and the launch around it. -/
module

public import proofs.«01_k».proof.Proof.Sweep
public import proofs.«01_k».proof.Proof.SchedBody
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Frame
public import Idealize.ShloMosaic.Lib.ValueIdxCore

@[expose] public section

noncomputable section

namespace Fox

open Cert.KernelIdeal Cert.KernelIdeal.Facts₀ Cert.KernelIdeal.Facts
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

section
variable [Cert.KernelIdeal.Facts]

section
variable (x1 : S1x8x128x2048.Idx → Elt F .bf16) (x2 : S1x8x2048x128.Idx → Elt F .bf16)
  (x3 : S1x8x80x2048.Idx → Elt F .bf16) (x4 : S1x8x64x2048.Idx → Elt F .bf16)

/-! ## The whole result -/

/-- The head, the queries tile and the place in the tile of an index of the result. -/
abbrev hOf (y : S1x8x64x2048.Idx) : Fin 8 := ⟨(y 1).val, (y 1).isLt⟩
abbrev iOf (y : S1x8x64x2048.Idx) : Fin 8 := ⟨(y 3).val / 256, by have h : (y 3).val < 2048 := (y 3).isLt; omega⟩
abbrev inOf (y : S1x8x64x2048.Idx) : S1x1x64x256.Idx :=
  ix4 (n0 := 1) (n1 := 1) (n2 := 64) (n3 := 256) 0 0 ⟨(y 2).val, (y 2).isLt⟩ ⟨(y 3).val % 256, Nat.mod_lt _ (by decide)⟩

theorem emb_inOf (y : S1x8x64x2048.Idx) : (rG (hOf y) (iOf y)).emb (inOf y) = y := by
  funext a
  refine Fin.ext ((unit_emb_val (inb_g (hOf y) (iOf y)) (inOf y) a).trans ?_)
  match a with
  | ⟨0, _⟩ => have h : (y 0).val < 1 := (y 0).isLt; show 0 + 0 = (y 0).val; omega
  | ⟨1, _⟩ => show (y 1).val + 0 = (y 1).val; omega
  | ⟨2, _⟩ => show 0 + (y 2).val = (y 2).val; omega
  | ⟨3, _⟩ => show 256 * ((y 3).val / 256) + (y 3).val % 256 = (y 3).val; omega

/-- The result of a point, from its blocks. -/
def outY : S1x8x64x2048.Idx → Elt F .bf16 := fun y => outT x1 x2 x3 x4 (hOf y) (iOf y) (inOf y)

theorem y_of_done (σ : St F) (h : Done x1 x2 x3 x4 (fun _ _ => True) σ) : σ.y = outY x1 x2 x3 x4 := funext fun y => by
  have := congrFun (h (hOf y) (iOf y) trivial) (inOf y)
  unfold yAt at this
  rw [emb_inOf] at this
  exact this
end

/-! ## The body -/

theorem headLit_h (n : Fin 8) : (headLit n).h = n := rfl

theorem jobs_outs (O0 O1 : Head) (h i : Fin 8) (hh : h = O0.h ∨ h = O1.h) : ∃ k ∈ jobs O0 O1, k.outs h i := by
  have : ∃ k ∈ jobs O0 O1, k.i = i ∧ k.o0 = O0 ∧ k.o1 = O1 := by
    unfold jobs
    fin_cases i <;> simp
  obtain ⟨k, hk, hi, h0, h1⟩ := this
  exact ⟨k, hk, by rw [h0, h1]; exact hh, hi.symm⟩

local notation "𝕄" => MT nD τ sig Unit (Elt F) ℕ (UR sig nD τ) ℕ

section Tr
variable (𝒱 : Variants) (c : Dev nD) (bd : Option 𝒱.V) (E : Set ℕ)
  (arg1 : Memref sig .tc .vmem S1x8x128x2048 .bf16) (harg1 : arg1.IsWhole)
  (arg2 : Memref sig .tc .vmem S1x8x2048x128 .bf16) (harg2 : arg2.IsWhole)
  (arg3 : Memref sig .tc .vmem S1x8x80x2048 .bf16) (harg3 : arg3.IsWhole)
  (arg4 : Memref sig .tc .vmem S1x8x64x2048 .bf16) (harg4 : arg4.IsWhole)
  (arg5 : Memref sig .tc .vmem S1x8x64x2048 .bf16) (harg5 : arg5.IsWhole)
  (arg6 : Memref sig .tc .vmem S4x2048x256 .f32) (harg6 : arg6.IsWhole)
  (arg7 : Memref sig .tc .vmem S4x8x256 .f32) (harg7 : arg7.IsWhole)
  (x1 : S1x8x128x2048.Idx → Elt F .bf16) (x2 : S1x8x2048x128.Idx → Elt F .bf16)
  (x3 : S1x8x80x2048.Idx → Elt F .bf16) (x4 : S1x8x64x2048.Idx → Elt F .bf16)

local notation "TR" => Tr 𝒱 c bd E arg1 arg2 arg3 arg4 arg5 arg6 arg7 x1 x2 x3 x4

/-- Before trip `k`: heads `2k` and `2k+1` scored at their last block, all earlier heads done. -/
def Inv (k : ℕ) (σ : St F) : Prop :=
  (Part x1 x2 0 (tl (2 * k)) 7 8 σ ∧ Part x1 x2 1 (tl (2 * k + 1)) 7 8 σ) ∧ Done x1 x2 x3 x4 (fun h _ => h.val < 2 * k) σ

theorem alt_jobs (O0 O1 : Head) (nxt : Option Job) (h : ∀ n, nxt = some n → n.slot = false) : Alt (jobs O0 O1) nxt := by
  unfold jobs
  exact ⟨rfl, rfl, rfl, rfl, rfl, rfl, rfl, fun n hn => h n hn⟩

theorem jobs_cons (O0 O1 : Head) : ∃ j js, jobs O0 O1 = j :: js ∧ j.o0 = O0 ∧ j.o1 = O1 ∧ j.i = 7 ∧ j.slot = false :=
  ⟨_, _, rfl, rfl, rfl, rfl, rfl⟩

/-- A pair of heads from its last block down. -/
theorem pair_tr (O0 O1 : Head) (nxt : Option Job) (h : ∀ n, nxt = some n → n.slot = false) (D : Fin 8 → Fin 8 → Prop) :
    TR (fun σ => (Part x1 x2 0 O0.h 7 8 σ ∧ Part x1 x2 1 O1.h 7 8 σ) ∧ Done x1 x2 x3 x4 D σ)
      (chainP arg1 arg2 arg3 arg4 arg5 harg5 arg6 arg7 (jobs O0 O1) nxt)
      (fun _ σ => NxtPart x1 x2 nxt 8 σ ∧ Done x1 x2 x3 x4 (fun h i => D h i ∨ h = O0.h ∨ h = O1.h) σ) := by
  have ha := alt_jobs O0 O1 nxt h
  have ho := jobs_outs O0 O1
  obtain ⟨j, js, e, h0, h1, hi, hs⟩ := jobs_cons O0 O1
  rw [e] at ha ho ⊢
  refine Tr.post 𝒱 c bd E _ _ _ _ _ _ _ _ _ _ _ (Tr.pre 𝒱 c bd E _ _ _ _ _ _ _ _ _ _ _
    (chainP_tr 𝒱 c bd E arg1 arg2 arg3 arg4 arg5 harg5 arg6 arg7 x1 x2 x3 x4 nxt js j ha D) ?_) ?_
  · rintro σ ⟨hp, hd⟩
    refine ⟨?_, hd⟩
    unfold JobPart
    rw [h0, h1, hi, hs]
    exact hp
  · rintro _ σ ⟨hn, hd⟩
    refine ⟨hn, fun h i hD => hd h i ?_⟩
    rcases hD with hD | hD
    · exact .inl hD
    · exact .inr (ho h i hD)

theorem body_tr :
    TR (fun _ => True) (bodyOf arg1 arg2 arg3 arg4 arg5 harg5 arg6 arg7 (fun k _ => tripP arg1 arg2 arg3 arg4 arg5 harg5 arg6 arg7 k))
      (fun _ σ => σ.y = outY x1 x2 x3 x4) := by
  unfold bodyOf
  have e0 : (none : Option (FVec F S1x256 .f32)) = regM x1 x2 (headLit 0).h ⟨7, by decide⟩ 0 := (regM_zero x1 x2 _ _).symm
  have e1 : (none : Option (FVec F S1x256 .f32)) = regM x1 x2 (headLit 1).h ⟨7, by decide⟩ 0 := (regM_zero x1 x2 _ _).symm
  have w0 := warmP_tr 𝒱 c bd E arg1 arg2 arg3 arg4 arg5 arg6 arg7 x1 x2 x3 x4 (headLit 0) 0 ⟨7, by decide⟩ rfl
    (fun _ => True) (Keeps.true 0) tiles 0 asc_tiles
  have w1 := warmP_tr 𝒱 c bd E arg1 arg2 arg3 arg4 arg5 arg6 arg7 x1 x2 x3 x4 (headLit 1) 1 ⟨7, by decide⟩ rfl
    (Part x1 x2 0 0 7 8) (Part.keeps x1 x2 (by decide) 0 7 8) tiles 0 asc_tiles
  rw [← e0] at w0
  rw [← e1] at w1
  have trips : k0_t1_loop.trips = 3 := by decide +kernel
  refine Tr.bind 𝒱 c bd E _ _ _ _ _ _ _ _ _ _ _ (Tr.pre 𝒱 c bd E _ _ _ _ _ _ _ _ _ _ _ w0 fun σ _ => ⟨Part.zero x1 x2 _ _ _ σ, trivial⟩) fun _ => ?_
  refine Tr.bind 𝒱 c bd E _ _ _ _ _ _ _ _ _ _ _ (Tr.pre 𝒱 c bd E _ _ _ _ _ _ _ _ _ _ _ w1 fun σ h => ⟨Part.zero x1 x2 _ _ _ σ, h.1⟩) fun _ => ?_
  refine Tr.bind 𝒱 c bd E _ _ _ _ _ _ _ _ _ _ _ (Tr.pre 𝒱 c bd E _ _ _ _ _ _ _ _ _ _ _
    (Tr.loop 𝒱 c bd E arg1 arg2 arg3 arg4 arg5 arg6 arg7 x1 x2 x3 x4 k0_t1_loop Facts₀.k0_t1_ok _ (Inv x1 x2 x3 x4) fun k => ?_)
    fun σ h => ⟨⟨h.2, h.1⟩, fun _ _ hlt => absurd hlt (Nat.not_lt_zero _)⟩) fun _ => ?_
  · have hk := trips_le k
    have c0 : (headCur k 0).h = tl (2 * k.val) := Fin.ext (by show 2 * k.val + 0 = 2 * k.val % 8; omega)
    have c1 : (headCur k 1).h = tl (2 * k.val + 1) := Fin.ext (by show 2 * k.val + 1 = (2 * k.val + 1) % 8; omega)
    have n0 : (headNxt k 0).h = tl (2 * (k.val + 1)) := Fin.ext (by show 2 * k.val + 0 + 2 = 2 * (k.val + 1) % 8; omega)
    have n1 : (headNxt k 1).h = tl (2 * (k.val + 1) + 1) := Fin.ext (by show 2 * k.val + 1 + 2 = (2 * (k.val + 1) + 1) % 8; omega)
    have p := pair_tr 𝒱 c bd E arg1 arg2 arg3 arg4 arg5 harg5 arg6 arg7 x1 x2 x3 x4 (headCur k 0) (headCur k 1)
      (some ⟨headNxt k 0, headNxt k 1, ⟨7, by decide⟩, false⟩) (fun n hn => by cases hn; rfl) (fun h _ => h.val < 2 * k.val)
    rw [c0, c1] at p
    refine Tr.post 𝒱 c bd E _ _ _ _ _ _ _ _ _ _ _ p ?_
    rintro _ σ ⟨hn, hd⟩
    have hn := hn _ rfl
    unfold JobPart at hn
    simp only [n0, n1] at hn
    refine ⟨hn, fun h i hlt => hd h i ?_⟩
    by_cases hl : h.val < 2 * k.val
    · exact .inl hl
    · refine .inr ?_
      by_cases he : h.val = 2 * k.val
      · exact .inl (Fin.ext (by show h.val = 2 * k.val % 8; omega))
      · exact .inr (Fin.ext (by show h.val = (2 * k.val + 1) % 8; omega))
  · have p := pair_tr 𝒱 c bd E arg1 arg2 arg3 arg4 arg5 harg5 arg6 arg7 x1 x2 x3 x4 (headLit 6) (headLit 7)
      none (fun n hn => by cases hn) (fun h _ => h.val < 2 * 3)
    rw [trips]
    refine Tr.post 𝒱 c bd E _ _ _ _ _ _ _ _ _ _ _ p ?_
    rintro _ σ ⟨-, hd⟩
    refine y_of_done x1 x2 x3 x4 σ fun h i _ => hd h i ?_
    have := h.isLt
    by_cases hl : h.val < 2 * 3
    · exact .inl hl
    · refine .inr ?_
      by_cases he : h.val = 6
      · exact .inl (Fin.ext he)
      · exact .inr (Fin.ext (by show h.val = 7; omega))

end Tr
end

end Fox
-- ==== Proof.Around.lean ====
/- The launch: the proof data of the pipeline, the body at a point, and the run of the whole program. -/
module

public import proofs.«01_k».proof.Proof.Run

@[expose] public section

set_option maxRecDepth 16384

noncomputable section

namespace Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body leaves at point `t`. -/
abbrev outAt (c : Dev nD) (t : Fin cfg0.N) : S1x8x64x2048.Idx → Elt F .bf16 :=
  outY (iblk m c 0 t) (iblk m c 1 t) (iblk m c 2 t) (iblk m c 3 t)

/-- The proof data: each array as the region finds it, each block left in place, the result's block computed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q _ := fullShare
  owed _ := 0

theorem A_eq (c : Dev nD) (w : Fin cfg0.W) : (dats m 0 c).A w = V m c (Pipeline.arrRef spec0 w) := by dsimp only [dats]
theorem aft0 (c : Dev nD) (t : Fin cfg0.N) : (dats m 0 c).after 0 t = iblk m c 0 t := by dsimp only [dats]
theorem aft1 (c : Dev nD) (t : Fin cfg0.N) : (dats m 0 c).after 1 t = iblk m c 1 t := by dsimp only [dats]
theorem aft2 (c : Dev nD) (t : Fin cfg0.N) : (dats m 0 c).after 2 t = iblk m c 2 t := by dsimp only [dats]
theorem aft3 (c : Dev nD) (t : Fin cfg0.N) : (dats m 0 c).after 3 t = iblk m c 3 t := by dsimp only [dats]
theorem aft4 (c : Dev nD) (t : Fin cfg0.N) : (dats m 0 c).after 4 t = outAt m c t := by dsimp only [dats]
theorem bef0 (c : Dev nD) (t : Fin cfg0.N) (d) : (dats m 0 c).before 0 t d = iblk m c 0 t := before0_0_of m (dats m 0 c) (A_eq m c 0) (aft0 m c) t d
theorem bef1 (c : Dev nD) (t : Fin cfg0.N) (d) : (dats m 0 c).before 1 t d = iblk m c 1 t := before0_1_of m (dats m 0 c) (A_eq m c 1) (aft1 m c) t d
theorem bef2 (c : Dev nD) (t : Fin cfg0.N) (d) : (dats m 0 c).before 2 t d = iblk m c 2 t := before0_2_of m (dats m 0 c) (A_eq m c 2) (aft2 m c) t d
theorem bef3 (c : Dev nD) (t : Fin cfg0.N) (d) : (dats m 0 c).before 3 t d = iblk m c 3 t := before0_3_of m (dats m 0 c) (A_eq m c 3) (aft3 m c) t d

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Pipeline.ΦA spec0 c from rfl,
    show (dats m 0 c).owesAt () t.succ = (dats m 0 c).owesAt () t.castSucc from rfl,
    show (dats m 0 c).Φ t.castSucc = Pipeline.ΦA spec0 c from rfl]
  unfold Pipeline.ΦA
  rw [scopedRest0_eq]
  simp only [bef0, bef1, bef2, bef3]
  rw [aft0, aft1, aft2, aft3, aft4, body_eq]
  iintro ⟨⟨⟨⟨%f6, H6⟩, ⟨%f7, H7⟩⟩, Hg⟩, HO, ⟨%d0, H0⟩, ⟨%d1, H1⟩, ⟨%d2, H2⟩, ⟨%d3, H3⟩, ⟨%d4, H4⟩⟩
  have h := body_tr Variants.none c none Set.univ (win0_0.stage (cfg0.slots t 0)) (win0_1.stage (cfg0.slots t 1)) (win0_2.stage (cfg0.slots t 2)) (win0_3.stage (cfg0.slots t 3))
    (win0_4.stage (cfg0.slots t 4)) ((hstage0_4 ((cfg0.slots t 4).cast nbuf0_4)) : (win0_4.stage (cfg0.slots t 4)).IsWhole)
    (Memref.whole cc0_scratch0) (Memref.whole cc0_scratch1) (iblk m c 0 t) (iblk m c 1 t) (iblk m c 2 t) (iblk m c 3 t)
    ⟨(dats m 0 c).before 4 t d4, f6, f7⟩ trivial
  iapply (wp_wand_r (frame) (wpE (defs₀ (F := F)) Variants.none c none) Set.univ)
  isplitl [H0 H1 H2 H3 H4 H6 H7]
  · iapply h
    unfold Held
    rw [owns_whole, owns_whole]
    isplitl [H0]; · iexact H0
    isplitl [H1]; · iexact H1
    isplitl [H2]; · iexact H2
    isplitl [H3]; · iexact H3
    isplitl [H4]; · iexact H4
    isplitl [H6]; · iexact H6
    iexact H7
  · iintro %_ ⟨%σ', %hy, H⟩
    unfold Held
    rw [owns_whole, owns_whole, hy]
    icases H with ⟨H0, H1, H2, H3, H4, H6, H7⟩
    isplitl [H6 H7 Hg]
    · isplitl [H6 H7]
      · isplitl [H6]
        · iexists _; iexact H6
        · iexists _; iexact H7
      · iexact Hg
    isplitl [HO]; · iexact HO
    isplitl [H0]; · iexact H0
    isplitl [H1]; · iexact H1
    isplitl [H2]; · iexact H2
    isplitl [H3]; · iexact H3
    iexact H4

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole run: every array as the pipeline leaves it, every counter at zero. -/
theorem run_main :
    θ_run defs (onTc (τ := τ) (main (F := F))) (s₀ m ρ)
      (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) sfx_sub sfx_fresh sfx_keeps (hmain := hmain m Variants.none) (hA := A_eq m)
    (hΦ := fun _ _ => rfl)

end Fox
-- ==== Proof.Soft.lean ====
/- The softmax identity behind the kernel, over the extended reals: powers of two of scores scaled by 1/log 2, divided once
   at the end, against exponentials divided before the weighted sum; and the gate written with a hyperbolic tangent. -/
module

public import Idealize.ShloMosaic.PureOps.Ideal.Laws
public import Mathlib.Analysis.SpecialFunctions.Pow.Real
public import Mathlib.Analysis.SpecialFunctions.Trigonometric.DerivHyp

@[expose] public section

noncomputable section

namespace Fox

open Idealize.ShloMosaic
open scoped BigOperators

/-- The base-two logarithm of `e`. -/
def lam : ℝ := 1 / Real.log 2

theorem lam_pos : 0 < lam := one_div_pos.mpr (Real.log_pos (by norm_num))

/-- A factor that is a nonnegative real moves into a sum of extended reals. -/
theorem sum_mul_real {n : ℕ} (f : Fin n → EReal) (r : ℝ) (hr : 0 ≤ r) :
    (∑ s, f s) * (r : EReal) = ∑ s, f s * (r : EReal) := by
  have key : ∀ S : Finset (Fin n), (∑ s ∈ S, f s) * (r : EReal) = ∑ s ∈ S, f s * (r : EReal) := by
    intro S
    induction S using Finset.induction_on with
    | empty => simp
    | insert a S ha ih =>
      rw [Finset.sum_insert ha, Finset.sum_insert ha, ← ih]
      exact EReal.right_distrib_of_nonneg_of_ne_top (EReal.coe_nonneg.mpr hr) (EReal.coe_ne_top r) _ _
  exact key Finset.univ

/-- The maximum of scores, some of them masked, is the largest that is not. -/
theorem fold_max_masked {n : ℕ} (x : Fin n → ℝ) (p : Fin n → Prop) [DecidablePred p] (i : Fin n) (hi : p i)
    (hmax : ∀ s, p s → x s ≤ x i) :
    (Finset.univ : Finset (Fin n)).fold max (⊥ : EReal) (fun s => if p s then (x s : EReal) else ⊥) = (x i : EReal) := by
  apply le_antisymm
  · rw [Finset.fold_max_le]
    refine ⟨bot_le, fun s _ => ?_⟩
    by_cases h : p s
    · rw [if_pos h]; exact EReal.coe_le_coe_iff.mpr (hmax s h)
    · rw [if_neg h]; exact bot_le
  · rw [Finset.le_fold_max]
    exact .inr ⟨i, Finset.mem_univ i, by rw [if_pos hi]⟩

theorem exp2_lam (y : ℝ) : Real.rpow 2 (lam * y) = Real.exp y := by
  show (2 : ℝ) ^ (lam * y) = _
  rw [Real.rpow_def_of_pos (by norm_num)]
  congr 1
  unfold lam
  have : Real.log 2 ≠ 0 := (Real.log_pos (by norm_num)).ne'
  field_simp

theorem coe_sum {n : ℕ} (f : Fin n → ℝ) : (∑ s, (f s : EReal)) = ((∑ s, f s : ℝ) : EReal) := by
  have key : ∀ S : Finset (Fin n), (∑ s ∈ S, (f s : EReal)) = ((∑ s ∈ S, f s : ℝ) : EReal) := by
    intro S
    induction S using Finset.induction_on with
    | empty => simp
    | insert a S ha ih => rw [Finset.sum_insert ha, Finset.sum_insert ha, ih, EReal.coe_add]
  exact key Finset.univ

/-- The two softmaxes. -/
theorem soft {n : ℕ} (x : Fin n → ℝ) (p : Fin n → Prop) [DecidablePred p] (t : Fin n) (ht : p t) (v a b : Fin n → EReal)
    (ha : ∀ s, a s = if p s then (x s : EReal) else ⊥) (hb : ∀ s, b s = if p s then ((lam * x s : ℝ) : EReal) else ⊥) :
    Ideal.div (∑ s, v s * Ideal.exp2 (b s - Finset.univ.fold max ⊥ b)) (∑ s, Ideal.exp2 (b s - Finset.univ.fold max ⊥ b))
      = ∑ s, v s * Ideal.div (Ideal.exp (a s - Finset.univ.fold max ⊥ a)) (∑ s, Ideal.exp (a s - Finset.univ.fold max ⊥ a)) := by
  obtain ⟨i, hi, hmax⟩ := Finset.exists_max_image (Finset.univ.filter p) x ⟨t, by simpa using ht⟩
  have hi' : p i := by simpa using hi
  have hmax' : ∀ s, p s → x s ≤ x i := fun s hs => hmax s (by simpa using hs)
  have ea : Finset.univ.fold max ⊥ a = (x i : EReal) := by rw [funext ha]; exact fold_max_masked x p i hi' hmax'
  have eb : Finset.univ.fold max ⊥ b = ((lam * x i : ℝ) : EReal) := by
    rw [funext hb]
    exact fold_max_masked (fun s => lam * x s) p i hi' fun s hs => mul_le_mul_of_nonneg_left (hmax' s hs) lam_pos.le
  let e : Fin n → ℝ := fun s => if p s then Real.exp (x s - x i) else 0
  have ee : ∀ s, Ideal.exp (a s - Finset.univ.fold max ⊥ a) = (e s : EReal) := fun s => by
    rw [ea, ha]
    by_cases h : p s
    · rw [if_pos h]; simp only [e, if_pos h]; rw [← EReal.coe_sub, Ideal.exp_coe]
    · rw [if_neg h]; simp only [e, if_neg h]; rw [EReal.bot_sub, Ideal.exp_bot]; rfl
  have ee2 : ∀ s, Ideal.exp2 (b s - Finset.univ.fold max ⊥ b) = (e s : EReal) := fun s => by
    rw [eb, hb]
    by_cases h : p s
    · rw [if_pos h]; simp only [e, if_pos h]; rw [← EReal.coe_sub, Ideal.exp2_coe, ← mul_sub, exp2_lam]
    · rw [if_neg h]; simp only [e, if_neg h]; rw [EReal.bot_sub, Ideal.exp2_bot]; rfl
  have hL : 0 < ∑ s, e s := by
    refine Finset.sum_pos' (fun s _ => ?_) ⟨i, Finset.mem_univ i, ?_⟩
    · simp only [e]; split
      · exact (Real.exp_pos _).le
      · exact le_rfl
    · simp only [e, if_pos hi']; exact Real.exp_pos _
  simp only [ee, ee2]
  rw [coe_sum, Ideal.div_coe hL.ne', sum_mul_real _ _ (one_div_pos.mpr hL).le]
  refine Finset.sum_congr rfl fun s _ => ?_
  rw [Ideal.div_coe hL.ne', mul_assoc]

/-- The gate: half of `x` times one plus the tangent of that half is `x` times the logistic function of `x`. -/
theorem gate (x : EReal) (hx : ⊥ < x) :
    (((1 / 2 : ℝ) : EReal) * x) * Ideal.tanh (((1 / 2 : ℝ) : EReal) * x) + ((1 / 2 : ℝ) : EReal) * x
      = x * Ideal.div 1 (1 + Ideal.exp (-x)) := by
  induction x with
  | bot => exact absurd hx (lt_irrefl _)
  | top =>
    rw [EReal.coe_mul_top_of_pos (by norm_num), Ideal.tanh_top, EReal.neg_top, Ideal.exp_bot, add_zero, mul_one]
    have : Ideal.div 1 1 = 1 := by
      have h := Ideal.div_coe (y := 1) one_ne_zero 1
      simpa using h
    rw [this, mul_one]; rfl
  | coe r =>
    rw [← EReal.coe_mul, Ideal.tanh_coe, ← EReal.coe_mul, ← EReal.coe_add, ← EReal.coe_neg, Ideal.exp_coe]
    have h1 : (1 : EReal) + ((Real.exp (-r) : ℝ) : EReal) = ((1 + Real.exp (-r) : ℝ) : EReal) := by rw [EReal.coe_add]; rfl
    have hp : 0 < 1 + Real.exp (-r) := by positivity
    rw [h1, Ideal.div_coe hp.ne', one_mul, ← EReal.coe_mul]
    congr 1
    rw [Real.tanh_eq_sinh_div_cosh, Real.sinh_eq, Real.cosh_eq]
    have e1 : Real.exp (-r) = Real.exp (-(1 / 2 * r)) * Real.exp (-(1 / 2 * r)) := by rw [← Real.exp_add]; congr 1; ring
    have e2 : Real.exp (1 / 2 * r) * Real.exp (-(1 / 2 * r)) = 1 := by rw [← Real.exp_add]; simp
    rw [e1]
    set A := Real.exp (1 / 2 * r) with hA
    set B := Real.exp (-(1 / 2 * r)) with hB
    have pA : 0 < A := Real.exp_pos _
    have pB : 0 < B := Real.exp_pos _
    have eA : A = 1 / B := by field_simp; linarith
    rw [eA]
    field_simp
    ring

/-- A small natural number is its own signed word. -/
theorem toInt_small (n : ℕ) (h : n < 2147483648) : (BitVec.ofNat 32 n).toInt = (n : Int) := by
  have e : (BitVec.ofNat 32 n).toNat = n := by rw [BitVec.toNat_ofNat]; exact Nat.mod_eq_of_lt (by omega)
  rw [BitVec.toInt_eq_toNat_of_lt (by rw [e]; omega), e]

/-- Comparing small words compares the numbers. -/
theorem sle_small (a b : ℕ) (ha : a < 2147483648) (hb : b < 2147483648) :
    IntOp.cmpi .sle (BitVec.ofNat 32 a) (BitVec.ofNat 32 b) = if a ≤ b then 1#1 else 0#1 := by
  by_cases h : a ≤ b <;> simp [IntOp.cmpi, BitVec.sle, toInt_small a ha, toInt_small b hb, h]

theorem slt_small (a b : ℕ) (ha : a < 2147483648) (hb : b < 2147483648) :
    IntOp.cmpi .slt (BitVec.ofNat 32 a) (BitVec.ofNat 32 b) = if a < b then 1#1 else 0#1 := by
  by_cases h : a < b <;> simp [IntOp.cmpi, BitVec.slt, toInt_small a ha, toInt_small b hb, h]

theorem eq_small (a b : ℕ) (ha : a < 4294967296) (hb : b < 4294967296) :
    IntOp.cmpi .eq (BitVec.ofNat 32 a) (BitVec.ofNat 32 b) = if a = b then 1#1 else 0#1 := by
  have ea : (BitVec.ofNat 32 a).toNat = a := by rw [BitVec.toNat_ofNat]; exact Nat.mod_eq_of_lt (by omega)
  have eb : (BitVec.ofNat 32 b).toNat = b := by rw [BitVec.toNat_ofNat]; exact Nat.mod_eq_of_lt (by omega)
  by_cases h : a = b
  · subst h; simp [IntOp.cmpi]
  · have : BitVec.ofNat 32 a ≠ BitVec.ofNat 32 b := fun e => h (by rw [← ea, ← eb, e])
    simp only [IntOp.cmpi, if_neg h, beq_eq_false_iff_ne.mpr this]; rfl

end Fox
-- ==== Proof.RefVal.lean ====
/- The reference result, read at an index: its scores, its row maximum, its exponentials, its weighted sum and its gate. -/
module

public import proofs.«01_k».proof.Proof.Gen.ReferenceIdeal.Run
public import proofs.«01_k».proof.Proof.Soft
public import Idealize.ShloMosaic.Lib.Pointwise
public import Idealize.ShloMosaic.Lib.IdealHost
public import Idealize.ShloMosaic.Lib.KernelVsHost

@[expose] public section

set_option maxRecDepth 16384

noncomputable section

namespace Fox.Ref

open Cert.ReferenceIdeal Cert.ReferenceIdeal.Gen Cert.ReferenceIdeal.Value
open Idealize.ShloMosaic Idealize.ShloMosaic.TcCoe Idealize.ShloMosaic.StableHlo

/-- The running sum of the log forget gates along the sequence. -/
def cum (lf : FVec Ideal S16x2048x8 .f32) : FVec Ideal S16x2048x8 .f32 :=
  Host.reduceWindowAdd ![1, 2048, 1] ![1, 1, 1] ![0, 2047, 0] ![0, 0, 0] lf
    (broadcastInDim S_ ![] bcast_S_S_ (constant S_ .f32 0x00000000#32))
    reduceWindows_S16x2048x8_S16x2048x8_w1s1p0_0_w2048s1p2047_0_w1s1p0_0 h_S_

/-- The masked scores. -/
def score (q k : FVec Ideal S16x2048x8x64 .f32) (cu : FVec Ideal S16x2048x8 .f32) : FVec Ideal S16x8x2048x2048 .f32 :=
  select (broadcastInDim S16x8x2048x2048 ![2, 3] bcast_S2048x2048_S16x8x2048x2048_2_3
      (cmpi .sle (broadcastInDim S2048x2048 ![0, 1] bcast_S1x2048_S2048x2048_0_1
          (broadcastInDim S1x2048 ![1] bcast_S2048_S1x2048_1 (iotaInDim S2048 32 0)))
        (broadcastInDim S2048x2048 ![0, 1] bcast_S2048x1_S2048x2048_0_1
          (broadcastInDim S2048x1 ![0] bcast_S2048_S2048x1_0 (iotaInDim S2048 32 0)))))
    (addf (mulf (Host.dotGeneral dot_S16x2048x8x64_S16x2048x8x64_S16x8x2048x2048_3_3_1_1_02_02 none q k)
        (broadcastInDim S16x8x2048x2048 ![] bcast_S_S16x8x2048x2048 (constant S_ .f32 0x3E000000#32)))
      (subf (broadcastInDim S16x8x2048x2048 ![0, 1, 2, 3] bcast_S16x8x2048x1_S16x8x2048x2048_0_1_2_3
          (broadcastInDim S16x8x2048x1 ![0, 1, 2] bcast_S16x8x2048_S16x8x2048x1_0_1_2
            (transpose S16x8x2048 [0, 2, 1] cu transposes_S16x2048x8_S16x8x2048_0_2_1)))
        (broadcastInDim S16x8x2048x2048 ![0, 1, 2, 3] bcast_S16x8x1x2048_S16x8x2048x2048_0_1_2_3
          (broadcastInDim S16x8x1x2048 ![0, 1, 3] bcast_S16x8x2048_S16x8x1x2048_0_1_3
            (transpose S16x8x2048 [0, 2, 1] cu transposes_S16x2048x8_S16x8x2048_0_2_1)))))
    (broadcastInDim S16x8x2048x2048 ![] bcast_S_S16x8x2048x2048 (id (constant S_ .f32 0xFF800000#32)))

/-- The row maxima. -/
def rowTop (s : FVec Ideal S16x8x2048x2048 .f32) : FVec Ideal S16x8x2048 .f32 :=
  Host.reduce FloatOps.maximumf s (constant S_ .f32 0xFF800000#32) reducesTo_S16x8x2048x2048_S16x8x2048_d3 h_S_

/-- The row maxima, no less than −∞. -/
def top (r : FVec Ideal S16x8x2048 .f32) : FVec Ideal S16x8x2048 .f32 :=
  maximumf (broadcastInDim S16x8x2048 ![] bcast_S_S16x8x2048 (constant S_ .f32 0xFF800000#32)) r

/-- One value per row, spread along the row. -/
def along (r : FVec Ideal S16x8x2048 .f32) : FVec Ideal S16x8x2048x2048 .f32 :=
  broadcastInDim S16x8x2048x2048 ![0, 1, 2, 3] bcast_S16x8x2048x1_S16x8x2048x2048_0_1_2_3
    (broadcastInDim S16x8x2048x1 ![0, 1, 2] bcast_S16x8x2048_S16x8x2048x1_0_1_2 r)

/-- The exponentials of the scores less their row's maximum. -/
def expo (s : FVec Ideal S16x8x2048x2048 .f32) : FVec Ideal S16x8x2048x2048 .f32 :=
  Host.exp (subf s (along (top (rowTop s))))

/-- The exponentials over their row's sum. -/
def prob (e : FVec Ideal S16x8x2048x2048 .f32) : FVec Ideal S16x8x2048x2048 .f32 :=
  Host.divf e (broadcastInDim S16x8x2048x2048 ![0, 1, 2, 3] bcast_S16x8x2048x1_S16x8x2048x2048_0_1_2_3
    (broadcastInDim S16x8x2048x1 ![0, 1, 2] bcast_S16x8x2048_S16x8x2048x1_0_1_2
      (Host.reduceAdd e (constant S_ .f32 0x00000000#32) reducesTo_S16x8x2048x2048_S16x8x2048_d3 h_S_)))

/-- The weighted sums of the values, heads side by side. -/
def mix (v : FVec Ideal S16x2048x8x64 .f32) (p : FVec Ideal S16x8x2048x2048 .f32) : FVec Ideal S16x2048x512 .f32 :=
  shapeCast _ (transpose S16x2048x8x64 [0, 3, 1, 2]
    (Host.dotGeneral dot_S16x2048x8x64_S16x8x2048x2048_S16x8x64x2048_1_3_3_2_02_01 none v p)
    transposes_S16x8x64x2048_S16x2048x8x64_0_3_1_2) shapeCasts_S16x2048x8x64_S16x2048x512

/-- The gate. -/
def gated (a z : FVec Ideal S16x2048x512 .f32) : FVec Ideal S16x2048x512 .f32 :=
  mulf a (mulf z (Host.divf (broadcastInDim S16x2048x512 ![] bcast_S_S16x2048x512 (constant S_ .f32 0x3F800000#32))
    (addf (broadcastInDim S16x2048x512 ![] bcast_S_S16x2048x512 (constant S_ .f32 0x3F800000#32)) (Host.exp (Host.negf z)))))

theorem res_eq (m : (ℓ : Loc nD τ sig) → Buf (Elt Ideal) ℓ) (c : Dev nD) :
    res_main_v34 m c = gated (mix (m ((c.tc : Thread nD τ).loc main_arg2))
      (prob (expo (score (m ((c.tc : Thread nD τ).loc main_arg0)) (m ((c.tc : Thread nD τ).loc main_arg1))
        (cum (m ((c.tc : Thread nD τ).loc main_arg3))))))) (m ((c.tc : Thread nD τ).loc main_arg4)) := by
  unfold res_main_v34; rfl

variable (q k v : FVec Ideal S16x2048x8x64 .f32) (cu : FVec Ideal S16x2048x8 .f32) (s e p : FVec Ideal S16x8x2048x2048 .f32)
  (a z : FVec Ideal S16x2048x512 .f32) (b : Fin 16) (h : Fin 8) (t u : Fin 2048) (n : Fin 512)

theorem negInf : Ideal.ofBits .f32 0xFF800000#32 = (⊥ : EReal) := by simp [Ideal.ofBits, Ideal.ieee]

theorem eighth : Ideal.ofBits .f32 0x3E000000#32 = ((1 / 8 : ℝ) : EReal) := by
  simp [Ideal.ofBits, Ideal.ieee, -EReal.coe_mul]; norm_num

/-- The mask's comparison is the order of the positions. -/
theorem le_iff (t u : Fin 2048) : IntOp.cmpi .sle (BitVec.ofNat 32 u.val) (BitVec.ofNat 32 t.val) = if u ≤ t then 1#1 else 0#1 := by
  rw [sle_small _ _ (by omega) (by omega)]; rfl

theorem score_at : score q k cu (Idealize.ShloMosaic.ix4 b h t u)
    = if u ≤ t then (∑ x, q (Idealize.ShloMosaic.ix4 b t h x) * k (Idealize.ShloMosaic.ix4 b u h x)) * ((1 / 8 : ℝ) : EReal)
        + (cu (Idealize.ShloMosaic.ix3 b t h) - cu (Idealize.ShloMosaic.ix3 b u h)) else (⊥ : EReal) := by
  pointwise [score]
  rw [le_iff, eighth]
  by_cases hu : u ≤ t
  · rw [if_pos hu, if_pos hu]; rfl
  · rw [if_neg hu, if_neg hu]; exact negInf

theorem reduces_row : S16x8x2048x2048.Reduces [3] S16x8x2048 := by decide

theorem rowTop_at : rowTop s (Idealize.ShloMosaic.ix3 b h t)
    = Finset.univ.fold max (⊥ : EReal) (fun u : Fin 2048 => s (Idealize.ShloMosaic.ix4 b h t u)) := by
  unfold rowTop
  rw [hostReduce_maximumf_eq_multiReduction _ _ _ _ reduces_row (by decide) (by decide), Ideal.multiReduction_maximumf_single]
  have e : (s ∘ reduces_row.lift (Idealize.ShloMosaic.ix3 b h t)) = fun u : Fin 2048 => s (Idealize.ShloMosaic.ix4 b h t u) := by
    funext u
    refine congrArg s ?_
    funext i
    fin_cases i <;> rfl
  rw [e]
  exact congrArg (fun z => Finset.univ.fold max z _) negInf

theorem top_at (r : FVec Ideal S16x8x2048 .f32) : top r (Idealize.ShloMosaic.ix3 b h t) = r (Idealize.ShloMosaic.ix3 b h t) := by
  have e : top r (Idealize.ShloMosaic.ix3 b h t) = max (Ideal.ofBits .f32 0xFF800000#32) (r (Idealize.ShloMosaic.ix3 b h t)) := rfl
  rw [e, negInf, max_eq_right bot_le]

theorem along_at (r : FVec Ideal S16x8x2048 .f32) : along r (Idealize.ShloMosaic.ix4 b h t u) = r (Idealize.ShloMosaic.ix3 b h t) := by
  pointwise [along]

theorem expo_at : expo s (Idealize.ShloMosaic.ix4 b h t u)
    = Ideal.exp (s (Idealize.ShloMosaic.ix4 b h t u)
        - Finset.univ.fold max (⊥ : EReal) (fun u : Fin 2048 => s (Idealize.ShloMosaic.ix4 b h t u))) := by
  have e : expo s (Idealize.ShloMosaic.ix4 b h t u) = Ideal.exp (s (Idealize.ShloMosaic.ix4 b h t u)
      - along (top (rowTop s)) (Idealize.ShloMosaic.ix4 b h t u)) := rfl
  rw [e, along_at, top_at, rowTop_at]

theorem prob_at : prob e (Idealize.ShloMosaic.ix4 b h t u)
    = Ideal.div (e (Idealize.ShloMosaic.ix4 b h t u)) (∑ x, e (Idealize.ShloMosaic.ix4 b h t x)) := by
  pointwise [prob]

theorem mix_at : mix v p (Idealize.ShloMosaic.ix3 b t n)
    = ∑ x : Fin 2048, v (Idealize.ShloMosaic.ix4 b x ⟨n / 64, by omega⟩ ⟨n % 64, by omega⟩)
        * p (Idealize.ShloMosaic.ix4 b ⟨n / 64, by omega⟩ t x) := by
  pointwise [mix]

theorem gated_at : gated a z (Idealize.ShloMosaic.ix3 b t n)
    = a (Idealize.ShloMosaic.ix3 b t n) * (z (Idealize.ShloMosaic.ix3 b t n) * Ideal.div 1 (1 + Ideal.exp (-z (Idealize.ShloMosaic.ix3 b t n)))) := by
  pointwise [gated]

end Fox.Ref
-- ==== Proof.HostVal.lean ====
/- The arrays that the host lines prepare for the attention kernel, read at an index. -/
module

public import proofs.«01_k».proof.Proof.Around
public import proofs.«01_k».proof.Proof.RefVal

@[expose] public section

set_option maxRecDepth 16384

noncomputable section

namespace Fox

open Cert.KernelIdeal Cert.KernelIdeal.Gen
open Idealize.ShloMosaic Idealize.ShloMosaic.TcCoe Idealize.ShloMosaic.StableHlo

/-- A query's column of the stacked array: the scaled query, then the running sum in three pieces, then three ones. -/
def qRow (q : Fin 64 → EReal) (C : EReal) (r : Fin 128) : EReal :=
  if h : r.val < 64 then q ⟨r.val, h⟩ * ((lam / 8 : ℝ) : EReal)
  else if r.val = 64 then C * (lam : EReal) else if r.val < 67 then 0 else if r.val < 70 then 1 else 0

/-- A key's row of the stacked array: the key, then three ones, then the running sum in three pieces with its sign turned. -/
def kRow (k : Fin 64 → EReal) (C : EReal) (r : Fin 128) : EReal :=
  if h : r.val < 64 then k ⟨r.val, h⟩ else if r.val < 67 then 1 else if r.val = 67 then -(C * (lam : EReal)) else 0

/-- A value's column: the value, then a one, then zeros. -/
def vRow (v : Fin 64 → EReal) (r : Fin 80) : EReal := if h : r.val < 64 then v ⟨r.val, h⟩ else if r.val = 64 then 1 else 0

theorem two : Ideal.ofBits .f32 0x40000000#32 = ((2 : ℝ) : EReal) := by simp [Ideal.ofBits, Ideal.ieee, -EReal.coe_mul]; norm_num
theorem eight : Ideal.ofBits .f32 0x41000000#32 = ((8 : ℝ) : EReal) := by simp [Ideal.ofBits, Ideal.ieee, -EReal.coe_mul]; norm_num
theorem half : Ideal.ofBits .f32 0x3F000000#32 = ((1 / 2 : ℝ) : EReal) := by simp [Ideal.ofBits, Ideal.ieee, -EReal.coe_mul]; norm_num
theorem oneF : Ideal.ofBits .f32 0x3F800000#32 = (1 : EReal) := by simp [Ideal.ofBits, Ideal.ieee, -EReal.coe_mul]; norm_num
theorem zeroF : Ideal.ofBits .f32 0x00000000#32 = (0 : EReal) := by simp [Ideal.ofBits, Ideal.ieee]

theorem lam_host : Ideal.div 1 (Ideal.log (Ideal.ofBits .f32 0x40000000#32)) = (lam : EReal) := by
  have h : Real.log 2 ≠ 0 := (Real.log_pos (by norm_num)).ne'
  rw [two, Ideal.log_coe, if_neg (by norm_num), Ideal.div_coe h, one_mul]; rfl

theorem lam8_host : Ideal.div (lam : EReal) (Ideal.ofBits .f32 0x41000000#32) = ((lam / 8 : ℝ) : EReal) := by
  rw [eight, Ideal.div_coe (by norm_num), ← EReal.coe_mul]; congr 1; ring

/-- The gate, as the host lines compute it. -/
def gateOf (z : EReal) : EReal :=
  (((1 / 2 : ℝ) : EReal) * z) * Ideal.tanh (((1 / 2 : ℝ) : EReal) * z) + ((1 / 2 : ℝ) : EReal) * z

/-- `kRow` as the host lines' selects spell it. -/
def kRaw (k : Fin 64 → EReal) (C : EReal) (r : Fin 128) : EReal :=
  if h1 : r.val < 64 then k ⟨r.val, h1⟩
  else if r.val - 64 < 16 then
    Scalar.select (IntOp.cmpi .slt (BitVec.ofNat 32 (r.val - 64)) 3#32) 1
      (Scalar.select (IntOp.cmpi .slt (BitVec.ofNat 32 (r.val - 64)) 6#32)
        (-Scalar.select (IntOp.cmpi .eq (BitVec.ofNat 32 (r.val - 64)) 3#32) (C * (lam : EReal))
          (Scalar.select (IntOp.cmpi .eq (BitVec.ofNat 32 (r.val - 64)) 4#32) (C * (lam : EReal) - C * (lam : EReal))
            (C * (lam : EReal) - C * (lam : EReal) - (C * (lam : EReal) - C * (lam : EReal))))) 0)
  else 0

/-- `qRow` as the host lines' selects spell it. -/
def qRaw (q : Fin 64 → EReal) (C : EReal) (r : Fin 128) : EReal :=
  if h1 : r.val < 64 then q ⟨r.val, h1⟩ * ((lam / 8 : ℝ) : EReal)
  else if r.val - 64 < 16 then
    Scalar.select (IntOp.cmpi .slt (BitVec.ofNat 32 (r.val - 64)) 3#32)
      (Scalar.select (IntOp.cmpi .eq (BitVec.ofNat 32 (r.val - 64)) 0#32) (C * (lam : EReal))
        (Scalar.select (IntOp.cmpi .eq (BitVec.ofNat 32 (r.val - 64)) 1#32) (C * (lam : EReal) - C * (lam : EReal))
          (C * (lam : EReal) - C * (lam : EReal) - (C * (lam : EReal) - C * (lam : EReal)))))
      (Scalar.select (IntOp.cmpi .slt (BitVec.ofNat 32 (r.val - 64)) 6#32) 1 0)
  else 0

theorem sel_if (p : Prop) [Decidable p] (a b : EReal) : Scalar.select (if p then 1#1 else 0#1) a b = if p then a else b := by
  by_cases h : p <;> simp [h, Scalar.select]

theorem kRaw_eq (k : Fin 64 → EReal) (x : ℝ) (r : Fin 128) : kRaw k (x : EReal) r = kRow k (x : EReal) r := by
  have e0 : ((x : EReal) * (lam : EReal) - (x : EReal) * (lam : EReal)) = 0 := by
    rw [← EReal.coe_mul, ← EReal.coe_sub, sub_self]; rfl
  have hr := r.isLt
  unfold kRaw kRow
  rw [slt_small _ 3 (by omega) (by omega), slt_small _ 6 (by omega) (by omega), eq_small _ 3 (by omega) (by omega),
    eq_small _ 4 (by omega) (by omega), e0]
  simp only [sel_if, sub_zero, ite_self]
  by_cases h1 : r.val < 64
  · rw [dif_pos h1, dif_pos h1]
  · rw [dif_neg h1, dif_neg h1]
    by_cases h2 : r.val < 67
    · rw [if_pos (by omega), if_pos (by omega), if_pos h2]
    · rw [if_neg h2]
      by_cases h3 : r.val = 67
      · rw [if_pos (by omega), if_neg (by omega), if_pos (by omega), if_pos (by omega), if_pos h3]
      · rw [if_neg h3]
        by_cases h4 : r.val < 70
        · rw [if_pos (by omega), if_neg (by omega), if_pos (by omega), if_neg (by omega), neg_zero]
        · by_cases h5 : r.val - 64 < 16
          · rw [if_pos h5, if_neg (by omega), if_neg (by omega)]
          · rw [if_neg h5]

theorem qRaw_eq (q : Fin 64 → EReal) (x : ℝ) (r : Fin 128) : qRaw q (x : EReal) r = qRow q (x : EReal) r := by
  have e0 : ((x : EReal) * (lam : EReal) - (x : EReal) * (lam : EReal)) = 0 := by
    rw [← EReal.coe_mul, ← EReal.coe_sub, sub_self]; rfl
  have hr := r.isLt
  unfold qRaw qRow
  rw [slt_small _ 3 (by omega) (by omega), slt_small _ 6 (by omega) (by omega), eq_small _ 0 (by omega) (by omega),
    eq_small _ 1 (by omega) (by omega), e0]
  simp only [sel_if, sub_zero, ite_self]
  by_cases h1 : r.val < 64
  · rw [dif_pos h1, dif_pos h1]
  · rw [dif_neg h1, dif_neg h1]
    by_cases h3 : r.val = 64
    · rw [if_pos (by omega), if_pos (by omega), if_pos (by omega), if_pos h3]
    · rw [if_neg h3]
      by_cases h2 : r.val < 67
      · rw [if_pos (by omega), if_pos (by omega), if_neg (by omega), if_pos h2]
      · rw [if_neg h2]
        by_cases h4 : r.val < 70
        · rw [if_pos (by omega), if_neg (by omega), if_pos (by omega), if_pos h4]
        · rw [if_neg h4]
          by_cases h5 : r.val - 64 < 16
          · rw [if_pos h5, if_neg (by omega), if_neg (by omega)]
          · rw [if_neg h5]

variable (m : (ℓ : Loc nD τ sig) → Buf (Elt Ideal) ℓ) (c : Dev nD)

theorem V_g (b : Fin 16) (h : Fin 8) (d : Fin 64) (t : Fin 2048) :
    (V m c main_v67 : FVec Ideal S16x8x64x2048 .bf16) (Idealize.ShloMosaic.ix4 b h d t)
      = gateOf ((m (c, Proc.tc.devRef main_arg4) : FVec Ideal S16x2048x512 .f32) (Idealize.ShloMosaic.ix3 b t ⟨h.val * 64 + d.val, by omega⟩)) := by
  simp only [V, V0, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil,
    List.append_nil, List.cons_append, List.nil_append, TRef.binary, TRef.nullary, TRef.ternary, TRef.unary, TRef.toBuf,
    TRef.ofBuf, cast_eq]
  after_results_simp
  pointwise []
  rw [half]
  rfl

theorem V_v (b : Fin 16) (h : Fin 8) (r : Fin 80) (t : Fin 2048) :
    (V m c main_v59 : FVec Ideal S16x8x80x2048 .bf16) (Idealize.ShloMosaic.ix4 b h r t)
      = vRow (fun d => (m (c, Proc.tc.devRef main_arg2) : FVec Ideal S16x2048x8x64 .f32) (Idealize.ShloMosaic.ix4 b t h d)) r := by
  simp only [V, V0, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil,
    List.append_nil, List.cons_append, List.nil_append, TRef.binary, TRef.nullary, TRef.ternary, TRef.unary, TRef.toBuf,
    TRef.ofBuf, cast_eq]
  after_results_simp
  pointwise []
  after_results_simp
  simp only [id_eq]
  pointwise []
  unfold vRow
  by_cases h1 : r.val < 64
  · rw [dif_pos h1, dif_pos h1]
  · rw [dif_neg h1, dif_neg h1, eq_small _ 0 (by omega) (by omega), sel_if]
    by_cases h2 : r.val = 64
    · rw [if_pos (by omega), if_pos h2]
    · rw [if_neg (by omega), if_neg h2]

theorem V_q (b : Fin 16) (h : Fin 8) (r : Fin 128) (t : Fin 2048) :
    (V m c main_v51 : FVec Ideal S16x8x128x2048 .bf16) (Idealize.ShloMosaic.ix4 b h r t)
      = qRaw (fun d => (m (c, Proc.tc.devRef main_arg0) : FVec Ideal S16x2048x8x64 .f32) (Idealize.ShloMosaic.ix4 b t h d))
          (Ref.cum (m (c, Proc.tc.devRef main_arg3)) (Idealize.ShloMosaic.ix3 b t h)) r := by
  simp only [V, V0, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil,
    List.append_nil, List.cons_append, List.nil_append, TRef.binary, TRef.nullary, TRef.ternary, TRef.unary, TRef.toBuf,
    TRef.ofBuf, cast_eq]
  after_results_simp
  pointwise []
  after_results_simp
  simp only [id_eq]
  pointwise []
  simp only [lam_host, lam8_host, oneF, zeroF, id_eq]
  rfl

theorem V_k (b : Fin 16) (h : Fin 8) (r : Fin 128) (t : Fin 2048) :
    (V m c main_v55 : FVec Ideal S16x8x2048x128 .bf16) (Idealize.ShloMosaic.ix4 b h t r)
      = kRaw (fun d => (m (c, Proc.tc.devRef main_arg1) : FVec Ideal S16x2048x8x64 .f32) (Idealize.ShloMosaic.ix4 b t h d))
          (Ref.cum (m (c, Proc.tc.devRef main_arg3)) (Idealize.ShloMosaic.ix3 b t h)) r := by
  simp only [V, V0, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil,
    List.append_nil, List.cons_append, List.nil_append, TRef.binary, TRef.nullary, TRef.ternary, TRef.unary, TRef.toBuf,
    TRef.ofBuf, cast_eq]
  after_results_simp
  pointwise []
  after_results_simp
  simp only [id_eq]
  pointwise []
  simp only [lam_host, lam8_host, oneF, zeroF, id_eq]
  rfl

end Fox
-- ==== Proof.InHost.lean ====
/- The arrays and the blocks that the in-projection kernel reads, at an index, from the program's arguments. -/
module

public import proofs.«01_k».proof.Proof.InPoint
public import proofs.«01_k».proof.Proof.HostVal
public import Idealize.ShloMosaic.Lib.Pipeline.ValueKit.Geometry

@[expose] public section

set_option maxRecDepth 16384

noncomputable section

namespace Inproj

open Cert.Kernel2Ideal Cert.Kernel2Ideal.Gen
open Idealize.ShloMosaic Idealize.ShloMosaic.TcCoe Idealize.ShloMosaic.StableHlo
open Idealize.ShloMosaic.Pipeline (Dat Cfg Window)

variable (X : FVec Ideal S16x2048x1024 .f32) (N : FVec Ideal S2x1024 .f32) (W : FVec Ideal S2x1024x3848 .f32)

/-- The normalised input. -/
def HID (b : Fin 16) (t : Fin 2048) (k : Fin 1024) : EReal :=
  (X (Idealize.ShloMosaic.ix3 b t k) : EReal)
    * inv (∑ j : Fin 1024, (X (Idealize.ShloMosaic.ix3 b t j) : EReal) * (X (Idealize.ShloMosaic.ix3 b t j) : EReal)) (Ideal.ofBits .f32 0x44800000#32)
    * (N (Idealize.ShloMosaic.ix2 0 k) : EReal)

/-- Its projection. -/
def PR (b : Fin 16) (t : Fin 2048) (o : Fin 3848) : EReal :=
  ∑ k : Fin 1024, HID X N b t k * (W (Idealize.ShloMosaic.ix3 0 k o) : EReal)

/-- Sixty-four rows of a projection from row `o` on, normalised head by head, under the gain `g`. -/
def HV (b : Fin 16) (t : Fin 2048) (o : ℕ) (ho : o + 512 ≤ 3848) (g : EReal) (r : Fin 512) : EReal :=
  hn (fun r => PR X N W b t ⟨o + r.val, by omega⟩) g r

variable (m : (ℓ : Loc nD τ sig) → Buf (Elt Ideal) ℓ) (c : Dev nD)

abbrev aX : FVec Ideal S16x2048x1024 .f32 := m (c, Proc.tc.devRef main_arg0)
abbrev aN : FVec Ideal S2x1024 .f32 := m (c, Proc.tc.devRef main_arg1)
abbrev aW : FVec Ideal S2x1024x3848 .f32 := m (c, Proc.tc.devRef main_arg2)
abbrev aQ : FVec Ideal S2x8x64 .f32 := m (c, Proc.tc.devRef main_arg5)
abbrev aK : FVec Ideal S2x8x64 .f32 := m (c, Proc.tc.devRef main_arg6)

theorem V_x : (V m c main_arg0 : FVec Ideal S16x2048x1024 .f32) = aX m c := by
  simp only [V, V0, hostOps0, List.flatten_cons, List.flatten_nil, List.append_nil]
  after_results_simp

theorem V_n (k : Fin 1024) : (V m c main_v5 : FVec Ideal S2x1x1024 .f32) (Idealize.ShloMosaic.ix3 0 0 k) = aN m c (Idealize.ShloMosaic.ix2 0 k) := by
  simp only [V, V0, hostOps0, List.flatten_cons, List.flatten_nil, List.append_nil]
  after_results_simp
  pointwise []

theorem V_w (o : Fin 3848) (k : Fin 1024) :
    (V m c main_v1 : FVec Ideal S2x3848x1024 .bf16) (Idealize.ShloMosaic.ix3 0 o k) = aW m c (Idealize.ShloMosaic.ix3 0 k o) := by
  simp only [V, V0, hostOps0, List.flatten_cons, List.flatten_nil, List.append_nil]
  after_results_simp
  pointwise []

theorem V_k (r : Fin 512) :
    (V m c main_v10 : FVec Ideal S2x512x1 .f32) (Idealize.ShloMosaic.ix3 0 r 0)
      = aK m c (Idealize.ShloMosaic.ix3 0 ⟨r.val / 64, by omega⟩ ⟨r.val % 64, by omega⟩) := by
  simp only [V, V0, hostOps0, List.flatten_cons, List.flatten_nil, List.append_nil]
  after_results_simp
  pointwise []

theorem V_q (r : Fin 512) :
    (V m c main_v9 : FVec Ideal S2x512x1 .f32) (Idealize.ShloMosaic.ix3 0 r 0)
      = (aQ m c (Idealize.ShloMosaic.ix3 0 ⟨r.val / 64, by omega⟩ ⟨r.val % 64, by omega⟩) : EReal) * ((Fox.lam / 8 : ℝ) : EReal) := by
  simp only [V, V0, hostOps0, List.flatten_cons, List.flatten_nil, List.append_nil]
  after_results_simp
  pointwise []
  rw [Fox.lam_host, Fox.lam8_host]

theorem ix0 : ∀ t : Fin grid0.N, win0_0.index t = ![(grid0.coords t 0).val, (grid0.coords t 1).val, 0] := by decide +kernel
theorem ix1' : ∀ t : Fin grid0.N, win0_1.index t = ![0, 0, 0] := by decide +kernel
theorem ix2' : ∀ t : Fin grid0.N, win0_2.index t = ![0, 0, 0] := by decide +kernel
theorem ix5' : ∀ t : Fin grid0.N, win0_5.index t = ![0, 0, 0] := by decide +kernel
theorem ix6' : ∀ t : Fin grid0.N, win0_6.index t = ![0, 0, 0] := by decide +kernel

def tm (t : Fin grid0.N) (y : Fin 1024) : Fin 2048 :=
  ⟨1024 * (grid0.coords t 1).val + y.val, by have := (grid0.coords t 1).isLt; change _ < 2 at this; omega⟩

def bt (t : Fin grid0.N) : Fin 16 := grid0.coords t 0

theorem blk0 (t : Fin cfg0.N) (y : Fin 1024) (k : Fin 1024) :
    (iblk m c 0 t : FVec Ideal S1x1024x1024 .f32) (Idealize.ShloMosaic.ix3 0 y k) = aX m c (Idealize.ShloMosaic.ix3 (bt t) (tm t y) k) := by
  blk_simp [iblk]
  refine Eq.trans (congrArg (V m c main_arg0 : FVec Ideal S16x2048x1024 .f32) ?_) (congrFun (V_x m c) _)
  funext a
  apply Fin.ext
  match a with
  | ⟨0, _⟩ => blk_simp [ix0]; try (first | rfl | (unfold bt; rfl))
  | ⟨1, _⟩ => blk_simp [ix0]; show (grid0.coords t 1).val * 1024 + y.val = 1024 * (grid0.coords t 1).val + y.val; omega
  | ⟨2, _⟩ => blk_simp [ix0]; try (first | rfl | simp)

theorem blk1 (t : Fin cfg0.N) (k : Fin 1024) :
    (iblk m c 1 t : FVec Ideal S1x1x1024 .f32) (Idealize.ShloMosaic.ix3 0 0 k) = aN m c (Idealize.ShloMosaic.ix2 0 k) := by
  blk_simp [iblk]
  refine Eq.trans (congrArg (V m c main_v5 : FVec Ideal S2x1x1024 .f32) ?_) (V_n m c k)
  funext a
  apply Fin.ext
  match a with
  | ⟨0, _⟩ => blk_simp [ix1']; try rfl
  | ⟨1, _⟩ => blk_simp [ix1']; try rfl
  | ⟨2, _⟩ => blk_simp [ix1']; try rfl

theorem blk2 (t : Fin cfg0.N) (o : Fin 3848) (k : Fin 1024) :
    (iblk m c 2 t : FVec Ideal S1x3848x1024 .bf16) (Idealize.ShloMosaic.ix3 0 o k) = aW m c (Idealize.ShloMosaic.ix3 0 k o) := by
  blk_simp [iblk]
  refine Eq.trans (congrArg (V m c main_v1 : FVec Ideal S2x3848x1024 .bf16) ?_) (V_w m c o k)
  funext a
  apply Fin.ext
  match a with
  | ⟨0, _⟩ => blk_simp [ix2']; try rfl
  | ⟨1, _⟩ => blk_simp [ix2']; try rfl
  | ⟨2, _⟩ => blk_simp [ix2']; try rfl

theorem blk5 (t : Fin cfg0.N) (r : Fin 512) :
    (iblk m c 5 t : FVec Ideal S1x512x1 .f32) (Idealize.ShloMosaic.ix3 0 r 0)
      = (aQ m c (Idealize.ShloMosaic.ix3 0 ⟨r.val / 64, by omega⟩ ⟨r.val % 64, by omega⟩) : EReal) * ((Fox.lam / 8 : ℝ) : EReal) := by
  blk_simp [iblk]
  refine Eq.trans (congrArg (V m c main_v9 : FVec Ideal S2x512x1 .f32) ?_) (V_q m c r)
  funext a
  apply Fin.ext
  match a with
  | ⟨0, _⟩ => blk_simp [ix5']; try rfl
  | ⟨1, _⟩ => blk_simp [ix5']; try rfl
  | ⟨2, _⟩ => blk_simp [ix5']; try rfl

theorem blk6 (t : Fin cfg0.N) (r : Fin 512) :
    (iblk m c 6 t : FVec Ideal S1x512x1 .f32) (Idealize.ShloMosaic.ix3 0 r 0)
      = aK m c (Idealize.ShloMosaic.ix3 0 ⟨r.val / 64, by omega⟩ ⟨r.val % 64, by omega⟩) := by
  blk_simp [iblk]
  refine Eq.trans (congrArg (V m c main_v10 : FVec Ideal S2x512x1 .f32) ?_) (V_k m c r)
  funext a
  apply Fin.ext
  match a with
  | ⟨0, _⟩ => blk_simp [ix6']; try rfl
  | ⟨1, _⟩ => blk_simp [ix6']; try rfl
  | ⟨2, _⟩ => blk_simp [ix6']; try rfl

theorem hid_blk (t : Fin cfg0.N) (y k : Fin 1024) :
    hid (iblk m c 0 t) (iblk m c 1 t) y k = HID (aX m c) (aN m c) (bt t) (tm t y) k := by
  unfold hid HID
  rw [blk1]
  simp only [blk0]

theorem pr_blk (t : Fin cfg0.N) (y : Fin 1024) (o : Fin 3848) :
    pr (iblk m c 0 t) (iblk m c 1 t) (iblk m c 2 t) y o = PR (aX m c) (aN m c) (aW m c) (bt t) (tm t y) o := by
  unfold pr PR
  simp only [hid_blk, blk2]

theorem hv_blk (t : Fin cfg0.N) (y : Fin 1024) (o : ℕ) (ho : o + 512 ≤ 3848) (g : EReal) (r : Fin 512) :
    hv (iblk m c 0 t) (iblk m c 1 t) (iblk m c 2 t) y o ho g r = HV (aX m c) (aN m c) (aW m c) (bt t) (tm t y) o ho g r := by
  unfold hv HV
  simp only [pr_blk]

end Inproj
-- ==== Proof.InRef.lean ====
/- The in-projection reference's results, stage by stage, read at an index. -/
module

public import proofs.«01_k».proof.Proof.InHost
public import proofs.«01_k».proof.Proof.Gen.Reference2Ideal

@[expose] public section

set_option maxRecDepth 16384

noncomputable section

namespace Inproj.Ref

open Cert.Reference2Ideal Cert.Reference2Ideal.Gen
open Idealize.ShloMosaic Idealize.ShloMosaic.TcCoe Idealize.ShloMosaic.StableHlo

variable (X : FVec Ideal S16x2048x1024 .f32) (N : FVec Ideal S2x1024 .f32) (W : FVec Ideal S2x1024x3848 .f32)

def hidV : FVec Ideal S16x2048x1024 .f32 :=
  mulf (mulf X (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf X X) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 (shapeCast _ (extractStridedSlice S1x1024 ![0, 0] N slices_S2x1024_S1x1024_0_0) shapeCasts_S1x1024_S1024)))

def wV : FVec Ideal S1024x3848 .f32 :=
  shapeCast _ (extractStridedSlice S1x1024x3848 ![0, 0, 0] W slices_S2x1024x3848_S1x1024x3848_0_0_0) shapeCasts_S1x1024x3848_S1024x3848

def projV : FVec Ideal S16x2048x3848 .f32 :=
  Host.dotGeneral dot_S16x2048x1024_S1024x3848_S16x2048x3848_2_0_01_1_n_n none (hidV X N) (wV W)

def headV (p : FVec Ideal S16x2048x8x64 .f32) (g : FVec Ideal S2x8x64 .f32) : FVec Ideal S16x2048x8x64 .f32 :=
  mulf (mulf p (broadcastInDim S16x2048x8x64 ![0, 1, 2, 3] bcast_S16x2048x8x1_S16x2048x8x64_0_1_2_3 (Host.rsqrt (addf (Host.divf (broadcastInDim S16x2048x8x1 ![0, 1, 2] bcast_S16x2048x8_S16x2048x8x1_0_1_2 (Host.reduceAdd (mulf p p) (constant S_ .f32 0x00000000#32) reducesTo_S16x2048x8x64_S16x2048x8_d3 h_S_)) (broadcastInDim S16x2048x8x1 ![] bcast_S_S16x2048x8x1 (constant S_ .f32 0x42800000#32))) (broadcastInDim S16x2048x8x1 ![] bcast_S_S16x2048x8x1 (constant S_ .f32 0x358637BD#32)))))) (broadcastInDim S16x2048x8x64 ![0, 1, 2, 3] bcast_S1x1x8x64_S16x2048x8x64_0_1_2_3 (broadcastInDim S1x1x8x64 ![2, 3] bcast_S8x64_S1x1x8x64_2_3 (shapeCast _ (extractStridedSlice S1x8x64 ![0, 0, 0] g slices_S2x8x64_S1x8x64_0_0_0) shapeCasts_S1x8x64_S8x64)))

def sil (z : EReal) : EReal := z * Ideal.div 1 (1 + Ideal.exp (-z))

def vV (p : FVec Ideal S16x2048x3848 .f32) : FVec Ideal S16x2048x8x64 .f32 :=
  shapeCast _ (extractStridedSlice S16x2048x512 ![0, 0, 2816] p slices_S16x2048x3848_S16x2048x512_0_0_2816) shapeCasts_S16x2048x512_S16x2048x8x64
def qpV (p : FVec Ideal S16x2048x3848 .f32) : FVec Ideal S16x2048x8x64 .f32 :=
  shapeCast _ (extractStridedSlice S16x2048x512 ![0, 0, 1792] p slices_S16x2048x3848_S16x2048x512_0_0_1792) shapeCasts_S16x2048x512_S16x2048x8x64
def kpV (p : FVec Ideal S16x2048x3848 .f32) : FVec Ideal S16x2048x8x64 .f32 :=
  shapeCast _ (extractStridedSlice S16x2048x512 ![0, 0, 2304] p slices_S16x2048x3848_S16x2048x512_0_0_2304) shapeCasts_S16x2048x512_S16x2048x8x64
def gV (p : FVec Ideal S16x2048x3848 .f32) : FVec Ideal S16x2048x512 .f32 :=
  mulf (extractStridedSlice S16x2048x512 ![0, 0, 3328] p slices_S16x2048x3848_S16x2048x512_0_0_3328)
    (Host.divf (broadcastInDim S16x2048x512 ![] bcast_S_S16x2048x512 (constant S_ .f32 0x3F800000#32)) (addf (broadcastInDim S16x2048x512 ![] bcast_S_S16x2048x512 (constant S_ .f32 0x3F800000#32)) (Host.exp (Host.negf (extractStridedSlice S16x2048x512 ![0, 0, 3328] p slices_S16x2048x3848_S16x2048x512_0_0_3328)))))
def u1V (p : FVec Ideal S16x2048x3848 .f32) : FVec Ideal S16x2048x256 .f32 :=
  mulf (extractStridedSlice S16x2048x256 ![0, 0, 0] p slices_S16x2048x3848_S16x2048x256_0_0_0)
    (Host.divf (broadcastInDim S16x2048x256 ![] bcast_S_S16x2048x256 (constant S_ .f32 0x3F800000#32)) (addf (broadcastInDim S16x2048x256 ![] bcast_S_S16x2048x256 (constant S_ .f32 0x3F800000#32)) (Host.exp (Host.negf (extractStridedSlice S16x2048x256 ![0, 0, 256] p slices_S16x2048x3848_S16x2048x256_0_0_256)))))
def u2V (p : FVec Ideal S16x2048x3848 .f32) : FVec Ideal S16x2048x256 .f32 :=
  mulf (extractStridedSlice S16x2048x256 ![0, 0, 512] p slices_S16x2048x3848_S16x2048x256_0_0_512)
    (Host.divf (broadcastInDim S16x2048x256 ![] bcast_S_S16x2048x256 (constant S_ .f32 0x3F800000#32)) (addf (broadcastInDim S16x2048x256 ![] bcast_S_S16x2048x256 (constant S_ .f32 0x3F800000#32)) (Host.exp (Host.negf (extractStridedSlice S16x2048x256 ![0, 0, 512] p slices_S16x2048x3848_S16x2048x256_0_0_512)))))
def uV (p : FVec Ideal S16x2048x3848 .f32) : FVec Ideal S16x2048x512 .f32 :=
  concatenate S16x2048x512 2 [⟨S16x2048x256, u1V p⟩, ⟨S16x2048x256, u2V p⟩] concatenates_S16x2048x256_S16x2048x256_S16x2048x512_d2
def qV (p : FVec Ideal S16x2048x8x64 .f32) : FVec Ideal S16x2048x8x64 .f32 :=
  Host.divf (Host.divf p (broadcastInDim S16x2048x8x64 ![] bcast_S_S16x2048x8x64 (constant S_ .f32 0x41000000#32)))
    (broadcastInDim S16x2048x8x64 ![] bcast_S_S16x2048x8x64 (Host.log (constant S_ .f32 0x40000000#32)))

theorem hidV_at (b : Fin 16) (t : Fin 2048) (k : Fin 1024) : hidV X N (Idealize.ShloMosaic.ix3 b t k) = HID X N b t k := by
  unfold hidV HID inv
  pointwise []

theorem wV_at (k : Fin 1024) (o : Fin 3848) : wV W (Idealize.ShloMosaic.ix2 k o) = W (Idealize.ShloMosaic.ix3 0 k o) := by
  unfold wV
  pointwise []

theorem projV_at (b : Fin 16) (t : Fin 2048) (o : Fin 3848) : projV X N W (Idealize.ShloMosaic.ix3 b t o) = PR X N W b t o := by
  unfold projV PR
  generalize hh : hidV X N = h
  generalize hw : wV W = w
  have e : Host.dotGeneral (F := Ideal) dot_S16x2048x1024_S1024x3848_S16x2048x3848_2_0_01_1_n_n none h w (Idealize.ShloMosaic.ix3 b t o)
      = ∑ k : Fin 1024, (h (Idealize.ShloMosaic.ix3 b t k) : EReal) * (w (Idealize.ShloMosaic.ix2 k o) : EReal) := by
    pointwise []
  rw [e, ← hh, ← hw]
  simp only [hidV_at, wV_at]

theorem headV_at (p : FVec Ideal S16x2048x8x64 .f32) (g : FVec Ideal S2x8x64 .f32) (b : Fin 16) (t : Fin 2048) (h : Fin 8) (d : Fin 64) :
    headV p g (Idealize.ShloMosaic.ix4 b t h d)
      = (p (Idealize.ShloMosaic.ix4 b t h d) : EReal)
        * inv (∑ r : Fin 64, (p (Idealize.ShloMosaic.ix4 b t h r) : EReal) * (p (Idealize.ShloMosaic.ix4 b t h r) : EReal)) (Ideal.ofBits .f32 0x42800000#32)
        * (g (Idealize.ShloMosaic.ix3 0 h d) : EReal) := by
  unfold headV inv
  pointwise []

variable (p : FVec Ideal S16x2048x3848 .f32) (b : Fin 16) (t : Fin 2048)

theorem vV_at (h : Fin 8) (d : Fin 64) : vV p (Idealize.ShloMosaic.ix4 b t h d) = p (Idealize.ShloMosaic.ix3 b t ⟨2816 + (64 * h.val + d.val), by omega⟩) := by
  unfold vV
  pointwise []
  exact congrArg (fun n : Fin 3848 => p (Idealize.ShloMosaic.ix3 b t n)) (Fin.ext (by show 2816 + (h.val * 64 + d.val) = 2816 + (64 * h.val + d.val); omega))
theorem qpV_at (h : Fin 8) (d : Fin 64) : qpV p (Idealize.ShloMosaic.ix4 b t h d) = p (Idealize.ShloMosaic.ix3 b t ⟨1792 + (64 * h.val + d.val), by omega⟩) := by
  unfold qpV
  pointwise []
  exact congrArg (fun n : Fin 3848 => p (Idealize.ShloMosaic.ix3 b t n)) (Fin.ext (by show 1792 + (h.val * 64 + d.val) = 1792 + (64 * h.val + d.val); omega))
theorem kpV_at (h : Fin 8) (d : Fin 64) : kpV p (Idealize.ShloMosaic.ix4 b t h d) = p (Idealize.ShloMosaic.ix3 b t ⟨2304 + (64 * h.val + d.val), by omega⟩) := by
  unfold kpV
  pointwise []
  exact congrArg (fun n : Fin 3848 => p (Idealize.ShloMosaic.ix3 b t n)) (Fin.ext (by show 2304 + (h.val * 64 + d.val) = 2304 + (64 * h.val + d.val); omega))
theorem gV_at (n : Fin 512) : gV p (Idealize.ShloMosaic.ix3 b t n) = sil (p (Idealize.ShloMosaic.ix3 b t ⟨3328 + n.val, by omega⟩)) := by
  unfold gV sil
  pointwise []
theorem u1V_at (n : Fin 256) : u1V p (Idealize.ShloMosaic.ix3 b t n)
    = (p (Idealize.ShloMosaic.ix3 b t ⟨n.val, by omega⟩) : EReal) * Ideal.div 1 (1 + Ideal.exp (-(p (Idealize.ShloMosaic.ix3 b t ⟨256 + n.val, by omega⟩) : EReal))) := by
  unfold u1V
  pointwise []
theorem u2V_at (n : Fin 256) : u2V p (Idealize.ShloMosaic.ix3 b t n) = sil (p (Idealize.ShloMosaic.ix3 b t ⟨512 + n.val, by omega⟩)) := by
  unfold u2V sil
  pointwise []
theorem qV_at (q : FVec Ideal S16x2048x8x64 .f32) (h : Fin 8) (d : Fin 64) : qV q (Idealize.ShloMosaic.ix4 b t h d)
    = Ideal.div (Ideal.div (q (Idealize.ShloMosaic.ix4 b t h d)) (Ideal.ofBits .f32 0x41000000#32)) (Ideal.log (Ideal.ofBits .f32 0x40000000#32)) := by
  unfold qV
  pointwise []
theorem uV_at (n : Fin 512) : uV p (Idealize.ShloMosaic.ix3 b t n)
    = if h : n.val < 256 then u1V p (Idealize.ShloMosaic.ix3 b t ⟨n.val, h⟩) else u2V p (Idealize.ShloMosaic.ix3 b t ⟨n.val - 256, by omega⟩) := by
  unfold uV
  generalize u1V p = x
  generalize u2V p = y
  pointwise []

section
variable (S : FVec Ideal S2x3x256 .f32)

def gwV : FVec Ideal S16x2048x256 .f32 :=
  mulf (extractStridedSlice S16x2048x256 ![0, 0, 1024] p slices_S16x2048x3848_S16x2048x256_0_0_1024) (extractStridedSlice S16x2048x256 ![0, 0, 1280] p slices_S16x2048x3848_S16x2048x256_0_0_1280)
def padV (x : FVec Ideal S16x2048x256 .f32) : FVec Ideal S16x2050x256 .f32 :=
  pad S16x2050x256 ![0, 2, 0] ![0, 0, 0] ![0, 0, 0] x (sitofp .f32 (constantI S_ 32 0#32)) pads_S16x2048x256_S16x2050x256_000_200_000 h_S_
def tapV (i : ℕ) (h : S3x256.Slices ![i, 0] S1x256) : FVec Ideal S16x2048x256 .f32 :=
  broadcastInDim S16x2048x256 ![0, 1, 2] bcast_S1x1x256_S16x2048x256_0_1_2 (broadcastInDim S1x1x256 ![2] bcast_S256_S1x1x256_2 (shapeCast _ (extractStridedSlice S1x256 ![i, 0] (shapeCast _ (extractStridedSlice S1x3x256 ![0, 0, 0] S slices_S2x3x256_S1x3x256_0_0_0) shapeCasts_S1x3x256_S3x256) h) shapeCasts_S1x256_S256))
def silV : FVec Ideal S16x2048x256 .f32 :=
  mulf (extractStridedSlice S16x2048x256 ![0, 0, 1536] p slices_S16x2048x3848_S16x2048x256_0_0_1536) (Host.divf (broadcastInDim S16x2048x256 ![] bcast_S_S16x2048x256 (constant S_ .f32 0x3F800000#32)) (addf (broadcastInDim S16x2048x256 ![] bcast_S_S16x2048x256 (constant S_ .f32 0x3F800000#32)) (Host.exp (Host.negf (extractStridedSlice S16x2048x256 ![0, 0, 1536] p slices_S16x2048x3848_S16x2048x256_0_0_1536)))))
def yV : FVec Ideal S16x2048x256 .f32 :=
  mulf (mulf (extractStridedSlice S16x2048x256 ![0, 0, 768] p slices_S16x2048x3848_S16x2048x256_0_0_768)
    (addf (addf (mulf (tapV S 0 slices_S3x256_S1x256_0_0) (extractStridedSlice S16x2048x256 ![0, 0, 0] (padV (gwV p)) slices_S16x2050x256_S16x2048x256_0_0_0))
      (mulf (tapV S 1 slices_S3x256_S1x256_1_0) (extractStridedSlice S16x2048x256 ![0, 1, 0] (padV (gwV p)) slices_S16x2050x256_S16x2048x256_0_1_0)))
      (mulf (tapV S 2 slices_S3x256_S1x256_2_0) (extractStridedSlice S16x2048x256 ![0, 2, 0] (padV (gwV p)) slices_S16x2050x256_S16x2048x256_0_2_0))))
    (silV p)

theorem gwV_at (n : Fin 256) : gwV p (Idealize.ShloMosaic.ix3 b t n)
    = (p (Idealize.ShloMosaic.ix3 b t ⟨1024 + n.val, by omega⟩) : EReal) * p (Idealize.ShloMosaic.ix3 b t ⟨1280 + n.val, by omega⟩) := by
  unfold gwV
  pointwise []

theorem padV_at (x : FVec Ideal S16x2048x256 .f32) (s : Fin 2050) (n : Fin 256) : padV x (Idealize.ShloMosaic.ix3 b s n)
    = if h : 2 ≤ s.val then (x (Idealize.ShloMosaic.ix3 b ⟨s.val - 2, by omega⟩ n) : EReal) else 0 := by
  unfold padV
  pointwise []
  have z : (FloatOps.sitofp FTy.f32 0#32 : Ideal .f32) = (0 : EReal) := by
    show (((0#32 : BitVec 32).toInt : ℝ) : EReal) = 0
    simp
  have hs := s.isLt
  by_cases h : 2 ≤ s.val
  · rw [dif_pos h, dif_pos ⟨h, by omega⟩]
  · rw [dif_neg h, dif_neg fun h' => h h'.1]
    exact z

theorem tap0_at (h) (n : Fin 256) : tapV S 0 h (Idealize.ShloMosaic.ix3 b t n) = S (Idealize.ShloMosaic.ix3 0 0 n) := by
  unfold tapV
  pointwise []
theorem tap1_at (h) (n : Fin 256) : tapV S 1 h (Idealize.ShloMosaic.ix3 b t n) = S (Idealize.ShloMosaic.ix3 0 1 n) := by
  unfold tapV
  pointwise []
theorem tap2_at (h) (n : Fin 256) : tapV S 2 h (Idealize.ShloMosaic.ix3 b t n) = S (Idealize.ShloMosaic.ix3 0 2 n) := by
  unfold tapV
  pointwise []
theorem silV_at (n : Fin 256) : silV p (Idealize.ShloMosaic.ix3 b t n) = sil (p (Idealize.ShloMosaic.ix3 b t ⟨1536 + n.val, by omega⟩)) := by
  unfold silV sil
  pointwise []

theorem yV_at (n : Fin 256) : yV p S (Idealize.ShloMosaic.ix3 b t n)
    = (p (Idealize.ShloMosaic.ix3 b t ⟨768 + n.val, by omega⟩) : EReal)
      * ((S (Idealize.ShloMosaic.ix3 0 0 n) : EReal) * padV (gwV p) (Idealize.ShloMosaic.ix3 b ⟨t.val, by omega⟩ n)
        + (S (Idealize.ShloMosaic.ix3 0 1 n) : EReal) * padV (gwV p) (Idealize.ShloMosaic.ix3 b ⟨1 + t.val, by omega⟩ n)
        + (S (Idealize.ShloMosaic.ix3 0 2 n) : EReal) * padV (gwV p) (Idealize.ShloMosaic.ix3 b ⟨2 + t.val, by omega⟩ n))
      * sil (p (Idealize.ShloMosaic.ix3 b t ⟨1536 + n.val, by omega⟩)) := by
  rw [← silV_at, ← tap0_at b t S slices_S3x256_S1x256_0_0 n, ← tap1_at b t S slices_S3x256_S1x256_1_0 n, ← tap2_at b t S slices_S3x256_S1x256_2_0 n]
  unfold yV
  generalize silV p = z
  generalize padV (gwV p) = x
  generalize tapV S 0 _ = a0
  generalize tapV S 1 _ = a1
  generalize tapV S 2 _ = a2
  pointwise []

end

variable (m : (ℓ : Loc nD τ sig) → Buf (Elt Ideal) ℓ) (c : Dev nD)

abbrev bX : FVec Ideal S16x2048x1024 .f32 := m ((c.tc : Thread nD τ).loc main_arg0)
abbrev bN : FVec Ideal S2x1024 .f32 := m ((c.tc : Thread nD τ).loc main_arg1)
abbrev bW : FVec Ideal S2x1024x3848 .f32 := m ((c.tc : Thread nD τ).loc main_arg2)
abbrev bS : FVec Ideal S2x3x256 .f32 := m ((c.tc : Thread nD τ).loc main_arg4)
abbrev bQ : FVec Ideal S2x8x64 .f32 := m ((c.tc : Thread nD τ).loc main_arg5)
abbrev bK : FVec Ideal S2x8x64 .f32 := m ((c.tc : Thread nD τ).loc main_arg6)

end Inproj.Ref
-- ==== Proof.InRefRun.lean ====
/- The in-projection reference's run: its operations in order, and its results as the stages name them. -/
module

public import proofs.«01_k».proof.Proof.InRef

@[expose] public section

noncomputable section

namespace Inproj.Ref

open Cert.Reference2Ideal Cert.Reference2Ideal.Gen Idealize.ShloMosaic Idealize.ShloMosaic.TcCoe Idealize.SL.Sem Idealize.ShloMosaic.StableHlo

section
variable {F : FTy → Type} [FloatOps F]

/-- The laying side by side of the two halves, by a name. -/
def fn_main_v37 : (⟨S16x2048x256, .f32⟩ : BufTy).Contents (Elt F) → (⟨S16x2048x256, .f32⟩ : BufTy).Contents (Elt F) → (⟨S16x2048x512, .f32⟩ : BufTy).Contents (Elt F) :=
  (fun a b => concatenate S16x2048x512 2 [⟨S16x2048x256, a⟩, ⟨S16x2048x256, b⟩] concatenates_S16x2048x256_S16x2048x256_S16x2048x512_d2)

set_option maxHeartbeats 4000000 in
/-- The operations, in order, with those of a called function in its call's place. -/
abbrev ops : List (HloOp τ sig (Elt F)) :=
  [ unary main_arg1 main_v0 ((extractStridedSlice S1x1024 ![0, 0] · slices_S2x1024_S1x1024_0_0) : (⟨S2x1024, .f32⟩ : BufTy).Contents (Elt F) → (⟨S1x1024, .f32⟩ : BufTy).Contents (Elt F)),
    reshape main_v0 main_v1 (rfl : (.f32 : EltTy) = .f32) shapeCasts_S1x1024_S1024,
    binary main_arg0 main_arg0 main_v2 (mulf : (⟨S16x2048x1024, .f32⟩ : BufTy).Contents (Elt F) → (⟨S16x2048x1024, .f32⟩ : BufTy).Contents (Elt F) → (⟨S16x2048x1024, .f32⟩ : BufTy).Contents (Elt F)),
    nullary main_cst (constant S_ .f32 0x00000000#32),
    binary main_v2 main_cst main_v3 ((fun x v => Host.reduceAdd x v reducesTo_S16x2048x1024_S16x2048_d2 h_S_) : (⟨S16x2048x1024, .f32⟩ : BufTy).Contents (Elt F) → (⟨S_, .f32⟩ : BufTy).Contents (Elt F) → (⟨S16x2048, .f32⟩ : BufTy).Contents (Elt F)),
    unary main_v3 main_v4 (broadcastInDim S16x2048x1 ![0, 1] bcast_S16x2048_S16x2048x1_0_1 : (⟨S16x2048, .f32⟩ : BufTy).Contents (Elt F) → (⟨S16x2048x1, .f32⟩ : BufTy).Contents (Elt F)),
    nullary main_cst_0 (constant S_ .f32 0x44800000#32),
    unary main_cst_0 main_v5 (broadcastInDim S16x2048x1 ![] bcast_S_S16x2048x1 : (⟨S_, .f32⟩ : BufTy).Contents (Elt F) → (⟨S16x2048x1, .f32⟩ : BufTy).Contents (Elt F)),
    binary main_v4 main_v5 main_v6 (Host.divf : (⟨S16x2048x1, .f32⟩ : BufTy).Contents (Elt F) → (⟨S16x2048x1, .f32⟩ : BufTy).Contents (Elt F) → (⟨S16x2048x1, .f32⟩ : BufTy).Contents (Elt F)),
    nullary main_cst_1 (constant S_ .f32 0x358637BD#32),
    unary main_cst_1 main_v7 (broadcastInDim S16x2048x1 ![] bcast_S_S16x2048x1 : (⟨S_, .f32⟩ : BufTy).Contents (Elt F) → (⟨S16x2048x1, .f32⟩ : BufTy).Contents (Elt F)),
    binary main_v6 main_v7 main_v8 (addf : (⟨S16x2048x1, .f32⟩ : BufTy).Contents (Elt F) → (⟨S16x2048x1, .f32⟩ : BufTy).Contents (Elt F) → (⟨S16x2048x1, .f32⟩ : BufTy).Contents (Elt F)),
    unary main_v8 main_v9 (Host.rsqrt : (⟨S16x2048x1, .f32⟩ : BufTy).Contents (Elt F) → (⟨S16x2048x1, .f32⟩ : BufTy).Contents (Elt F)),
    unary main_v9 main_v10 (broadcastInDim S16x2048x1024 ![0, 1, 2] bcast_S16x2048x1_S16x2048x1024_0_1_2 : (⟨S16x2048x1, .f32⟩ : BufTy).Contents (Elt F) → (⟨S16x2048x1024, .f32⟩ : BufTy).Contents (Elt F)),
    binary main_arg0 main_v10 main_v11 (mulf : (⟨S16x2048x1024, .f32⟩ : BufTy).Contents (Elt F) → (⟨S16x2048x1024, .f32⟩ : BufTy).Contents (Elt F) → (⟨S16x2048x1024, .f32⟩ : BufTy).Contents (Elt F)),
    unary main_v1 main_v12 (broadcastInDim S1x1x1024 ![2] bcast_S1024_S1x1x1024_2 : (⟨S1024, .f32⟩ : BufTy).Contents (Elt F) → (⟨S1x1x1024, .f32⟩ : BufTy).Contents (Elt F)),
    unary main_v12 main_v13 (broadcastInDim S16x2048x1024 ![0, 1, 2] bcast_S1x1x1024_S16x2048x1024_0_1_2 : (⟨S1x1x1024, .f32⟩ : BufTy).Contents (Elt F) → (⟨S16x2048x1024, .f32⟩ : BufTy).Contents (Elt F)),
    binary main_v11 main_v13 main_v14 (mulf : (⟨S16x2048x1024, .f32⟩ : BufTy).Contents (Elt F) → (⟨S16x2048x1024, .f32⟩ : BufTy).Contents (Elt F) → (⟨S16x2048x1024, .f32⟩ : BufTy).Contents (Elt F)),
    unary main_arg2 main_v15 ((extractStridedSlice S1x1024x3848 ![0, 0, 0] · slices_S2x1024x3848_S1x1024x3848_0_0_0) : (⟨S2x1024x3848, .f32⟩ : BufTy).Contents (Elt F) → (⟨S1x1024x3848, .f32⟩ : BufTy).Contents (Elt F)),
    reshape main_v15 main_v16 (rfl : (.f32 : EltTy) = .f32) shapeCasts_S1x1024x3848_S1024x3848,
    binary main_v14 main_v16 main_v17 ((fun l r => Host.dotGeneral dot_S16x2048x1024_S1024x3848_S16x2048x3848_2_0_01_1_n_n none l r) : (⟨S16x2048x1024, .f32⟩ : BufTy).Contents (Elt F) → (⟨S1024x3848, .f32⟩ : BufTy).Contents (Elt F) → (⟨S16x2048x3848, .f32⟩ : BufTy).Contents (Elt F)),
    unary main_v17 main_v18 ((extractStridedSlice S16x2048x256 ![0, 0, 0] · slices_S16x2048x3848_S16x2048x256_0_0_0) : (⟨S16x2048x3848, .f32⟩ : BufTy).Contents (Elt F) → (⟨S16x2048x256, .f32⟩ : BufTy).Contents (Elt F)),
    unary main_v17 main_v19 ((extractStridedSlice S16x2048x256 ![0, 0, 256] · slices_S16x2048x3848_S16x2048x256_0_0_256) : (⟨S16x2048x3848, .f32⟩ : BufTy).Contents (Elt F) → (⟨S16x2048x256, .f32⟩ : BufTy).Contents (Elt F)),
    unary main_v17 main_v20 ((extractStridedSlice S16x2048x256 ![0, 0, 512] · slices_S16x2048x3848_S16x2048x256_0_0_512) : (⟨S16x2048x3848, .f32⟩ : BufTy).Contents (Elt F) → (⟨S16x2048x256, .f32⟩ : BufTy).Contents (Elt F)),
    unary main_v17 main_v21 ((extractStridedSlice S16x2048x256 ![0, 0, 768] · slices_S16x2048x3848_S16x2048x256_0_0_768) : (⟨S16x2048x3848, .f32⟩ : BufTy).Contents (Elt F) → (⟨S16x2048x256, .f32⟩ : BufTy).Contents (Elt F)),
    unary main_v17 main_v22 ((extractStridedSlice S16x2048x256 ![0, 0, 1024] · slices_S16x2048x3848_S16x2048x256_0_0_1024) : (⟨S16x2048x3848, .f32⟩ : BufTy).Contents (Elt F) → (⟨S16x2048x256, .f32⟩ : BufTy).Contents (Elt F)),
    unary main_v17 main_v23 ((extractStridedSlice S16x2048x256 ![0, 0, 1280] · slices_S16x2048x3848_S16x2048x256_0_0_1280) : (⟨S16x2048x3848, .f32⟩ : BufTy).Contents (Elt F) → (⟨S16x2048x256, .f32⟩ : BufTy).Contents (Elt F)),
    unary main_v17 main_v24 ((extractStridedSlice S16x2048x256 ![0, 0, 1536] · slices_S16x2048x3848_S16x2048x256_0_0_1536) : (⟨S16x2048x3848, .f32⟩ : BufTy).Contents (Elt F) → (⟨S16x2048x256, .f32⟩ : BufTy).Contents (Elt F)),
    unary main_v17 main_v25 ((extractStridedSlice S16x2048x512 ![0, 0, 1792] · slices_S16x2048x3848_S16x2048x512_0_0_1792) : (⟨S16x2048x3848, .f32⟩ : BufTy).Contents (Elt F) → (⟨S16x2048x512, .f32⟩ : BufTy).Contents (Elt F)),
    unary main_v17 main_v26 ((extractStridedSlice S16x2048x512 ![0, 0, 2304] · slices_S16x2048x3848_S16x2048x512_0_0_2304) : (⟨S16x2048x3848, .f32⟩ : BufTy).Contents (Elt F) → (⟨S16x2048x512, .f32⟩ : BufTy).Contents (Elt F)),
    unary main_v17 main_v27 ((extractStridedSlice S16x2048x512 ![0, 0, 2816] · slices_S16x2048x3848_S16x2048x512_0_0_2816) : (⟨S16x2048x3848, .f32⟩ : BufTy).Contents (Elt F) → (⟨S16x2048x512, .f32⟩ : BufTy).Contents (Elt F)),
    unary main_v17 main_v28 ((extractStridedSlice S16x2048x512 ![0, 0, 3328] · slices_S16x2048x3848_S16x2048x512_0_0_3328) : (⟨S16x2048x3848, .f32⟩ : BufTy).Contents (Elt F) → (⟨S16x2048x512, .f32⟩ : BufTy).Contents (Elt F)),
    unary main_v19 main_v29 (Host.negf : (⟨S16x2048x256, .f32⟩ : BufTy).Contents (Elt F) → (⟨S16x2048x256, .f32⟩ : BufTy).Contents (Elt F)),
    unary main_v29 main_v30 (Host.exp : (⟨S16x2048x256, .f32⟩ : BufTy).Contents (Elt F) → (⟨S16x2048x256, .f32⟩ : BufTy).Contents (Elt F)),
    nullary main_cst_2 (constant S_ .f32 0x3F800000#32),
    unary main_cst_2 main_v31 (broadcastInDim S16x2048x256 ![] bcast_S_S16x2048x256 : (⟨S_, .f32⟩ : BufTy).Contents (Elt F) → (⟨S16x2048x256, .f32⟩ : BufTy).Contents (Elt F)),
    binary main_v31 main_v30 main_v32 (addf : (⟨S16x2048x256, .f32⟩ : BufTy).Contents (Elt F) → (⟨S16x2048x256, .f32⟩ : BufTy).Contents (Elt F) → (⟨S16x2048x256, .f32⟩ : BufTy).Contents (Elt F)),
    nullary main_cst_3 (constant S_ .f32 0x3F800000#32),
    unary main_cst_3 main_v33 (broadcastInDim S16x2048x256 ![] bcast_S_S16x2048x256 : (⟨S_, .f32⟩ : BufTy).Contents (Elt F) → (⟨S16x2048x256, .f32⟩ : BufTy).Contents (Elt F)),
    binary main_v33 main_v32 main_v34 (Host.divf : (⟨S16x2048x256, .f32⟩ : BufTy).Contents (Elt F) → (⟨S16x2048x256, .f32⟩ : BufTy).Contents (Elt F) → (⟨S16x2048x256, .f32⟩ : BufTy).Contents (Elt F)),
    binary main_v18 main_v34 main_v35 (mulf : (⟨S16x2048x256, .f32⟩ : BufTy).Contents (Elt F) → (⟨S16x2048x256, .f32⟩ : BufTy).Contents (Elt F) → (⟨S16x2048x256, .f32⟩ : BufTy).Contents (Elt F)),
    TRef.unary (TRef.of (T := ⟨S16x2048x256, .f32⟩) main_v20) (TRef.of (T := ⟨S16x2048x256, .f32⟩) main_call0_v0) Host.negf,
    TRef.unary (TRef.of (T := ⟨S16x2048x256, .f32⟩) main_call0_v0) (TRef.of (T := ⟨S16x2048x256, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S16x2048x256, .f32⟩) main_call0_v2) (broadcastInDim S16x2048x256 ![] bcast_S_S16x2048x256),
    TRef.binary (TRef.of (T := ⟨S16x2048x256, .f32⟩) main_call0_v2) (TRef.of (T := ⟨S16x2048x256, .f32⟩) main_call0_v1) (TRef.of (T := ⟨S16x2048x256, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S16x2048x256, .f32⟩) main_call0_v4) (broadcastInDim S16x2048x256 ![] bcast_S_S16x2048x256),
    TRef.binary (TRef.of (T := ⟨S16x2048x256, .f32⟩) main_call0_v4) (TRef.of (T := ⟨S16x2048x256, .f32⟩) main_call0_v3) (TRef.of (T := ⟨S16x2048x256, .f32⟩) main_call0_v5) Host.divf,
    TRef.binary (TRef.of (T := ⟨S16x2048x256, .f32⟩) main_v20) (TRef.of (T := ⟨S16x2048x256, .f32⟩) main_call0_v5) (TRef.of (T := ⟨S16x2048x256, .f32⟩) main_v36) mulf,
    binary main_v35 main_v36 main_v37 (fn_main_v37 (F := F)),
    binary main_v22 main_v23 main_v38 (mulf : (⟨S16x2048x256, .f32⟩ : BufTy).Contents (Elt F) → (⟨S16x2048x256, .f32⟩ : BufTy).Contents (Elt F) → (⟨S16x2048x256, .f32⟩ : BufTy).Contents (Elt F)),
    unary main_arg4 main_v39 ((extractStridedSlice S1x3x256 ![0, 0, 0] · slices_S2x3x256_S1x3x256_0_0_0) : (⟨S2x3x256, .f32⟩ : BufTy).Contents (Elt F) → (⟨S1x3x256, .f32⟩ : BufTy).Contents (Elt F)),
    reshape main_v39 main_v40 (rfl : (.f32 : EltTy) = .f32) shapeCasts_S1x3x256_S3x256,
    nullary main_c (constantI S_ 32 0#32),
    TRef.unary (TRef.of (T := ⟨S_, .i32⟩) main_c) (TRef.of (T := ⟨S_, .f32⟩) main_call1_v0) (sitofp .f32),
    TRef.binary (TRef.of (T := ⟨S16x2048x256, .f32⟩) main_v38) (TRef.of (T := ⟨S_, .f32⟩) main_call1_v0) (TRef.of (T := ⟨S16x2050x256, .f32⟩) main_v41) (fun x v => pad S16x2050x256 ![0, 2, 0] ![0, 0, 0] ![0, 0, 0] x v pads_S16x2048x256_S16x2050x256_000_200_000 h_S_),
    unary main_v40 main_v42 ((extractStridedSlice S1x256 ![0, 0] · slices_S3x256_S1x256_0_0) : (⟨S3x256, .f32⟩ : BufTy).Contents (Elt F) → (⟨S1x256, .f32⟩ : BufTy).Contents (Elt F)),
    reshape main_v42 main_v43 (rfl : (.f32 : EltTy) = .f32) shapeCasts_S1x256_S256,
    unary main_v41 main_v44 ((extractStridedSlice S16x2048x256 ![0, 0, 0] · slices_S16x2050x256_S16x2048x256_0_0_0) : (⟨S16x2050x256, .f32⟩ : BufTy).Contents (Elt F) → (⟨S16x2048x256, .f32⟩ : BufTy).Contents (Elt F)),
    unary main_v43 main_v45 (broadcastInDim S1x1x256 ![2] bcast_S256_S1x1x256_2 : (⟨S256, .f32⟩ : BufTy).Contents (Elt F) → (⟨S1x1x256, .f32⟩ : BufTy).Contents (Elt F)),
    unary main_v45 main_v46 (broadcastInDim S16x2048x256 ![0, 1, 2] bcast_S1x1x256_S16x2048x256_0_1_2 : (⟨S1x1x256, .f32⟩ : BufTy).Contents (Elt F) → (⟨S16x2048x256, .f32⟩ : BufTy).Contents (Elt F)),
    binary main_v46 main_v44 main_v47 (mulf : (⟨S16x2048x256, .f32⟩ : BufTy).Contents (Elt F) → (⟨S16x2048x256, .f32⟩ : BufTy).Contents (Elt F) → (⟨S16x2048x256, .f32⟩ : BufTy).Contents (Elt F)),
    unary main_v40 main_v48 ((extractStridedSlice S1x256 ![1, 0] · slices_S3x256_S1x256_1_0) : (⟨S3x256, .f32⟩ : BufTy).Contents (Elt F) → (⟨S1x256, .f32⟩ : BufTy).Contents (Elt F)),
    reshape main_v48 main_v49 (rfl : (.f32 : EltTy) = .f32) shapeCasts_S1x256_S256,
    unary main_v41 main_v50 ((extractStridedSlice S16x2048x256 ![0, 1, 0] · slices_S16x2050x256_S16x2048x256_0_1_0) : (⟨S16x2050x256, .f32⟩ : BufTy).Contents (Elt F) → (⟨S16x2048x256, .f32⟩ : BufTy).Contents (Elt F)),
    unary main_v49 main_v51 (broadcastInDim S1x1x256 ![2] bcast_S256_S1x1x256_2 : (⟨S256, .f32⟩ : BufTy).Contents (Elt F) → (⟨S1x1x256, .f32⟩ : BufTy).Contents (Elt F)),
    unary main_v51 main_v52 (broadcastInDim S16x2048x256 ![0, 1, 2] bcast_S1x1x256_S16x2048x256_0_1_2 : (⟨S1x1x256, .f32⟩ : BufTy).Contents (Elt F) → (⟨S16x2048x256, .f32⟩ : BufTy).Contents (Elt F)),
    binary main_v52 main_v50 main_v53 (mulf : (⟨S16x2048x256, .f32⟩ : BufTy).Contents (Elt F) → (⟨S16x2048x256, .f32⟩ : BufTy).Contents (Elt F) → (⟨S16x2048x256, .f32⟩ : BufTy).Contents (Elt F)),
    binary main_v47 main_v53 main_v54 (addf : (⟨S16x2048x256, .f32⟩ : BufTy).Contents (Elt F) → (⟨S16x2048x256, .f32⟩ : BufTy).Contents (Elt F) → (⟨S16x2048x256, .f32⟩ : BufTy).Contents (Elt F)),
    unary main_v40 main_v55 ((extractStridedSlice S1x256 ![2, 0] · slices_S3x256_S1x256_2_0) : (⟨S3x256, .f32⟩ : BufTy).Contents (Elt F) → (⟨S1x256, .f32⟩ : BufTy).Contents (Elt F)),
    reshape main_v55 main_v56 (rfl : (.f32 : EltTy) = .f32) shapeCasts_S1x256_S256,
    unary main_v41 main_v57 ((extractStridedSlice S16x2048x256 ![0, 2, 0] · slices_S16x2050x256_S16x2048x256_0_2_0) : (⟨S16x2050x256, .f32⟩ : BufTy).Contents (Elt F) → (⟨S16x2048x256, .f32⟩ : BufTy).Contents (Elt F)),
    unary main_v56 main_v58 (broadcastInDim S1x1x256 ![2] bcast_S256_S1x1x256_2 : (⟨S256, .f32⟩ : BufTy).Contents (Elt F) → (⟨S1x1x256, .f32⟩ : BufTy).Contents (Elt F)),
    unary main_v58 main_v59 (broadcastInDim S16x2048x256 ![0, 1, 2] bcast_S1x1x256_S16x2048x256_0_1_2 : (⟨S1x1x256, .f32⟩ : BufTy).Contents (Elt F) → (⟨S16x2048x256, .f32⟩ : BufTy).Contents (Elt F)),
    binary main_v59 main_v57 main_v60 (mulf : (⟨S16x2048x256, .f32⟩ : BufTy).Contents (Elt F) → (⟨S16x2048x256, .f32⟩ : BufTy).Contents (Elt F) → (⟨S16x2048x256, .f32⟩ : BufTy).Contents (Elt F)),
    binary main_v54 main_v60 main_v61 (addf : (⟨S16x2048x256, .f32⟩ : BufTy).Contents (Elt F) → (⟨S16x2048x256, .f32⟩ : BufTy).Contents (Elt F) → (⟨S16x2048x256, .f32⟩ : BufTy).Contents (Elt F)),
    binary main_v21 main_v61 main_v62 (mulf : (⟨S16x2048x256, .f32⟩ : BufTy).Contents (Elt F) → (⟨S16x2048x256, .f32⟩ : BufTy).Contents (Elt F) → (⟨S16x2048x256, .f32⟩ : BufTy).Contents (Elt F)),
    TRef.unary (TRef.of (T := ⟨S16x2048x256, .f32⟩) main_v24) (TRef.of (T := ⟨S16x2048x256, .f32⟩) main_call2_v0) Host.negf,
    TRef.unary (TRef.of (T := ⟨S16x2048x256, .f32⟩) main_call2_v0) (TRef.of (T := ⟨S16x2048x256, .f32⟩) main_call2_v1) Host.exp,
    TRef.nullary (TRef.of (T := ⟨S_, .f32⟩) main_call2_cst) (constant S_ .f32 0x3F800000#32),
    TRef.unary (TRef.of (T := ⟨S_, .f32⟩) main_call2_cst) (TRef.of (T := ⟨S16x2048x256, .f32⟩) main_call2_v2) (broadcastInDim S16x2048x256 ![] bcast_S_S16x2048x256),
    TRef.binary (TRef.of (T := ⟨S16x2048x256, .f32⟩) main_call2_v2) (TRef.of (T := ⟨S16x2048x256, .f32⟩) main_call2_v1) (TRef.of (T := ⟨S16x2048x256, .f32⟩) main_call2_v3) addf,
    TRef.nullary (TRef.of (T := ⟨S_, .f32⟩) main_call2_cst_0) (constant S_ .f32 0x3F800000#32),
    TRef.unary (TRef.of (T := ⟨S_, .f32⟩) main_call2_cst_0) (TRef.of (T := ⟨S16x2048x256, .f32⟩) main_call2_v4) (broadcastInDim S16x2048x256 ![] bcast_S_S16x2048x256),
    TRef.binary (TRef.of (T := ⟨S16x2048x256, .f32⟩) main_call2_v4) (TRef.of (T := ⟨S16x2048x256, .f32⟩) main_call2_v3) (TRef.of (T := ⟨S16x2048x256, .f32⟩) main_call2_v5) Host.divf,
    TRef.binary (TRef.of (T := ⟨S16x2048x256, .f32⟩) main_v24) (TRef.of (T := ⟨S16x2048x256, .f32⟩) main_call2_v5) (TRef.of (T := ⟨S16x2048x256, .f32⟩) main_v63) mulf,
    binary main_v62 main_v63 main_v64 (mulf : (⟨S16x2048x256, .f32⟩ : BufTy).Contents (Elt F) → (⟨S16x2048x256, .f32⟩ : BufTy).Contents (Elt F) → (⟨S16x2048x256, .f32⟩ : BufTy).Contents (Elt F)),
    reshape main_v25 main_v65 (rfl : (.f32 : EltTy) = .f32) shapeCasts_S16x2048x512_S16x2048x8x64,
    unary main_arg5 main_v66 ((extractStridedSlice S1x8x64 ![0, 0, 0] · slices_S2x8x64_S1x8x64_0_0_0) : (⟨S2x8x64, .f32⟩ : BufTy).Contents (Elt F) → (⟨S1x8x64, .f32⟩ : BufTy).Contents (Elt F)),
    reshape main_v66 main_v67 (rfl : (.f32 : EltTy) = .f32) shapeCasts_S1x8x64_S8x64,
    binary main_v65 main_v65 main_v68 (mulf : (⟨S16x2048x8x64, .f32⟩ : BufTy).Contents (Elt F) → (⟨S16x2048x8x64, .f32⟩ : BufTy).Contents (Elt F) → (⟨S16x2048x8x64, .f32⟩ : BufTy).Contents (Elt F)),
    nullary main_cst_4 (constant S_ .f32 0x00000000#32),
    binary main_v68 main_cst_4 main_v69 ((fun x v => Host.reduceAdd x v reducesTo_S16x2048x8x64_S16x2048x8_d3 h_S_) : (⟨S16x2048x8x64, .f32⟩ : BufTy).Contents (Elt F) → (⟨S_, .f32⟩ : BufTy).Contents (Elt F) → (⟨S16x2048x8, .f32⟩ : BufTy).Contents (Elt F)),
    unary main_v69 main_v70 (broadcastInDim S16x2048x8x1 ![0, 1, 2] bcast_S16x2048x8_S16x2048x8x1_0_1_2 : (⟨S16x2048x8, .f32⟩ : BufTy).Contents (Elt F) → (⟨S16x2048x8x1, .f32⟩ : BufTy).Contents (Elt F)),
    nullary main_cst_5 (constant S_ .f32 0x42800000#32),
    unary main_cst_5 main_v71 (broadcastInDim S16x2048x8x1 ![] bcast_S_S16x2048x8x1 : (⟨S_, .f32⟩ : BufTy).Contents (Elt F) → (⟨S16x2048x8x1, .f32⟩ : BufTy).Contents (Elt F)),
    binary main_v70 main_v71 main_v72 (Host.divf : (⟨S16x2048x8x1, .f32⟩ : BufTy).Contents (Elt F) → (⟨S16x2048x8x1, .f32⟩ : BufTy).Contents (Elt F) → (⟨S16x2048x8x1, .f32⟩ : BufTy).Contents (Elt F)),
    nullary main_cst_6 (constant S_ .f32 0x358637BD#32),
    unary main_cst_6 main_v73 (broadcastInDim S16x2048x8x1 ![] bcast_S_S16x2048x8x1 : (⟨S_, .f32⟩ : BufTy).Contents (Elt F) → (⟨S16x2048x8x1, .f32⟩ : BufTy).Contents (Elt F)),
    binary main_v72 main_v73 main_v74 (addf : (⟨S16x2048x8x1, .f32⟩ : BufTy).Contents (Elt F) → (⟨S16x2048x8x1, .f32⟩ : BufTy).Contents (Elt F) → (⟨S16x2048x8x1, .f32⟩ : BufTy).Contents (Elt F)),
    unary main_v74 main_v75 (Host.rsqrt : (⟨S16x2048x8x1, .f32⟩ : BufTy).Contents (Elt F) → (⟨S16x2048x8x1, .f32⟩ : BufTy).Contents (Elt F)),
    unary main_v75 main_v76 (broadcastInDim S16x2048x8x64 ![0, 1, 2, 3] bcast_S16x2048x8x1_S16x2048x8x64_0_1_2_3 : (⟨S16x2048x8x1, .f32⟩ : BufTy).Contents (Elt F) → (⟨S16x2048x8x64, .f32⟩ : BufTy).Contents (Elt F)),
    binary main_v65 main_v76 main_v77 (mulf : (⟨S16x2048x8x64, .f32⟩ : BufTy).Contents (Elt F) → (⟨S16x2048x8x64, .f32⟩ : BufTy).Contents (Elt F) → (⟨S16x2048x8x64, .f32⟩ : BufTy).Contents (Elt F)),
    unary main_v67 main_v78 (broadcastInDim S1x1x8x64 ![2, 3] bcast_S8x64_S1x1x8x64_2_3 : (⟨S8x64, .f32⟩ : BufTy).Contents (Elt F) → (⟨S1x1x8x64, .f32⟩ : BufTy).Contents (Elt F)),
    unary main_v78 main_v79 (broadcastInDim S16x2048x8x64 ![0, 1, 2, 3] bcast_S1x1x8x64_S16x2048x8x64_0_1_2_3 : (⟨S1x1x8x64, .f32⟩ : BufTy).Contents (Elt F) → (⟨S16x2048x8x64, .f32⟩ : BufTy).Contents (Elt F)),
    binary main_v77 main_v79 main_v80 (mulf : (⟨S16x2048x8x64, .f32⟩ : BufTy).Contents (Elt F) → (⟨S16x2048x8x64, .f32⟩ : BufTy).Contents (Elt F) → (⟨S16x2048x8x64, .f32⟩ : BufTy).Contents (Elt F)),
    nullary main_cst_7 (constant S_ .f32 0x41000000#32),
    unary main_cst_7 main_v81 (broadcastInDim S16x2048x8x64 ![] bcast_S_S16x2048x8x64 : (⟨S_, .f32⟩ : BufTy).Contents (Elt F) → (⟨S16x2048x8x64, .f32⟩ : BufTy).Contents (Elt F)),
    binary main_v80 main_v81 main_v82 (Host.divf : (⟨S16x2048x8x64, .f32⟩ : BufTy).Contents (Elt F) → (⟨S16x2048x8x64, .f32⟩ : BufTy).Contents (Elt F) → (⟨S16x2048x8x64, .f32⟩ : BufTy).Contents (Elt F)),
    nullary main_cst_8 (constant S_ .f32 0x40000000#32),
    unary main_cst_8 main_v83 (Host.log : (⟨S_, .f32⟩ : BufTy).Contents (Elt F) → (⟨S_, .f32⟩ : BufTy).Contents (Elt F)),
    unary main_v83 main_v84 (broadcastInDim S16x2048x8x64 ![] bcast_S_S16x2048x8x64 : (⟨S_, .f32⟩ : BufTy).Contents (Elt F) → (⟨S16x2048x8x64, .f32⟩ : BufTy).Contents (Elt F)),
    binary main_v82 main_v84 main_v85 (Host.divf : (⟨S16x2048x8x64, .f32⟩ : BufTy).Contents (Elt F) → (⟨S16x2048x8x64, .f32⟩ : BufTy).Contents (Elt F) → (⟨S16x2048x8x64, .f32⟩ : BufTy).Contents (Elt F)),
    reshape main_v26 main_v86 (rfl : (.f32 : EltTy) = .f32) shapeCasts_S16x2048x512_S16x2048x8x64,
    unary main_arg6 main_v87 ((extractStridedSlice S1x8x64 ![0, 0, 0] · slices_S2x8x64_S1x8x64_0_0_0) : (⟨S2x8x64, .f32⟩ : BufTy).Contents (Elt F) → (⟨S1x8x64, .f32⟩ : BufTy).Contents (Elt F)),
    reshape main_v87 main_v88 (rfl : (.f32 : EltTy) = .f32) shapeCasts_S1x8x64_S8x64,
    binary main_v86 main_v86 main_v89 (mulf : (⟨S16x2048x8x64, .f32⟩ : BufTy).Contents (Elt F) → (⟨S16x2048x8x64, .f32⟩ : BufTy).Contents (Elt F) → (⟨S16x2048x8x64, .f32⟩ : BufTy).Contents (Elt F)),
    nullary main_cst_9 (constant S_ .f32 0x00000000#32),
    binary main_v89 main_cst_9 main_v90 ((fun x v => Host.reduceAdd x v reducesTo_S16x2048x8x64_S16x2048x8_d3 h_S_) : (⟨S16x2048x8x64, .f32⟩ : BufTy).Contents (Elt F) → (⟨S_, .f32⟩ : BufTy).Contents (Elt F) → (⟨S16x2048x8, .f32⟩ : BufTy).Contents (Elt F)),
    unary main_v90 main_v91 (broadcastInDim S16x2048x8x1 ![0, 1, 2] bcast_S16x2048x8_S16x2048x8x1_0_1_2 : (⟨S16x2048x8, .f32⟩ : BufTy).Contents (Elt F) → (⟨S16x2048x8x1, .f32⟩ : BufTy).Contents (Elt F)),
    nullary main_cst_10 (constant S_ .f32 0x42800000#32),
    unary main_cst_10 main_v92 (broadcastInDim S16x2048x8x1 ![] bcast_S_S16x2048x8x1 : (⟨S_, .f32⟩ : BufTy).Contents (Elt F) → (⟨S16x2048x8x1, .f32⟩ : BufTy).Contents (Elt F)),
    binary main_v91 main_v92 main_v93 (Host.divf : (⟨S16x2048x8x1, .f32⟩ : BufTy).Contents (Elt F) → (⟨S16x2048x8x1, .f32⟩ : BufTy).Contents (Elt F) → (⟨S16x2048x8x1, .f32⟩ : BufTy).Contents (Elt F)),
    nullary main_cst_11 (constant S_ .f32 0x358637BD#32),
    unary main_cst_11 main_v94 (broadcastInDim S16x2048x8x1 ![] bcast_S_S16x2048x8x1 : (⟨S_, .f32⟩ : BufTy).Contents (Elt F) → (⟨S16x2048x8x1, .f32⟩ : BufTy).Contents (Elt F)),
    binary main_v93 main_v94 main_v95 (addf : (⟨S16x2048x8x1, .f32⟩ : BufTy).Contents (Elt F) → (⟨S16x2048x8x1, .f32⟩ : BufTy).Contents (Elt F) → (⟨S16x2048x8x1, .f32⟩ : BufTy).Contents (Elt F)),
    unary main_v95 main_v96 (Host.rsqrt : (⟨S16x2048x8x1, .f32⟩ : BufTy).Contents (Elt F) → (⟨S16x2048x8x1, .f32⟩ : BufTy).Contents (Elt F)),
    unary main_v96 main_v97 (broadcastInDim S16x2048x8x64 ![0, 1, 2, 3] bcast_S16x2048x8x1_S16x2048x8x64_0_1_2_3 : (⟨S16x2048x8x1, .f32⟩ : BufTy).Contents (Elt F) → (⟨S16x2048x8x64, .f32⟩ : BufTy).Contents (Elt F)),
    binary main_v86 main_v97 main_v98 (mulf : (⟨S16x2048x8x64, .f32⟩ : BufTy).Contents (Elt F) → (⟨S16x2048x8x64, .f32⟩ : BufTy).Contents (Elt F) → (⟨S16x2048x8x64, .f32⟩ : BufTy).Contents (Elt F)),
    unary main_v88 main_v99 (broadcastInDim S1x1x8x64 ![2, 3] bcast_S8x64_S1x1x8x64_2_3 : (⟨S8x64, .f32⟩ : BufTy).Contents (Elt F) → (⟨S1x1x8x64, .f32⟩ : BufTy).Contents (Elt F)),
    unary main_v99 main_v100 (broadcastInDim S16x2048x8x64 ![0, 1, 2, 3] bcast_S1x1x8x64_S16x2048x8x64_0_1_2_3 : (⟨S1x1x8x64, .f32⟩ : BufTy).Contents (Elt F) → (⟨S16x2048x8x64, .f32⟩ : BufTy).Contents (Elt F)),
    binary main_v98 main_v100 main_v101 (mulf : (⟨S16x2048x8x64, .f32⟩ : BufTy).Contents (Elt F) → (⟨S16x2048x8x64, .f32⟩ : BufTy).Contents (Elt F) → (⟨S16x2048x8x64, .f32⟩ : BufTy).Contents (Elt F)),
    reshape main_v27 main_v102 (rfl : (.f32 : EltTy) = .f32) shapeCasts_S16x2048x512_S16x2048x8x64,
    TRef.unary (TRef.of (T := ⟨S16x2048x512, .f32⟩) main_v28) (TRef.of (T := ⟨S16x2048x512, .f32⟩) main_call3_v0) Host.negf,
    TRef.unary (TRef.of (T := ⟨S16x2048x512, .f32⟩) main_call3_v0) (TRef.of (T := ⟨S16x2048x512, .f32⟩) main_call3_v1) Host.exp,
    TRef.nullary (TRef.of (T := ⟨S_, .f32⟩) main_call3_cst) (constant S_ .f32 0x3F800000#32),
    TRef.unary (TRef.of (T := ⟨S_, .f32⟩) main_call3_cst) (TRef.of (T := ⟨S16x2048x512, .f32⟩) main_call3_v2) (broadcastInDim S16x2048x512 ![] bcast_S_S16x2048x512),
    TRef.binary (TRef.of (T := ⟨S16x2048x512, .f32⟩) main_call3_v2) (TRef.of (T := ⟨S16x2048x512, .f32⟩) main_call3_v1) (TRef.of (T := ⟨S16x2048x512, .f32⟩) main_call3_v3) addf,
    TRef.nullary (TRef.of (T := ⟨S_, .f32⟩) main_call3_cst_0) (constant S_ .f32 0x3F800000#32),
    TRef.unary (TRef.of (T := ⟨S_, .f32⟩) main_call3_cst_0) (TRef.of (T := ⟨S16x2048x512, .f32⟩) main_call3_v4) (broadcastInDim S16x2048x512 ![] bcast_S_S16x2048x512),
    TRef.binary (TRef.of (T := ⟨S16x2048x512, .f32⟩) main_call3_v4) (TRef.of (T := ⟨S16x2048x512, .f32⟩) main_call3_v3) (TRef.of (T := ⟨S16x2048x512, .f32⟩) main_call3_v5) Host.divf,
    TRef.binary (TRef.of (T := ⟨S16x2048x512, .f32⟩) main_v28) (TRef.of (T := ⟨S16x2048x512, .f32⟩) main_call3_v5) (TRef.of (T := ⟨S16x2048x512, .f32⟩) main_v103) mulf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., reshape_bufs_sub .., binary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., unary_bufs_sub .., reshape_bufs_sub .., nullary_bufs_sub .., unary_bufs_sub .., binary_bufs_sub .., unary_bufs_sub .., reshape_bufs_sub .., unary_bufs_sub .., unary_bufs_sub .., unary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., reshape_bufs_sub .., unary_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., unary_bufs_sub .., binary_bufs_sub .., reshape_bufs_sub .., unary_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., reshape_bufs_sub .., unary_bufs_sub .., unary_bufs_sub .., nullary_bufs_sub .., unary_bufs_sub .., binary_bufs_sub .., nullary_bufs_sub .., unary_bufs_sub .., binary_bufs_sub .., binary_bufs_sub ..⟩

end

set_option maxRecDepth 8192 in
set_option maxHeartbeats 60000000 in
/-- Every fair execution ends with each result at the stages' term of the arguments, and the arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v37) = uV (projV (bX m c) (bN m c) (bW m c))
      ∧ r.2.mem ((c.tc : Thread nD τ).loc main_v64) = yV (projV (bX m c) (bN m c) (bW m c)) (bS m c)
      ∧ r.2.mem ((c.tc : Thread nD τ).loc main_v85) = qV (headV (qpV (projV (bX m c) (bN m c) (bW m c))) (bQ m c))
      ∧ r.2.mem ((c.tc : Thread nD τ).loc main_v101) = headV (kpV (projV (bX m c) (bN m c) (bW m c))) (bK m c)
      ∧ r.2.mem ((c.tc : Thread nD τ).loc main_v102) = vV (projV (bX m c) (bN m c) (bW m c))
      ∧ r.2.mem ((c.tc : Thread nD τ).loc main_v103) = gV (projV (bX m c) (bN m c) (bW m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v37).trans (by simp only [ops, TRef.binary, TRef.nullary, TRef.unary, TRef.toBuf, TRef.ofBuf, cast_eq]; after_results_simp <;> rfl),
      (h c main_v64).trans (by simp only [ops, TRef.binary, TRef.nullary, TRef.unary, TRef.toBuf, TRef.ofBuf, cast_eq]; after_results_simp <;> rfl),
      (h c main_v85).trans (by simp only [ops, TRef.binary, TRef.nullary, TRef.unary, TRef.toBuf, TRef.ofBuf, cast_eq]; after_results_simp <;> rfl),
      (h c main_v101).trans (by simp only [ops, TRef.binary, TRef.nullary, TRef.unary, TRef.toBuf, TRef.ofBuf, cast_eq]; after_results_simp <;> rfl),
      (h c main_v102).trans (by simp only [ops, TRef.binary, TRef.nullary, TRef.unary, TRef.toBuf, TRef.ofBuf, cast_eq]; after_results_simp <;> rfl),
      (h c main_v103).trans (by simp only [ops, TRef.binary, TRef.nullary, TRef.unary, TRef.toBuf, TRef.ofBuf, cast_eq]; after_results_simp <;> rfl),
      (h c main_arg0).trans (by simp only [ops, TRef.binary, TRef.nullary, TRef.unary, TRef.toBuf, TRef.ofBuf, cast_eq]; after_results_simp <;> rfl),
      (h c main_arg1).trans (by simp only [ops, TRef.binary, TRef.nullary, TRef.unary, TRef.toBuf, TRef.ofBuf, cast_eq]; after_results_simp <;> rfl),
      (h c main_arg2).trans (by simp only [ops, TRef.binary, TRef.nullary, TRef.unary, TRef.toBuf, TRef.ofBuf, cast_eq]; after_results_simp <;> rfl),
      (h c main_arg3).trans (by simp only [ops, TRef.binary, TRef.nullary, TRef.unary, TRef.toBuf, TRef.ofBuf, cast_eq]; after_results_simp <;> rfl),
      (h c main_arg4).trans (by simp only [ops, TRef.binary, TRef.nullary, TRef.unary, TRef.toBuf, TRef.ofBuf, cast_eq]; after_results_simp <;> rfl),
      (h c main_arg5).trans (by simp only [ops, TRef.binary, TRef.nullary, TRef.unary, TRef.toBuf, TRef.ofBuf, cast_eq]; after_results_simp <;> rfl),
      (h c main_arg6).trans (by simp only [ops, TRef.binary, TRef.nullary, TRef.unary, TRef.toBuf, TRef.ofBuf, cast_eq]; after_results_simp <;> rfl)⟩)
    (run_seq scopedRefs_eq scopedSems_eq defs main (fun _ => ops) main_eq (fun _ => ops_sub) m ρ)

end Inproj.Ref

end
-- ==== Proof.Twin.lean ====
/- The frames: the run read at the arguments, for any values; and the kernel as compiled, which is the same text read with
   its named constants at their written values. -/
module

public import proofs.«01_k».proof.Defs
public import proofs.«01_k».proof.Proof.Gen.Kernel
public import proofs.«01_k».proof.Proof.Around
public import Idealize.ShloMosaic.PureOps.BitExact

@[expose] public section

noncomputable section

namespace Fox

open Idealize.ShloMosaic Idealize.ShloMosaic.TcCoe Idealize.SL.Sem
open Cert.KernelIdeal Cert.KernelIdeal.Gen

section
variable {F : FTy → Type} [FloatOps F] [Named F]
variable (m : (ℓ : Loc nD τ sig) → Buf (Elt F) ℓ) (ρ : Dev nD → PrngReg)

/-- The arguments end as they began, and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨(((h.1 c).2 main_arg0 (Pipeline.mem_restRefs_of main_arg0 (by decide) (by decide))).trans (W_main_arg0 m (dats m) c)),
      (((h.1 c).2 main_arg1 (Pipeline.mem_restRefs_of main_arg1 (by decide) (by decide))).trans (W_main_arg1 m (dats m) c)),
      (((h.1 c).2 main_arg2 (Pipeline.mem_restRefs_of main_arg2 (by decide) (by decide))).trans (W_main_arg2 m (dats m) c)),
      (((h.1 c).2 main_arg3 (Pipeline.mem_restRefs_of main_arg3 (by decide) (by decide))).trans (W_main_arg3 m (dats m) c)),
      (((h.1 c).2 main_arg4 (Pipeline.mem_restRefs_of main_arg4 (by decide) (by decide))).trans (W_main_arg4 m (dats m) c))⟩, h.2⟩) (run_main m ρ)
end

/-- Every named constant at the value it was written with. -/
@[reducible] def written : Named Bits := ⟨fun _ _ {φ} b => FloatOps.ofBits φ b⟩

attribute [local instance] written

set_option maxRecDepth 100000 in
set_option maxHeartbeats 0 in
theorem main_same : Cert.Kernel.main (F := Bits) = main (F := Bits) := rfl

set_option maxRecDepth 100000 in
set_option maxHeartbeats 0 in
theorem body_same : Cert.Kernel.cc0_fox_attention (F := Bits) = cc0_fox_attention (F := Bits) := rfl

theorem pcfgs_same : Cert.Kernel.pcfgs (F := Bits) = pcfgs (F := Bits) := rfl

set_option maxRecDepth 100000 in
theorem table_same : Cert.Kernel.defs₀ (F := Bits) = defs₀ (F := Bits) := by
  unfold Cert.Kernel.defs₀ defs₀
  refine congrArg Defs.onTc (funext fun b => funext fun a => ?_)
  match b, a with
  | ⟨0, _⟩, (t, s) =>
    show Cert.Kernel.cc0_fox_attention (F := Bits) _ _ _ _ _ _ _ _ _ _ _ _ _ _ _ = _
    rw [body_same]
    rfl

theorem defs_same : Cert.Kernel.defs (F := Bits) = defs (F := Bits) := by
  unfold Cert.Kernel.defs defs
  exact congrArg (Pipeline.defs pcfgs) table_same

/-- The kernel as compiled. -/
theorem quiet_kernel : Cert.quiescent_Kernel (hKernel := Cert.Kernel.Gen.facts) := fun m ρ => by
  have h := quiet (F := Bits) m ρ
  rw [← main_same, ← defs_same] at h
  exact fun _ => h

theorem quiet_ideal : Cert.quiescent_KernelIdeal (hKernelIdeal := Cert.KernelIdeal.Gen.facts) := fun m ρ _ => quiet (F := Ideal) m ρ

end Fox
-- ==== Proof.InTwin.lean ====
/- The in-projection kernel as compiled is the same text as the one read over the extended reals, so its frame is the same run. -/
module

public import proofs.«01_k».proof.Defs
public import proofs.«01_k».proof.Proof.Gen.Kernel2
public import proofs.«01_k».proof.Proof.Gen.Kernel2Ideal.Frame
public import Idealize.ShloMosaic.PureOps.BitExact

@[expose] public section

noncomputable section

namespace Inproj

open Idealize.ShloMosaic Idealize.ShloMosaic.TcCoe Idealize.SL.Sem
open Cert.Kernel2Ideal Cert.Kernel2Ideal.Gen

set_option maxRecDepth 100000 in
set_option maxHeartbeats 0 in
theorem main_same : Cert.Kernel2.main (F := Bits) = main (F := Bits) := rfl

set_option maxRecDepth 100000 in
set_option maxHeartbeats 0 in
theorem body_same : Cert.Kernel2.cc0_inproj (F := Bits) = cc0_inproj (F := Bits) := rfl

theorem pcfgs_same : Cert.Kernel2.pcfgs (F := Bits) = pcfgs (F := Bits) := rfl

set_option maxRecDepth 100000 in
set_option maxHeartbeats 0 in
theorem table_same : Cert.Kernel2.defs₀ (F := Bits) = defs₀ (F := Bits) := by
  unfold Cert.Kernel2.defs₀ defs₀
  refine congrArg Defs.onTc (funext fun b => funext fun a => ?_)
  match b, a with
  | ⟨0, _⟩, (t, s) =>
    exact congrArg (fun f => f (grid0.coords t) (win0_0.stage (s 0)) (hstage0_0 ((s 0).cast nbuf0_0)) (win0_1.stage (s 1)) (hstage0_1 ((s 1).cast nbuf0_1)) (win0_2.stage (s 2)) (hstage0_2 ((s 2).cast nbuf0_2)) (win0_3.stage (s 3)) (hstage0_3 ((s 3).cast nbuf0_3)) (win0_4.stage (s 4)) (hstage0_4 ((s 4).cast nbuf0_4)) (win0_5.stage (s 5)) (hstage0_5 ((s 5).cast nbuf0_5)) (win0_6.stage (s 6)) (hstage0_6 ((s 6).cast nbuf0_6)) (win0_7.stage (s 7)) (hstage0_7 ((s 7).cast nbuf0_7)) (win0_8.stage (s 8)) (hstage0_8 ((s 8).cast nbuf0_8)) (win0_9.stage (s 9)) (hstage0_9 ((s 9).cast nbuf0_9)) (win0_10.stage (s 10)) (hstage0_10 ((s 10).cast nbuf0_10)) (win0_11.stage (s 11)) (hstage0_11 ((s 11).cast nbuf0_11)) (win0_12.stage (s 12)) (hstage0_12 ((s 12).cast nbuf0_12)) (Memref.whole cc0_scratch0) (Memref.isWhole_whole _) (Memref.whole cc0_scratch1) (Memref.isWhole_whole _)) body_same

theorem defs_same : Cert.Kernel2.defs (F := Bits) = defs (F := Bits) := by
  unfold Cert.Kernel2.defs defs
  exact congrArg (Pipeline.defs pcfgs) table_same

/-- The kernel as compiled. -/
theorem quiet_kernel : Cert.quiescent_Kernel2 (hKernel2 := Cert.Kernel2.Gen.facts) := fun m ρ => by
  have h := Cert.Kernel2Ideal.Gen.frame (F := Bits) m ρ
  rw [← main_same, ← defs_same] at h
  exact fun _ => h

end Inproj
-- ==== Proof.InLaunch.lean ====
/- The in-projection kernel's arrays after the launch, from its blocks; and the results that the last host lines lay out from
   them. Three of the arrays are read only at their first sixty-four rows a head. -/
module

public import proofs.«01_k».proof.Proof.InHost

@[expose] public section

set_option maxRecDepth 16384

noncomputable section

namespace Inproj

open Cert.Kernel2Ideal Cert.Kernel2Ideal.Gen
open Idealize.ShloMosaic Idealize.ShloMosaic.TcCoe Idealize.ShloMosaic.StableHlo
open Idealize.ShloMosaic.Pipeline (Dat Cfg Window)

variable (m : (ℓ : Loc nD τ sig) → Buf (Elt Ideal) ℓ) (c : Dev nD)

abbrev P (b : Fin 16) (t : Fin 2048) (o : Fin 3848) : EReal := PR (aX m c) (aN m c) (aW m c) b t o

/-- The gated rows at an index. -/
def U (p : Fin 3848 → EReal) (n : Fin 512) : EReal :=
  if n.val < 256 then p ⟨n.val, by omega⟩ * sg (p ⟨256 + n.val, by omega⟩) else sl (p ⟨256 + n.val, by omega⟩)

def gq (r : Fin 512) : EReal :=
  (aQ m c (Idealize.ShloMosaic.ix3 0 ⟨r.val / 64, by omega⟩ ⟨r.val % 64, by omega⟩) : EReal) * ((Fox.lam / 8 : ℝ) : EReal)
def gk (r : Fin 512) : EReal := aK m c (Idealize.ShloMosaic.ix3 0 ⟨r.val / 64, by omega⟩ ⟨r.val % 64, by omega⟩)

def W7 : S16x2048x512.Idx → Elt Ideal .f32 := fun i => U (P m c (i 0) (i 1)) (i 2)
def W12 : S16x8x64x2048.Idx → Elt Ideal .bf16 := fun i => sl (P m c (i 0) (i 3) ⟨3328 + (row (i 1) (i 2)).val, by omega⟩)
def W9 (b : Fin 16) (h : Fin 8) (d : Fin 64) (t : Fin 2048) : EReal :=
  HV (aX m c) (aN m c) (aW m c) b t 1792 (by omega) (gq m c (row h d)) (row h d)
def W10 (b : Fin 16) (h : Fin 8) (d : Fin 64) (t : Fin 2048) : EReal :=
  HV (aX m c) (aN m c) (aW m c) b t 2304 (by omega) (gk m c (row h d)) (row h d)
def W11 (b : Fin 16) (h : Fin 8) (d : Fin 64) (t : Fin 2048) : EReal := P m c b t ⟨2816 + (row h d).val, by omega⟩

def Q9 (i : S16x8x128x2048.Idx) (v : Elt Ideal .bf16) : Prop := ∀ hi : (i 2).val < 64, v = W9 m c (i 0) (i 1) ⟨(i 2).val, hi⟩ (i 3)
def Q10 (i : S16x8x2048x128.Idx) (v : Elt Ideal .bf16) : Prop := ∀ hi : (i 3).val < 64, v = W10 m c (i 0) (i 1) ⟨(i 3).val, hi⟩ (i 2)
def Q11 (i : S16x8x80x2048.Idx) (v : Elt Ideal .bf16) : Prop := ∀ hi : (i 2).val < 64, v = W11 m c (i 0) (i 1) ⟨(i 2).val, hi⟩ (i 3)

theorem iw7 : ∀ t : Fin grid0.N, win0_7.index t = ![(grid0.coords t 0).val, (grid0.coords t 1).val, 0] := by decide +kernel
theorem iw9 : ∀ t : Fin grid0.N, win0_9.index t = ![(grid0.coords t 0).val, 0, 0, (grid0.coords t 1).val] := by decide +kernel
theorem iw10 : ∀ t : Fin grid0.N, win0_10.index t = ![(grid0.coords t 0).val, 0, (grid0.coords t 1).val, 0] := by decide +kernel
theorem iw11 : ∀ t : Fin grid0.N, win0_11.index t = ![(grid0.coords t 0).val, 0, 0, (grid0.coords t 1).val] := by decide +kernel
theorem iw12 : ∀ t : Fin grid0.N, win0_12.index t = ![(grid0.coords t 0).val, 0, 0, (grid0.coords t 1).val] := by decide +kernel

theorem u_blk (t : Fin cfg0.N) (y : S1x1024x512.Idx) :
    B7 (iblk m c 0 t) (iblk m c 1 t) (iblk m c 2 t) y = U (P m c (bt t) (tm t (y 1))) (y 2) := by
  unfold B7 U
  exact if_congr Iff.rfl (congrArg₂ (· * ·) (pr_blk m c t (y 1) _) (congrArg sg (pr_blk m c t (y 1) _))) (congrArg sl (pr_blk m c t (y 1) _))

theorem aft7 (t : Fin cfg0.N) (y : S1x1024x512.Idx) : ((dats m 0 c).after 7 t : FVec Ideal S1x1024x512 .f32) y = U (P m c (bt t) (tm t (y 1))) (y 2) := by
  rw [after0_7]
  by_cases h0 : t.val % 2 = 0
  · rw [outsAt0_A m c t h0]
    dsimp only
    rw [out7_A]
    exact u_blk m c t y
  · rw [outsAt0_B m c t h0]
    dsimp only
    rw [out7_B]
    exact u_blk m c t y

theorem aft9 (t : Fin cfg0.N) (y : S1x8x128x1024.Idx) (hy : (y 2).val < 64) : ((dats m 0 c).after 9 t : FVec Ideal S1x8x128x1024 .bf16) y = W9 m c (bt t) (y 1) ⟨(y 2).val, hy⟩ (tm t (y 3)) := by
  rw [after0_9]
  by_cases h0 : t.val % 2 = 0
  · rw [outsAt0_A m c t h0]
    dsimp only
    rw [out9_A (hy := hy)]
    exact ((hv_blk m c t _ _ _ _ _).trans (congrArg (fun g => HV (aX m c) (aN m c) (aW m c) (bt t) (tm t (y 3)) 1792 (by omega) g (row (y 1) ⟨(y 2).val, hy⟩)) (blk5 m c t _)))
  · rw [outsAt0_B m c t h0]
    dsimp only
    rw [out9_B (hy := hy)]
    exact ((hv_blk m c t _ _ _ _ _).trans (congrArg (fun g => HV (aX m c) (aN m c) (aW m c) (bt t) (tm t (y 3)) 1792 (by omega) g (row (y 1) ⟨(y 2).val, hy⟩)) (blk5 m c t _)))

theorem aft10 (t : Fin cfg0.N) (y : S1x8x1024x128.Idx) (hy : (y 3).val < 64) : ((dats m 0 c).after 10 t : FVec Ideal S1x8x1024x128 .bf16) y = W10 m c (bt t) (y 1) ⟨(y 3).val, hy⟩ (tm t (y 2)) := by
  rw [after0_10]
  by_cases h0 : t.val % 2 = 0
  · rw [outsAt0_A m c t h0]
    dsimp only
    rw [out10_A (hy := hy)]
    exact ((hv_blk m c t _ _ _ _ _).trans (congrArg (fun g => HV (aX m c) (aN m c) (aW m c) (bt t) (tm t (y 2)) 2304 (by omega) g (row (y 1) ⟨(y 3).val, hy⟩)) (blk6 m c t _)))
  · rw [outsAt0_B m c t h0]
    dsimp only
    rw [out10_B (hy := hy)]
    exact ((hv_blk m c t _ _ _ _ _).trans (congrArg (fun g => HV (aX m c) (aN m c) (aW m c) (bt t) (tm t (y 2)) 2304 (by omega) g (row (y 1) ⟨(y 3).val, hy⟩)) (blk6 m c t _)))

theorem aft11 (t : Fin cfg0.N) (y : S1x8x80x1024.Idx) (hy : (y 2).val < 64) : ((dats m 0 c).after 11 t : FVec Ideal S1x8x80x1024 .bf16) y = W11 m c (bt t) (y 1) ⟨(y 2).val, hy⟩ (tm t (y 3)) := by
  rw [after0_11]
  by_cases h0 : t.val % 2 = 0
  · rw [outsAt0_A m c t h0]
    dsimp only
    rw [out11_A (hy := hy)]
    exact (pr_blk m c t _ _)
  · rw [outsAt0_B m c t h0]
    dsimp only
    rw [out11_B (hy := hy)]
    exact (pr_blk m c t _ _)

theorem aft12 (t : Fin cfg0.N) (y : S1x8x64x1024.Idx) : ((dats m 0 c).after 12 t : FVec Ideal S1x8x64x1024 .bf16) y = sl (P m c (bt t) (tm t (y 3)) ⟨3328 + (row (y 1) (y 2)).val, by omega⟩) := by
  rw [after0_12]
  by_cases h0 : t.val % 2 = 0
  · rw [outsAt0_A m c t h0]
    dsimp only
    rw [out12_A]
    exact (congrArg sl (pr_blk m c t _ _))
  · rw [outsAt0_B m c t h0]
    dsimp only
    rw [out12_B]
    exact (congrArg sl (pr_blk m c t _ _))

theorem fin7 : (dats m 0 c).arrAt 7 cfg0.N = W7 m c := by
  refine (dats m 0 c).arrAt_eq_of_covers 7 _ (by decide +kernel) fun t hf y => ?_
  blk_simp
  have h0 : (y 0).val < 1 := (y 0).isLt
  have e : (win0_7.blk t).view.emb y = Idealize.ShloMosaic.ix3 (n0 := 16) (n1 := 2048) (n2 := 512) (bt t) (tm t (y 1)) (y 2) := by
    funext a
    apply Fin.ext
    match a with
    | ⟨0, _⟩ => blk_simp [iw7]; try (unfold bt; rfl)
    | ⟨1, _⟩ => blk_simp [iw7]; show (grid0.coords t 1).val * 1024 + (y 1).val = 1024 * (grid0.coords t 1).val + (y 1).val; omega
    | ⟨2, _⟩ => blk_simp [iw7]; try rfl
  rw [e]
  exact aft7 m c t y

theorem fin12 : (dats m 0 c).arrAt 12 cfg0.N = W12 m c := by
  refine (dats m 0 c).arrAt_eq_of_covers 12 _ (by decide +kernel) fun t hf y => ?_
  blk_simp
  have h0 : (y 0).val < 1 := (y 0).isLt
  have e : (win0_12.blk t).view.emb y = Idealize.ShloMosaic.ix4 (n0 := 16) (n1 := 8) (n2 := 64) (n3 := 2048) (bt t) (y 1) (y 2) (tm t (y 3)) := by
    funext a
    apply Fin.ext
    match a with
    | ⟨0, _⟩ => blk_simp [iw12]; try (unfold bt; rfl)
    | ⟨1, _⟩ => blk_simp [iw12]; try rfl
    | ⟨2, _⟩ => blk_simp [iw12]; try rfl
    | ⟨3, _⟩ => blk_simp [iw12]; show (grid0.coords t 1).val * 1024 + (y 3).val = 1024 * (grid0.coords t 1).val + (y 3).val; omega
  rw [e]
  exact aft12 m c t y

theorem fin9 (i : S16x8x128x2048.Idx) (hi : (i 2).val < 64) :
    ((dats m 0 c).arrAt 9 cfg0.N : FVec Ideal S16x8x128x2048 .bf16) i = W9 m c (i 0) (i 1) ⟨(i 2).val, hi⟩ (i 3) := by
  revert hi
  refine (dats m 0 c).arrAt_forall_of_covers 9 (Q9 m c)
    (by decide +kernel) (fun t hf y => ?_) i
  blk_simp
  have h0 : (y 0).val < 1 := (y 0).isLt
  have e : (win0_9.blk t).view.emb y = Idealize.ShloMosaic.ix4 (n0 := 16) (n1 := 8) (n2 := 128) (n3 := 2048) (bt t) (y 1) (y 2) (tm t (y 3)) := by
    funext a
    apply Fin.ext
    match a with
    | ⟨0, _⟩ => blk_simp [iw9]; try (unfold bt; rfl)
    | ⟨1, _⟩ => blk_simp [iw9]; try rfl
    | ⟨2, _⟩ => blk_simp [iw9]; try rfl
    | ⟨3, _⟩ => blk_simp [iw9]; show (grid0.coords t 1).val * 1024 + (y 3).val = 1024 * (grid0.coords t 1).val + (y 3).val; omega
  rw [e]
  intro hy
  exact aft9 m c t y hy

theorem fin10 (i : S16x8x2048x128.Idx) (hi : (i 3).val < 64) :
    ((dats m 0 c).arrAt 10 cfg0.N : FVec Ideal S16x8x2048x128 .bf16) i = W10 m c (i 0) (i 1) ⟨(i 3).val, hi⟩ (i 2) := by
  revert hi
  refine (dats m 0 c).arrAt_forall_of_covers 10 (Q10 m c)
    (by decide +kernel) (fun t hf y => ?_) i
  blk_simp
  have h0 : (y 0).val < 1 := (y 0).isLt
  have e : (win0_10.blk t).view.emb y = Idealize.ShloMosaic.ix4 (n0 := 16) (n1 := 8) (n2 := 2048) (n3 := 128) (bt t) (y 1) (tm t (y 2)) (y 3) := by
    funext a
    apply Fin.ext
    match a with
    | ⟨0, _⟩ => blk_simp [iw10]; try (unfold bt; rfl)
    | ⟨1, _⟩ => blk_simp [iw10]; try rfl
    | ⟨2, _⟩ => blk_simp [iw10]; show (grid0.coords t 1).val * 1024 + (y 2).val = 1024 * (grid0.coords t 1).val + (y 2).val; omega
    | ⟨3, _⟩ => blk_simp [iw10]; try rfl
  rw [e]
  intro hy
  exact aft10 m c t y hy

theorem fin11 (i : S16x8x80x2048.Idx) (hi : (i 2).val < 64) :
    ((dats m 0 c).arrAt 11 cfg0.N : FVec Ideal S16x8x80x2048 .bf16) i = W11 m c (i 0) (i 1) ⟨(i 2).val, hi⟩ (i 3) := by
  revert hi
  refine (dats m 0 c).arrAt_forall_of_covers 11 (Q11 m c)
    (by decide +kernel) (fun t hf y => ?_) i
  blk_simp
  have h0 : (y 0).val < 1 := (y 0).isLt
  have e : (win0_11.blk t).view.emb y = Idealize.ShloMosaic.ix4 (n0 := 16) (n1 := 8) (n2 := 80) (n3 := 2048) (bt t) (y 1) (y 2) (tm t (y 3)) := by
    funext a
    apply Fin.ext
    match a with
    | ⟨0, _⟩ => blk_simp [iw11]; try (unfold bt; rfl)
    | ⟨1, _⟩ => blk_simp [iw11]; try rfl
    | ⟨2, _⟩ => blk_simp [iw11]; try rfl
    | ⟨3, _⟩ => blk_simp [iw11]; show (grid0.coords t 1).val * 1024 + (y 3).val = 1024 * (grid0.coords t 1).val + (y 3).val; omega
  rw [e]
  intro hy
  exact aft11 m c t y hy

theorem arr_inj : Function.Injective (Pipeline.arrRef spec0) := by decide

theorem res_u : (Pipeline.afterTail₀ cfgs (dats m) 0 (V0 m) [hostOps1] c main_v11_0 : FVec Ideal S16x2048x512 .f32) = W7 m c := by
  unfold Pipeline.afterTail₀
  simp only [hostOps1, List.flatten_cons, List.flatten_nil, List.append_nil]
  after_results_simp
  exact (Pipeline.withArrays_arr spec0 arr_inj c (V0 m c) (fun w => (dats m 0 c).arrAt w cfg0.N) 7).trans (fin7 m c)

theorem res_14 (b : Fin 16) (t : Fin 2048) (h : Fin 8) (d : Fin 64) :
    (Pipeline.afterTail₀ cfgs (dats m) 0 (V0 m) [hostOps1] c main_v14 : FVec Ideal S16x2048x8x64 .f32) (Idealize.ShloMosaic.ix4 b t h d) = W9 m c b h d t := by
  refine Eq.trans ?_ (fin9 m c (Idealize.ShloMosaic.ix4 b h ⟨d.val, by omega⟩ t) d.isLt)
  unfold Pipeline.afterTail₀
  simp only [hostOps1, List.flatten_cons, List.flatten_nil, List.append_nil]
  after_results_simp
  have e : Pipeline.withArrays (cfgs 0).spec c (V0 m c) (fun w => (dats m 0 c).arrAt w (cfgs 0).N) (Proc.tc.devRef main_v11_2) = (dats m 0 c).arrAt 9 cfg0.N :=
    Pipeline.withArrays_arr spec0 arr_inj c (V0 m c) (fun w => (dats m 0 c).arrAt w cfg0.N) 9
  rw [e]
  generalize ((dats m 0 c).arrAt 9 cfg0.N : FVec Ideal S16x8x128x2048 .bf16) = y
  pointwise []

theorem res_17 (b : Fin 16) (t : Fin 2048) (h : Fin 8) (d : Fin 64) :
    (Pipeline.afterTail₀ cfgs (dats m) 0 (V0 m) [hostOps1] c main_v17 : FVec Ideal S16x2048x8x64 .f32) (Idealize.ShloMosaic.ix4 b t h d) = W10 m c b h d t := by
  refine Eq.trans ?_ (fin10 m c (Idealize.ShloMosaic.ix4 b h t ⟨d.val, by omega⟩) d.isLt)
  unfold Pipeline.afterTail₀
  simp only [hostOps1, List.flatten_cons, List.flatten_nil, List.append_nil]
  after_results_simp
  have e : Pipeline.withArrays (cfgs 0).spec c (V0 m c) (fun w => (dats m 0 c).arrAt w (cfgs 0).N) (Proc.tc.devRef main_v11_3) = (dats m 0 c).arrAt 10 cfg0.N :=
    Pipeline.withArrays_arr spec0 arr_inj c (V0 m c) (fun w => (dats m 0 c).arrAt w cfg0.N) 10
  rw [e]
  generalize ((dats m 0 c).arrAt 10 cfg0.N : FVec Ideal S16x8x2048x128 .bf16) = y
  pointwise []

theorem res_20 (b : Fin 16) (t : Fin 2048) (h : Fin 8) (d : Fin 64) :
    (Pipeline.afterTail₀ cfgs (dats m) 0 (V0 m) [hostOps1] c main_v20 : FVec Ideal S16x2048x8x64 .f32) (Idealize.ShloMosaic.ix4 b t h d) = W11 m c b h d t := by
  refine Eq.trans ?_ (fin11 m c (Idealize.ShloMosaic.ix4 b h ⟨d.val, by omega⟩ t) d.isLt)
  unfold Pipeline.afterTail₀
  simp only [hostOps1, List.flatten_cons, List.flatten_nil, List.append_nil]
  after_results_simp
  have e : Pipeline.withArrays (cfgs 0).spec c (V0 m c) (fun w => (dats m 0 c).arrAt w (cfgs 0).N) (Proc.tc.devRef main_v11_4) = (dats m 0 c).arrAt 11 cfg0.N :=
    Pipeline.withArrays_arr spec0 arr_inj c (V0 m c) (fun w => (dats m 0 c).arrAt w cfg0.N) 11
  rw [e]
  generalize ((dats m 0 c).arrAt 11 cfg0.N : FVec Ideal S16x8x80x2048 .bf16) = y
  pointwise []

theorem res_24 (b : Fin 16) (t : Fin 2048) (n : Fin 512) :
    (Pipeline.afterTail₀ cfgs (dats m) 0 (V0 m) [hostOps1] c main_v24 : FVec Ideal S16x2048x512 .f32) (Idealize.ShloMosaic.ix3 b t n)
      = W12 m c (Idealize.ShloMosaic.ix4 b ⟨n.val / 64, by omega⟩ ⟨n.val % 64, by omega⟩ t) := by
  unfold Pipeline.afterTail₀
  simp only [hostOps1, List.flatten_cons, List.flatten_nil, List.append_nil]
  after_results_simp
  have e : Pipeline.withArrays (cfgs 0).spec c (V0 m c) (fun w => (dats m 0 c).arrAt w (cfgs 0).N) (Proc.tc.devRef main_v11_5) = W12 m c :=
    (Pipeline.withArrays_arr spec0 arr_inj c (V0 m c) (fun w => (dats m 0 c).arrAt w cfg0.N) 12).trans (fin12 m c)
  rw [e]
  generalize W12 m c = y
  pointwise []

end Inproj
-- ==== Proof.TileVal.lean ====
/- The attention kernel's tiles over the extended reals, read at an index: the scores, the running maximum as the maximum of
   a whole row, the weighted sum as a sum over the whole row, the result. -/
module

public import proofs.«01_k».proof.Proof.Spec
public import proofs.«01_k».proof.Proof.Soft
public import Idealize.ShloMosaic.Lib.Pointwise

@[expose] public section

set_option maxRecDepth 16384

noncomputable section

namespace Fox

open Cert.KernelIdeal Cert.KernelIdeal.Facts₀ Cert.KernelIdeal.Facts
open Idealize.ShloMosaic Idealize.ShloMosaic.TcCoe

variable [Cert.KernelIdeal.Facts]

theorem botF : Ideal.ofBits .f32 0xFF800000#32 = (⊥ : EReal) := by simp [Ideal.ofBits, Ideal.ieee]

theorem maskF : (Named.named (F := Ideal) κ "mask" (0xF149F2CA#32 : BitVec (FTy.f32).bits) : Ideal .f32) = (⊥ : EReal) :=
  IdealRules.named_const.ideal_named_scalar _ _ _ _ rfl

/-! ## One tile -/

theorem prod_at (a : FVec Ideal S1x1x128x256 .bf16) (b : FVec Ideal S1x1x256x128 .bf16) (u t : Fin 256) :
    matmul dot_S256x128_S128x256_S256x256_1_0_0_1_n_n none (shapeCast S256x128 b shapeCasts_S1x1x256x128_S256x128)
      (shapeCast S128x256 a shapeCasts_S1x1x128x256_S128x256) (constant S256x256 .f32 0x00000000#32) (Idealize.ShloMosaic.ix2 u t)
    = ∑ r : Fin 128, b (Idealize.ShloMosaic.ix4 0 0 u r) * a (Idealize.ShloMosaic.ix4 0 0 r t) := by
  pointwise []

theorem causal_at (u t : Fin 256) : causal (Idealize.ShloMosaic.ix2 u t) = if u.val ≤ t.val then 1#1 else 0#1 := by
  pointwise [causal]
  exact sle_small _ _ (by omega) (by omega)

theorem rowMax_at (s : FVec Ideal S256x256 .f32) (t : Fin 256) :
    rowMax s (Idealize.ShloMosaic.ix2 0 t) = Finset.univ.fold max (⊥ : EReal) (fun u : Fin 256 => s (Idealize.ShloMosaic.ix2 u t)) := by
  have e0 : rowMax s (Idealize.ShloMosaic.ix2 0 t)
      = multiReduction .maximumf [0] S256 s 0xFF800000#32 reduces_S256x256_S256 (.inl rfl) rfl (Idealize.ShloMosaic.ix1 t) := by
    unfold rowMax
    generalize multiReduction .maximumf [0] S256 s 0xFF800000#32 reduces_S256x256_S256 (.inl rfl) rfl = r
    pointwise []
  rw [e0]
  refine (Ideal.multiReduction_maximumf_single s 0xFF800000#32 reduces_S256x256_S256 (.inl rfl) rfl (Idealize.ShloMosaic.ix1 t)).trans ?_
  have e : (s ∘ reduces_S256x256_S256.lift (Idealize.ShloMosaic.ix1 t)) = fun u : Fin 256 => s (Idealize.ShloMosaic.ix2 u t) := by
    funext u
    refine congrArg s ?_
    funext i
    fin_cases i <;> rfl
  rw [e]
  exact congrArg (fun z => Finset.univ.fold max z _) botF

theorem rowOf_spread (m : FVec Ideal S1x256 .f32) (t : Fin 256) :
    rowOf (spread m) (Idealize.ShloMosaic.ix3 0 0 t) = m (Idealize.ShloMosaic.ix2 0 t) := by
  unfold rowOf
  have e : (Rect.unit (s := S1x8x256) ![0, 0, 0] S1x1x256.size (by decide)).emb (Idealize.ShloMosaic.ix3 0 0 t) = Idealize.ShloMosaic.ix3 (n0 := 1) (n1 := 8) (n2 := 256) 0 0 t := by
    funext a
    apply Fin.ext
    rw [unit_emb_val]
    fin_cases a <;> simp [Idealize.ShloMosaic.ix3]
  rw [e]
  pointwise [spread]

theorem weighV_at (s : FVec Ideal S256x256 .f32) (m : FVec Ideal S1x1x256 .f32) (v : FVec Ideal S1x1x80x256 .bf16) (d : Fin 80) (t : Fin 256) :
    weighV (shapeCast S1x256x256 s shapeCasts_S256x256_S1x256x256) m v (Idealize.ShloMosaic.ix2 d t)
      = ∑ u : Fin 256, v (Idealize.ShloMosaic.ix4 0 0 d u)
          * Ideal.exp2 (s (Idealize.ShloMosaic.ix2 u t) - m (Idealize.ShloMosaic.ix3 0 0 t)) := by
  pointwise [weighV]
  rfl

theorem outV_at (acc : FVec Ideal S80x256 .f32) (gate : FVec Ideal S1x1x64x256 .bf16) (d : Fin 64) (t : Fin 256) :
    outV acc gate (Idealize.ShloMosaic.ix4 0 0 d t)
      = Ideal.div (acc (Idealize.ShloMosaic.ix2 ⟨d.val, by omega⟩ t)) (acc (Idealize.ShloMosaic.ix2 64 t))
          * gate (Idealize.ShloMosaic.ix4 0 0 d t) := by
  pointwise [outV]

/-! ## The tiles of a row -/

section
variable (x1 : S1x8x128x2048.Idx → Elt Ideal .bf16) (x2 : S1x8x2048x128.Idx → Elt Ideal .bf16)
  (x3 : S1x8x80x2048.Idx → Elt Ideal .bf16) (x4 : S1x8x64x2048.Idx → Elt Ideal .bf16)

/-- The masked score of key `u` against query `T`. -/
def big (h : Fin 8) (T u : Fin 2048) : EReal :=
  if u ≤ T then ∑ r : Fin 128, (x2 (Idealize.ShloMosaic.ix4 0 h u r) : EReal) * (x1 (Idealize.ShloMosaic.ix4 0 h r T) : EReal) else ⊥

/-- Position `t` of tile `i`. -/
abbrev at_ (i : Fin 8) (t : Fin 256) : Fin 2048 := ⟨256 * i.val + t.val, by omega⟩

theorem qT_at (h i : Fin 8) (r : Fin 128) (t : Fin 256) :
    qT x1 h i (Idealize.ShloMosaic.ix4 0 0 r t) = x1 (Idealize.ShloMosaic.ix4 0 h r (at_ i t)) := by
  refine congrArg x1 ?_
  funext a
  apply Fin.ext
  rw [unit_emb_val]
  fin_cases a <;> simp [Idealize.ShloMosaic.ix4]

theorem kT_at (h i : Fin 8) (u : Fin 256) (r : Fin 128) :
    kT x2 h i (Idealize.ShloMosaic.ix4 0 0 u r) = x2 (Idealize.ShloMosaic.ix4 0 h (at_ i u) r) := by
  refine congrArg x2 ?_
  funext a
  apply Fin.ext
  rw [unit_emb_val]
  fin_cases a <;> simp [Idealize.ShloMosaic.ix4]

theorem vT_at (h i : Fin 8) (d : Fin 80) (u : Fin 256) :
    vT x3 h i (Idealize.ShloMosaic.ix4 0 0 d u) = x3 (Idealize.ShloMosaic.ix4 0 h d (at_ i u)) := by
  refine congrArg x3 ?_
  funext a
  apply Fin.ext
  rw [unit_emb_val]
  fin_cases a <;> simp [Idealize.ShloMosaic.ix4]

theorem gT_at (h i : Fin 8) (d : Fin 64) (t : Fin 256) :
    gT x4 h i (Idealize.ShloMosaic.ix4 0 0 d t) = x4 (Idealize.ShloMosaic.ix4 0 h d (at_ i t)) := by
  refine congrArg x4 ?_
  funext a
  apply Fin.ext
  rw [unit_emb_val]
  fin_cases a <;> simp [Idealize.ShloMosaic.ix4]

/-- A tile on or below the diagonal holds its part of the row of masked scores. -/
theorem scoreT_at (h i c : Fin 8) (hc : c.val ≤ i.val) (u t : Fin 256) :
    scoreT x1 x2 h i c (Idealize.ShloMosaic.ix2 u t) = big x1 x2 h (at_ i t) (at_ c u) := by
  unfold scoreT scoreV big
  by_cases e : c.val = i.val
  · have e' : Nat.beq c.val i.val = true := by rw [e]; exact Nat.beq_refl _
    rw [e', cond_true]
    have e2 : ∀ x y : FVec Ideal S256x256 .f32, select causal x y (Idealize.ShloMosaic.ix2 u t)
        = Scalar.select (causal (Idealize.ShloMosaic.ix2 u t)) (x (Idealize.ShloMosaic.ix2 u t)) (y (Idealize.ShloMosaic.ix2 u t)) := fun _ _ => rfl
    rw [e2, causal_at, prod_at]
    have ec : c = i := Fin.ext e
    subst ec
    by_cases hu : u.val ≤ t.val
    · rw [if_pos hu, if_pos (show at_ c u ≤ at_ c t from by show 256 * c.val + u.val ≤ 256 * c.val + t.val; omega)]
      simp only [qT_at, kT_at]
      rfl
    · rw [if_neg hu, if_neg (show ¬ at_ c u ≤ at_ c t from by show ¬ 256 * c.val + u.val ≤ 256 * c.val + t.val; omega)]
      exact maskF
  · have e' : Nat.beq c.val i.val = false := by
      cases hb : Nat.beq c.val i.val
      · rfl
      · exact absurd (Nat.eq_of_beq_eq_true hb) e
    rw [e', cond_false, prod_at, if_pos (show at_ c u ≤ at_ i t from by show 256 * c.val + u.val ≤ 256 * i.val + t.val; omega)]
    simp only [qT_at, kT_at]

/-- The running maximum after tile `n` bounds exactly the scores of the first tiles. -/
theorem maxV_le (h i : Fin 8) (t : Fin 256) (z : EReal) : ∀ n : ℕ, n ≤ i.val →
    (maxV x1 x2 h i n (Idealize.ShloMosaic.ix2 0 t) ≤ z ↔ ∀ u : Fin 2048, u.val < 256 * (n + 1) → big x1 x2 h (at_ i t) u ≤ z) := by
  have row : ∀ n : ℕ, n ≤ i.val → (rowMax (scoreT x1 x2 h i (tl n)) (Idealize.ShloMosaic.ix2 0 t) ≤ z
      ↔ ∀ u : Fin 2048, 256 * n ≤ u.val → u.val < 256 * (n + 1) → big x1 x2 h (at_ i t) u ≤ z) := by
    intro n hn
    have hv : (tl n).val = n := Nat.mod_eq_of_lt (by omega)
    rw [rowMax_at, Finset.fold_max_le]
    constructor
    · rintro ⟨-, H⟩ u h1 h2
      have := H ⟨u.val - 256 * n, by omega⟩ (Finset.mem_univ _)
      rw [scoreT_at x1 x2 h i (tl n) (by rw [hv]; exact hn)] at this
      have eu : at_ (tl n) ⟨u.val - 256 * n, by omega⟩ = u := Fin.ext (by show 256 * (tl n).val + (u.val - 256 * n) = u.val; rw [hv]; omega)
      rwa [eu] at this
    · intro H
      refine ⟨bot_le, fun u _ => ?_⟩
      rw [scoreT_at x1 x2 h i (tl n) (by rw [hv]; exact hn)]
      exact H _ (by show _ ≤ 256 * (tl n).val + u.val; rw [hv]; omega) (by show 256 * (tl n).val + u.val < _; rw [hv]; omega)
  intro n
  induction n with
  | zero =>
    intro hn
    rw [show maxV x1 x2 h i 0 = rowMax (scoreT x1 x2 h i (tl 0)) from rfl, row 0 hn]
    exact ⟨fun H u hu => H u (by omega) hu, fun H u _ hu => H u hu⟩
  | succ n ih =>
    intro hn
    rw [show maxV x1 x2 h i (n + 1) (Idealize.ShloMosaic.ix2 0 t) = max (maxV x1 x2 h i n (Idealize.ShloMosaic.ix2 0 t))
      (rowMax (scoreT x1 x2 h i (tl (n + 1))) (Idealize.ShloMosaic.ix2 0 t)) from rfl, max_le_iff, ih (by omega), row _ hn]
    constructor
    · rintro ⟨H1, H2⟩ u hu
      by_cases hlt : u.val < 256 * (n + 1)
      · exact H1 u hlt
      · exact H2 u (by omega) hu
    · intro H
      exact ⟨fun u hu => H u (by omega), fun u _ hu => H u hu⟩

/-- The running maximum after the diagonal tile is the maximum of the row. -/
theorem maxV_eq (h i : Fin 8) (t : Fin 256) :
    maxV x1 x2 h i i.val (Idealize.ShloMosaic.ix2 0 t) = Finset.univ.fold max (⊥ : EReal) (big x1 x2 h (at_ i t)) := by
  refine eq_of_forall_ge_iff fun z => ?_
  rw [maxV_le x1 x2 h i t z _ le_rfl, Finset.fold_max_le]
  constructor
  · intro H
    refine ⟨bot_le, fun u _ => ?_⟩
    by_cases hu : u.val < 256 * (i.val + 1)
    · exact H u hu
    · have : big x1 x2 h (at_ i t) u = ⊥ := if_neg (show ¬ u.val ≤ 256 * i.val + t.val from by omega)
      rw [this]; exact bot_le
  · intro H u _
    exact H.2 u (Finset.mem_univ u)

/-- The weight of key `u` for query `T`. -/
def wgt (h : Fin 8) (T u : Fin 2048) : EReal :=
  Ideal.exp2 (big x1 x2 h T u - Finset.univ.fold max (⊥ : EReal) (big x1 x2 h T))

/-- The weighted value at a position given as a number. -/
def term (h : Fin 8) (T : Fin 2048) (d : Fin 80) (j : ℕ) : EReal :=
  if hj : j < 2048 then (x3 (Idealize.ShloMosaic.ix4 0 h d ⟨j, hj⟩) : EReal) * wgt x1 x2 h T ⟨j, hj⟩ else 0

theorem shareT_at (h i c : Fin 8) (hc : c.val ≤ i.val) (d : Fin 80) (t : Fin 256) :
    shareT x1 x2 x3 h i c (Idealize.ShloMosaic.ix2 d t)
      = ∑ j ∈ Finset.range 256, term x1 x2 x3 h (at_ i t) d (256 * c.val + j) := by
  unfold shareT
  rw [weighV_at, rowOf_spread, maxV_eq, Finset.sum_range]
  refine Finset.sum_congr rfl fun u _ => ?_
  rw [scoreT_at x1 x2 h i c hc, vT_at]
  unfold term
  rw [dif_pos (show 256 * c.val + u.val < 2048 from by omega)]
  rfl

theorem accV_at (h i : Fin 8) (d : Fin 80) (t : Fin 256) : ∀ n : ℕ, n ≤ i.val →
    accV x1 x2 x3 h i n (Idealize.ShloMosaic.ix2 d t) = ∑ j ∈ Finset.range (256 * (n + 1)), term x1 x2 x3 h (at_ i t) d j := by
  intro n
  induction n with
  | zero =>
    intro hn
    rw [show accV x1 x2 x3 h i 0 = shareT x1 x2 x3 h i (tl 0) from rfl, shareT_at x1 x2 x3 h i (tl 0) (Nat.zero_le _)]
    refine Finset.sum_congr rfl fun j _ => ?_
    rw [show 256 * (tl 0).val + j = j from by show 256 * 0 + j = j; omega]
  | succ n ih =>
    intro hn
    have hv : (tl (n + 1)).val = n + 1 := Nat.mod_eq_of_lt (by omega)
    rw [show accV x1 x2 x3 h i (n + 1) (Idealize.ShloMosaic.ix2 d t) = (accV x1 x2 x3 h i n (Idealize.ShloMosaic.ix2 d t) : EReal)
      + shareT x1 x2 x3 h i (tl (n + 1)) (Idealize.ShloMosaic.ix2 d t) from rfl, ih (by omega),
      shareT_at x1 x2 x3 h i (tl (n + 1)) (by rw [hv]; exact hn), hv, show 256 * (n + 1 + 1) = 256 * (n + 1) + 256 from by ring,
      Finset.sum_range_add]

/-- The weighted sum after the diagonal tile is the sum over the whole row: later keys weigh nothing. -/
theorem accV_eq (h i : Fin 8) (d : Fin 80) (t : Fin 256) :
    accV x1 x2 x3 h i i.val (Idealize.ShloMosaic.ix2 d t)
      = ∑ u : Fin 2048, (x3 (Idealize.ShloMosaic.ix4 0 h d u) : EReal) * wgt x1 x2 h (at_ i t) u := by
  rw [accV_at x1 x2 x3 h i d t _ le_rfl]
  have e : ∑ j ∈ Finset.range (256 * (i.val + 1)), term x1 x2 x3 h (at_ i t) d j
      = ∑ j ∈ Finset.range 2048, term x1 x2 x3 h (at_ i t) d j := by
    refine Finset.sum_subset (Finset.range_subset_range.mpr (by omega)) fun j hj hj' => ?_
    rw [Finset.mem_range] at hj hj'
    unfold term
    rw [dif_pos hj]
    unfold wgt
    rw [show big x1 x2 h (at_ i t) ⟨j, hj⟩ = ⊥ from if_neg (show ¬ j ≤ 256 * i.val + t.val from by omega), EReal.bot_sub,
      Ideal.exp2_bot, mul_zero]
  rw [e, Finset.sum_range]
  refine Finset.sum_congr rfl fun u _ => ?_
  unfold term
  rw [dif_pos u.isLt]

/-- The result of tile `i` at an index. -/
theorem outT_at (h i : Fin 8) (d : Fin 64) (t : Fin 256) :
    outT x1 x2 x3 x4 h i (Idealize.ShloMosaic.ix4 0 0 d t)
      = Ideal.div (∑ u : Fin 2048, (x3 (Idealize.ShloMosaic.ix4 0 h ⟨d.val, by omega⟩ u) : EReal) * wgt x1 x2 h (at_ i t) u)
          (∑ u : Fin 2048, (x3 (Idealize.ShloMosaic.ix4 0 h 64 u) : EReal) * wgt x1 x2 h (at_ i t) u)
        * (x4 (Idealize.ShloMosaic.ix4 0 h d (at_ i t)) : EReal) := by
  unfold outT
  rw [outV_at, accV_eq, accV_eq, gT_at]

end

end Fox
-- ==== Proof.LaunchVal.lean ====
/- The attention kernel's array after the launch, from its blocks; and the program's result, which the last host lines lay out
   from it. -/
module

public import proofs.«01_k».proof.Proof.HostVal
public import proofs.«01_k».proof.Proof.TileVal
public import Idealize.ShloMosaic.Lib.Pipeline.ValueKit.Geometry

@[expose] public section

set_option maxRecDepth 16384

noncomputable section

namespace Fox

open Cert.KernelIdeal Cert.KernelIdeal.Gen
open Idealize.ShloMosaic Idealize.ShloMosaic.TcCoe Idealize.ShloMosaic.StableHlo
open Idealize.ShloMosaic.Pipeline (Dat Cfg Window)

variable (m : (ℓ : Loc nD τ sig) → Buf (Elt Ideal) ℓ) (c : Dev nD)

def qB (b : Fin 16) : S1x8x128x2048.Idx → Elt Ideal .bf16 := fun x =>
  (V m c main_v51 : FVec Ideal S16x8x128x2048 .bf16) (Idealize.ShloMosaic.ix4 b (x 1) (x 2) (x 3))
def kB (b : Fin 16) : S1x8x2048x128.Idx → Elt Ideal .bf16 := fun x =>
  (V m c main_v55 : FVec Ideal S16x8x2048x128 .bf16) (Idealize.ShloMosaic.ix4 b (x 1) (x 2) (x 3))
def vB (b : Fin 16) : S1x8x80x2048.Idx → Elt Ideal .bf16 := fun x =>
  (V m c main_v59 : FVec Ideal S16x8x80x2048 .bf16) (Idealize.ShloMosaic.ix4 b (x 1) (x 2) (x 3))
def gB (b : Fin 16) : S1x8x64x2048.Idx → Elt Ideal .bf16 := fun x =>
  (V m c main_v67 : FVec Ideal S16x8x64x2048 .bf16) (Idealize.ShloMosaic.ix4 b (x 1) (x 2) (x 3))

/-- The kernel's array, batch by batch. -/
def whole : S16x8x64x2048.Idx → Elt Ideal .bf16 := fun i =>
  outY (qB m c (i 0)) (kB m c (i 0)) (vB m c (i 0)) (gB m c (i 0)) (Idealize.ShloMosaic.ix4 0 (i 1) (i 2) (i 3))

theorem ix0 : ∀ t : Fin grid0.N, win0_0.index t = ![(grid0.coords t 0).val, 0, 0, 0] := by decide +kernel
theorem ix1' : ∀ t : Fin grid0.N, win0_1.index t = ![(grid0.coords t 0).val, 0, 0, 0] := by decide +kernel
theorem ix2' : ∀ t : Fin grid0.N, win0_2.index t = ![(grid0.coords t 0).val, 0, 0, 0] := by decide +kernel
theorem ix3' : ∀ t : Fin grid0.N, win0_3.index t = ![(grid0.coords t 0).val, 0, 0, 0] := by decide +kernel
theorem ix4' : ∀ t : Fin grid0.N, win0_4.index t = ![(grid0.coords t 0).val, 0, 0, 0] := by decide +kernel

theorem blk0 (t : Fin cfg0.N) : iblk m c 0 t = qB m c (grid0.coords t 0) := by
  funext x
  blk_simp [iblk]
  refine congrArg (V m c main_v51 : FVec Ideal S16x8x128x2048 .bf16) ?_
  have h0 : (x 0).val < 1 := (x 0).isLt
  funext a
  apply Fin.ext
  match a with
  | ⟨0, _⟩ => blk_simp [ix0]
  | ⟨1, _⟩ => blk_simp [ix0]; rfl
  | ⟨2, _⟩ => blk_simp [ix0]; rfl
  | ⟨3, _⟩ => blk_simp [ix0]; rfl

theorem blk1 (t : Fin cfg0.N) : iblk m c 1 t = kB m c (grid0.coords t 0) := by
  funext x
  blk_simp [iblk]
  refine congrArg (V m c main_v55 : FVec Ideal S16x8x2048x128 .bf16) ?_
  have h0 : (x 0).val < 1 := (x 0).isLt
  funext a
  apply Fin.ext
  match a with
  | ⟨0, _⟩ => blk_simp [ix1']
  | ⟨1, _⟩ => blk_simp [ix1']; rfl
  | ⟨2, _⟩ => blk_simp [ix1']; rfl
  | ⟨3, _⟩ => blk_simp [ix1']; rfl

theorem blk2 (t : Fin cfg0.N) : iblk m c 2 t = vB m c (grid0.coords t 0) := by
  funext x
  blk_simp [iblk]
  refine congrArg (V m c main_v59 : FVec Ideal S16x8x80x2048 .bf16) ?_
  have h0 : (x 0).val < 1 := (x 0).isLt
  funext a
  apply Fin.ext
  match a with
  | ⟨0, _⟩ => blk_simp [ix2']
  | ⟨1, _⟩ => blk_simp [ix2']; rfl
  | ⟨2, _⟩ => blk_simp [ix2']; rfl
  | ⟨3, _⟩ => blk_simp [ix2']; rfl

theorem blk3 (t : Fin cfg0.N) : iblk m c 3 t = gB m c (grid0.coords t 0) := by
  funext x
  blk_simp [iblk]
  refine congrArg (V m c main_v67 : FVec Ideal S16x8x64x2048 .bf16) ?_
  have h0 : (x 0).val < 1 := (x 0).isLt
  funext a
  apply Fin.ext
  match a with
  | ⟨0, _⟩ => blk_simp [ix3']
  | ⟨1, _⟩ => blk_simp [ix3']; rfl
  | ⟨2, _⟩ => blk_simp [ix3']; rfl
  | ⟨3, _⟩ => blk_simp [ix3']; rfl

theorem final : (dats m 0 c).arrAt 4 cfg0.N = whole m c := by
  refine (dats m 0 c).arrAt_eq_of_covers 4 _ (by decide +kernel) fun t hf y => ?_
  blk_simp
  rw [aft4]
  have h0 : (y 0).val < 1 := (y 0).isLt
  have e : (win0_4.blk t).view.emb y = Idealize.ShloMosaic.ix4 (n0 := 16) (n1 := 8) (n2 := 64) (n3 := 2048) (grid0.coords t 0) (y 1) (y 2) (y 3) := by
    funext a
    apply Fin.ext
    match a with
    | ⟨0, _⟩ => blk_simp [ix4']
    | ⟨1, _⟩ => blk_simp [ix4']; rfl
    | ⟨2, _⟩ => blk_simp [ix4']; rfl
    | ⟨3, _⟩ => blk_simp [ix4']; rfl
  have ey : (Idealize.ShloMosaic.ix4 (n0 := 1) (n1 := 8) (n2 := 64) (n3 := 2048) 0 (y 1) (y 2) (y 3)) = y := by
    funext a
    apply Fin.ext
    match a with
    | ⟨0, _⟩ => show 0 = (y 0).val; omega
    | ⟨1, _⟩ => rfl
    | ⟨2, _⟩ => rfl
    | ⟨3, _⟩ => rfl
  rw [e]
  show outY (iblk m c 0 t) (iblk m c 1 t) (iblk m c 2 t) (iblk m c 3 t) y = outY (qB m c (grid0.coords t 0)) (kB m c (grid0.coords t 0))
    (vB m c (grid0.coords t 0)) (gB m c (grid0.coords t 0)) (Idealize.ShloMosaic.ix4 0 (y 1) (y 2) (y 3))
  rw [blk0, blk1, blk2, blk3]
  exact congrArg _ ey.symm

theorem arr_inj : Function.Injective (Pipeline.arrRef spec0) := by decide

theorem result_at (b : Fin 16) (t : Fin 2048) (n : Fin 512) :
    (Pipeline.afterTail₀ cfgs (dats m) 0 (V0 m) [hostOps1] c main_v71 : FVec Ideal S16x2048x512 .f32) (Idealize.ShloMosaic.ix3 b t n)
      = whole m c (Idealize.ShloMosaic.ix4 b ⟨n.val / 64, by omega⟩ ⟨n.val % 64, by omega⟩ t) := by
  unfold Pipeline.afterTail₀
  simp only [hostOps1, List.flatten_cons, List.flatten_nil, List.append_nil]
  after_results_simp
  have e : Pipeline.withArrays (cfgs 0).spec c (V0 m c) (fun w => (dats m 0 c).arrAt w (cfgs 0).N) (Proc.tc.devRef main_v68) = whole m c :=
    (Pipeline.withArrays_arr spec0 arr_inj c (V0 m c) (fun w => (dats m 0 c).arrAt w cfg0.N) 4).trans (final m c)
  rw [e]
  generalize whole m c = y
  pointwise []

/-- The kernel's array at an index. -/
theorem whole_at (b : Fin 16) (h : Fin 8) (d : Fin 64) (t : Fin 2048) :
    whole m c (Idealize.ShloMosaic.ix4 b h d t)
      = Ideal.div (∑ u : Fin 2048, (vB m c b (Idealize.ShloMosaic.ix4 0 h ⟨d.val, by omega⟩ u) : EReal) * wgt (qB m c b) (kB m c b) h t u)
          (∑ u : Fin 2048, (vB m c b (Idealize.ShloMosaic.ix4 0 h 64 u) : EReal) * wgt (qB m c b) (kB m c b) h t u)
        * (gB m c b (Idealize.ShloMosaic.ix4 0 h d t) : EReal) := by
  have e : at_ (iOf (Idealize.ShloMosaic.ix4 (n0 := 1) (n1 := 8) (n2 := 64) (n3 := 2048) 0 h d t)) ⟨t.val % 256, Nat.mod_lt _ (by decide)⟩ = t :=
    Fin.ext (by show 256 * (t.val / 256) + t.val % 256 = t.val; omega)
  have h1 := outT_at (qB m c b) (kB m c b) (vB m c b) (gB m c b) h
    (iOf (Idealize.ShloMosaic.ix4 (n0 := 1) (n1 := 8) (n2 := 64) (n3 := 2048) 0 h d t)) d ⟨t.val % 256, Nat.mod_lt _ (by decide)⟩
  rw [e] at h1
  exact h1

end Fox
-- ==== Proof.Close.lean ====
/- The two results are one: the kernel's scores are the reference's over log 2, and the base-two softmax of those is the
   softmax of these. -/
module

public import proofs.«01_k».proof.Defs
public import proofs.«01_k».proof.Proof.LaunchVal
public import proofs.«01_k».proof.Proof.Gen.ReferenceIdeal
public import Mathlib.Algebra.BigOperators.Fin

@[expose] public section

set_option maxRecDepth 16384

noncomputable section

namespace Fox

open Cert.KernelIdeal Cert.KernelIdeal.Gen
open Idealize.ShloMosaic Idealize.ShloMosaic.TcCoe

/-- The products of a stacked key with a stacked query, as reals. -/
def prodR (q k : Fin 64 → ℝ) (C D : ℝ) (r : Fin 128) : ℝ :=
  if h : r.val < 64 then k ⟨r.val, h⟩ * (q ⟨r.val, h⟩ * (lam / 8)) else if r.val = 64 then C * lam else if r.val = 67 then -(D * lam) else 0

theorem prodR_eq (q k : Fin 64 → ℝ) (C D : ℝ) (r : Fin 128) :
    kRow (fun d => (k d : EReal)) (D : EReal) r * qRow (fun d => (q d : EReal)) (C : EReal) r = (prodR q k C D r : EReal) := by
  unfold kRow qRow prodR
  by_cases h : r.val < 64
  · rw [dif_pos h, dif_pos h, dif_pos h, EReal.coe_mul, EReal.coe_mul]
  · rw [dif_neg h, dif_neg h, dif_neg h]
    by_cases h1 : r.val = 64
    · rw [if_pos (by omega), if_pos h1, if_pos h1, one_mul, EReal.coe_mul]
    · rw [if_neg h1, if_neg h1]
      by_cases h2 : r.val < 67
      · rw [if_pos h2, if_pos h2, if_neg (by omega), mul_zero]; rfl
      · rw [if_neg h2, if_neg h2]
        by_cases h3 : r.val = 67
        · rw [if_pos h3, if_pos (by omega), if_pos h3, mul_one, EReal.coe_neg, EReal.coe_mul]
        · rw [if_neg h3, if_neg h3, zero_mul]; rfl

theorem sum_prodR (q k : Fin 64 → ℝ) (C D : ℝ) :
    ∑ r, prodR q k C D r = lam * ((∑ x, q x * k x) * (1 / 8) + (C - D)) := by
  have hs : ∑ r, prodR q k C D r
      = ∑ j : Fin 64, prodR q k C D (Fin.castAdd 64 j) + ∑ j : Fin 64, prodR q k C D (Fin.natAdd 64 j) :=
    Fin.sum_univ_add (M := ℝ) (a := 64) (b := 64) (prodR q k C D)
  have h1 : ∑ j : Fin 64, prodR q k C D (Fin.castAdd 64 j) = (∑ x, q x * k x) * (lam / 8) := by
    rw [Finset.sum_mul]
    refine Finset.sum_congr rfl fun j _ => ?_
    unfold prodR
    rw [dif_pos (show (Fin.castAdd 64 j).val < 64 from j.isLt)]
    show k j * (q j * (lam / 8)) = _
    ring
  have h2 : ∑ j : Fin 64, prodR q k C D (Fin.natAdd 64 j) = C * lam + -(D * lam) := by
    have e : ∀ j : Fin 64, prodR q k C D (Fin.natAdd 64 j) = (if j = 0 then C * lam else 0) + (if j = 3 then -(D * lam) else 0) := fun j => by
      unfold prodR
      have hv : (Fin.natAdd 64 j).val = 64 + j.val := rfl
      rw [dif_neg (by omega)]
      by_cases h0 : j = 0
      · subst h0; rw [if_pos (show (Fin.natAdd 64 (0 : Fin 64)).val = 64 from rfl), if_pos rfl, if_neg (by decide), add_zero]
      · have : j.val ≠ 0 := fun h => h0 (Fin.ext h)
        rw [if_neg (by omega), if_neg h0, zero_add]
        by_cases h3 : j = 3
        · subst h3; rw [if_pos (show (Fin.natAdd 64 (3 : Fin 64)).val = 67 from rfl), if_pos rfl]
        · have : j.val ≠ 3 := fun h => h3 (Fin.ext h)
          rw [if_neg (by omega), if_neg h3]
    simp only [e]
    rw [Finset.sum_add_distrib, Finset.sum_ite_eq' Finset.univ 0, Finset.sum_ite_eq' Finset.univ 3, if_pos (Finset.mem_univ _), if_pos (Finset.mem_univ _)]
  rw [hs, h1, h2]
  ring

theorem dot_rows (q k : Fin 64 → ℝ) (C D : ℝ) :
    ∑ r : Fin 128, kRow (fun d => (k d : EReal)) (D : EReal) r * qRow (fun d => (q d : EReal)) (C : EReal) r
      = ((lam * ((∑ x, q x * k x) * (1 / 8) + (C - D)) : ℝ) : EReal) := by
  rw [← sum_prodR, ← coe_sum]
  exact Finset.sum_congr rfl fun r _ => prodR_eq q k C D r

/-! The arguments are finite. -/

theorem posInf : Ideal.ofBits .f32 0x7F800000#32 = (⊤ : EReal) := by simp [Ideal.ofBits, Ideal.ieee]

theorem real_of_abs (x : EReal) (h : Ideal.cmp .olt (max x (-x)) (Ideal.ofBits .f32 0x7F800000#32) = 1#1) : ∃ r : ℝ, x = (r : EReal) := by
  rw [posInf] at h
  induction x using EReal.rec with
  | bot => exact absurd h (by simp [Ideal.cmp])
  | coe r => exact ⟨r, rfl⟩
  | top => exact absurd h (by simp [Ideal.cmp])

theorem above_bot (x : EReal) (h : Ideal.cmp .ogt x (Ideal.ofBits .f32 0xFF800000#32) = 1#1) : ⊥ < x := by
  rw [Ref.negInf] at h
  by_contra hx
  rw [bot_lt_iff_ne_bot, not_not] at hx
  exact absurd h (by simp [hx, Ideal.cmp])

theorem fold_real {α : Type} (f : α → EReal) (hf : ∀ a, ∃ r : ℝ, f a = (r : EReal)) (l : List α) :
    ∀ z : EReal, (∃ r : ℝ, z = (r : EReal)) → ∃ r : ℝ, l.foldl (fun z a => z + f a) z = (r : EReal) := by
  induction l with
  | nil => exact fun z h => h
  | cons a l ih =>
    rintro z ⟨r, rfl⟩
    obtain ⟨s, hs⟩ := hf a
    rw [List.foldl_cons, hs, ← EReal.coe_add]
    exact ih _ ⟨_, rfl⟩

theorem cum_real (lf : FVec Ideal S16x2048x8 .f32) (h : ∀ i, ∃ r : ℝ, lf i = (r : EReal)) (j : S16x2048x8.Idx) :
    ∃ r : ℝ, Ref.cum lf j = (r : EReal) := by
  have hz : ∃ r : ℝ, (Ideal.ofBits .f32 0x00000000#32 : EReal) = (r : EReal) := ⟨0, zeroF⟩
  unfold Ref.cum Host.reduceWindowAdd
  rw [Ideal.hostReduceWindowAdd_def]
  unfold Ideal.hostReduceWindowAdd Host.reduceWindow
  refine fold_real _ (fun n => ?_) _ _ hz
  dsimp only
  split
  · exact h _
  · exact hz

theorem pre_facts : Cert.Pre_finite.Facts := ⟨by decide, by decide, by decide⟩

section
variable (m : (ℓ : Loc nD τ sig) → Buf (Elt Ideal) ℓ) (c : Dev nD)

abbrev aq : FVec Ideal S16x2048x8x64 .f32 := m (c, Proc.tc.devRef main_arg0)
abbrev ak : FVec Ideal S16x2048x8x64 .f32 := m (c, Proc.tc.devRef main_arg1)
abbrev av : FVec Ideal S16x2048x8x64 .f32 := m (c, Proc.tc.devRef main_arg2)
abbrev af : FVec Ideal S16x2048x8 .f32 := m (c, Proc.tc.devRef main_arg3)
abbrev az : FVec Ideal S16x2048x512 .f32 := m (c, Proc.tc.devRef main_arg4)

/-- The arguments' precondition, read at their elements. -/
structure FiniteArgs : Prop where
  q : ∀ i, ∃ r : ℝ, aq m c i = (r : EReal)
  k : ∀ i, ∃ r : ℝ, ak m c i = (r : EReal)
  f : ∀ i, ∃ r : ℝ, af m c i = (r : EReal)
  z : ∀ i, (⊥ : EReal) < az m c i

theorem fin_of (h : Cert.Pre_KernelIdeal_finite (hPre_finite := pre_facts) m) : FiniteArgs m c where
  q i := real_of_abs _ (congrFun (h c).1 i)
  k i := real_of_abs _ (congrFun (h c).2.1 i)
  f i := real_of_abs _ (congrFun (h c).2.2.1 i)
  z i := above_bot _ (congrFun (h c).2.2.2 i)

variable {m c}

/-- A query's scores, from its reals. -/
def scoreR (Q K : S16x2048x8x64.Idx → ℝ) (C : S16x2048x8.Idx → ℝ) (b : Fin 16) (h : Fin 8) (t u : Fin 2048) : ℝ :=
  (∑ e : Fin 64, Q (Idealize.ShloMosaic.ix4 b t h e) * K (Idealize.ShloMosaic.ix4 b u h e)) * (1 / 8)
    + (C (Idealize.ShloMosaic.ix3 b t h) - C (Idealize.ShloMosaic.ix3 b u h))

section
variable {Q K : S16x2048x8x64.Idx → ℝ} {C : S16x2048x8.Idx → ℝ} (b : Fin 16) (h : Fin 8) (t u : Fin 2048)

theorem score_real {q k : FVec Ideal S16x2048x8x64 .f32} {cu : FVec Ideal S16x2048x8 .f32} (hQ : ∀ i, q i = (Q i : EReal))
    (hK : ∀ i, k i = (K i : EReal)) (hC : ∀ i, cu i = (C i : EReal)) :
    Ref.score q k cu (Idealize.ShloMosaic.ix4 b h t u) = if u ≤ t then (scoreR Q K C b h t u : EReal) else ⊥ := by
  rw [Ref.score_at]
  simp only [hQ, hK, hC, ← EReal.coe_mul, coe_sum, ← EReal.coe_sub, ← EReal.coe_add]
  rfl

theorem kB_real (hK : ∀ i, ak m c i = (K i : EReal)) (hC : ∀ i, Ref.cum (af m c) i = (C i : EReal)) (r : Fin 128) :
    (kB m c b (Idealize.ShloMosaic.ix4 0 h u r) : EReal)
      = kRow (fun e => (K (Idealize.ShloMosaic.ix4 b u h e) : EReal)) (C (Idealize.ShloMosaic.ix3 b u h) : EReal) r := by
  refine (V_k m c b h r u).trans ?_
  rw [show Ref.cum (m (c, Proc.tc.devRef main_arg3)) (Idealize.ShloMosaic.ix3 b u h) = _ from hC _, kRaw_eq]
  exact congrArg (fun f => kRow f _ r) (funext fun e => hK _)

theorem qB_real (hQ : ∀ i, aq m c i = (Q i : EReal)) (hC : ∀ i, Ref.cum (af m c) i = (C i : EReal)) (r : Fin 128) :
    (qB m c b (Idealize.ShloMosaic.ix4 0 h r t) : EReal)
      = qRow (fun e => (Q (Idealize.ShloMosaic.ix4 b t h e) : EReal)) (C (Idealize.ShloMosaic.ix3 b t h) : EReal) r := by
  refine (V_q m c b h r t).trans ?_
  rw [show Ref.cum (m (c, Proc.tc.devRef main_arg3)) (Idealize.ShloMosaic.ix3 b t h) = _ from hC _, qRaw_eq]
  exact congrArg (fun f => qRow f _ r) (funext fun e => hQ _)

theorem big_real (hQ : ∀ i, aq m c i = (Q i : EReal)) (hK : ∀ i, ak m c i = (K i : EReal))
    (hC : ∀ i, Ref.cum (af m c) i = (C i : EReal)) :
    big (qB m c b) (kB m c b) h t u = if u ≤ t then ((lam * scoreR Q K C b h t u : ℝ) : EReal) else ⊥ := by
  unfold big
  refine congrArg (fun z : EReal => if u ≤ t then z else ⊥) ?_
  unfold scoreR
  rw [← dot_rows]
  exact Finset.sum_congr rfl fun r _ => congrArg₂ (· * ·) (kB_real b h u hK hC r) (qB_real b h t hQ hC r)

theorem vB_at (d : Fin 64) : (vB m c b (Idealize.ShloMosaic.ix4 0 h ⟨d.val, by omega⟩ u) : EReal) = av m c (Idealize.ShloMosaic.ix4 b u h d) :=
  (V_v m c b h ⟨d.val, by omega⟩ u).trans (by unfold vRow; rw [dif_pos d.isLt])

theorem vB_one : (vB m c b (Idealize.ShloMosaic.ix4 0 h 64 u) : EReal) = 1 := by
  refine (V_v m c b h 64 u).trans ?_
  unfold vRow
  rw [dif_neg (by decide), if_pos (by decide)]

theorem gB_at (hz : ∀ i, (⊥ : EReal) < az m c i) (d : Fin 64) (n : Fin 512) (hn : h.val * 64 + d.val = n.val) :
    (gB m c b (Idealize.ShloMosaic.ix4 0 h d t) : EReal)
      = az m c (Idealize.ShloMosaic.ix3 b t n) * Ideal.div 1 (1 + Ideal.exp (-az m c (Idealize.ShloMosaic.ix3 b t n))) := by
  refine (V_g m c b h d t).trans ?_
  rw [show (⟨h.val * 64 + d.val, by omega⟩ : Fin 512) = n from Fin.ext hn]
  exact gate _ (hz _)

/-- The kernel's softmax of one query, over its values' column, is the reference's. -/
theorem soft_at (hf : FiniteArgs m c) (d : Fin 64) :
    Ideal.div (∑ u : Fin 2048, (vB m c b (Idealize.ShloMosaic.ix4 0 h ⟨d.val, by omega⟩ u) : EReal) * wgt (qB m c b) (kB m c b) h t u)
          (∑ u : Fin 2048, (vB m c b (Idealize.ShloMosaic.ix4 0 h 64 u) : EReal) * wgt (qB m c b) (kB m c b) h t u)
      = ∑ u : Fin 2048, av m c (Idealize.ShloMosaic.ix4 b u h d)
          * Ref.prob (Ref.expo (Ref.score (aq m c) (ak m c) (Ref.cum (af m c)))) (Idealize.ShloMosaic.ix4 b h t u) := by
  obtain ⟨C, hC⟩ := Classical.axiom_of_choice (cum_real (af m c) hf.f)
  obtain ⟨Q, hQ⟩ := Classical.axiom_of_choice hf.q
  obtain ⟨K, hK⟩ := Classical.axiom_of_choice hf.k
  have hs := soft (scoreR Q K C b h t) (fun u => u ≤ t) t le_rfl (fun u => av m c (Idealize.ShloMosaic.ix4 b u h d))
    (fun u => Ref.score (aq m c) (ak m c) (Ref.cum (af m c)) (Idealize.ShloMosaic.ix4 b h t u)) (big (qB m c b) (kB m c b) h t)
    (fun u => score_real b h t u hQ hK hC) (fun u => big_real b h t u hQ hK hC)
  have e1 : (∑ u : Fin 2048, (vB m c b (Idealize.ShloMosaic.ix4 0 h ⟨d.val, by omega⟩ u) : EReal) * wgt (qB m c b) (kB m c b) h t u)
      = ∑ u : Fin 2048, av m c (Idealize.ShloMosaic.ix4 b u h d) * wgt (qB m c b) (kB m c b) h t u :=
    Finset.sum_congr rfl fun u _ => congrArg (· * wgt (qB m c b) (kB m c b) h t u) (vB_at b h u d)
  have e2 : (∑ u : Fin 2048, (vB m c b (Idealize.ShloMosaic.ix4 0 h 64 u) : EReal) * wgt (qB m c b) (kB m c b) h t u)
      = ∑ u : Fin 2048, wgt (qB m c b) (kB m c b) h t u :=
    Finset.sum_congr rfl fun u _ => (congrArg (· * wgt (qB m c b) (kB m c b) h t u) (vB_one b h u)).trans (one_mul _)
  rw [e1, e2]
  refine hs.trans (Finset.sum_congr rfl fun u _ => congrArg (av m c (Idealize.ShloMosaic.ix4 b u h d) * ·) ?_)
  rw [Ref.prob_at]
  refine congrArg₂ Ideal.div (Ref.expo_at _ b h t u).symm (Finset.sum_congr rfl fun u _ => (Ref.expo_at _ b h t u).symm)

end

/-- The kernel's result is the reference's, at every element. -/
theorem same_at (hf : FiniteArgs m c) (b : Fin 16) (t : Fin 2048) (n : Fin 512) :
    (Pipeline.afterTail₀ cfgs (dats m) 0 (V0 m) [hostOps1] c main_v71 : FVec Ideal S16x2048x512 .f32) (Idealize.ShloMosaic.ix3 b t n)
      = Ref.gated (Ref.mix (av m c) (Ref.prob (Ref.expo (Ref.score (aq m c) (ak m c) (Ref.cum (af m c)))))) (az m c) (Idealize.ShloMosaic.ix3 b t n) := by
  rw [Ref.gated_at, Ref.mix_at]
  refine (result_at m c b t n).trans ((whole_at m c b ⟨n.val / 64, by omega⟩ ⟨n.val % 64, by omega⟩ t).trans ?_)
  exact congrArg₂ (· * ·) (soft_at b _ t hf _) (gB_at b _ t hf.z _ n (by show n.val / 64 * 64 + n.val % 64 = n.val; omega))

theorem same (hf : FiniteArgs m c) :
    (Pipeline.afterTail₀ cfgs (dats m) 0 (V0 m) [hostOps1] c main_v71 : FVec Ideal S16x2048x512 .f32)
      = Ref.gated (Ref.mix (av m c) (Ref.prob (Ref.expo (Ref.score (aq m c) (ak m c) (Ref.cum (af m c)))))) (az m c) := by
  funext i
  rw [Idealize.ShloMosaic.eq_ix3 i]
  exact same_at hf _ _ _

end

end Fox
-- ==== Proof.InClose.lean ====
/- The in-projection kernel's results are the reference's: the projections are the same sums, and on the reals that finite
   arguments give, the tangent of the half is the logistic function. -/
module

public import proofs.«01_k».proof.Defs
public import proofs.«01_k».proof.Proof.InLaunch
public import proofs.«01_k».proof.Proof.InRef
public import proofs.«01_k».proof.Proof.Close

@[expose] public section

set_option maxRecDepth 16384

noncomputable section

namespace Inproj

open Idealize.ShloMosaic Idealize.ShloMosaic.TcCoe

theorem eps_pos : ∃ e : ℝ, 0 < e ∧ Ideal.ofBits .f32 0x358637BD#32 = (e : EReal) := by
  refine ⟨_, ?_, by simp [Ideal.ofBits, Ideal.ieee, -EReal.coe_mul]; rfl⟩
  norm_num

theorem n1024 : Ideal.ofBits .f32 0x44800000#32 = ((1024 : ℝ) : EReal) := by simp [Ideal.ofBits, Ideal.ieee, -EReal.coe_mul]; norm_num

theorem inv_real (f : Fin 1024 → ℝ) :
    ∃ r : ℝ, inv (∑ j : Fin 1024, (f j : EReal) * (f j : EReal)) (Ideal.ofBits .f32 0x44800000#32) = (r : EReal) := by
  obtain ⟨e, he, ee⟩ := eps_pos
  have hs : ∑ j : Fin 1024, (f j : EReal) * (f j : EReal) = ((∑ j : Fin 1024, f j * f j : ℝ) : EReal) := by
    rw [← Fox.coe_sum]
    exact Finset.sum_congr rfl fun j _ => (EReal.coe_mul _ _).symm
  have h0 : 0 ≤ ∑ j : Fin 1024, f j * f j := Finset.sum_nonneg fun j _ => mul_self_nonneg _
  unfold inv
  rw [hs, n1024, ee, Ideal.div_coe (by norm_num), ← EReal.coe_mul, ← EReal.coe_add, Ideal.rsqrt_coe]
  have hp : 0 < (∑ j : Fin 1024, f j * f j) * (1 / 1024) + e := by positivity
  rw [if_neg (not_lt.mpr hp.le), if_neg hp.ne']
  exact ⟨_, rfl⟩

/-- The squares' sum is never negative; at infinity its inverse root is zero, and below it every entry is a real, so a
    normalised row is real whatever the row. -/
theorem hid_real (x : Fin 1024 → EReal) (k : Fin 1024) (n : ℝ) :
    ∃ r : ℝ, x k * inv (∑ j : Fin 1024, x j * x j) (Ideal.ofBits .f32 0x44800000#32) * (n : EReal) = (r : EReal) := by
  by_cases hx : ∀ j, ∃ r : ℝ, x j = (r : EReal)
  · choose f hf using hx
    obtain ⟨s, hs⟩ := inv_real f
    refine ⟨f k * s * n, ?_⟩
    simp only [hf]
    rw [hs, EReal.coe_mul, EReal.coe_mul]
  · obtain ⟨j, hj⟩ := not_forall.mp hx
    have sq : ∀ y : EReal, 0 ≤ y * y := fun y => by
      induction y with
      | bot => simp
      | coe r => rw [← EReal.coe_mul]; exact EReal.coe_nonneg.mpr (mul_self_nonneg r)
      | top => simp
    have top : x j * x j = ⊤ := by
      generalize x j = y at hj
      induction y with
      | bot => simp
      | coe r => exact absurd ⟨r, rfl⟩ hj
      | top => simp
    have hs : ∑ j : Fin 1024, x j * x j = ⊤ :=
      top_le_iff.mp (top ▸ Finset.single_le_sum (f := fun j => x j * x j) (fun i _ => sq (x i)) (Finset.mem_univ j))
    obtain ⟨e, _, ee⟩ := eps_pos
    refine ⟨0, ?_⟩
    have hi : inv ⊤ (Ideal.ofBits .f32 0x44800000#32) = 0 := by
      unfold inv
      rw [n1024, ee, Ideal.div_coe (by norm_num), EReal.top_mul_coe_of_pos (by norm_num), EReal.top_add_coe, Ideal.rsqrt_top]
    rw [hs, hi, mul_zero, zero_mul]
    rfl

theorem half_eq : half = ((1 / 2 : ℝ) : EReal) := Fox.half

theorem sl_eq (x : ℝ) : sl (x : EReal) = Ref.sil (x : EReal) := by
  unfold sl Ref.sil
  rw [half_eq]
  exact Fox.gate (x : EReal) (EReal.bot_lt_coe x)

theorem sg_eq (r : ℝ) : sg (r : EReal) = Ideal.div 1 (1 + Ideal.exp (-(r : EReal))) := by
  unfold sg
  rw [half_eq, ← EReal.coe_mul, Ideal.tanh_coe, ← EReal.coe_mul, ← EReal.coe_add, ← EReal.coe_neg, Ideal.exp_coe]
  have h1 : (1 : EReal) + ((Real.exp (-r) : ℝ) : EReal) = ((1 + Real.exp (-r) : ℝ) : EReal) := by rw [EReal.coe_add]; rfl
  have hp : 0 < 1 + Real.exp (-r) := by positivity
  rw [h1, Ideal.div_coe hp.ne', one_mul]
  congr 1
  rw [Real.tanh_eq_sinh_div_cosh, Real.sinh_eq, Real.cosh_eq]
  have e1 : Real.exp (-r) = Real.exp (-(1 / 2 * r)) * Real.exp (-(1 / 2 * r)) := by rw [← Real.exp_add]; congr 1; ring
  have e2 : Real.exp (1 / 2 * r) * Real.exp (-(1 / 2 * r)) = 1 := by rw [← Real.exp_add]; simp
  rw [e1]
  set A := Real.exp (1 / 2 * r) with hA
  set B := Real.exp (-(1 / 2 * r)) with hB
  have pA : 0 < A := Real.exp_pos _
  have pB : 0 < B := Real.exp_pos _
  have eA : A = 1 / B := by field_simp; linarith
  rw [eA]
  field_simp
  ring

/-- A query over eight and over the logarithm of two is the query under the scaled gain. -/
theorem scale (x g : EReal) :
    Ideal.div (Ideal.div (x * g) (Ideal.ofBits .f32 0x41000000#32)) (Ideal.log (Ideal.ofBits .f32 0x40000000#32))
      = x * (g * ((Fox.lam / 8 : ℝ) : EReal)) := by
  have h : Real.log 2 ≠ 0 := (Real.log_pos (by norm_num)).ne'
  rw [Fox.two, Ideal.log_coe, if_neg (by norm_num), Fox.eight, Ideal.div_coe h, Ideal.div_coe (by norm_num), mul_assoc, mul_assoc, ← EReal.coe_mul]
  congr 3
  show 1 / 8 * (1 / Real.log 2) = 1 / Real.log 2 / 8
  ring

theorem pre_facts : Cert.Pre_finite2.Facts := ⟨by decide, by decide⟩

section
open Cert.Kernel2Ideal Cert.Kernel2Ideal.Gen

variable (X : FVec Ideal S16x2048x1024 .f32) (N : FVec Ideal S2x1024 .f32) (W : FVec Ideal S2x1024x3848 .f32)

theorem PR_real (hN : ∀ i, ∃ r : ℝ, N i = (r : EReal)) (hW : ∀ i, ∃ r : ℝ, W i = (r : EReal))
    (b : Fin 16) (t : Fin 2048) (o : Fin 3848) : ∃ r : ℝ, PR X N W b t o = (r : EReal) := by
  choose n hn using hN
  choose w hw using hW
  choose h hh using fun k => hid_real (fun j => X (Idealize.ShloMosaic.ix3 b t j)) k (n (Idealize.ShloMosaic.ix2 0 k))
  refine ⟨∑ k : Fin 1024, h k * w (Idealize.ShloMosaic.ix3 0 k o), ?_⟩
  unfold PR HID
  rw [← Fox.coe_sum]
  refine Finset.sum_congr rfl fun k _ => ?_
  rw [EReal.coe_mul, ← hh k, hn, hw]

variable (m : (ℓ : Loc nD τ sig) → Buf (Elt Ideal) ℓ) (c : Dev nD)

theorem P_real (h : Cert.Pre_Kernel2Ideal_finite2 (hPre_finite2 := pre_facts) m) (b : Fin 16) (t : Fin 2048) (o : Fin 3848) :
    ∃ r : ℝ, P m c b t o = (r : EReal) :=
  PR_real _ _ _ (fun i => Fox.real_of_abs _ (congrFun (h c).1 i)) (fun i => Fox.real_of_abs _ (congrFun (h c).2 i)) b t o

theorem HV_row (b : Fin 16) (t : Fin 2048) (o : ℕ) (ho : o + 512 ≤ 3848) (g : EReal) (h : Fin 8) (d : Fin 64) :
    HV X N W b t o ho g (row h d)
      = PR X N W b t ⟨o + (64 * h.val + d.val), by omega⟩
        * inv (∑ r : Fin 64, PR X N W b t ⟨o + (64 * h.val + r.val), by omega⟩ * PR X N W b t ⟨o + (64 * h.val + r.val), by omega⟩) (Ideal.ofBits .f32 0x42800000#32) * g := by
  unfold HV hn
  have e : ∀ r : Fin 64, (⟨o + ((row h d).val / 64 * 64 + r.val), by have := (row h d).isLt; omega⟩ : Fin 3848) = ⟨o + (64 * h.val + r.val), by omega⟩ := fun r =>
    Fin.ext (by show o + ((64 * h.val + d.val) / 64 * 64 + r.val) = o + (64 * h.val + r.val); omega)
  have e0 : (⟨o + (row h d).val, by have := (row h d).isLt; omega⟩ : Fin 3848) = ⟨o + (64 * h.val + d.val), by omega⟩ := rfl
  simp only [e, e0]

theorem g_row (g : FVec Ideal S2x8x64 .f32) (h : Fin 8) (d : Fin 64) :
    g (Idealize.ShloMosaic.ix3 0 ⟨(row h d).val / 64, by have := (row h d).isLt; omega⟩ ⟨(row h d).val % 64, by omega⟩) = g (Idealize.ShloMosaic.ix3 0 h d) := by
  have e1 : (⟨(row h d).val / 64, by have := (row h d).isLt; omega⟩ : Fin 8) = h := Fin.ext (by show (64 * h.val + d.val) / 64 = h.val; omega)
  have e2 : (⟨(row h d).val % 64, by omega⟩ : Fin 64) = d := Fin.ext (by show (64 * h.val + d.val) % 64 = d.val; omega)
  rw [e1, e2]

theorem same_v (b : Fin 16) (t : Fin 2048) (h : Fin 8) (d : Fin 64) :
    W11 m c b h d t = Ref.vV (Ref.projV (aX m c) (aN m c) (aW m c)) (Idealize.ShloMosaic.ix4 b t h d) := by
  rw [Ref.vV_at, Ref.projV_at]
  rfl

theorem same_k (b : Fin 16) (t : Fin 2048) (h : Fin 8) (d : Fin 64) :
    W10 m c b h d t = Ref.headV (Ref.kpV (Ref.projV (aX m c) (aN m c) (aW m c))) (aK m c) (Idealize.ShloMosaic.ix4 b t h d) := by
  rw [Ref.headV_at]
  simp only [Ref.kpV_at, Ref.projV_at]
  unfold W10
  rw [HV_row]
  exact congrArg _ (g_row (aK m c) h d)

theorem same_q (b : Fin 16) (t : Fin 2048) (h : Fin 8) (d : Fin 64) :
    W9 m c b h d t = Ref.qV (Ref.headV (Ref.qpV (Ref.projV (aX m c) (aN m c) (aW m c))) (aQ m c)) (Idealize.ShloMosaic.ix4 b t h d) := by
  rw [Ref.qV_at, Ref.headV_at]
  simp only [Ref.qpV_at, Ref.projV_at]
  unfold W9
  rw [HV_row, scale]
  exact congrArg _ (congrArg (fun x : EReal => x * ((Fox.lam / 8 : ℝ) : EReal)) (g_row (aQ m c) h d))

variable {m c}

theorem same_g (hp : ∀ b t o, ∃ r : ℝ, P m c b t o = (r : EReal)) (b : Fin 16) (t : Fin 2048) (n : Fin 512) :
    W12 m c (Idealize.ShloMosaic.ix4 b ⟨n.val / 64, by omega⟩ ⟨n.val % 64, by omega⟩ t)
      = Ref.gV (Ref.projV (aX m c) (aN m c) (aW m c)) (Idealize.ShloMosaic.ix3 b t n) := by
  rw [Ref.gV_at, Ref.projV_at]
  obtain ⟨r, hr⟩ := hp b t ⟨3328 + n.val, by omega⟩
  have e : (⟨3328 + (row ⟨n.val / 64, by omega⟩ ⟨n.val % 64, by omega⟩).val, by have := (row ⟨n.val / 64, by omega⟩ ⟨n.val % 64, by omega⟩).isLt; omega⟩ : Fin 3848) = ⟨3328 + n.val, by omega⟩ :=
    Fin.ext (by show 3328 + (64 * (n.val / 64) + n.val % 64) = 3328 + n.val; omega)
  refine (congrArg (fun o => sl (P m c b t o)) e).trans ?_
  show sl (P m c b t _) = Ref.sil (P m c b t _)
  rw [hr]
  exact sl_eq r

theorem same_u (hp : ∀ b t o, ∃ r : ℝ, P m c b t o = (r : EReal)) (b : Fin 16) (t : Fin 2048) (n : Fin 512) :
    W7 m c (Idealize.ShloMosaic.ix3 b t n) = Ref.uV (Ref.projV (aX m c) (aN m c) (aW m c)) (Idealize.ShloMosaic.ix3 b t n) := by
  rw [Ref.uV_at]
  show U (P m c b t) n = _
  unfold U
  obtain ⟨r, hr⟩ := hp b t ⟨256 + n.val, by omega⟩
  by_cases h : n.val < 256
  · rw [if_pos h, dif_pos h, Ref.u1V_at, Ref.projV_at, Ref.projV_at]
    show _ * sg (P m c b t _) = _ * Ideal.div 1 (1 + Ideal.exp (-(P m c b t _)))
    rw [hr]
    exact congrArg _ (sg_eq r)
  · rw [if_neg h, dif_neg h, Ref.u2V_at, Ref.projV_at]
    have e : (⟨512 + (n.val - 256), by omega⟩ : Fin 3848) = ⟨256 + n.val, by omega⟩ := Fin.ext (by show 512 + (n.val - 256) = 256 + n.val; omega)
    rw [e]
    show sl (P m c b t _) = Ref.sil (P m c b t _)
    rw [hr]
    exact sl_eq r

theorem out_u (hp : ∀ b t o, ∃ r : ℝ, P m c b t o = (r : EReal)) :
    W7 m c = Ref.uV (Ref.projV (aX m c) (aN m c) (aW m c)) := by
  funext i
  rw [Idealize.ShloMosaic.eq_ix3 i]
  exact same_u hp _ _ _

theorem out_g (hp : ∀ b t o, ∃ r : ℝ, P m c b t o = (r : EReal)) :
    (Pipeline.afterTail₀ cfgs (dats m) 0 (V0 m) [hostOps1] c main_v24 : FVec Ideal S16x2048x512 .f32) = Ref.gV (Ref.projV (aX m c) (aN m c) (aW m c)) := by
  funext i
  rw [Idealize.ShloMosaic.eq_ix3 i]
  exact (res_24 m c _ _ _).trans (same_g hp _ _ _)

variable (m c)

theorem out_q : (Pipeline.afterTail₀ cfgs (dats m) 0 (V0 m) [hostOps1] c main_v14 : FVec Ideal S16x2048x8x64 .f32)
    = Ref.qV (Ref.headV (Ref.qpV (Ref.projV (aX m c) (aN m c) (aW m c))) (aQ m c)) := by
  funext i
  rw [Idealize.ShloMosaic.eq_ix4 i]
  exact (res_14 m c _ _ _ _).trans (same_q m c _ _ _ _)

theorem out_k : (Pipeline.afterTail₀ cfgs (dats m) 0 (V0 m) [hostOps1] c main_v17 : FVec Ideal S16x2048x8x64 .f32)
    = Ref.headV (Ref.kpV (Ref.projV (aX m c) (aN m c) (aW m c))) (aK m c) := by
  funext i
  rw [Idealize.ShloMosaic.eq_ix4 i]
  exact (res_17 m c _ _ _ _).trans (same_k m c _ _ _ _)

theorem out_v : (Pipeline.afterTail₀ cfgs (dats m) 0 (V0 m) [hostOps1] c main_v20 : FVec Ideal S16x2048x8x64 .f32)
    = Ref.vV (Ref.projV (aX m c) (aN m c) (aW m c)) := by
  funext i
  rw [Idealize.ShloMosaic.eq_ix4 i]
  exact (res_20 m c _ _ _ _).trans (same_v m c _ _ _ _)

end

end Inproj
-- ==== Proof.InConv.lean ====
/- The in-projection kernel's short convolution at a point, read at an index: the buffer of gated rows with the eight rows
   carried before them, and the result's block. -/
module

public import proofs.«01_k».proof.Proof.InTile
public import Idealize.ShloMosaic.Lib.WritesUnit

@[expose] public section

set_option maxRecDepth 16384

noncomputable section

namespace Inproj

open Cert.Kernel2Ideal Cert.Kernel2Ideal.Gen
open Idealize.ShloMosaic Idealize.ShloMosaic.TcCoe

/-- The rows of the buffer: eight carried ones, then the block's products of two projections. -/
def wb (x0 : FVec Ideal S1x1024x1024 .f32) (x1 : FVec Ideal S1x1x1024 .f32) (x2 : FVec Ideal S1x3848x1024 .bf16)
    (xs : Fin 1032 → Fin 256 → EReal) (r : Fin 1032) (n : Fin 256) : EReal :=
  if h : 8 ≤ r.val then pr x0 x1 x2 ⟨r.val - 8, by omega⟩ ⟨1024 + n.val, by omega⟩ * pr x0 x1 x2 ⟨r.val - 8, by omega⟩ ⟨1280 + n.val, by omega⟩
  else xs r n

/-- The gated convolution's block at an index. -/
def B8 (x0 : FVec Ideal S1x1024x1024 .f32) (x1 : FVec Ideal S1x1x1024 .f32) (x2 : FVec Ideal S1x3848x1024 .bf16) (x4 : FVec Ideal S1x3x256 .f32)
    (xs : Fin 1032 → Fin 256 → EReal) (t : Fin 1024) (n : Fin 256) : EReal :=
  pr x0 x1 x2 t ⟨768 + n.val, by omega⟩
    * ((x4 (Idealize.ShloMosaic.ix3 0 0 n) : EReal) * wb x0 x1 x2 xs ⟨6 + t.val, by omega⟩ n
      + (x4 (Idealize.ShloMosaic.ix3 0 1 n) : EReal) * wb x0 x1 x2 xs ⟨7 + t.val, by omega⟩ n
      + (x4 (Idealize.ShloMosaic.ix3 0 2 n) : EReal) * wb x0 x1 x2 xs ⟨8 + t.val, by omega⟩ n)
    * sl (pr x0 x1 x2 t ⟨1536 + n.val, by omega⟩)

variable (x0 : FVec Ideal S1x1024x1024 .f32) (x1 : FVec Ideal S1x1x1024 .f32) (x2 : FVec Ideal S1x3848x1024 .bf16)

theorem p1024 (h : FVec Ideal S1024x1024 .bf16) (w : FVec Ideal S1024x1024 .bf16) (t o : Fin 1024) :
    k0_pay11 (F := Ideal) h w (Idealize.ShloMosaic.ix2 t o) = ∑ k : Fin 1024, h (Idealize.ShloMosaic.ix2 t k) * w (Idealize.ShloMosaic.ix2 o k) := by
  pointwise [k0_pay11]

variable {x2} in
theorem ps_at {W : S3848x1024.Idx → Elt Ideal .bf16} (hW : ∀ r k, W (Idealize.ShloMosaic.ix2 r k) = x2 (Idealize.ShloMosaic.ix3 0 r k))
    (inb) (r : Fin 1024) (t : Fin 1024) (i : Fin 3848) (hi : i.val = 768 + r.val) :
    k0_pay11 (F := Ideal) (k0_pay6 (F := Ideal) x0 x1) (View.ld W (Rect.unit ![768, 0] ![1024, 1024] inb)) (Idealize.ShloMosaic.ix2 t r) = pr x0 x1 x2 t i := by
  refine (p1024 _ _ t r).trans (Finset.sum_congr rfl fun k _ => ?_)
  exact congrArg₂ (· * ·) (hid_at x0 x1 t k) ((ld_at W 768 1024 inb r k i hi).trans (hW i k))

theorem prod_at (h : FVec Ideal S1024x1024 .bf16) (w : FVec Ideal S1024x1024 .bf16) (t : Fin 1024) (n : Fin 256) :
    k0_pay14 (F := Ideal) h w (Idealize.ShloMosaic.ix2 t n)
      = k0_pay11 (F := Ideal) h w (Idealize.ShloMosaic.ix2 t ⟨256 + n.val, by omega⟩) * k0_pay11 (F := Ideal) h w (Idealize.ShloMosaic.ix2 t ⟨512 + n.val, by omega⟩) := by
  unfold k0_pay14
  generalize k0_pay11 (F := Ideal) h w = P
  pointwise []

theorem zero_at (y : S8x256.Idx) : k0_pay4 (F := Ideal) y = (0 : EReal) := by
  pointwise [k0_pay4]

theorem piece_y (h : FVec Ideal S1024x1024 .bf16) (w : FVec Ideal S1024x1024 .bf16) (w0 w1 w2 : FVec Ideal S1x256 .f32) (b0 b1 b2 : FVec Ideal S1024x256 .f32)
    (y : S1x1024x256.Idx) (t : Fin 1024) (n : Fin 256) (ht : t.val = (y 1).val) (hn : n.val = (y 2).val) :
    k0_pay17 (F := Ideal) (k0_pay12 h w) (k0_pay13 h w) (k0_pay15 w0 b0) w1 b1 w2 b2 y
      = (k0_pay11 (F := Ideal) h w (Idealize.ShloMosaic.ix2 t ⟨n.val, by omega⟩) : EReal)
        * ((w0 (Idealize.ShloMosaic.ix2 0 n) : EReal) * b0 (Idealize.ShloMosaic.ix2 t n)
          + (w1 (Idealize.ShloMosaic.ix2 0 n) : EReal) * b1 (Idealize.ShloMosaic.ix2 t n)
          + (w2 (Idealize.ShloMosaic.ix2 0 n) : EReal) * b2 (Idealize.ShloMosaic.ix2 t n))
        * sl (k0_pay11 (F := Ideal) h w (Idealize.ShloMosaic.ix2 t ⟨768 + n.val, by omega⟩)) := by
  have h0 : (y 0).val < 1 := (y 0).isLt
  unfold k0_pay12 k0_pay13
  generalize k0_pay11 (F := Ideal) h w = P
  obtain rfl : t = y 1 := Fin.ext ht
  obtain rfl : n = y 2 := Fin.ext hn
  pointwise [k0_pay17, k0_pay15, sl, half]

theorem c_at (x4 : FVec Ideal S1x3x256 .f32) (M : Memref sig .tc .vmem S1x3x256 .f32) (hM : M.IsWhole) (h) (r : Fin 3) (k : Fin 256) :
    View.read (Elt Ideal) ((M.view.slice (Rect.unit ![0, 0, 0] ![1, 3, 256] Gen.inb_S1x3x256_S1x3x256_0_0_0)).reshape S3x256 h)
      (hM.unread x4) (Idealize.ShloMosaic.ix2 r k) = x4 (Idealize.ShloMosaic.ix3 0 r k) := by
  have e := congrFun (hM.read_unread (Val := Elt Ideal) x4)
  show View.read (Elt Ideal) M.view (hM.unread x4) ((Rect.unit ![0, 0, 0] ![1, 3, 256] Gen.inb_S1x3x256_S1x3x256_0_0_0).emb (Shape.reshapeEquiv h (Idealize.ShloMosaic.ix2 r k))) = _
  rw [e]
  have h' : S1x3x256.ShapeCasts S3x256 := h
  have e1 : shapeCast S3x256 (x4 : FVec Ideal S1x3x256 .f32) h' (Idealize.ShloMosaic.ix2 r k) = x4 (Idealize.ShloMosaic.ix3 0 r k) := by
    pointwise []
  refine Eq.trans (congrArg x4 ?_) e1
  funext a
  apply Fin.ext
  match a with
  | ⟨0, _⟩ => exact (Nat.zero_add _).trans (Nat.one_mul _)
  | ⟨1, _⟩ => exact (Nat.zero_add _).trans (Nat.one_mul _)
  | ⟨2, _⟩ => exact (Nat.zero_add _).trans (Nat.one_mul _)

/-- A row of the convolution's weights, loaded. -/
theorem cl_at (x4 : FVec Ideal S1x3x256 .f32) {C : S3x256.Idx → Elt Ideal .f32} (hC : ∀ r k, C (Idealize.ShloMosaic.ix2 r k) = x4 (Idealize.ShloMosaic.ix3 0 r k))
    (o : ℕ) (inb) (r : Fin 3) (hr : r.val = o) (n : Fin 256) :
    View.ld C (Rect.unit ![o, 0] ![1, 256] inb) (Idealize.ShloMosaic.ix2 0 n) = x4 (Idealize.ShloMosaic.ix3 0 r n) := by
  refine (View.ld_unit_apply_of C _ _ _ _ (Idealize.ShloMosaic.ix2 r n) fun a => ?_).trans (hC r n)
  match a with
  | ⟨0, _⟩ => exact hr.trans (Nat.add_zero _).symm
  | ⟨1, _⟩ => exact (Nat.zero_add _).symm

/-- Rows of the buffer, loaded. -/
theorem bl_at (C : S1032x256.Idx → Elt Ideal .f32) (o k : ℕ) (inb) (r : Fin 1032) (t : Fin k) (hr : r.val = o + t.val) (n : Fin 256) :
    View.ld C (Rect.unit ![o, 0] ![k, 256] inb) (Idealize.ShloMosaic.ix2 t n) = C (Idealize.ShloMosaic.ix2 r n) := by
  refine View.ld_unit_apply_of C _ _ _ _ (Idealize.ShloMosaic.ix2 r n) fun a => ?_
  match a with
  | ⟨0, _⟩ => exact hr
  | ⟨1, _⟩ => exact (Nat.zero_add _).symm

variable {x2} in
/-- The buffer's contents once the products are stored at row eight. -/
theorem st_at {W : S3848x1024.Idx → Elt Ideal .bf16} (hW : ∀ r k, W (Idealize.ShloMosaic.ix2 r k) = x2 (Idealize.ShloMosaic.ix3 0 r k)) (inb) (inb')
    {sp : Space} (v : View sig .tc sp S1032x256 .f32) (f : v.ty.Contents (Elt Ideal)) (L : List (View.Piece (Elt Ideal) S1032x256 .f32))
    (xs : Fin 1032 → Fin 256 → EReal) (hx : ∀ r n, r.val < 8 → v.read (Elt Ideal) (v.writes (Elt Ideal) f L) (Idealize.ShloMosaic.ix2 r n) = xs r n)
    (r : Fin 1032) (n : Fin 256) :
    v.read (Elt Ideal) (v.writes (Elt Ideal) f (⟨Rect.unit ![8, 0] ![1024, 256] inb',
        k0_pay14 (F := Ideal) (k0_pay6 (F := Ideal) x0 x1) (View.ld W (Rect.unit ![768, 0] ![1024, 1024] inb))⟩ :: L)) (Idealize.ShloMosaic.ix2 r n)
      = wb x0 x1 x2 xs r n := by
  unfold wb
  by_cases h : 8 ≤ r.val
  · rw [dif_pos h]
    refine (View.read_writes_cons_rows_of_mem v f inb' _ L _ (Idealize.ShloMosaic.ix2 ⟨r.val - 8, by omega⟩ n) rfl
      (by show r.val = 8 + (r.val - 8); omega) rfl).trans ?_
    refine (prod_at _ _ _ n).trans ?_
    exact congrArg₂ (· * ·) (ps_at x0 x1 hW inb _ _ _ (by show 1024 + n.val = 768 + (256 + n.val); omega))
      (ps_at x0 x1 hW inb _ _ _ (by show 1280 + n.val = 768 + (512 + n.val); omega))
  · rw [dif_neg h]
    refine (View.read_writes_cons_rows_of_not_mem v f inb' _ L _ rfl rfl (Or.inl (by show r.val < 8; omega))).trans ?_
    exact hx r n (by omega)

/-- With rows zero stored at the top. -/
theorem z_at {sp : Space} (v : View sig .tc sp S1032x256 .f32) (f : v.ty.Contents (Elt Ideal)) (inb) (r : Fin 1032) (n : Fin 256) (h : r.val < 8) :
    v.read (Elt Ideal) (v.writes (Elt Ideal) f [⟨Rect.unit ![0, 0] ![8, 256] inb, k0_pay4 (F := Ideal)⟩]) (Idealize.ShloMosaic.ix2 r n) = (0 : EReal) :=
  (View.read_writes_cons_rows_of_mem v f inb _ [] _ (Idealize.ShloMosaic.ix2 ⟨r.val, h⟩ n) rfl (Nat.zero_add _).symm rfl).trans (zero_at _)

/-- A covered load is a load of what the stores left. -/
theorem cov_at {sp : Space} (v : View sig .tc sp S1032x256 .f32) (L : List (View.Piece (Elt Ideal) S1032x256 .f32)) (r : Rect S1032x256) :
    v.readCov L r.toLoadRect = View.ld (v.read (Elt Ideal) (v.writes (Elt Ideal) v.junk L)) r := rfl

theorem out8_A (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x3848x1024 .bf16) (harg4 : arg4.IsWhole) (arg5 : Memref sig .tc .vmem S1x8x1 .f32) (harg5 : arg5.IsWhole) (arg6 : Memref sig .tc .vmem S1x3x256 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x1024x512 .f32) (harg9 : arg9.IsWhole) (arg10 : Memref sig .tc .vmem S1x1024x256 .bf16) (harg10 : arg10.IsWhole) (arg11 : Memref sig .tc .vmem S1x8x128x1024 .bf16) (harg11 : arg11.IsWhole) (arg12 : Memref sig .tc .vmem S1x8x1024x128 .bf16) (harg12 : arg12.IsWhole) (arg13 : Memref sig .tc .vmem S1x8x80x1024 .bf16) (harg13 : arg13.IsWhole) (arg14 : Memref sig .tc .vmem S1x8x64x1024 .bf16) (harg14 : arg14.IsWhole) (arg15 : Memref sig .tc .vmem S1032x256 .f32) (harg15 : arg15.IsWhole) (arg16 : Memref sig .tc .vmem S8x128 .f32) (harg16 : arg16.IsWhole) (hc0 : cond0_0 i) (x0 : Vec Ideal S1x1024x1024 .f32) (x1 : Vec Ideal S1x1x1024 .f32) (x2 : Vec Ideal S1x3848x1024 .bf16) (x3 : Vec Ideal S1x8x1 .f32) (x4 : Vec Ideal S1x3x256 .f32) (x5 : Vec Ideal S1x512x1 .f32) (x6 : Vec Ideal S1x512x1 .f32) (y : S1x1024x256.Idx) :
    out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 y = B8 x0 x1 x2 x4 (fun _ _ => 0) (y 1) (y 2) := by
  frame_out
  simp only [cov_at]
  generalize hW : View.read (Elt Ideal) ((arg4.view.slice _).reshape _ _) _ = W
  have hW' : ∀ r k, W (Idealize.ShloMosaic.ix2 r k) = x2 (Idealize.ShloMosaic.ix3 0 r k) := fun r k => by
    rw [← hW]; exact w_at x2 arg4 harg4 _ r k
  generalize hC : View.read (Elt Ideal) ((arg6.view.slice _).reshape _ _) _ = C
  have hC' : ∀ r k, C (Idealize.ShloMosaic.ix2 r k) = x4 (Idealize.ShloMosaic.ix3 0 r k) := fun r k => by
    rw [← hC]; exact c_at x4 arg6 harg6 _ r k
  refine (piece_y _ _ _ _ _ _ _ _ y (y 1) (y 2) rfl rfl).trans ?_
  unfold B8
  refine congrArg₂ (· * ·) (congrArg₂ (· * ·) (ps_at x0 x1 hW' _ _ _ _ rfl) (congrArg₂ (· + ·) (congrArg₂ (· + ·)
    (congrArg₂ (· * ·) (cl_at x4 hC' 0 _ 0 rfl _) ?_) (congrArg₂ (· * ·) (cl_at x4 hC' 1 _ 1 rfl _) ?_))
    (congrArg₂ (· * ·) (cl_at x4 hC' 2 _ 2 rfl _) ?_))) (congrArg sl (ps_at x0 x1 hW' _ _ _ _ (by show 1536 + (y 2).val = 768 + (768 + (y 2).val); omega)))
  · refine (bl_at _ _ 1024 _ ⟨6 + (y 1).val, by have := (y 1).isLt; change _ < 1024 at this; omega⟩ (y 1) rfl (y 2)).trans ?_
    exact st_at x0 x1 hW' _ _ _ _ _ (fun _ _ => 0) (fun r n h => z_at _ _ _ r n h) _ _
  · refine (bl_at _ _ 1024 _ ⟨7 + (y 1).val, by have := (y 1).isLt; change _ < 1024 at this; omega⟩ (y 1) rfl (y 2)).trans ?_
    exact st_at x0 x1 hW' _ _ _ _ _ (fun _ _ => 0) (fun r n h => z_at _ _ _ r n h) _ _
  · refine (bl_at _ _ 1024 _ ⟨8 + (y 1).val, by have := (y 1).isLt; change _ < 1024 at this; omega⟩ (y 1) rfl (y 2)).trans ?_
    exact st_at x0 x1 hW' _ _ _ _ _ (fun _ _ => 0) (fun r n h => z_at _ _ _ r n h) _ _

theorem out8_B (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x3848x1024 .bf16) (harg4 : arg4.IsWhole) (arg5 : Memref sig .tc .vmem S1x8x1 .f32) (harg5 : arg5.IsWhole) (arg6 : Memref sig .tc .vmem S1x3x256 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x1024x512 .f32) (harg9 : arg9.IsWhole) (arg10 : Memref sig .tc .vmem S1x1024x256 .bf16) (harg10 : arg10.IsWhole) (arg11 : Memref sig .tc .vmem S1x8x128x1024 .bf16) (harg11 : arg11.IsWhole) (arg12 : Memref sig .tc .vmem S1x8x1024x128 .bf16) (harg12 : arg12.IsWhole) (arg13 : Memref sig .tc .vmem S1x8x80x1024 .bf16) (harg13 : arg13.IsWhole) (arg14 : Memref sig .tc .vmem S1x8x64x1024 .bf16) (harg14 : arg14.IsWhole) (arg15 : Memref sig .tc .vmem S1032x256 .f32) (harg15 : arg15.IsWhole) (arg16 : Memref sig .tc .vmem S8x128 .f32) (harg16 : arg16.IsWhole) (hc0 : ¬cond0_0 i) (x0 : Vec Ideal S1x1024x1024 .f32) (x1 : Vec Ideal S1x1x1024 .f32) (x2 : Vec Ideal S1x3848x1024 .bf16) (x3 : Vec Ideal S1x8x1 .f32) (x4 : Vec Ideal S1x3x256 .f32) (x5 : Vec Ideal S1x512x1 .f32) (x6 : Vec Ideal S1x512x1 .f32) (xs0 : Vec Ideal S1032x256 .f32) (xs1 : Vec Ideal S8x128 .f32) (y : S1x1024x256.Idx) :
    out0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 xs0 xs1 y = B8 x0 x1 x2 x4 (fun r n => xs0 (Idealize.ShloMosaic.ix2 r n)) (y 1) (y 2) := by
  frame_out
  simp only [cov_at]
  generalize hW : View.read (Elt Ideal) ((arg4.view.slice _).reshape _ _) _ = W
  have hW' : ∀ r k, W (Idealize.ShloMosaic.ix2 r k) = x2 (Idealize.ShloMosaic.ix3 0 r k) := fun r k => by
    rw [← hW]; exact w_at x2 arg4 harg4 _ r k
  generalize hC : View.read (Elt Ideal) ((arg6.view.slice _).reshape _ _) _ = C
  have hC' : ∀ r k, C (Idealize.ShloMosaic.ix2 r k) = x4 (Idealize.ShloMosaic.ix3 0 r k) := fun r k => by
    rw [← hC]; exact c_at x4 arg6 harg6 _ r k
  refine (piece_y _ _ _ _ _ _ _ _ y (y 1) (y 2) rfl rfl).trans ?_
  unfold B8
  refine congrArg₂ (· * ·) (congrArg₂ (· * ·) (ps_at x0 x1 hW' _ _ _ _ rfl) (congrArg₂ (· + ·) (congrArg₂ (· + ·)
    (congrArg₂ (· * ·) (cl_at x4 hC' 0 _ 0 rfl _) ?_) (congrArg₂ (· * ·) (cl_at x4 hC' 1 _ 1 rfl _) ?_))
    (congrArg₂ (· * ·) (cl_at x4 hC' 2 _ 2 rfl _) ?_))) (congrArg sl (ps_at x0 x1 hW' _ _ _ _ (by show 1536 + (y 2).val = 768 + (768 + (y 2).val); omega)))
  · refine (bl_at _ _ 1024 _ ⟨6 + (y 1).val, by have := (y 1).isLt; change _ < 1024 at this; omega⟩ (y 1) rfl (y 2)).trans ?_
    exact st_at x0 x1 hW' _ _ _ _ _ _ (fun r n h => congrFun (harg15.read_unread xs0) _) _ _
  · refine (bl_at _ _ 1024 _ ⟨7 + (y 1).val, by have := (y 1).isLt; change _ < 1024 at this; omega⟩ (y 1) rfl (y 2)).trans ?_
    exact st_at x0 x1 hW' _ _ _ _ _ _ (fun r n h => congrFun (harg15.read_unread xs0) _) _ _
  · refine (bl_at _ _ 1024 _ ⟨8 + (y 1).val, by have := (y 1).isLt; change _ < 1024 at this; omega⟩ (y 1) rfl (y 2)).trans ?_
    refine (st_at x0 x1 hW' _ _ _ _ _ _ (fun r n h => rfl) _ _).trans ?_
    unfold wb
    rw [dif_pos (by show 8 ≤ 8 + (y 1).val; omega), dif_pos (by show 8 ≤ 8 + (y 1).val; omega)]

theorem sc_A (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x3848x1024 .bf16) (harg4 : arg4.IsWhole) (arg5 : Memref sig .tc .vmem S1x8x1 .f32) (harg5 : arg5.IsWhole) (arg6 : Memref sig .tc .vmem S1x3x256 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x1024x512 .f32) (harg9 : arg9.IsWhole) (arg10 : Memref sig .tc .vmem S1x1024x256 .bf16) (harg10 : arg10.IsWhole) (arg11 : Memref sig .tc .vmem S1x8x128x1024 .bf16) (harg11 : arg11.IsWhole) (arg12 : Memref sig .tc .vmem S1x8x1024x128 .bf16) (harg12 : arg12.IsWhole) (arg13 : Memref sig .tc .vmem S1x8x80x1024 .bf16) (harg13 : arg13.IsWhole) (arg14 : Memref sig .tc .vmem S1x8x64x1024 .bf16) (harg14 : arg14.IsWhole) (arg15 : Memref sig .tc .vmem S1032x256 .f32) (harg15 : arg15.IsWhole) (arg16 : Memref sig .tc .vmem S8x128 .f32) (harg16 : arg16.IsWhole) (hc0 : cond0_0 i) (x0 : Vec Ideal S1x1024x1024 .f32) (x1 : Vec Ideal S1x1x1024 .f32) (x2 : Vec Ideal S1x3848x1024 .bf16) (x3 : Vec Ideal S1x8x1 .f32) (x4 : Vec Ideal S1x3x256 .f32) (x5 : Vec Ideal S1x512x1 .f32) (x6 : Vec Ideal S1x512x1 .f32) (r : Fin 1032) (n : Fin 256) (hr : r.val < 8) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 (Idealize.ShloMosaic.ix2 r n) = wb x0 x1 x2 (fun _ _ => 0) ⟨1024 + r.val, by omega⟩ n := by
  frame_out
  simp only [cov_at]
  generalize hW : View.read (Elt Ideal) ((arg4.view.slice _).reshape _ _) _ = W
  have hW' : ∀ r k, W (Idealize.ShloMosaic.ix2 r k) = x2 (Idealize.ShloMosaic.ix3 0 r k) := fun r k => by
    rw [← hW]; exact w_at x2 arg4 harg4 _ r k
  rw [← View.read_writes_junk_apply_eq_canon arg15.view]
  refine (View.read_writes_cons_rows_of_mem _ _ _ _ _ (Idealize.ShloMosaic.ix2 r n) (Idealize.ShloMosaic.ix2 (⟨r.val, hr⟩ : Fin 8) n) rfl (by show r.val = 0 + r.val; omega) rfl).trans ?_
  have e : ∀ P : FVec Ideal S8x256 .f32, k0_pay16 (F := Ideal) P = P := fun P => by
    funext y
    pointwise [k0_pay16]
  rw [e]
  refine (bl_at _ _ 8 _ ⟨1024 + r.val, by omega⟩ ⟨r.val, hr⟩ rfl n).trans ?_
  exact st_at x0 x1 hW' _ _ _ _ _ (fun _ _ => 0) (fun r n h => z_at _ _ _ r n h) _ _

end Inproj
-- ==== Proof.InConvOut.lean ====
/- The short convolution's result: the launch's array from its blocks, the reference's value, and their equality. The second
   block of a batch row reads the two rows before it from the eight that the first block carried over. -/
module

public import proofs.«01_k».proof.Proof.InConv
public import proofs.«01_k».proof.Proof.InClose

@[expose] public section

set_option maxRecDepth 16384

noncomputable section

namespace Inproj

open Idealize.ShloMosaic Idealize.ShloMosaic.TcCoe Idealize.ShloMosaic.StableHlo

section
open Cert.Kernel2Ideal Cert.Kernel2Ideal.Gen

variable (m : (ℓ : Loc nD τ sig) → Buf (Elt Ideal) ℓ) (c : Dev nD)

abbrev aS : FVec Ideal S2x3x256 .f32 := m (c, Proc.tc.devRef main_arg4)

theorem V_s : (V m c main_arg4 : FVec Ideal S2x3x256 .f32) = aS m c := by
  simp only [V, V0, hostOps0, List.flatten_cons, List.flatten_nil, List.append_nil]
  after_results_simp

theorem ix4' : ∀ t : Fin grid0.N, win0_4.index t = ![0, 0, 0] := by decide +kernel

theorem blk4 (t : Fin cfg0.N) (r : Fin 3) (n : Fin 256) :
    (iblk m c 4 t : FVec Ideal S1x3x256 .f32) (Idealize.ShloMosaic.ix3 0 r n) = aS m c (Idealize.ShloMosaic.ix3 0 r n) := by
  blk_simp [iblk]
  refine Eq.trans (congrArg (V m c main_arg4 : FVec Ideal S2x3x256 .f32) ?_) (congrFun (V_s m c) _)
  funext a
  apply Fin.ext
  match a with
  | ⟨0, _⟩ => blk_simp [ix4']; try rfl
  | ⟨1, _⟩ => blk_simp [ix4']; try rfl
  | ⟨2, _⟩ => blk_simp [ix4']; try rfl

/-- The convolution's input with two rows of zero before it. -/
def GP (p : Fin 2048 → Fin 3848 → EReal) (s : Fin 2050) (n : Fin 256) : EReal :=
  if h : 2 ≤ s.val then p ⟨s.val - 2, by omega⟩ ⟨1024 + n.val, by omega⟩ * p ⟨s.val - 2, by omega⟩ ⟨1280 + n.val, by omega⟩ else 0

def Y (p : Fin 2048 → Fin 3848 → EReal) (S : FVec Ideal S2x3x256 .f32) (t : Fin 2048) (n : Fin 256) : EReal :=
  p t ⟨768 + n.val, by omega⟩
    * ((S (Idealize.ShloMosaic.ix3 0 0 n) : EReal) * GP p ⟨t.val, by omega⟩ n
      + (S (Idealize.ShloMosaic.ix3 0 1 n) : EReal) * GP p ⟨1 + t.val, by omega⟩ n
      + (S (Idealize.ShloMosaic.ix3 0 2 n) : EReal) * GP p ⟨2 + t.val, by omega⟩ n)
    * sl (p t ⟨1536 + n.val, by omega⟩)

def W8 : S16x2048x256.Idx → Elt Ideal .bf16 := fun i => Y (P m c (i 0)) (aS m c) (i 1) (i 2)

theorem co0 : ∀ t : Fin grid0.N, (grid0.coords t 0).val = t.val / 2 := by decide +kernel
theorem co1 : ∀ t : Fin grid0.N, (grid0.coords t 1).val = t.val % 2 := by decide +kernel

theorem wb_hi (t : Fin cfg0.N) (xs : Fin 1032 → Fin 256 → EReal) (r : Fin 1032) (n : Fin 256) (s : Fin 2050) (hr : 8 ≤ r.val)
    (hs : s.val = 1024 * (grid0.coords t 1).val + r.val - 6) :
    wb (iblk m c 0 t) (iblk m c 1 t) (iblk m c 2 t) xs r n = GP (P m c (bt t)) s n := by
  unfold wb GP
  rw [dif_pos hr, dif_pos (by omega)]
  have e : tm t ⟨r.val - 8, by omega⟩ = ⟨s.val - 2, by omega⟩ := Fin.ext (by
    show 1024 * (grid0.coords t 1).val + (r.val - 8) = s.val - 2
    omega)
  rw [pr_blk, pr_blk, e]

theorem wb_A (t : Fin cfg0.N) (h0 : t.val % 2 = 0) (r : Fin 1032) (n : Fin 256) (s : Fin 2050) (h6 : 6 ≤ r.val)
    (hs : s.val = 1024 * (grid0.coords t 1).val + r.val - 6) :
    wb (iblk m c 0 t) (iblk m c 1 t) (iblk m c 2 t) (fun _ _ => 0) r n = GP (P m c (bt t)) s n := by
  by_cases hr : 8 ≤ r.val
  · exact wb_hi m c t _ r n s hr hs
  · have := co1 t
    unfold wb GP
    rw [dif_neg hr, dif_neg (by omega)]

theorem wb_B (t t' : Fin cfg0.N) (h0 : ¬t.val % 2 = 0) (ht : t'.val = t.val - 1) (xs : Fin 1032 → Fin 256 → EReal)
    (hx : ∀ (r : Fin 1032) (n : Fin 256) (hr : r.val < 8), xs r n
      = wb (iblk m c 0 t') (iblk m c 1 t') (iblk m c 2 t') (fun _ _ => 0) ⟨1024 + r.val, by omega⟩ n)
    (r : Fin 1032) (n : Fin 256) (s : Fin 2050) (h6 : 6 ≤ r.val)
    (hs : s.val = 1024 * (grid0.coords t 1).val + r.val - 6) :
    wb (iblk m c 0 t) (iblk m c 1 t) (iblk m c 2 t) xs r n = GP (P m c (bt t)) s n := by
  by_cases hr : 8 ≤ r.val
  · exact wb_hi m c t _ r n s hr hs
  · have c1 := co1 t
    have c1' := co1 t'
    have eb : bt t' = bt t := Fin.ext (by
      show (grid0.coords t' 0).val = (grid0.coords t 0).val
      rw [co0, co0]
      omega)
    have e : wb (iblk m c 0 t) (iblk m c 1 t) (iblk m c 2 t) xs r n = xs r n := by
      unfold wb
      rw [dif_neg hr]
    rw [e, hx r n (by omega), ← eb]
    exact wb_hi m c t' _ _ n s (by show 8 ≤ 1024 + r.val; omega) (by
      show s.val = 1024 * (grid0.coords t' 1).val + (1024 + r.val) - 6
      omega)

theorem y_blk (t : Fin cfg0.N) (xs : Fin 1032 → Fin 256 → EReal)
    (hw : ∀ (r : Fin 1032) (n : Fin 256) (s : Fin 2050) (h6 : 6 ≤ r.val) (hs : s.val = 1024 * (grid0.coords t 1).val + r.val - 6),
      wb (iblk m c 0 t) (iblk m c 1 t) (iblk m c 2 t) xs r n = GP (P m c (bt t)) s n) (y : Fin 1024) (n : Fin 256) :
    B8 (iblk m c 0 t) (iblk m c 1 t) (iblk m c 2 t) (iblk m c 4 t) xs y n = Y (P m c (bt t)) (aS m c) (tm t y) n := by
  unfold B8 Y
  refine congrArg₂ (· * ·) (congrArg₂ (· * ·) (pr_blk m c t y _) (congrArg₂ (· + ·) (congrArg₂ (· + ·)
    (congrArg₂ (· * ·) (blk4 m c t 0 n) (hw _ _ _ ?_ ?_)) (congrArg₂ (· * ·) (blk4 m c t 1 n) (hw _ _ _ ?_ ?_)))
    (congrArg₂ (· * ·) (blk4 m c t 2 n) (hw _ _ _ ?_ ?_)))) (congrArg sl (pr_blk m c t y _))
  · show 6 ≤ 6 + y.val; omega
  · show 1024 * (grid0.coords t 1).val + y.val = 1024 * (grid0.coords t 1).val + (6 + y.val) - 6; omega
  · show 6 ≤ 7 + y.val; omega
  · show 1 + (1024 * (grid0.coords t 1).val + y.val) = 1024 * (grid0.coords t 1).val + (7 + y.val) - 6; omega
  · show 6 ≤ 8 + y.val; omega
  · show 2 + (1024 * (grid0.coords t 1).val + y.val) = 1024 * (grid0.coords t 1).val + (8 + y.val) - 6; omega

theorem carried (t' : Fin cfg0.N) (h0 : t'.val % 2 = 0) (r : Fin 1032) (n : Fin 256) (hr : r.val < 8) :
    ((outsAt0 m c t'.val t'.isLt).2.2.2.2.2.2.1 : FVec Ideal S1032x256 .f32) (Idealize.ShloMosaic.ix2 r n)
      = wb (iblk m c 0 t') (iblk m c 1 t') (iblk m c 2 t') (fun _ _ => 0) ⟨1024 + r.val, by omega⟩ n := by
  rw [outsAt0_A m c t' h0]
  dsimp only
  rw [sc_A (hr := hr)]

theorem aft8 (t : Fin cfg0.N) (y : S1x1024x256.Idx) :
    ((dats m 0 c).after 8 t : FVec Ideal S1x1024x256 .bf16) y = Y (P m c (bt t)) (aS m c) (tm t (y 1)) (y 2) := by
  rw [after0_8]
  by_cases h0 : t.val % 2 = 0
  · rw [outsAt0_A m c t h0]
    dsimp only
    rw [out8_A]
    exact y_blk m c t _ (wb_A m c t h0) _ _
  · rw [outsAt0_B m c t h0]
    dsimp only
    rw [out8_B]
    exact y_blk m c t _ (wb_B m c t ⟨t.val - 1, Nat.lt_of_le_of_lt (Nat.sub_le _ _) t.isLt⟩ h0 rfl _
      (carried m c ⟨t.val - 1, Nat.lt_of_le_of_lt (Nat.sub_le _ _) t.isLt⟩ (by show (t.val - 1) % 2 = 0; omega))) _ _

theorem iw8 : ∀ t : Fin grid0.N, win0_8.index t = ![(grid0.coords t 0).val, (grid0.coords t 1).val, 0] := by decide +kernel

theorem fin8 : (dats m 0 c).arrAt 8 cfg0.N = W8 m c := by
  refine (dats m 0 c).arrAt_eq_of_covers 8 _ (by decide +kernel) fun t hf y => ?_
  blk_simp
  have h0 : (y 0).val < 1 := (y 0).isLt
  have e : (win0_8.blk t).view.emb y = Idealize.ShloMosaic.ix3 (n0 := 16) (n1 := 2048) (n2 := 256) (bt t) (tm t (y 1)) (y 2) := by
    funext a
    apply Fin.ext
    match a with
    | ⟨0, _⟩ => blk_simp [iw8]; try (unfold bt; rfl)
    | ⟨1, _⟩ => blk_simp [iw8]; show (grid0.coords t 1).val * 1024 + (y 1).val = 1024 * (grid0.coords t 1).val + (y 1).val; omega
    | ⟨2, _⟩ => blk_simp [iw8]; try rfl
  rw [e]
  exact aft8 m c t y

theorem res_21 (i : S16x2048x256.Idx) :
    (Pipeline.afterTail₀ cfgs (dats m) 0 (V0 m) [hostOps1] c main_v21 : FVec Ideal S16x2048x256 .f32) i = W8 m c i := by
  unfold Pipeline.afterTail₀
  simp only [hostOps1, List.flatten_cons, List.flatten_nil, List.append_nil]
  after_results_simp
  have e : Pipeline.withArrays (cfgs 0).spec c (V0 m c) (fun w => (dats m 0 c).arrAt w (cfgs 0).N) (Proc.tc.devRef main_v11_1) = W8 m c :=
    (Pipeline.withArrays_arr spec0 arr_inj c (V0 m c) (fun w => (dats m 0 c).arrAt w cfg0.N) 8).trans (fin8 m c)
  rw [e]
  generalize W8 m c = y
  pointwise []

end

section
open Cert.Kernel2Ideal Cert.Kernel2Ideal.Gen

variable {m : (ℓ : Loc nD τ sig) → Buf (Elt Ideal) ℓ} {c : Dev nD}

theorem GP_ref (b : Fin 16) (s : Fin 2050) (n : Fin 256) :
    GP (P m c b) s n = Ref.padV (Ref.gwV (Ref.projV (aX m c) (aN m c) (aW m c))) (Idealize.ShloMosaic.ix3 b s n) := by
  rw [Ref.padV_at]
  unfold GP
  by_cases h : 2 ≤ s.val
  · rw [dif_pos h, dif_pos h, Ref.gwV_at, Ref.projV_at, Ref.projV_at]
  · rw [dif_neg h, dif_neg h]

theorem same_y (hp : ∀ b t o, ∃ r : ℝ, P m c b t o = (r : EReal)) (b : Fin 16) (t : Fin 2048) (n : Fin 256) :
    W8 m c (Idealize.ShloMosaic.ix3 b t n) = Ref.yV (Ref.projV (aX m c) (aN m c) (aW m c)) (aS m c) (Idealize.ShloMosaic.ix3 b t n) := by
  rw [Ref.yV_at]
  obtain ⟨r, hr⟩ := hp b t ⟨1536 + n.val, by omega⟩
  show Y (P m c b) (aS m c) t n = _
  unfold Y
  rw [GP_ref, GP_ref, GP_ref, Ref.projV_at, Ref.projV_at]
  refine congrArg _ ?_
  show sl (P m c b t _) = Ref.sil (P m c b t _)
  rw [hr]
  exact sl_eq r

theorem out_y (hp : ∀ b t o, ∃ r : ℝ, P m c b t o = (r : EReal)) :
    (Pipeline.afterTail₀ cfgs (dats m) 0 (V0 m) [hostOps1] c main_v21 : FVec Ideal S16x2048x256 .f32)
      = Ref.yV (Ref.projV (aX m c) (aN m c) (aW m c)) (aS m c) := by
  funext i
  rw [Idealize.ShloMosaic.eq_ix3 i]
  exact (res_21 m c _).trans (same_y hp _ _ _)

end

end Inproj
-- ==== Proof.OutTwin.lean ====
/- The out-projection kernel as compiled is the same text as the one read over the extended reals, so its frame is the same run. -/
module

public import proofs.«01_k».proof.Defs
public import proofs.«01_k».proof.Proof.Gen.Kernel3
public import proofs.«01_k».proof.Proof.Gen.Kernel3Ideal.Frame
public import Idealize.ShloMosaic.PureOps.BitExact

@[expose] public section

noncomputable section

namespace Outproj

open Idealize.ShloMosaic Idealize.ShloMosaic.TcCoe Idealize.SL.Sem
open Cert.Kernel3Ideal Cert.Kernel3Ideal.Gen

set_option maxRecDepth 100000 in
set_option maxHeartbeats 0 in
theorem main_same : Cert.Kernel3.main (F := Bits) = main (F := Bits) := rfl

set_option maxRecDepth 100000 in
set_option maxHeartbeats 0 in
theorem body_same : Cert.Kernel3.cc0_outproj (F := Bits) = cc0_outproj (F := Bits) := rfl

theorem pcfgs_same : Cert.Kernel3.pcfgs (F := Bits) = pcfgs (F := Bits) := rfl

set_option maxRecDepth 100000 in
set_option maxHeartbeats 0 in
theorem table_same : Cert.Kernel3.defs₀ (F := Bits) = defs₀ (F := Bits) := by
  unfold Cert.Kernel3.defs₀ defs₀
  refine congrArg Defs.onTc (funext fun b => funext fun a => ?_)
  match b, a with
  | ⟨0, _⟩, (t, s) =>
    exact congrArg (fun f => f (grid0.coords t) (win0_0.stage (s 0)) (hstage0_0 ((s 0).cast nbuf0_0)) (win0_1.stage (s 1)) (hstage0_1 ((s 1).cast nbuf0_1)) (win0_2.stage (s 2)) (hstage0_2 ((s 2).cast nbuf0_2)) (win0_3.stage (s 3)) (hstage0_3 ((s 3).cast nbuf0_3)) (win0_4.stage (s 4)) (hstage0_4 ((s 4).cast nbuf0_4)) (win0_5.stage (s 5)) (hstage0_5 ((s 5).cast nbuf0_5)) (win0_6.stage (s 6)) (hstage0_6 ((s 6).cast nbuf0_6)) (win0_7.stage (s 7)) (hstage0_7 ((s 7).cast nbuf0_7)) (win0_8.stage (s 8)) (hstage0_8 ((s 8).cast nbuf0_8)) (win0_9.stage (s 9)) (hstage0_9 ((s 9).cast nbuf0_9)) (win0_10.stage (s 10)) (hstage0_10 ((s 10).cast nbuf0_10)) (win0_11.stage (s 11)) (hstage0_11 ((s 11).cast nbuf0_11)) (Memref.whole cc0_scratch0) (Memref.isWhole_whole _) (Memref.whole cc0_scratch1) (Memref.isWhole_whole _) (Memref.whole cc0_scratch2) (Memref.isWhole_whole _)) body_same

theorem defs_same : Cert.Kernel3.defs (F := Bits) = defs (F := Bits) := by
  unfold Cert.Kernel3.defs defs
  exact congrArg (Pipeline.defs pcfgs) table_same

/-- The kernel as compiled. -/
theorem quiet_kernel : Cert.quiescent_Kernel3 (hKernel3 := Cert.Kernel3.Gen.facts) := fun m ρ => by
  have h := Cert.Kernel3Ideal.Gen.frame (F := Bits) m ρ
  rw [← main_same, ← defs_same] at h
  exact fun _ => h

end Outproj
-- ==== Proof.OutTile.lean ====
/- The out-projection kernel's tile over the extended reals, read at an index: the convolution's sum tap by tap, the layer norm
   and its gate, the products with the three parts of the output's weights. -/
module

public import proofs.«01_k».proof.Proof.InConv
public import proofs.«01_k».proof.Proof.Gen.Kernel3Ideal.Frame

@[expose] public section

set_option maxRecDepth 16384

noncomputable section

namespace Outproj

open Cert.Kernel3Ideal Cert.Kernel3Ideal.Gen
open Idealize.ShloMosaic Idealize.ShloMosaic.TcCoe
open Inproj (inv sl half)

/-- A row less its mean. -/
def xc (c : Fin 256 → EReal) (n : Fin 256) : EReal := c n - Ideal.div (∑ j : Fin 256, c j) (Ideal.ofBits .f32 0x43800000#32)

/-- A row's layer norm under a gain and a shift. -/
def ln (c g b : Fin 256 → EReal) (n : Fin 256) : EReal :=
  xc c n * inv (∑ j : Fin 256, xc c j * xc c j) (Ideal.ofBits .f32 0x43800000#32) * g n + b n

/-- A sum of taps from a start, one tap after the other. -/
def cv (w g : ℕ → EReal) (b : EReal) : ℕ → EReal
  | 0 => b
  | k + 1 => cv w g b k + w k * g k

theorem cv_eq (w g : ℕ → EReal) (b : EReal) (k : ℕ) : cv w g b k = b + ∑ i ∈ Finset.range k, w i * g i := by
  induction k with
  | zero => simp [cv]
  | succ k ih => rw [cv, ih, Finset.sum_range_succ, add_assoc]

/-! ## The convolution's payloads -/

theorem q13 (v52 : FVec Ideal S1x1x256 .f32) (v56 : FVec Ideal S1x512x256 .f32) (v60 : FVec Ideal S1x256 .f32) (v64 : FVec Ideal S1x512x256 .f32) (v68 : FVec Ideal S1x256 .f32) (v72 : FVec Ideal S1x512x256 .f32) (v76 : FVec Ideal S1x256 .f32) (t : Fin 512) (n : Fin 256) :
    k0_pay13 (F := Ideal) v52 v56 v60 v64 v68 v72 v76 (Idealize.ShloMosaic.ix2 t n) = (((v52 (Idealize.ShloMosaic.ix3 0 0 n) : EReal) + (v60 (Idealize.ShloMosaic.ix2 0 n) : EReal) * v56 (Idealize.ShloMosaic.ix3 0 t n) : EReal) + (v68 (Idealize.ShloMosaic.ix2 0 n) : EReal) * v64 (Idealize.ShloMosaic.ix3 0 t n) : EReal) + (v76 (Idealize.ShloMosaic.ix2 0 n) : EReal) * v72 (Idealize.ShloMosaic.ix3 0 t n) := by
  pointwise [k0_pay13]

theorem q14 (v79 : FVec Ideal S512x256 .f32) (v80 : FVec Ideal S1x512x256 .f32) (v84 : FVec Ideal S1x256 .f32) (v88 : FVec Ideal S1x512x256 .f32) (v92 : FVec Ideal S1x256 .f32) (v96 : FVec Ideal S1x512x256 .f32) (v100 : FVec Ideal S1x256 .f32) (t : Fin 512) (n : Fin 256) :
    k0_pay14 (F := Ideal) v79 v80 v84 v88 v92 v96 v100 (Idealize.ShloMosaic.ix2 t n) = (((v79 (Idealize.ShloMosaic.ix2 t n) : EReal) + (v84 (Idealize.ShloMosaic.ix2 0 n) : EReal) * v80 (Idealize.ShloMosaic.ix3 0 t n) : EReal) + (v92 (Idealize.ShloMosaic.ix2 0 n) : EReal) * v88 (Idealize.ShloMosaic.ix3 0 t n) : EReal) + (v100 (Idealize.ShloMosaic.ix2 0 n) : EReal) * v96 (Idealize.ShloMosaic.ix3 0 t n) := by
  pointwise [k0_pay14]

theorem q15 (v104 : FVec Ideal S512x256 .f32) (v107 : FVec Ideal S1x256 .f32) (t : Fin 512) (n : Fin 256) :
    k0_pay15 (F := Ideal) v104 v107 (Idealize.ShloMosaic.ix2 t n) = (v107 (Idealize.ShloMosaic.ix2 0 n) : EReal) * v104 (Idealize.ShloMosaic.ix2 t n) := by
  pointwise [k0_pay15]

theorem q16 (v103 : FVec Ideal S512x256 .f32) (v109 : FVec Ideal S512x256 .f32) (v111 : FVec Ideal S1x512x256 .f32) (v115 : FVec Ideal S1x256 .f32) (v119 : FVec Ideal S1x512x256 .f32) (v123 : FVec Ideal S1x256 .f32) (v127 : FVec Ideal S1x512x256 .f32) (v131 : FVec Ideal S1x256 .f32) (t : Fin 512) (n : Fin 256) :
    k0_pay16 (F := Ideal) v103 v109 v111 v115 v119 v123 v127 v131 (Idealize.ShloMosaic.ix2 t n) = ((((v103 (Idealize.ShloMosaic.ix2 t n) : EReal) + v109 (Idealize.ShloMosaic.ix2 t n) : EReal) + (v115 (Idealize.ShloMosaic.ix2 0 n) : EReal) * v111 (Idealize.ShloMosaic.ix3 0 t n) : EReal) + (v123 (Idealize.ShloMosaic.ix2 0 n) : EReal) * v119 (Idealize.ShloMosaic.ix3 0 t n) : EReal) + (v131 (Idealize.ShloMosaic.ix2 0 n) : EReal) * v127 (Idealize.ShloMosaic.ix3 0 t n) := by
  pointwise [k0_pay16]

theorem q17 (v135 : FVec Ideal S1x512x256 .f32) (t : Fin 512) (n : Fin 256) :
    k0_pay17 (F := Ideal) v135 (Idealize.ShloMosaic.ix2 t n) = v135 (Idealize.ShloMosaic.ix3 0 t n) := by
  pointwise [k0_pay17]

theorem q18 (v134 : FVec Ideal S512x256 .f32) (v136 : FVec Ideal S512x256 .f32) (v139 : FVec Ideal S1x256 .f32) (v143 : FVec Ideal S1x512x256 .f32) (v147 : FVec Ideal S1x256 .f32) (v151 : FVec Ideal S1x512x256 .f32) (v155 : FVec Ideal S1x256 .f32) (v159 : FVec Ideal S1x512x256 .f32) (v163 : FVec Ideal S1x256 .f32) (t : Fin 512) (n : Fin 256) :
    k0_pay18 (F := Ideal) v134 v136 v139 v143 v147 v151 v155 v159 v163 (Idealize.ShloMosaic.ix2 t n) = ((((v134 (Idealize.ShloMosaic.ix2 t n) : EReal) + (v139 (Idealize.ShloMosaic.ix2 0 n) : EReal) * v136 (Idealize.ShloMosaic.ix2 t n) : EReal) + (v147 (Idealize.ShloMosaic.ix2 0 n) : EReal) * v143 (Idealize.ShloMosaic.ix3 0 t n) : EReal) + (v155 (Idealize.ShloMosaic.ix2 0 n) : EReal) * v151 (Idealize.ShloMosaic.ix3 0 t n) : EReal) + (v163 (Idealize.ShloMosaic.ix2 0 n) : EReal) * v159 (Idealize.ShloMosaic.ix3 0 t n) := by
  pointwise [k0_pay18]

theorem q19 (v166 : FVec Ideal S512x256 .f32) (v167 : FVec Ideal S512x256 .f32) (v170 : FVec Ideal S1x256 .f32) (v174 : FVec Ideal S1x512x256 .f32) (v178 : FVec Ideal S1x256 .f32) (v182 : FVec Ideal S1x512x256 .f32) (v186 : FVec Ideal S1x256 .f32) (v190 : FVec Ideal S1x512x256 .f32) (v194 : FVec Ideal S1x256 .f32) (t : Fin 512) (n : Fin 256) :
    k0_pay19 (F := Ideal) v166 v167 v170 v174 v178 v182 v186 v190 v194 (Idealize.ShloMosaic.ix2 t n) = ((((v166 (Idealize.ShloMosaic.ix2 t n) : EReal) + (v170 (Idealize.ShloMosaic.ix2 0 n) : EReal) * v167 (Idealize.ShloMosaic.ix2 t n) : EReal) + (v178 (Idealize.ShloMosaic.ix2 0 n) : EReal) * v174 (Idealize.ShloMosaic.ix3 0 t n) : EReal) + (v186 (Idealize.ShloMosaic.ix2 0 n) : EReal) * v182 (Idealize.ShloMosaic.ix3 0 t n) : EReal) + (v194 (Idealize.ShloMosaic.ix2 0 n) : EReal) * v190 (Idealize.ShloMosaic.ix3 0 t n) := by
  pointwise [k0_pay19]

theorem q20 (v198 : FVec Ideal S1x512x256 .f32) (t : Fin 512) (n : Fin 256) :
    k0_pay20 (F := Ideal) v198 (Idealize.ShloMosaic.ix2 t n) = v198 (Idealize.ShloMosaic.ix3 0 t n) := by
  pointwise [k0_pay20]

theorem q21 (v197 : FVec Ideal S512x256 .f32) (v199 : FVec Ideal S512x256 .f32) (v202 : FVec Ideal S1x256 .f32) (v206 : FVec Ideal S1x512x256 .f32) (v210 : FVec Ideal S1x256 .f32) (v214 : FVec Ideal S1x512x256 .f32) (v218 : FVec Ideal S1x256 .f32) (v222 : FVec Ideal S1x512x256 .f32) (v226 : FVec Ideal S1x256 .f32) (t : Fin 512) (n : Fin 256) :
    k0_pay21 (F := Ideal) v197 v199 v202 v206 v210 v214 v218 v222 v226 (Idealize.ShloMosaic.ix2 t n) = ((((v197 (Idealize.ShloMosaic.ix2 t n) : EReal) + (v202 (Idealize.ShloMosaic.ix2 0 n) : EReal) * v199 (Idealize.ShloMosaic.ix2 t n) : EReal) + (v210 (Idealize.ShloMosaic.ix2 0 n) : EReal) * v206 (Idealize.ShloMosaic.ix3 0 t n) : EReal) + (v218 (Idealize.ShloMosaic.ix2 0 n) : EReal) * v214 (Idealize.ShloMosaic.ix3 0 t n) : EReal) + (v226 (Idealize.ShloMosaic.ix2 0 n) : EReal) * v222 (Idealize.ShloMosaic.ix3 0 t n) := by
  pointwise [k0_pay21]

theorem q22 (v229 : FVec Ideal S512x256 .f32) (v230 : FVec Ideal S512x256 .f32) (v233 : FVec Ideal S1x256 .f32) (v237 : FVec Ideal S1x512x256 .f32) (v241 : FVec Ideal S1x256 .f32) (v245 : FVec Ideal S1x512x256 .f32) (v249 : FVec Ideal S1x256 .f32) (t : Fin 512) (n : Fin 256) :
    k0_pay22 (F := Ideal) v229 v230 v233 v237 v241 v245 v249 (Idealize.ShloMosaic.ix2 t n) = (((v229 (Idealize.ShloMosaic.ix2 t n) : EReal) + (v233 (Idealize.ShloMosaic.ix2 0 n) : EReal) * v230 (Idealize.ShloMosaic.ix2 t n) : EReal) + (v241 (Idealize.ShloMosaic.ix2 0 n) : EReal) * v237 (Idealize.ShloMosaic.ix3 0 t n) : EReal) + (v249 (Idealize.ShloMosaic.ix2 0 n) : EReal) * v245 (Idealize.ShloMosaic.ix3 0 t n) := by
  pointwise [k0_pay22]

theorem q23 (v253 : FVec Ideal S1x512x256 .f32) (v257 : FVec Ideal S1x256 .f32) (t : Fin 512) (n : Fin 256) :
    k0_pay23 (F := Ideal) v253 v257 (Idealize.ShloMosaic.ix2 t n) = (v257 (Idealize.ShloMosaic.ix2 0 n) : EReal) * v253 (Idealize.ShloMosaic.ix3 0 t n) := by
  pointwise [k0_pay23]

theorem q24 (v252 : FVec Ideal S512x256 .f32) (v259 : FVec Ideal S512x256 .f32) (v261 : FVec Ideal S1x512x256 .f32) (v265 : FVec Ideal S1x256 .f32) (v269 : FVec Ideal S1x512x256 .f32) (v273 : FVec Ideal S1x256 .f32) (v277 : FVec Ideal S1x512x256 .f32) (v281 : FVec Ideal S1x256 .f32) (t : Fin 512) (n : Fin 256) :
    k0_pay24 (F := Ideal) v252 v259 v261 v265 v269 v273 v277 v281 (Idealize.ShloMosaic.ix2 t n) = ((((v252 (Idealize.ShloMosaic.ix2 t n) : EReal) + v259 (Idealize.ShloMosaic.ix2 t n) : EReal) + (v265 (Idealize.ShloMosaic.ix2 0 n) : EReal) * v261 (Idealize.ShloMosaic.ix3 0 t n) : EReal) + (v273 (Idealize.ShloMosaic.ix2 0 n) : EReal) * v269 (Idealize.ShloMosaic.ix3 0 t n) : EReal) + (v281 (Idealize.ShloMosaic.ix2 0 n) : EReal) * v277 (Idealize.ShloMosaic.ix3 0 t n) := by
  pointwise [k0_pay24]

theorem q25 (v285 : FVec Ideal S1x512x256 .f32) (t : Fin 512) (n : Fin 256) :
    k0_pay25 (F := Ideal) v285 (Idealize.ShloMosaic.ix2 t n) = v285 (Idealize.ShloMosaic.ix3 0 t n) := by
  pointwise [k0_pay25]

theorem q28 (v350 : FVec Ideal S1x1x256 .f32) (t : Fin 512) (n : Fin 256) :
    k0_pay28 (F := Ideal) v350 (Idealize.ShloMosaic.ix2 t n) = v350 (Idealize.ShloMosaic.ix3 0 0 n) := by
  pointwise [k0_pay28]

theorem q29 (v354 : FVec Ideal S1x512x256 .f32) (t : Fin 512) (n : Fin 256) :
    k0_pay29 (F := Ideal) v354 (Idealize.ShloMosaic.ix2 t n) = v354 (Idealize.ShloMosaic.ix3 0 t n) := by
  pointwise [k0_pay29]

theorem q30 (v353 : FVec Ideal S512x256 .f32) (v355 : FVec Ideal S512x256 .f32) (v358 : FVec Ideal S1x256 .f32) (v362 : FVec Ideal S1x512x256 .f32) (v366 : FVec Ideal S1x256 .f32) (v370 : FVec Ideal S1x512x256 .f32) (v374 : FVec Ideal S1x256 .f32) (v378 : FVec Ideal S1x512x256 .f32) (v382 : FVec Ideal S1x256 .f32) (t : Fin 512) (n : Fin 256) :
    k0_pay30 (F := Ideal) v353 v355 v358 v362 v366 v370 v374 v378 v382 (Idealize.ShloMosaic.ix2 t n) = ((((v353 (Idealize.ShloMosaic.ix2 t n) : EReal) + (v358 (Idealize.ShloMosaic.ix2 0 n) : EReal) * v355 (Idealize.ShloMosaic.ix2 t n) : EReal) + (v366 (Idealize.ShloMosaic.ix2 0 n) : EReal) * v362 (Idealize.ShloMosaic.ix3 0 t n) : EReal) + (v374 (Idealize.ShloMosaic.ix2 0 n) : EReal) * v370 (Idealize.ShloMosaic.ix3 0 t n) : EReal) + (v382 (Idealize.ShloMosaic.ix2 0 n) : EReal) * v378 (Idealize.ShloMosaic.ix3 0 t n) := by
  pointwise [k0_pay30]

theorem q31 (v386 : FVec Ideal S1x512x256 .f32) (t : Fin 512) (n : Fin 256) :
    k0_pay31 (F := Ideal) v386 (Idealize.ShloMosaic.ix2 t n) = v386 (Idealize.ShloMosaic.ix3 0 t n) := by
  pointwise [k0_pay31]

theorem q32 (v385 : FVec Ideal S512x256 .f32) (v387 : FVec Ideal S512x256 .f32) (v390 : FVec Ideal S1x256 .f32) (v394 : FVec Ideal S1x512x256 .f32) (v398 : FVec Ideal S1x256 .f32) (v402 : FVec Ideal S512x256 .f32) (v405 : FVec Ideal S1x256 .f32) (v409 : FVec Ideal S1x512x256 .f32) (v413 : FVec Ideal S1x256 .f32) (t : Fin 512) (n : Fin 256) :
    k0_pay32 (F := Ideal) v385 v387 v390 v394 v398 v402 v405 v409 v413 (Idealize.ShloMosaic.ix2 t n) = ((((v385 (Idealize.ShloMosaic.ix2 t n) : EReal) + (v390 (Idealize.ShloMosaic.ix2 0 n) : EReal) * v387 (Idealize.ShloMosaic.ix2 t n) : EReal) + (v398 (Idealize.ShloMosaic.ix2 0 n) : EReal) * v394 (Idealize.ShloMosaic.ix3 0 t n) : EReal) + (v405 (Idealize.ShloMosaic.ix2 0 n) : EReal) * v402 (Idealize.ShloMosaic.ix2 t n) : EReal) + (v413 (Idealize.ShloMosaic.ix2 0 n) : EReal) * v409 (Idealize.ShloMosaic.ix3 0 t n) := by
  pointwise [k0_pay32]

theorem q33 (v416 : FVec Ideal S512x256 .f32) (v417 : FVec Ideal S1x512x256 .f32) (v421 : FVec Ideal S1x256 .f32) (v425 : FVec Ideal S1x512x256 .f32) (v429 : FVec Ideal S1x256 .f32) (v433 : FVec Ideal S1x512x256 .f32) (v437 : FVec Ideal S1x256 .f32) (v441 : FVec Ideal S1x512x256 .f32) (v445 : FVec Ideal S1x256 .f32) (t : Fin 512) (n : Fin 256) :
    k0_pay33 (F := Ideal) v416 v417 v421 v425 v429 v433 v437 v441 v445 (Idealize.ShloMosaic.ix2 t n) = ((((v416 (Idealize.ShloMosaic.ix2 t n) : EReal) + (v421 (Idealize.ShloMosaic.ix2 0 n) : EReal) * v417 (Idealize.ShloMosaic.ix3 0 t n) : EReal) + (v429 (Idealize.ShloMosaic.ix2 0 n) : EReal) * v425 (Idealize.ShloMosaic.ix3 0 t n) : EReal) + (v437 (Idealize.ShloMosaic.ix2 0 n) : EReal) * v433 (Idealize.ShloMosaic.ix3 0 t n) : EReal) + (v445 (Idealize.ShloMosaic.ix2 0 n) : EReal) * v441 (Idealize.ShloMosaic.ix3 0 t n) := by
  pointwise [k0_pay33]

theorem q34 (v448 : FVec Ideal S512x256 .f32) (v449 : FVec Ideal S1x512x256 .f32) (v453 : FVec Ideal S1x256 .f32) (v457 : FVec Ideal S1x512x256 .f32) (v461 : FVec Ideal S1x256 .f32) (v465 : FVec Ideal S512x256 .f32) (v468 : FVec Ideal S1x256 .f32) (t : Fin 512) (n : Fin 256) :
    k0_pay34 (F := Ideal) v448 v449 v453 v457 v461 v465 v468 (Idealize.ShloMosaic.ix2 t n) = (((v448 (Idealize.ShloMosaic.ix2 t n) : EReal) + (v453 (Idealize.ShloMosaic.ix2 0 n) : EReal) * v449 (Idealize.ShloMosaic.ix3 0 t n) : EReal) + (v461 (Idealize.ShloMosaic.ix2 0 n) : EReal) * v457 (Idealize.ShloMosaic.ix3 0 t n) : EReal) + (v468 (Idealize.ShloMosaic.ix2 0 n) : EReal) * v465 (Idealize.ShloMosaic.ix2 t n) := by
  pointwise [k0_pay34]

theorem q35 (v472 : FVec Ideal S1x512x256 .f32) (t : Fin 512) (n : Fin 256) :
    k0_pay35 (F := Ideal) v472 (Idealize.ShloMosaic.ix2 t n) = v472 (Idealize.ShloMosaic.ix3 0 t n) := by
  pointwise [k0_pay35]

theorem q36 (v476 : FVec Ideal S1x256 .f32) (t : Fin 512) (n : Fin 256) :
    k0_pay36 (F := Ideal) v476 (Idealize.ShloMosaic.ix2 t n) = v476 (Idealize.ShloMosaic.ix2 0 n) := by
  pointwise [k0_pay36]

theorem q37 (v471 : FVec Ideal S512x256 .f32) (v473 : FVec Ideal S512x256 .f32) (v477 : FVec Ideal S512x256 .f32) (v480 : FVec Ideal S1x512x256 .f32) (v484 : FVec Ideal S1x256 .f32) (v488 : FVec Ideal S1x512x256 .f32) (v492 : FVec Ideal S1x256 .f32) (v496 : FVec Ideal S1x512x256 .f32) (v500 : FVec Ideal S1x256 .f32) (t : Fin 512) (n : Fin 256) :
    k0_pay37 (F := Ideal) v471 v473 v477 v480 v484 v488 v492 v496 v500 (Idealize.ShloMosaic.ix2 t n) = ((((v471 (Idealize.ShloMosaic.ix2 t n) : EReal) + (v477 (Idealize.ShloMosaic.ix2 t n) : EReal) * v473 (Idealize.ShloMosaic.ix2 t n) : EReal) + (v484 (Idealize.ShloMosaic.ix2 0 n) : EReal) * v480 (Idealize.ShloMosaic.ix3 0 t n) : EReal) + (v492 (Idealize.ShloMosaic.ix2 0 n) : EReal) * v488 (Idealize.ShloMosaic.ix3 0 t n) : EReal) + (v500 (Idealize.ShloMosaic.ix2 0 n) : EReal) * v496 (Idealize.ShloMosaic.ix3 0 t n) := by
  pointwise [k0_pay37]

theorem q38 (v504 : FVec Ideal S1x512x256 .f32) (t : Fin 512) (n : Fin 256) :
    k0_pay38 (F := Ideal) v504 (Idealize.ShloMosaic.ix2 t n) = v504 (Idealize.ShloMosaic.ix3 0 t n) := by
  pointwise [k0_pay38]

theorem q39 (v503 : FVec Ideal S512x256 .f32) (v505 : FVec Ideal S512x256 .f32) (v508 : FVec Ideal S1x256 .f32) (v512 : FVec Ideal S1x512x256 .f32) (v516 : FVec Ideal S1x256 .f32) (v520 : FVec Ideal S1x512x256 .f32) (v524 : FVec Ideal S1x256 .f32) (v528 : FVec Ideal S512x256 .f32) (v531 : FVec Ideal S1x256 .f32) (t : Fin 512) (n : Fin 256) :
    k0_pay39 (F := Ideal) v503 v505 v508 v512 v516 v520 v524 v528 v531 (Idealize.ShloMosaic.ix2 t n) = ((((v503 (Idealize.ShloMosaic.ix2 t n) : EReal) + (v508 (Idealize.ShloMosaic.ix2 0 n) : EReal) * v505 (Idealize.ShloMosaic.ix2 t n) : EReal) + (v516 (Idealize.ShloMosaic.ix2 0 n) : EReal) * v512 (Idealize.ShloMosaic.ix3 0 t n) : EReal) + (v524 (Idealize.ShloMosaic.ix2 0 n) : EReal) * v520 (Idealize.ShloMosaic.ix3 0 t n) : EReal) + (v531 (Idealize.ShloMosaic.ix2 0 n) : EReal) * v528 (Idealize.ShloMosaic.ix2 t n) := by
  pointwise [k0_pay39]

theorem q40 (v535 : FVec Ideal S1x512x256 .f32) (t : Fin 512) (n : Fin 256) :
    k0_pay40 (F := Ideal) v535 (Idealize.ShloMosaic.ix2 t n) = v535 (Idealize.ShloMosaic.ix3 0 t n) := by
  pointwise [k0_pay40]

theorem q41 (v534 : FVec Ideal S512x256 .f32) (v536 : FVec Ideal S512x256 .f32) (v539 : FVec Ideal S1x256 .f32) (v543 : FVec Ideal S1x512x256 .f32) (v547 : FVec Ideal S1x256 .f32) (v551 : FVec Ideal S1x512x256 .f32) (v555 : FVec Ideal S1x256 .f32) (v559 : FVec Ideal S1x512x256 .f32) (v563 : FVec Ideal S1x256 .f32) (t : Fin 512) (n : Fin 256) :
    k0_pay41 (F := Ideal) v534 v536 v539 v543 v547 v551 v555 v559 v563 (Idealize.ShloMosaic.ix2 t n) = ((((v534 (Idealize.ShloMosaic.ix2 t n) : EReal) + (v539 (Idealize.ShloMosaic.ix2 0 n) : EReal) * v536 (Idealize.ShloMosaic.ix2 t n) : EReal) + (v547 (Idealize.ShloMosaic.ix2 0 n) : EReal) * v543 (Idealize.ShloMosaic.ix3 0 t n) : EReal) + (v555 (Idealize.ShloMosaic.ix2 0 n) : EReal) * v551 (Idealize.ShloMosaic.ix3 0 t n) : EReal) + (v563 (Idealize.ShloMosaic.ix2 0 n) : EReal) * v559 (Idealize.ShloMosaic.ix3 0 t n) := by
  pointwise [k0_pay41]

theorem q42 (v566 : FVec Ideal S512x256 .f32) (v567 : FVec Ideal S1x512x256 .f32) (v571 : FVec Ideal S1x256 .f32) (v575 : FVec Ideal S1x512x256 .f32) (v579 : FVec Ideal S1x256 .f32) (v583 : FVec Ideal S1x512x256 .f32) (v587 : FVec Ideal S1x256 .f32) (v591 : FVec Ideal S512x256 .f32) (v594 : FVec Ideal S1x256 .f32) (t : Fin 512) (n : Fin 256) :
    k0_pay42 (F := Ideal) v566 v567 v571 v575 v579 v583 v587 v591 v594 (Idealize.ShloMosaic.ix2 t n) = ((((v566 (Idealize.ShloMosaic.ix2 t n) : EReal) + (v571 (Idealize.ShloMosaic.ix2 0 n) : EReal) * v567 (Idealize.ShloMosaic.ix3 0 t n) : EReal) + (v579 (Idealize.ShloMosaic.ix2 0 n) : EReal) * v575 (Idealize.ShloMosaic.ix3 0 t n) : EReal) + (v587 (Idealize.ShloMosaic.ix2 0 n) : EReal) * v583 (Idealize.ShloMosaic.ix3 0 t n) : EReal) + (v594 (Idealize.ShloMosaic.ix2 0 n) : EReal) * v591 (Idealize.ShloMosaic.ix2 t n) := by
  pointwise [k0_pay42]

/-! ## The other payloads -/

theorem q26 (v284 v286 : FVec Ideal S512x256 .f32) (v289 : FVec Ideal S1x256 .f32) (v293 : FVec Ideal S512x256 .f32) (v296 : FVec Ideal S1x256 .f32)
    (g b : FVec Ideal S1x1x256 .f32) (t : Fin 512) (n : Fin 256) :
    k0_pay26 (F := Ideal) v284 v286 v289 v293 v296 g b (Idealize.ShloMosaic.ix2 t n)
      = sl (ln (fun j => ((v284 (Idealize.ShloMosaic.ix2 t j) : EReal) + (v289 (Idealize.ShloMosaic.ix2 0 j) : EReal) * v286 (Idealize.ShloMosaic.ix2 t j) : EReal) + (v296 (Idealize.ShloMosaic.ix2 0 j) : EReal) * v293 (Idealize.ShloMosaic.ix2 t j))
          (fun j => g (Idealize.ShloMosaic.ix3 0 0 j)) (fun j => b (Idealize.ShloMosaic.ix3 0 0 j)) n) := by
  pointwise [k0_pay26, ln, xc, sl, half, Inproj.inv]

theorem q27 (z : FVec Ideal S512x256 .f32) (pw : FVec Ideal S1x256x256 .bf16) (u : FVec Ideal S1x512x256 .f32) (w : FVec Ideal S256x1024 .bf16)
    (x : FVec Ideal S1x512x1024 .f32) (p : FVec Ideal S512x1024 .f32) (t : Fin 512) (o : Fin 1024) :
    k0_pay27 (F := Ideal) z pw u w x p (Idealize.ShloMosaic.ix3 0 t o)
      = ((x (Idealize.ShloMosaic.ix3 0 t o) : EReal) + p (Idealize.ShloMosaic.ix2 t o) : EReal)
        + ∑ c : Fin 256, ((∑ n : Fin 256, (z (Idealize.ShloMosaic.ix2 t n) : EReal) * pw (Idealize.ShloMosaic.ix3 0 n c)) * (u (Idealize.ShloMosaic.ix3 0 t c) : EReal)) * (w (Idealize.ShloMosaic.ix2 c o) : EReal) := by
  pointwise [k0_pay27]

theorem q1 (z : FVec Ideal S512x256 .bf16) (w : FVec Ideal S256x1024 .bf16)
    (x : FVec Ideal S1x512x1024 .f32) (p : FVec Ideal S512x1024 .f32) (t : Fin 512) (o : Fin 1024) :
    k0_pay1 (F := Ideal) z w x p (Idealize.ShloMosaic.ix3 0 t o)
      = ((x (Idealize.ShloMosaic.ix3 0 t o) : EReal) + p (Idealize.ShloMosaic.ix2 t o) : EReal) + ∑ c : Fin 256, (z (Idealize.ShloMosaic.ix2 t c) : EReal) * (w (Idealize.ShloMosaic.ix2 c o) : EReal) := by
  pointwise [k0_pay1]

theorem q44 (v566 : FVec Ideal S512x256 .f32) (v567 : FVec Ideal S1x512x256 .f32) (v571 : FVec Ideal S1x256 .f32) (v575 : FVec Ideal S1x512x256 .f32)
    (v579 : FVec Ideal S1x256 .f32) (v583 : FVec Ideal S1x512x256 .f32) (v587 : FVec Ideal S1x256 .f32) (v591 : FVec Ideal S512x256 .f32) (v594 : FVec Ideal S1x256 .f32)
    (g b : FVec Ideal S1x1x256 .f32) (pw : FVec Ideal S1x256x256 .bf16) (u : FVec Ideal S1x512x256 .f32) (t : Fin 512) (c : Fin 256) :
    k0_pay44 (F := Ideal) (k0_pay42 v566 v567 v571 v575 v579 v583 v587 v591 v594) (k0_pay43 v566 v567 v571 v575 v579 v583 v587 v591 v594) g b pw u (Idealize.ShloMosaic.ix2 t c)
      = (∑ n : Fin 256, sl (ln (fun j => k0_pay42 (F := Ideal) v566 v567 v571 v575 v579 v583 v587 v591 v594 (Idealize.ShloMosaic.ix2 t j))
          (fun j => g (Idealize.ShloMosaic.ix3 0 0 j)) (fun j => b (Idealize.ShloMosaic.ix3 0 0 j)) n) * (pw (Idealize.ShloMosaic.ix3 0 n c) : EReal)) * (u (Idealize.ShloMosaic.ix3 0 t c) : EReal) := by
  unfold k0_pay43
  generalize k0_pay42 (F := Ideal) v566 v567 v571 v575 v579 v583 v587 v591 v594 = P
  pointwise [k0_pay44, ln, xc, sl, half, Inproj.inv]

theorem q4 (yt wb : FVec Ideal S1x512x1024 .bf16) (s : FVec Ideal S1x1024x256 .bf16) (w : FVec Ideal S256x1024 .bf16) (t o : Fin 1024) :
    k0_pay4 (F := Ideal) yt wb s w (Idealize.ShloMosaic.ix2 t o)
      = (∑ d : Fin 512, (yt (Idealize.ShloMosaic.ix3 0 d t) : EReal) * wb (Idealize.ShloMosaic.ix3 0 d o) : EReal) + ∑ c : Fin 256, (s (Idealize.ShloMosaic.ix3 0 t c) : EReal) * w (Idealize.ShloMosaic.ix2 c o) := by
  pointwise [k0_pay4]

theorem q5 (u : FVec Ideal S1x1024x256 .f32) (t : Fin 1024) (n : Fin 256) : k0_pay5 (F := Ideal) u (Idealize.ShloMosaic.ix2 t n) = u (Idealize.ShloMosaic.ix3 0 t n) := by
  pointwise [k0_pay5]

theorem q6 (v : FVec Ideal S1048x256 .f32) (t : Fin 1048) (n : Fin 256) : k0_pay6 (F := Ideal) v (Idealize.ShloMosaic.ix3 0 t n) = v (Idealize.ShloMosaic.ix2 t n) := by
  pointwise [k0_pay6]

theorem q7 (v : FVec Ideal S1048x256 .f32) (t : Fin 1048) (n : Fin 256) : k0_pay7 (F := Ideal) v (Idealize.ShloMosaic.ix3 0 t n) = v (Idealize.ShloMosaic.ix2 t n) := by
  pointwise [k0_pay7]

theorem q8 (v : FVec Ideal S1048x256 .f32) (t : Fin 1048) (n : Fin 256) : k0_pay8 (F := Ideal) v (Idealize.ShloMosaic.ix3 0 t n) = v (Idealize.ShloMosaic.ix2 t n) := by
  pointwise [k0_pay8]

theorem q9 (v : FVec Ideal S1048x256 .f32) (t : Fin 1048) (n : Fin 256) : k0_pay9 (F := Ideal) v (Idealize.ShloMosaic.ix3 0 t n) = v (Idealize.ShloMosaic.ix2 t n) := by
  pointwise [k0_pay9]

theorem q10 (v : FVec Ideal S1048x256 .f32) (t : Fin 1048) (n : Fin 256) : k0_pay10 (F := Ideal) v (Idealize.ShloMosaic.ix3 0 t n) = v (Idealize.ShloMosaic.ix2 t n) := by
  pointwise [k0_pay10]

theorem q11 (v : FVec Ideal S1048x256 .f32) (t : Fin 1048) (n : Fin 256) : k0_pay11 (F := Ideal) v (Idealize.ShloMosaic.ix3 0 t n) = v (Idealize.ShloMosaic.ix2 t n) := by
  pointwise [k0_pay11]

theorem q12 (v : FVec Ideal S1048x256 .f32) (t : Fin 1048) (n : Fin 256) : k0_pay12 (F := Ideal) v (Idealize.ShloMosaic.ix3 0 t n) = v (Idealize.ShloMosaic.ix2 t n) := by
  pointwise [k0_pay12]

theorem q3 (y : S32x256.Idx) : k0_pay3 (F := Ideal) y = (0 : EReal) := by
  pointwise [k0_pay3]

theorem q2 (v : FVec Ideal S32x256 .f32) : k0_pay2 (F := Ideal) v = v := by
  funext y
  pointwise [k0_pay2]

end Outproj
-- ==== Proof.OutPoint.lean ====
/- The out-projection kernel's output block at a point, read at an index, and the rows it carries over to the next point. -/
module

public import proofs.«01_k».proof.Proof.OutTile

@[expose] public section

set_option maxRecDepth 16384

noncomputable section

namespace Outproj

open Cert.Kernel3Ideal Cert.Kernel3Ideal.Gen
open Idealize.ShloMosaic Idealize.ShloMosaic.TcCoe
open Inproj (sl)

/-- The buffer's rows: the block's first 256 channels from row 32 on, above them what was there. -/
def ub (x1 : FVec Ideal S1x1024x512 .f32) (xs : ℕ → Fin 256 → EReal) (r : ℕ) (n : Fin 256) : EReal :=
  if h : 32 ≤ r ∧ r < 1056 then x1 (Idealize.ShloMosaic.ix3 0 ⟨r - 32, by omega⟩ ⟨n.val, by omega⟩) else xs r n

/-- A row of the convolution's weights. -/
def wk (x4 : FVec Ideal S1x31x256 .f32) (k : ℕ) (n : Fin 256) : EReal := if h : k < 31 then x4 (Idealize.ShloMosaic.ix3 0 ⟨k, h⟩ n) else 0

/-- The convolution at a time. -/
def cb (x1 : FVec Ideal S1x1024x512 .f32) (x4 : FVec Ideal S1x31x256 .f32) (x5 : FVec Ideal S1x1x256 .f32) (xs : ℕ → Fin 256 → EReal)
    (t : ℕ) (j : Fin 256) : EReal :=
  cv (fun k => wk x4 k j) (fun k => ub x1 xs (2 + k + t) j) (x5 (Idealize.ShloMosaic.ix3 0 0 j)) 31

/-- The gated branch at a time. -/
def yc (x1 : FVec Ideal S1x1024x512 .f32) (x4 : FVec Ideal S1x31x256 .f32) (x5 x6 x7 : FVec Ideal S1x1x256 .f32) (x8 : FVec Ideal S1x256x256 .bf16)
    (xs : ℕ → Fin 256 → EReal) (t : Fin 1024) (c : Fin 256) : EReal :=
  (∑ n : Fin 256, sl (ln (cb x1 x4 x5 xs t.val) (fun j => x6 (Idealize.ShloMosaic.ix3 0 0 j)) (fun j => x7 (Idealize.ShloMosaic.ix3 0 0 j)) n) * (x8 (Idealize.ShloMosaic.ix3 0 n c) : EReal))
    * (x1 (Idealize.ShloMosaic.ix3 0 t ⟨256 + c.val, by omega⟩) : EReal)

/-- The output's block. -/
def B11 (x0 : FVec Ideal S1x1024x1024 .f32) (x1 : FVec Ideal S1x1024x512 .f32) (x2 : FVec Ideal S1x1024x256 .bf16) (x3 : FVec Ideal S1x512x1024 .bf16) (x4 : FVec Ideal S1x31x256 .f32) (x5 x6 x7 : FVec Ideal S1x1x256 .f32) (x8 : FVec Ideal S1x256x256 .bf16) (x9 x10 : FVec Ideal S1x512x1024 .bf16) (xs : ℕ → Fin 256 → EReal) (t o : Fin 1024) : EReal :=
  ((x0 (Idealize.ShloMosaic.ix3 0 t o) : EReal) + ((∑ d : Fin 512, (x3 (Idealize.ShloMosaic.ix3 0 d t) : EReal) * x10 (Idealize.ShloMosaic.ix3 0 d o) : EReal)
      + ∑ c : Fin 256, (x2 (Idealize.ShloMosaic.ix3 0 t c) : EReal) * x9 (Idealize.ShloMosaic.ix3 0 ⟨256 + c.val, by omega⟩ o)) : EReal)
    + ∑ c : Fin 256, yc x1 x4 x5 x6 x7 x8 xs t c * (x9 (Idealize.ShloMosaic.ix3 0 ⟨c.val, by omega⟩ o) : EReal)

theorem cov14 {sp : Space} (v : View sig .tc sp S1056x256 .f32) (L : List (View.Piece (Elt Ideal) S1056x256 .f32)) (r : Rect S1056x256) :
    v.readCov L r.toLoadRect = View.ld (v.read (Elt Ideal) (v.writes (Elt Ideal) v.junk L)) r := rfl

theorem cov15 {sp : Space} (v : View sig .tc sp S7x1048x256 .f32) (L : List (View.Piece (Elt Ideal) S7x1048x256 .f32)) (r : Rect S7x1048x256) :
    v.readCov L r.toLoadRect = View.ld (v.read (Elt Ideal) (v.writes (Elt Ideal) v.junk L)) r := rfl

theorem cov16 {sp : Space} (v : View sig .tc sp S1024x1024 .f32) (L : List (View.Piece (Elt Ideal) S1024x1024 .f32)) (r : Rect S1024x1024) :
    v.readCov L r.toLoadRect = View.ld (v.read (Elt Ideal) (v.writes (Elt Ideal) v.junk L)) r := rfl

theorem w6_at (x4 : FVec Ideal S1x31x256 .f32) (M : Memref sig .tc .vmem S1x31x256 .f32) (hM : M.IsWhole) (h) (r : Fin 31) (k : Fin 256) :
    View.read (Elt Ideal) ((M.view.slice (Rect.unit ![0, 0, 0] ![1, 31, 256] Gen.inb_S1x31x256_S1x31x256_0_0_0)).reshape S31x256 h)
      (hM.unread x4) (Idealize.ShloMosaic.ix2 r k) = x4 (Idealize.ShloMosaic.ix3 0 r k) := by
  have e := congrFun (hM.read_unread (Val := Elt Ideal) x4)
  show View.read (Elt Ideal) M.view (hM.unread x4) ((Rect.unit ![0, 0, 0] ![1, 31, 256] Gen.inb_S1x31x256_S1x31x256_0_0_0).emb (Shape.reshapeEquiv h (Idealize.ShloMosaic.ix2 r k))) = _
  rw [e]
  have h' : S1x31x256.ShapeCasts S31x256 := h
  have e1 : shapeCast S31x256 (x4 : FVec Ideal S1x31x256 .f32) h' (Idealize.ShloMosaic.ix2 r k) = x4 (Idealize.ShloMosaic.ix3 0 r k) := by
    pointwise []
  refine Eq.trans (congrArg x4 ?_) e1
  funext a
  apply Fin.ext
  match a with
  | ⟨0, _⟩ => exact (Nat.zero_add _).trans (Nat.one_mul _)
  | ⟨1, _⟩ => exact (Nat.zero_add _).trans (Nat.one_mul _)
  | ⟨2, _⟩ => exact (Nat.zero_add _).trans (Nat.one_mul _)

theorem w11_at (x9 : FVec Ideal S1x512x1024 .bf16) (M : Memref sig .tc .vmem S1x512x1024 .bf16) (hM : M.IsWhole) (h) (r : Fin 512) (k : Fin 1024) :
    View.read (Elt Ideal) ((M.view.slice (Rect.unit ![0, 0, 0] ![1, 512, 1024] Gen.inb_S1x512x1024_S1x512x1024_0_0_0)).reshape S512x1024 h)
      (hM.unread x9) (Idealize.ShloMosaic.ix2 r k) = x9 (Idealize.ShloMosaic.ix3 0 r k) := by
  have e := congrFun (hM.read_unread (Val := Elt Ideal) x9)
  show View.read (Elt Ideal) M.view (hM.unread x9) ((Rect.unit ![0, 0, 0] ![1, 512, 1024] Gen.inb_S1x512x1024_S1x512x1024_0_0_0).emb (Shape.reshapeEquiv h (Idealize.ShloMosaic.ix2 r k))) = _
  rw [e]
  have h' : S1x512x1024.ShapeCasts S512x1024 := h
  have e1 : shapeCast S512x1024 (x9 : FVec Ideal S1x512x1024 .bf16) h' (Idealize.ShloMosaic.ix2 r k) = x9 (Idealize.ShloMosaic.ix3 0 r k) := by
    pointwise []
  refine Eq.trans (congrArg x9 ?_) e1
  funext a
  apply Fin.ext
  match a with
  | ⟨0, _⟩ => exact (Nat.zero_add _).trans (Nat.one_mul _)
  | ⟨1, _⟩ => exact (Nat.zero_add _).trans (Nat.one_mul _)
  | ⟨2, _⟩ => exact (Nat.zero_add _).trans (Nat.one_mul _)

/-- A row of the weights, loaded. -/
theorem lw6 (x4 : FVec Ideal S1x31x256 .f32) {C : S31x256.Idx → Elt Ideal .f32} (hC : ∀ r k, C (Idealize.ShloMosaic.ix2 r k) = x4 (Idealize.ShloMosaic.ix3 0 r k))
    (o : ℕ) (inb) (n : Fin 256) : View.ld C (Rect.unit ![o, 0] ![1, 256] inb) (Idealize.ShloMosaic.ix2 0 n) = wk x4 o n := by
  have ho : o < 31 := by
    have := inb 0
    simpa [Rect.unit] using this
  unfold wk
  rw [dif_pos ho]
  refine (View.ld_unit_apply_of C _ _ _ _ (Idealize.ShloMosaic.ix2 ⟨o, ho⟩ n) fun a => ?_).trans (hC _ n)
  match a with
  | ⟨0, _⟩ => exact (Nat.add_zero _).symm
  | ⟨1, _⟩ => exact (Nat.zero_add _).symm

/-- Rows of the output's weights, loaded. -/
theorem lw11 (x9 : FVec Ideal S1x512x1024 .bf16) {C : S512x1024.Idx → Elt Ideal .bf16} (hC : ∀ r k, C (Idealize.ShloMosaic.ix2 r k) = x9 (Idealize.ShloMosaic.ix3 0 r k))
    (o : ℕ) (inb) (r : Fin 512) (t : Fin 256) (hr : r.val = o + t.val) (n : Fin 1024) :
    View.ld C (Rect.unit ![o, 0] ![256, 1024] inb) (Idealize.ShloMosaic.ix2 t n) = x9 (Idealize.ShloMosaic.ix3 0 r n) := by
  refine (View.ld_unit_apply_of C _ _ _ _ (Idealize.ShloMosaic.ix2 r n) fun a => ?_).trans (hC _ n)
  match a with
  | ⟨0, _⟩ => exact hr
  | ⟨1, _⟩ => exact (Nat.zero_add _).symm

/-- Rows of the buffer, loaded. -/
theorem l14 (G : ℕ → Fin 256 → EReal) (s : ℕ) {C : S1056x256.Idx → Elt Ideal .f32} (hC : ∀ (r : Fin 1056) (n : Fin 256), s ≤ r.val → C (Idealize.ShloMosaic.ix2 r n) = G r.val n)
    (o k : ℕ) (ho : s ≤ o) (inb) (t : Fin k) (n : Fin 256) :
    View.ld C (Rect.unit ![o, 0] ![k, 256] inb) (Idealize.ShloMosaic.ix2 t n) = G (o + t.val) n := by
  have hi : o + k ≤ 1056 := by
    have := inb 0
    simpa [Rect.unit] using this
  have ht := t.isLt
  refine (View.ld_unit_apply_of C _ _ _ _ (Idealize.ShloMosaic.ix2 ⟨o + t.val, by omega⟩ n) fun a => ?_).trans (hC _ n (by show s ≤ o + t.val; omega))
  match a with
  | ⟨0, _⟩ => rfl
  | ⟨1, _⟩ => exact (Nat.zero_add _).symm

/-- Rows of a shifted copy, loaded. -/
theorem l15 (G : ℕ → Fin 256 → EReal) {A : S7x1048x256.Idx → Elt Ideal .f32} (hA : ∀ j r n, A (Idealize.ShloMosaic.ix3 j r n) = G (j.val + 1 + r.val) n)
    (j o : ℕ) (inb) (t : Fin 512) (n : Fin 256) :
    View.ld A (Rect.unit ![j, o, 0] ![1, 512, 256] inb) (Idealize.ShloMosaic.ix3 0 t n) = G (j + 1 + o + t.val) n := by
  have hj : j + 1 ≤ 7 := by
    have := inb 0
    simpa [Rect.unit] using this
  have hi : o + 512 ≤ 1048 := by
    have := inb 1
    simpa [Rect.unit] using this
  refine (View.ld_unit_apply_of A _ _ _ _ (Idealize.ShloMosaic.ix3 ⟨j, by omega⟩ ⟨o + t.val, by omega⟩ n) fun a => ?_).trans ((hA _ _ n).trans (congrArg (fun r => G r n) (Nat.add_assoc (j + 1) o t.val).symm))
  match a with
  | ⟨0, _⟩ => rfl
  | ⟨1, _⟩ => rfl
  | ⟨2, _⟩ => exact (Nat.zero_add _).symm

theorem lu2 (x1 : S1x1024x512.Idx → Elt Ideal .f32) (o : ℕ) (inb) (t : Fin 512) (T : Fin 1024) (hT : T.val = o + t.val) (c : Fin 256) :
    View.ld x1 (Rect.unit ![0, o, 256] ![1, 512, 256] inb) (Idealize.ShloMosaic.ix3 0 t c) = x1 (Idealize.ShloMosaic.ix3 0 T ⟨256 + c.val, by omega⟩) := by
  refine View.ld_unit_apply_of x1 _ _ _ _ (Idealize.ShloMosaic.ix3 0 T ⟨256 + c.val, by omega⟩) fun a => ?_
  match a with
  | ⟨0, _⟩ => rfl
  | ⟨1, _⟩ => exact hT
  | ⟨2, _⟩ => rfl

theorem lx0 (x0 : S1x1024x1024.Idx → Elt Ideal .f32) (o : ℕ) (inb) (t : Fin 512) (T : Fin 1024) (hT : T.val = o + t.val) (c : Fin 1024) :
    View.ld x0 (Rect.unit ![0, o, 0] ![1, 512, 1024] inb) (Idealize.ShloMosaic.ix3 0 t c) = x0 (Idealize.ShloMosaic.ix3 0 T c) := by
  refine View.ld_unit_apply_of x0 _ _ _ _ (Idealize.ShloMosaic.ix3 0 T c) fun a => ?_
  match a with
  | ⟨0, _⟩ => rfl
  | ⟨1, _⟩ => exact hT
  | ⟨2, _⟩ => exact (Nat.zero_add _).symm

theorem l16 (P : FVec Ideal S1024x1024 .f32) {sp : Space} (v : View sig .tc sp S1024x1024 .f32) (f : v.ty.Contents (Elt Ideal)) (inb') (o : ℕ) (inb)
    (t : Fin 512) (T : Fin 1024) (hT : T.val = o + t.val) (c : Fin 1024) :
    View.ld (v.read (Elt Ideal) (v.writes (Elt Ideal) f [⟨Rect.unit ![0, 0] ![1024, 1024] inb', P⟩])) (Rect.unit ![o, 0] ![512, 1024] inb) (Idealize.ShloMosaic.ix2 t c) = P (Idealize.ShloMosaic.ix2 T c) := by
  refine (View.ld_unit_apply_of _ _ _ _ _ (Idealize.ShloMosaic.ix2 T c) fun a => ?_).trans ?_
  · match a with
    | ⟨0, _⟩ => exact hT
    | ⟨1, _⟩ => exact (Nat.zero_add _).symm
  · exact View.read_writes_cons_rows_of_mem v f inb' _ [] _ (Idealize.ShloMosaic.ix2 T c) rfl (Nat.zero_add _).symm rfl

/-- The buffer once the block's rows are stored. -/
theorem st14 (x1 : S1x1024x512.Idx → Elt Ideal .f32) {sp : Space} (v : View sig .tc sp S1056x256 .f32) (f : v.ty.Contents (Elt Ideal)) (L : List (View.Piece (Elt Ideal) S1056x256 .f32))
    (inb) (inb') (xs : ℕ → Fin 256 → EReal) (s : ℕ) (hx : ∀ (r : Fin 1056) (n : Fin 256), s ≤ r.val → r.val < 32 → v.read (Elt Ideal) (v.writes (Elt Ideal) f L) (Idealize.ShloMosaic.ix2 r n) = xs r.val n)
    (r : Fin 1056) (n : Fin 256) (hs : s ≤ r.val) :
    v.read (Elt Ideal) (v.writes (Elt Ideal) f (⟨Rect.unit ![32, 0] ![1024, 256] inb',
        k0_pay5 (F := Ideal) (View.ld x1 (Rect.unit ![0, 0, 0] ![1, 1024, 256] inb))⟩ :: L)) (Idealize.ShloMosaic.ix2 r n) = ub x1 xs r.val n := by
  unfold ub
  by_cases h : 32 ≤ r.val
  · rw [dif_pos ⟨h, r.isLt⟩]
    refine (View.read_writes_cons_rows_of_mem v f inb' _ L _ (Idealize.ShloMosaic.ix2 ⟨r.val - 32, by omega⟩ n) rfl
      (by show r.val = 32 + (r.val - 32); omega) rfl).trans ?_
    refine (q5 _ _ n).trans (View.ld_unit_apply_of x1 _ _ _ _ (Idealize.ShloMosaic.ix3 0 ⟨r.val - 32, by omega⟩ ⟨n.val, by omega⟩) fun a => ?_)
    match a with
    | ⟨0, _⟩ => rfl
    | ⟨1, _⟩ => exact (Nat.zero_add _).symm
    | ⟨2, _⟩ => exact (Nat.zero_add _).symm
  · rw [dif_neg fun h' => h h'.1]
    refine (View.read_writes_cons_rows_of_not_mem v f inb' _ L _ rfl rfl (Or.inl (by show r.val < 32; omega))).trans ?_
    exact hx r n hs (by omega)

theorem z14 {sp : Space} (v : View sig .tc sp S1056x256 .f32) (f : v.ty.Contents (Elt Ideal)) (inb) (r : Fin 1056) (n : Fin 256) (h : r.val < 32) :
    v.read (Elt Ideal) (v.writes (Elt Ideal) f [⟨Rect.unit ![0, 0] ![32, 256] inb, k0_pay3 (F := Ideal)⟩]) (Idealize.ShloMosaic.ix2 r n) = (0 : EReal) :=
  (View.read_writes_cons_rows_of_mem v f inb _ [] _ (Idealize.ShloMosaic.ix2 ⟨r.val, h⟩ n) rfl (Nat.zero_add _).symm rfl).trans (q3 _)

theorem s15m (G : ℕ → Fin 256 → EReal) {C : S1056x256.Idx → Elt Ideal .f32} (hC : ∀ (r : Fin 1056) (n : Fin 256), 0 ≤ r.val → C (Idealize.ShloMosaic.ix2 r n) = G r.val n)
    {sp : Space} (v : View sig .tc sp S7x1048x256 .f32) (f : v.ty.Contents (Elt Ideal)) (L : List (View.Piece (Elt Ideal) S7x1048x256 .f32))
    (j : ℕ) (inb) (inb') (Q : FVec Ideal S1048x256 .f32 → FVec Ideal S1x1048x256 .f32) (hQ : ∀ w t n, Q w (Idealize.ShloMosaic.ix3 0 t n) = w (Idealize.ShloMosaic.ix2 t n)) (J : Fin 7) (hJ : J.val = j) (r : Fin 1048) (n : Fin 256) :
    v.read (Elt Ideal) (v.writes (Elt Ideal) f (⟨Rect.unit ![j, 0, 0] ![1, 1048, 256] inb', Q (View.ld C (Rect.unit ![j + 1, 0] ![1048, 256] inb))⟩ :: L)) (Idealize.ShloMosaic.ix3 J r n) = G (J.val + 1 + r.val) n := by
  subst hJ
  refine (View.read_writes_cons_unit_of_mem v f inb' _ L (Idealize.ShloMosaic.ix3 J r n) (Idealize.ShloMosaic.ix3 0 r n) rfl fun a => ?_).trans ?_
  · match a with
    | ⟨0, _⟩ => rfl
    | ⟨1, _⟩ => exact (Nat.zero_add _).symm
    | ⟨2, _⟩ => exact (Nat.zero_add _).symm
  · exact (hQ _ r n).trans (l14 G 0 hC _ 1048 (Nat.zero_le _) inb r n)

theorem s15n {sp : Space} (v : View sig .tc sp S7x1048x256 .f32) (f : v.ty.Contents (Elt Ideal)) (L : List (View.Piece (Elt Ideal) S7x1048x256 .f32))
    (j : ℕ) (inb') (w : FVec Ideal S1x1048x256 .f32) (J : Fin 7) (hJ : J.val < j) (r : Fin 1048) (n : Fin 256) (e : EReal)
    (h : v.read (Elt Ideal) (v.writes (Elt Ideal) f L) (Idealize.ShloMosaic.ix3 J r n) = e) :
    v.read (Elt Ideal) (v.writes (Elt Ideal) f (⟨Rect.unit ![j, 0, 0] ![1, 1048, 256] inb', w⟩ :: L)) (Idealize.ShloMosaic.ix3 J r n) = e :=
  (View.read_writes_cons_unit_of_not_mem v f inb' _ L (Idealize.ShloMosaic.ix3 J r n) rfl 0 (Or.inl hJ)).trans h

/-- The shifted copies. -/
theorem a15 (G : ℕ → Fin 256 → EReal) {C : S1056x256.Idx → Elt Ideal .f32} (hC : ∀ (r : Fin 1056) (n : Fin 256), 0 ≤ r.val → C (Idealize.ShloMosaic.ix2 r n) = G r.val n)
    {sp : Space} (v : View sig .tc sp S7x1048x256 .f32) (f : v.ty.Contents (Elt Ideal)) (i0) (i1) (i2) (i3) (i4) (i5) (i6) (j0) (j1) (j2) (j3) (j4) (j5) (j6) (J : Fin 7) (r : Fin 1048) (n : Fin 256) :
    v.read (Elt Ideal) (v.writes (Elt Ideal) f [
      ⟨Rect.unit ![6, 0, 0] ![1, 1048, 256] i6, k0_pay12 (F := Ideal) (View.ld C (Rect.unit ![7, 0] ![1048, 256] j6))⟩,
      ⟨Rect.unit ![5, 0, 0] ![1, 1048, 256] i5, k0_pay11 (F := Ideal) (View.ld C (Rect.unit ![6, 0] ![1048, 256] j5))⟩,
      ⟨Rect.unit ![4, 0, 0] ![1, 1048, 256] i4, k0_pay10 (F := Ideal) (View.ld C (Rect.unit ![5, 0] ![1048, 256] j4))⟩,
      ⟨Rect.unit ![3, 0, 0] ![1, 1048, 256] i3, k0_pay9 (F := Ideal) (View.ld C (Rect.unit ![4, 0] ![1048, 256] j3))⟩,
      ⟨Rect.unit ![2, 0, 0] ![1, 1048, 256] i2, k0_pay8 (F := Ideal) (View.ld C (Rect.unit ![3, 0] ![1048, 256] j2))⟩,
      ⟨Rect.unit ![1, 0, 0] ![1, 1048, 256] i1, k0_pay7 (F := Ideal) (View.ld C (Rect.unit ![2, 0] ![1048, 256] j1))⟩,
      ⟨Rect.unit ![0, 0, 0] ![1, 1048, 256] i0, k0_pay6 (F := Ideal) (View.ld C (Rect.unit ![1, 0] ![1048, 256] j0))⟩]) (Idealize.ShloMosaic.ix3 J r n) = G (J.val + 1 + r.val) n := by
  match J with
  | ⟨0, _⟩ => exact s15n v f _ 6 i6 _ ⟨0, _⟩ (show (0 : ℕ) < 6 by decide) r n _ (s15n v f _ 5 i5 _ ⟨0, _⟩ (show (0 : ℕ) < 5 by decide) r n _ (s15n v f _ 4 i4 _ ⟨0, _⟩ (show (0 : ℕ) < 4 by decide) r n _ (s15n v f _ 3 i3 _ ⟨0, _⟩ (show (0 : ℕ) < 3 by decide) r n _ (s15n v f _ 2 i2 _ ⟨0, _⟩ (show (0 : ℕ) < 2 by decide) r n _ (s15n v f _ 1 i1 _ ⟨0, _⟩ (show (0 : ℕ) < 1 by decide) r n _ (s15m G hC v f _ 0 j0 i0 (k0_pay6 (F := Ideal)) q6 ⟨0, _⟩ rfl r n))))))
  | ⟨1, _⟩ => exact s15n v f _ 6 i6 _ ⟨1, _⟩ (show (1 : ℕ) < 6 by decide) r n _ (s15n v f _ 5 i5 _ ⟨1, _⟩ (show (1 : ℕ) < 5 by decide) r n _ (s15n v f _ 4 i4 _ ⟨1, _⟩ (show (1 : ℕ) < 4 by decide) r n _ (s15n v f _ 3 i3 _ ⟨1, _⟩ (show (1 : ℕ) < 3 by decide) r n _ (s15n v f _ 2 i2 _ ⟨1, _⟩ (show (1 : ℕ) < 2 by decide) r n _ (s15m G hC v f _ 1 j1 i1 (k0_pay7 (F := Ideal)) q7 ⟨1, _⟩ rfl r n)))))
  | ⟨2, _⟩ => exact s15n v f _ 6 i6 _ ⟨2, _⟩ (show (2 : ℕ) < 6 by decide) r n _ (s15n v f _ 5 i5 _ ⟨2, _⟩ (show (2 : ℕ) < 5 by decide) r n _ (s15n v f _ 4 i4 _ ⟨2, _⟩ (show (2 : ℕ) < 4 by decide) r n _ (s15n v f _ 3 i3 _ ⟨2, _⟩ (show (2 : ℕ) < 3 by decide) r n _ (s15m G hC v f _ 2 j2 i2 (k0_pay8 (F := Ideal)) q8 ⟨2, _⟩ rfl r n))))
  | ⟨3, _⟩ => exact s15n v f _ 6 i6 _ ⟨3, _⟩ (show (3 : ℕ) < 6 by decide) r n _ (s15n v f _ 5 i5 _ ⟨3, _⟩ (show (3 : ℕ) < 5 by decide) r n _ (s15n v f _ 4 i4 _ ⟨3, _⟩ (show (3 : ℕ) < 4 by decide) r n _ (s15m G hC v f _ 3 j3 i3 (k0_pay9 (F := Ideal)) q9 ⟨3, _⟩ rfl r n)))
  | ⟨4, _⟩ => exact s15n v f _ 6 i6 _ ⟨4, _⟩ (show (4 : ℕ) < 6 by decide) r n _ (s15n v f _ 5 i5 _ ⟨4, _⟩ (show (4 : ℕ) < 5 by decide) r n _ (s15m G hC v f _ 4 j4 i4 (k0_pay10 (F := Ideal)) q10 ⟨4, _⟩ rfl r n))
  | ⟨5, _⟩ => exact s15n v f _ 6 i6 _ ⟨5, _⟩ (show (5 : ℕ) < 6 by decide) r n _ (s15m G hC v f _ 5 j5 i5 (k0_pay11 (F := Ideal)) q11 ⟨5, _⟩ rfl r n)
  | ⟨6, _⟩ => exact s15m G hC v f _ 6 j6 i6 (k0_pay12 (F := Ideal)) q12 ⟨6, _⟩ rfl r n

/-- The partial product stored, at an index. -/
theorem p16 {W : S512x1024.Idx → Elt Ideal .bf16} (x9 : FVec Ideal S1x512x1024 .bf16) (hW : ∀ r k, W (Idealize.ShloMosaic.ix2 r k) = x9 (Idealize.ShloMosaic.ix3 0 r k)) (yt wb : FVec Ideal S1x512x1024 .bf16) (s : FVec Ideal S1x1024x256 .bf16)
    (inb) (t o : Fin 1024) :
    k0_pay4 (F := Ideal) yt wb s (View.ld W (Rect.unit ![256, 0] ![256, 1024] inb)) (Idealize.ShloMosaic.ix2 t o)
      = (∑ d : Fin 512, (yt (Idealize.ShloMosaic.ix3 0 d t) : EReal) * wb (Idealize.ShloMosaic.ix3 0 d o) : EReal) + ∑ c : Fin 256, (s (Idealize.ShloMosaic.ix3 0 t c) : EReal) * x9 (Idealize.ShloMosaic.ix3 0 ⟨256 + c.val, by omega⟩ o) := by
  refine (q4 yt wb s _ t o).trans (congrArg _ (Finset.sum_congr rfl fun c _ => congrArg _ ?_))
  exact lw11 x9 hW 256 inb _ c rfl o

theorem ix3_eta {a b c : ℕ} (x : (⟨3, ![a, b, c]⟩ : Shape).Idx) : x = Idealize.ShloMosaic.ix3 (x 0) (x 1) (x 2) := by
  funext i
  match i with
  | ⟨0, _⟩ => rfl
  | ⟨1, _⟩ => rfl
  | ⟨2, _⟩ => rfl

theorem out11_A (c : Dev nD) (i : grid0.Coords) (arg2 : Memref sig .tc .vmem S1x1024x1024 .f32) (harg2 : arg2.IsWhole) (arg3 : Memref sig .tc .vmem S1x1024x512 .f32) (harg3 : arg3.IsWhole) (arg4 : Memref sig .tc .vmem S1x1024x256 .bf16) (harg4 : arg4.IsWhole) (arg5 : Memref sig .tc .vmem S1x512x1024 .bf16) (harg5 : arg5.IsWhole) (arg6 : Memref sig .tc .vmem S1x31x256 .f32) (harg6 : arg6.IsWhole) (arg7 : Memref sig .tc .vmem S1x1x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S1x256x256 .bf16) (harg10 : arg10.IsWhole) (arg11 : Memref sig .tc .vmem S1x512x1024 .bf16) (harg11 : arg11.IsWhole) (arg12 : Memref sig .tc .vmem S1x512x1024 .bf16) (harg12 : arg12.IsWhole) (arg13 : Memref sig .tc .vmem S1x1024x1024 .f32) (harg13 : arg13.IsWhole) (arg14 : Memref sig .tc .vmem S1056x256 .f32) (harg14 : arg14.IsWhole) (arg15 : Memref sig .tc .vmem S7x1048x256 .f32) (harg15 : arg15.IsWhole) (arg16 : Memref sig .tc .vmem S1024x1024 .f32) (harg16 : arg16.IsWhole) (hc0 : cond0_0 i)
    (x0 : Vec Ideal S1x1024x1024 .f32) (x1 : Vec Ideal S1x1024x512 .f32) (x2 : Vec Ideal S1x1024x256 .bf16) (x3 : Vec Ideal S1x512x1024 .bf16) (x4 : Vec Ideal S1x31x256 .f32) (x5 : Vec Ideal S1x1x256 .f32) (x6 : Vec Ideal S1x1x256 .f32) (x7 : Vec Ideal S1x1x256 .f32) (x8 : Vec Ideal S1x256x256 .bf16) (x9 : Vec Ideal S1x512x1024 .bf16) (x10 : Vec Ideal S1x512x1024 .bf16) (y : S1x1024x1024.Idx) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 y = B11 x0 x1 x2 x3 x4 x5 x6 x7 x8 x9 x10 (fun _ _ => 0) (y 1) (y 2) := by
  frame_out
  simp only [cov14, cov15, cov16]
  generalize hW : View.read (Elt Ideal) ((arg6.view.slice _).reshape _ _) _ = W
  have hW' : ∀ r k, W (Idealize.ShloMosaic.ix2 r k) = x4 (Idealize.ShloMosaic.ix3 0 r k) := fun r k => by
    rw [← hW]; exact w6_at x4 arg6 harg6 _ r k
  generalize hV : View.read (Elt Ideal) ((arg11.view.slice _).reshape _ _) _ = V
  have hV' : ∀ r k, V (Idealize.ShloMosaic.ix2 r k) = x9 (Idealize.ShloMosaic.ix3 0 r k) := fun r k => by
    rw [← hV]; exact w11_at x9 arg11 harg11 _ r k
  generalize hC : View.read (Elt Ideal) arg14.view _ = C
  have hC' : ∀ (r : Fin 1056) (n : Fin 256), 0 ≤ r.val → C (Idealize.ShloMosaic.ix2 r n) = ub x1 (fun _ _ => 0) r.val n := fun r n h => by
    rw [← hC]; exact st14 x1 _ _ _ _ _ _ 0 (fun r n _ h => z14 _ _ _ r n h) r n h
  generalize hA : View.read (Elt Ideal) arg15.view _ = A
  have hA' : ∀ j r n, A (Idealize.ShloMosaic.ix3 j r n) = ub x1 (fun _ _ => 0) (j.val + 1 + r.val) n := fun j r n => by
    rw [← hA]; exact a15 _ hC' _ _ _ _ _ _ _ _ _ _ _ _ _ _ _ _ j r n
  generalize hP : k0_pay4 (F := Ideal) _ _ _ _ = P
  have hP' := fun t o => (congrFun hP (Idealize.ShloMosaic.ix2 t o)).symm.trans (p16 x9 hV' _ _ _ _ t o)
  canon_tiles x h
  · have x0_lt : (x 0).val < 1 := (x 0).isLt
    have x1_lt : (x 1).val < 512 := (x 1).isLt
    have hy1 : (y 1).val = 512 + (x 1).val := by omega
    have hy2 : (y 2).val = (x 2).val := by omega
    refine Eq.trans (congrArg _ (show x = Idealize.ShloMosaic.ix3 0 (⟨(x 1).val, x1_lt⟩ : Fin 512) (y 2) from ?_)) ?_
    · funext a
      match a with
      | ⟨0, _⟩ => exact Fin.ext (by show (x 0).val = 0; omega)
      | ⟨1, _⟩ => rfl
      | ⟨2, _⟩ => exact Fin.ext hy2.symm
    generalize y 2 = o at *
    generalize y 1 = T at *
    generalize ht : (⟨(x 1).val, x1_lt⟩ : Fin 512) = t
    have hT : T.val = 512 + t.val := by rw [hy1, ← ht]
    refine (q1 _ _ _ _ t o).trans ?_
    unfold B11
    refine congrArg₂ (· + ·) (congrArg₂ (· + ·) (lx0 x0 512 _ t T hT o) ((l16 P _ _ _ 512 _ t T hT o).trans (hP' T o)))
      (Finset.sum_congr rfl fun c _ => congrArg₂ (· * ·) ?_ (lw11 x9 hV' 0 _ _ c (Nat.zero_add _).symm o))
    refine (q44 _ _ _ _ _ _ _ _ _ _ _ _ _ t c).trans ?_
    unfold yc
    refine congrArg₂ (· * ·) (Finset.sum_congr rfl fun n _ => congrArg₂ (· * ·) (congrArg (fun z => sl (ln z _ _ n)) (funext fun j => ?_)) rfl) (lu2 x1 512 _ t T hT c)
    unfold cb
    have e : ∀ k, 2 + k + T.val = 2 + k + 512 + t.val := fun k => by omega
    simp (disch := omega) only [e, cv, q28, q29, q30, q31, q32, q33, q34, q35, q36, q37, q38, q39, q40, q41, q42, l14 _ 0 hC', l15 _ hA', lw6 x4 hW']
  · have x0_lt : (x 0).val < 1 := (x 0).isLt
    have x1_lt : (x 1).val < 512 := (x 1).isLt
    have hy1 : (y 1).val = 0 + (x 1).val := by omega
    have hy2 : (y 2).val = (x 2).val := by omega
    refine Eq.trans (congrArg _ (show x = Idealize.ShloMosaic.ix3 0 (⟨(x 1).val, x1_lt⟩ : Fin 512) (y 2) from ?_)) ?_
    · funext a
      match a with
      | ⟨0, _⟩ => exact Fin.ext (by show (x 0).val = 0; omega)
      | ⟨1, _⟩ => rfl
      | ⟨2, _⟩ => exact Fin.ext hy2.symm
    generalize y 2 = o at *
    generalize y 1 = T at *
    generalize ht : (⟨(x 1).val, x1_lt⟩ : Fin 512) = t
    have hT : T.val = 0 + t.val := by rw [hy1, ← ht]
    refine (q27 _ _ _ _ _ _ t o).trans ?_
    unfold B11
    refine congrArg₂ (· + ·) (congrArg₂ (· + ·) (lx0 x0 0 _ t T hT o) ((l16 P _ _ _ 0 _ t T hT o).trans (hP' T o)))
      (Finset.sum_congr rfl fun c _ => congrArg₂ (· * ·) ?_ (lw11 x9 hV' 0 _ _ c (Nat.zero_add _).symm o))
    simp only [q26]
    unfold yc
    refine congrArg₂ (· * ·) (Finset.sum_congr rfl fun n _ => congrArg₂ (· * ·) (congrArg (fun z => sl (ln z _ _ n)) (funext fun j => ?_)) rfl) (lu2 x1 0 _ t T hT c)
    unfold cb
    have e : ∀ k, 2 + k + T.val = 2 + k + 0 + t.val := fun k => by omega
    simp (disch := omega) only [e, cv, q13, q14, q15, q16, q17, q18, q19, q20, q21, q22, q23, q24, q25, l14 _ 0 hC', l15 _ hA', lw6 x4 hW']

/-- The rows carried over. -/
def cs (xs0 : FVec Ideal S1056x256 .f32) (r : ℕ) (n : Fin 256) : EReal := if h : r < 1056 then xs0 (Idealize.ShloMosaic.ix2 ⟨r, h⟩ n) else 0

theorem out11_B (c : Dev nD) (i : grid0.Coords) (arg2 : Memref sig .tc .vmem S1x1024x1024 .f32) (harg2 : arg2.IsWhole) (arg3 : Memref sig .tc .vmem S1x1024x512 .f32) (harg3 : arg3.IsWhole) (arg4 : Memref sig .tc .vmem S1x1024x256 .bf16) (harg4 : arg4.IsWhole) (arg5 : Memref sig .tc .vmem S1x512x1024 .bf16) (harg5 : arg5.IsWhole) (arg6 : Memref sig .tc .vmem S1x31x256 .f32) (harg6 : arg6.IsWhole) (arg7 : Memref sig .tc .vmem S1x1x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S1x256x256 .bf16) (harg10 : arg10.IsWhole) (arg11 : Memref sig .tc .vmem S1x512x1024 .bf16) (harg11 : arg11.IsWhole) (arg12 : Memref sig .tc .vmem S1x512x1024 .bf16) (harg12 : arg12.IsWhole) (arg13 : Memref sig .tc .vmem S1x1024x1024 .f32) (harg13 : arg13.IsWhole) (arg14 : Memref sig .tc .vmem S1056x256 .f32) (harg14 : arg14.IsWhole) (arg15 : Memref sig .tc .vmem S7x1048x256 .f32) (harg15 : arg15.IsWhole) (arg16 : Memref sig .tc .vmem S1024x1024 .f32) (harg16 : arg16.IsWhole) (hc0 : ¬cond0_0 i)
    (x0 : Vec Ideal S1x1024x1024 .f32) (x1 : Vec Ideal S1x1024x512 .f32) (x2 : Vec Ideal S1x1024x256 .bf16) (x3 : Vec Ideal S1x512x1024 .bf16) (x4 : Vec Ideal S1x31x256 .f32) (x5 : Vec Ideal S1x1x256 .f32) (x6 : Vec Ideal S1x1x256 .f32) (x7 : Vec Ideal S1x1x256 .f32) (x8 : Vec Ideal S1x256x256 .bf16) (x9 : Vec Ideal S1x512x1024 .bf16) (x10 : Vec Ideal S1x512x1024 .bf16) (xs0 : Vec Ideal S1056x256 .f32) (y : S1x1024x1024.Idx) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xs0 y = B11 x0 x1 x2 x3 x4 x5 x6 x7 x8 x9 x10 (cs xs0) (y 1) (y 2) := by
  frame_out
  simp only [cov14, cov15, cov16]
  generalize hW : View.read (Elt Ideal) ((arg6.view.slice _).reshape _ _) _ = W
  have hW' : ∀ r k, W (Idealize.ShloMosaic.ix2 r k) = x4 (Idealize.ShloMosaic.ix3 0 r k) := fun r k => by
    rw [← hW]; exact w6_at x4 arg6 harg6 _ r k
  generalize hV : View.read (Elt Ideal) ((arg11.view.slice _).reshape _ _) _ = V
  have hV' : ∀ r k, V (Idealize.ShloMosaic.ix2 r k) = x9 (Idealize.ShloMosaic.ix3 0 r k) := fun r k => by
    rw [← hV]; exact w11_at x9 arg11 harg11 _ r k
  generalize hC : View.read (Elt Ideal) arg14.view (arg14.view.writes (Elt Ideal) (harg14.unread xs0) _) = C
  have hC' : ∀ (r : Fin 1056) (n : Fin 256), 0 ≤ r.val → C (Idealize.ShloMosaic.ix2 r n) = ub x1 (cs xs0) r.val n := fun r n h => by
    rw [← hC]
    refine st14 x1 _ _ _ _ _ _ 0 (fun r n _ h => ?_) r n h
    unfold cs
    rw [dif_pos r.isLt]
    exact congrFun (harg14.read_unread xs0) _
  generalize hD : View.read (Elt Ideal) arg14.view (arg14.view.writes (Elt Ideal) arg14.view.junk _) = D
  have hD' : ∀ (r : Fin 1056) (n : Fin 256), 32 ≤ r.val → D (Idealize.ShloMosaic.ix2 r n) = ub x1 (cs xs0) r.val n := fun r n h => by
    rw [← hD]; exact st14 x1 _ _ _ _ _ _ 32 (fun r n h1 h2 => absurd h1 (by omega)) r n h
  generalize hA : View.read (Elt Ideal) arg15.view _ = A
  have hA' : ∀ j r n, A (Idealize.ShloMosaic.ix3 j r n) = ub x1 (cs xs0) (j.val + 1 + r.val) n := fun j r n => by
    rw [← hA]; exact a15 _ hC' _ _ _ _ _ _ _ _ _ _ _ _ _ _ _ _ j r n
  generalize hP : k0_pay4 (F := Ideal) _ _ _ _ = P
  have hP' := fun t o => (congrFun hP (Idealize.ShloMosaic.ix2 t o)).symm.trans (p16 x9 hV' _ _ _ _ t o)
  canon_tiles x h
  · have x0_lt : (x 0).val < 1 := (x 0).isLt
    have x1_lt : (x 1).val < 512 := (x 1).isLt
    have hy1 : (y 1).val = 512 + (x 1).val := by omega
    have hy2 : (y 2).val = (x 2).val := by omega
    refine Eq.trans (congrArg _ (show x = Idealize.ShloMosaic.ix3 0 (⟨(x 1).val, x1_lt⟩ : Fin 512) (y 2) from ?_)) ?_
    · funext a
      match a with
      | ⟨0, _⟩ => exact Fin.ext (by show (x 0).val = 0; omega)
      | ⟨1, _⟩ => rfl
      | ⟨2, _⟩ => exact Fin.ext hy2.symm
    generalize y 2 = o at *
    generalize y 1 = T at *
    generalize ht : (⟨(x 1).val, x1_lt⟩ : Fin 512) = t
    have hT : T.val = 512 + t.val := by rw [hy1, ← ht]
    refine (q1 _ _ _ _ t o).trans ?_
    unfold B11
    refine congrArg₂ (· + ·) (congrArg₂ (· + ·) (lx0 x0 512 _ t T hT o) ((l16 P _ _ _ 512 _ t T hT o).trans (hP' T o)))
      (Finset.sum_congr rfl fun c _ => congrArg₂ (· * ·) ?_ (lw11 x9 hV' 0 _ _ c (Nat.zero_add _).symm o))
    refine (q44 _ _ _ _ _ _ _ _ _ _ _ _ _ t c).trans ?_
    unfold yc
    refine congrArg₂ (· * ·) (Finset.sum_congr rfl fun n _ => congrArg₂ (· * ·) (congrArg (fun z => sl (ln z _ _ n)) (funext fun j => ?_)) rfl) (lu2 x1 512 _ t T hT c)
    unfold cb
    have e : ∀ k, 2 + k + T.val = 2 + k + 512 + t.val := fun k => by omega
    simp (disch := omega) only [e, cv, q28, q29, q30, q31, q32, q33, q34, q35, q36, q37, q38, q39, q40, q41, q42, l14 _ 0 hC', l14 _ 32 hD', l15 _ hA', lw6 x4 hW']
  · have x0_lt : (x 0).val < 1 := (x 0).isLt
    have x1_lt : (x 1).val < 512 := (x 1).isLt
    have hy1 : (y 1).val = 0 + (x 1).val := by omega
    have hy2 : (y 2).val = (x 2).val := by omega
    refine Eq.trans (congrArg _ (show x = Idealize.ShloMosaic.ix3 0 (⟨(x 1).val, x1_lt⟩ : Fin 512) (y 2) from ?_)) ?_
    · funext a
      match a with
      | ⟨0, _⟩ => exact Fin.ext (by show (x 0).val = 0; omega)
      | ⟨1, _⟩ => rfl
      | ⟨2, _⟩ => exact Fin.ext hy2.symm
    generalize y 2 = o at *
    generalize y 1 = T at *
    generalize ht : (⟨(x 1).val, x1_lt⟩ : Fin 512) = t
    have hT : T.val = 0 + t.val := by rw [hy1, ← ht]
    refine (q27 _ _ _ _ _ _ t o).trans ?_
    unfold B11
    refine congrArg₂ (· + ·) (congrArg₂ (· + ·) (lx0 x0 0 _ t T hT o) ((l16 P _ _ _ 0 _ t T hT o).trans (hP' T o)))
      (Finset.sum_congr rfl fun c _ => congrArg₂ (· * ·) ?_ (lw11 x9 hV' 0 _ _ c (Nat.zero_add _).symm o))
    simp only [q26]
    unfold yc
    refine congrArg₂ (· * ·) (Finset.sum_congr rfl fun n _ => congrArg₂ (· * ·) (congrArg (fun z => sl (ln z _ _ n)) (funext fun j => ?_)) rfl) (lu2 x1 0 _ t T hT c)
    unfold cb
    have e : ∀ k, 2 + k + T.val = 2 + k + 0 + t.val := fun k => by omega
    simp (disch := omega) only [e, cv, q13, q14, q15, q16, q17, q18, q19, q20, q21, q22, q23, q24, q25, l14 _ 0 hC', l14 _ 32 hD', l15 _ hA', lw6 x4 hW']

theorem sc_A (c : Dev nD) (i : grid0.Coords) (arg2 : Memref sig .tc .vmem S1x1024x1024 .f32) (harg2 : arg2.IsWhole) (arg3 : Memref sig .tc .vmem S1x1024x512 .f32) (harg3 : arg3.IsWhole) (arg4 : Memref sig .tc .vmem S1x1024x256 .bf16) (harg4 : arg4.IsWhole) (arg5 : Memref sig .tc .vmem S1x512x1024 .bf16) (harg5 : arg5.IsWhole) (arg6 : Memref sig .tc .vmem S1x31x256 .f32) (harg6 : arg6.IsWhole) (arg7 : Memref sig .tc .vmem S1x1x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S1x256x256 .bf16) (harg10 : arg10.IsWhole) (arg11 : Memref sig .tc .vmem S1x512x1024 .bf16) (harg11 : arg11.IsWhole) (arg12 : Memref sig .tc .vmem S1x512x1024 .bf16) (harg12 : arg12.IsWhole) (arg13 : Memref sig .tc .vmem S1x1024x1024 .f32) (harg13 : arg13.IsWhole) (arg14 : Memref sig .tc .vmem S1056x256 .f32) (harg14 : arg14.IsWhole) (arg15 : Memref sig .tc .vmem S7x1048x256 .f32) (harg15 : arg15.IsWhole) (arg16 : Memref sig .tc .vmem S1024x1024 .f32) (harg16 : arg16.IsWhole) (hc0 : cond0_0 i)
    (x0 : Vec Ideal S1x1024x1024 .f32) (x1 : Vec Ideal S1x1024x512 .f32) (x2 : Vec Ideal S1x1024x256 .bf16) (x3 : Vec Ideal S1x512x1024 .bf16) (x4 : Vec Ideal S1x31x256 .f32) (x5 : Vec Ideal S1x1x256 .f32) (x6 : Vec Ideal S1x1x256 .f32) (x7 : Vec Ideal S1x1x256 .f32) (x8 : Vec Ideal S1x256x256 .bf16) (x9 : Vec Ideal S1x512x1024 .bf16) (x10 : Vec Ideal S1x512x1024 .bf16) (r : Fin 1056) (hr : r.val < 32) (n : Fin 256) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 (Idealize.ShloMosaic.ix2 r n) = ub x1 (fun _ _ => 0) (1024 + r.val) n := by
  frame_out
  simp only [cov14, cov15, cov16]
  rw [← View.read_writes_junk_apply_eq_canon arg14.view]
  refine (View.read_writes_cons_rows_of_mem _ _ _ _ _ (Idealize.ShloMosaic.ix2 r n) (Idealize.ShloMosaic.ix2 (⟨r.val, hr⟩ : Fin 32) n) rfl (by show r.val = 0 + r.val; omega) rfl).trans ?_
  rw [q2]
  exact l14 _ 0 (fun r n h => st14 x1 _ _ _ _ _ (fun _ _ => 0) 0 (fun r n _ h => z14 _ _ _ r n h) r n h) 1024 32 (Nat.zero_le _) _ ⟨r.val, hr⟩ n

end Outproj
-- ==== Proof.OutHost.lean ====
/- The arrays and the blocks that the out-projection kernel reads, at an index, from the program's arguments; and its result's
   array after the launch. The second block of a batch row reads the thirty rows before it from those that the first carried over. -/
module

public import proofs.«01_k».proof.Proof.OutPoint
public import proofs.«01_k».proof.Proof.HostVal
public import Idealize.ShloMosaic.Lib.Pipeline.ValueKit.Geometry

@[expose] public section

set_option maxRecDepth 16384

noncomputable section

namespace Outproj

open Cert.Kernel3Ideal Cert.Kernel3Ideal.Gen
open Idealize.ShloMosaic Idealize.ShloMosaic.TcCoe Idealize.ShloMosaic.StableHlo
open Idealize.ShloMosaic.Pipeline (Dat Cfg Window)
open Inproj (sl)

/-- The convolution's input with thirty rows of zero before it. -/
def GU (U : FVec Ideal S16x2048x512 .f32) (b : Fin 16) (s : ℕ) (n : Fin 256) : EReal :=
  if h : 30 ≤ s ∧ s < 2078 then U (Idealize.ShloMosaic.ix3 b ⟨s - 30, by omega⟩ ⟨n.val, by omega⟩) else 0

def WK (C : FVec Ideal S2x31x256 .f32) (k : ℕ) (n : Fin 256) : EReal := if h : k < 31 then C (Idealize.ShloMosaic.ix3 0 ⟨k, h⟩ n) else 0

def CB (U : FVec Ideal S16x2048x512 .f32) (C : FVec Ideal S2x31x256 .f32) (B : FVec Ideal S2x256 .f32) (b : Fin 16) (t : Fin 2048) (j : Fin 256) : EReal :=
  cv (fun k => WK C k j) (fun k => GU U b (k + t.val) j) (B (Idealize.ShloMosaic.ix2 0 j)) 31

def YC (U : FVec Ideal S16x2048x512 .f32) (C : FVec Ideal S2x31x256 .f32) (B G H : FVec Ideal S2x256 .f32) (P : FVec Ideal S2x256x256 .f32)
    (b : Fin 16) (t : Fin 2048) (c : Fin 256) : EReal :=
  (∑ n : Fin 256, sl (ln (CB U C B b t) (fun j => G (Idealize.ShloMosaic.ix2 0 j)) (fun j => H (Idealize.ShloMosaic.ix2 0 j)) n) * (P (Idealize.ShloMosaic.ix3 0 n c) : EReal))
    * (U (Idealize.ShloMosaic.ix3 b t ⟨256 + c.val, by omega⟩) : EReal)

/-- The result at an index. -/
def OUT (X : FVec Ideal S16x2048x1024 .f32) (U : FVec Ideal S16x2048x512 .f32) (S : FVec Ideal S16x2048x256 .f32) (T : FVec Ideal S16x2048x512 .f32)
    (C : FVec Ideal S2x31x256 .f32) (B G H : FVec Ideal S2x256 .f32) (P : FVec Ideal S2x256x256 .f32) (O : FVec Ideal S2x1024x1024 .f32)
    (b : Fin 16) (t : Fin 2048) (o : Fin 1024) : EReal :=
  ((X (Idealize.ShloMosaic.ix3 b t o) : EReal) + ((∑ d : Fin 512, (T (Idealize.ShloMosaic.ix3 b t d) : EReal) * O (Idealize.ShloMosaic.ix3 0 ⟨512 + d.val, by omega⟩ o) : EReal)
      + ∑ c : Fin 256, (S (Idealize.ShloMosaic.ix3 b t c) : EReal) * O (Idealize.ShloMosaic.ix3 0 ⟨256 + c.val, by omega⟩ o)) : EReal)
    + ∑ c : Fin 256, YC U C B G H P b t c * (O (Idealize.ShloMosaic.ix3 0 ⟨c.val, by omega⟩ o) : EReal)

variable (m : (ℓ : Loc nD τ sig) → Buf (Elt Ideal) ℓ) (c : Dev nD)

abbrev aX : FVec Ideal S16x2048x1024 .f32 := m (c, Proc.tc.devRef main_arg0)
abbrev aU : FVec Ideal S16x2048x512 .f32 := m (c, Proc.tc.devRef main_arg1)
abbrev aS : FVec Ideal S16x2048x256 .f32 := m (c, Proc.tc.devRef main_arg2)
abbrev aT : FVec Ideal S16x2048x512 .f32 := m (c, Proc.tc.devRef main_arg3)
abbrev aC : FVec Ideal S2x31x256 .f32 := m (c, Proc.tc.devRef main_arg4)
abbrev aB : FVec Ideal S2x256 .f32 := m (c, Proc.tc.devRef main_arg5)
abbrev aG : FVec Ideal S2x256 .f32 := m (c, Proc.tc.devRef main_arg6)
abbrev aH : FVec Ideal S2x256 .f32 := m (c, Proc.tc.devRef main_arg7)
abbrev aP : FVec Ideal S2x256x256 .f32 := m (c, Proc.tc.devRef main_arg8)
abbrev aO : FVec Ideal S2x1024x1024 .f32 := m (c, Proc.tc.devRef main_arg9)

def tm (t : Fin grid0.N) (y : Fin 1024) : Fin 2048 :=
  ⟨1024 * (grid0.coords t 1).val + y.val, by have := (grid0.coords t 1).isLt; change _ < 2 at this; omega⟩

def bt (t : Fin grid0.N) : Fin 16 := grid0.coords t 0

theorem co0 : ∀ t : Fin grid0.N, (grid0.coords t 0).val = t.val / 2 := by decide +kernel
theorem co1 : ∀ t : Fin grid0.N, (grid0.coords t 1).val = t.val % 2 := by decide +kernel

theorem V_x (b : Fin 16) (t : Fin 2048) (n : Fin 1024) : (V m c main_arg0 : FVec Ideal S16x2048x1024 .f32) (Idealize.ShloMosaic.ix3 b t n) = aX m c (Idealize.ShloMosaic.ix3 b t n) := by
  simp only [V, hostOps0, List.flatten_cons, List.flatten_nil, List.append_nil]
  after_results_simp
  try pointwise []

theorem V_u (b : Fin 16) (t : Fin 2048) (n : Fin 512) : (V m c main_arg1 : FVec Ideal S16x2048x512 .f32) (Idealize.ShloMosaic.ix3 b t n) = aU m c (Idealize.ShloMosaic.ix3 b t n) := by
  simp only [V, hostOps0, List.flatten_cons, List.flatten_nil, List.append_nil]
  after_results_simp
  try pointwise []

theorem V_s (b : Fin 16) (t : Fin 2048) (n : Fin 256) : (V m c main_v6 : FVec Ideal S16x2048x256 .bf16) (Idealize.ShloMosaic.ix3 b t n) = aS m c (Idealize.ShloMosaic.ix3 b t n) := by
  simp only [V, hostOps0, List.flatten_cons, List.flatten_nil, List.append_nil]
  after_results_simp
  try pointwise []

theorem V_t (b : Fin 16) (d : Fin 512) (t : Fin 2048) : (V m c main_v5 : FVec Ideal S16x512x2048 .bf16) (Idealize.ShloMosaic.ix3 b d t) = aT m c (Idealize.ShloMosaic.ix3 b t d) := by
  simp only [V, hostOps0, List.flatten_cons, List.flatten_nil, List.append_nil]
  after_results_simp
  try pointwise []

theorem V_c (r : Fin 31) (n : Fin 256) : (V m c main_arg4 : FVec Ideal S2x31x256 .f32) (Idealize.ShloMosaic.ix3 0 r n) = aC m c (Idealize.ShloMosaic.ix3 0 r n) := by
  simp only [V, hostOps0, List.flatten_cons, List.flatten_nil, List.append_nil]
  after_results_simp
  try pointwise []

theorem V_b (n : Fin 256) : (V m c main_v0 : FVec Ideal S2x1x256 .f32) (Idealize.ShloMosaic.ix3 0 0 n) = aB m c (Idealize.ShloMosaic.ix2 0 n) := by
  simp only [V, hostOps0, List.flatten_cons, List.flatten_nil, List.append_nil]
  after_results_simp
  try pointwise []

theorem V_g (n : Fin 256) : (V m c main_v1 : FVec Ideal S2x1x256 .f32) (Idealize.ShloMosaic.ix3 0 0 n) = aG m c (Idealize.ShloMosaic.ix2 0 n) := by
  simp only [V, hostOps0, List.flatten_cons, List.flatten_nil, List.append_nil]
  after_results_simp
  try pointwise []

theorem V_h (n : Fin 256) : (V m c main_v2 : FVec Ideal S2x1x256 .f32) (Idealize.ShloMosaic.ix3 0 0 n) = aH m c (Idealize.ShloMosaic.ix2 0 n) := by
  simp only [V, hostOps0, List.flatten_cons, List.flatten_nil, List.append_nil]
  after_results_simp
  try pointwise []

theorem V_p (n k : Fin 256) : (V m c main_v3 : FVec Ideal S2x256x256 .bf16) (Idealize.ShloMosaic.ix3 0 n k) = aP m c (Idealize.ShloMosaic.ix3 0 n k) := by
  simp only [V, hostOps0, List.flatten_cons, List.flatten_nil, List.append_nil]
  after_results_simp
  try pointwise []

theorem V_o (n k : Fin 1024) : (V m c main_v7 : FVec Ideal S2x1024x1024 .bf16) (Idealize.ShloMosaic.ix3 0 n k) = aO m c (Idealize.ShloMosaic.ix3 0 n k) := by
  simp only [V, hostOps0, List.flatten_cons, List.flatten_nil, List.append_nil]
  after_results_simp
  try pointwise []

theorem jx0 : ∀ t : Fin grid0.N, win0_0.index t = ![(grid0.coords t 0).val, (grid0.coords t 1).val, 0] := by decide +kernel

theorem blk0 (t : Fin cfg0.N) (y n : Fin 1024) :
    (iblk m c 0 t : FVec Ideal S1x1024x1024 .f32) (Idealize.ShloMosaic.ix3 0 y n) = aX m c (Idealize.ShloMosaic.ix3 (bt t) (tm t y) n) := by
  blk_simp [iblk]
  refine Eq.trans (congrArg (V m c main_arg0 : FVec Ideal S16x2048x1024 .f32) ?_) (V_x m c (bt t) (tm t y) n)
  funext a
  apply Fin.ext
  match a with
  | ⟨0, _⟩ => blk_simp [jx0]; try (first | rfl | (unfold bt; rfl))
  | ⟨1, _⟩ => blk_simp [jx0]; show (grid0.coords t 1).val * 1024 + y.val = 1024 * (grid0.coords t 1).val + y.val; omega
  | ⟨2, _⟩ => blk_simp [jx0]; try (first | rfl | simp)

theorem jx1 : ∀ t : Fin grid0.N, win0_1.index t = ![(grid0.coords t 0).val, (grid0.coords t 1).val, 0] := by decide +kernel

theorem blk1 (t : Fin cfg0.N) (y : Fin 1024) (n : Fin 512) :
    (iblk m c 1 t : FVec Ideal S1x1024x512 .f32) (Idealize.ShloMosaic.ix3 0 y n) = aU m c (Idealize.ShloMosaic.ix3 (bt t) (tm t y) n) := by
  blk_simp [iblk]
  refine Eq.trans (congrArg (V m c main_arg1 : FVec Ideal S16x2048x512 .f32) ?_) (V_u m c (bt t) (tm t y) n)
  funext a
  apply Fin.ext
  match a with
  | ⟨0, _⟩ => blk_simp [jx1]; try (first | rfl | (unfold bt; rfl))
  | ⟨1, _⟩ => blk_simp [jx1]; show (grid0.coords t 1).val * 1024 + y.val = 1024 * (grid0.coords t 1).val + y.val; omega
  | ⟨2, _⟩ => blk_simp [jx1]; try (first | rfl | simp)

theorem jx2 : ∀ t : Fin grid0.N, win0_2.index t = ![(grid0.coords t 0).val, (grid0.coords t 1).val, 0] := by decide +kernel

theorem blk2 (t : Fin cfg0.N) (y : Fin 1024) (n : Fin 256) :
    (iblk m c 2 t : FVec Ideal S1x1024x256 .bf16) (Idealize.ShloMosaic.ix3 0 y n) = aS m c (Idealize.ShloMosaic.ix3 (bt t) (tm t y) n) := by
  blk_simp [iblk]
  refine Eq.trans (congrArg (V m c main_v6 : FVec Ideal S16x2048x256 .bf16) ?_) (V_s m c (bt t) (tm t y) n)
  funext a
  apply Fin.ext
  match a with
  | ⟨0, _⟩ => blk_simp [jx2]; try (first | rfl | (unfold bt; rfl))
  | ⟨1, _⟩ => blk_simp [jx2]; show (grid0.coords t 1).val * 1024 + y.val = 1024 * (grid0.coords t 1).val + y.val; omega
  | ⟨2, _⟩ => blk_simp [jx2]; try (first | rfl | simp)

theorem jx3 : ∀ t : Fin grid0.N, win0_3.index t = ![(grid0.coords t 0).val, 0, (grid0.coords t 1).val] := by decide +kernel

theorem blk3 (t : Fin cfg0.N) (d : Fin 512) (y : Fin 1024) :
    (iblk m c 3 t : FVec Ideal S1x512x1024 .bf16) (Idealize.ShloMosaic.ix3 0 d y) = aT m c (Idealize.ShloMosaic.ix3 (bt t) (tm t y) d) := by
  blk_simp [iblk]
  refine Eq.trans (congrArg (V m c main_v5 : FVec Ideal S16x512x2048 .bf16) ?_) (V_t m c (bt t) d (tm t y))
  funext a
  apply Fin.ext
  match a with
  | ⟨0, _⟩ => blk_simp [jx3]; try (first | rfl | (unfold bt; rfl))
  | ⟨1, _⟩ => blk_simp [jx3]; try (first | rfl | simp)
  | ⟨2, _⟩ => blk_simp [jx3]; show (grid0.coords t 1).val * 1024 + y.val = 1024 * (grid0.coords t 1).val + y.val; omega

theorem jx4 : ∀ t : Fin grid0.N, win0_4.index t = ![0, 0, 0] := by decide +kernel

theorem blk4 (t : Fin cfg0.N) (r : Fin 31) (n : Fin 256) :
    (iblk m c 4 t : FVec Ideal S1x31x256 .f32) (Idealize.ShloMosaic.ix3 0 r n) = aC m c (Idealize.ShloMosaic.ix3 0 r n) := by
  blk_simp [iblk]
  refine Eq.trans (congrArg (V m c main_arg4 : FVec Ideal S2x31x256 .f32) ?_) (V_c m c r n)
  funext a
  apply Fin.ext
  match a with
  | ⟨0, _⟩ => blk_simp [jx4]; try (first | rfl | simp)
  | ⟨1, _⟩ => blk_simp [jx4]; try (first | rfl | simp)
  | ⟨2, _⟩ => blk_simp [jx4]; try (first | rfl | simp)

theorem jx5 : ∀ t : Fin grid0.N, win0_5.index t = ![0, 0, 0] := by decide +kernel

theorem blk5 (t : Fin cfg0.N) (n : Fin 256) :
    (iblk m c 5 t : FVec Ideal S1x1x256 .f32) (Idealize.ShloMosaic.ix3 0 0 n) = aB m c (Idealize.ShloMosaic.ix2 0 n) := by
  blk_simp [iblk]
  refine Eq.trans (congrArg (V m c main_v0 : FVec Ideal S2x1x256 .f32) ?_) (V_b m c n)
  funext a
  apply Fin.ext
  match a with
  | ⟨0, _⟩ => blk_simp [jx5]; try (first | rfl | simp)
  | ⟨1, _⟩ => blk_simp [jx5]; try (first | rfl | simp)
  | ⟨2, _⟩ => blk_simp [jx5]; try (first | rfl | simp)

theorem jx6 : ∀ t : Fin grid0.N, win0_6.index t = ![0, 0, 0] := by decide +kernel

theorem blk6 (t : Fin cfg0.N) (n : Fin 256) :
    (iblk m c 6 t : FVec Ideal S1x1x256 .f32) (Idealize.ShloMosaic.ix3 0 0 n) = aG m c (Idealize.ShloMosaic.ix2 0 n) := by
  blk_simp [iblk]
  refine Eq.trans (congrArg (V m c main_v1 : FVec Ideal S2x1x256 .f32) ?_) (V_g m c n)
  funext a
  apply Fin.ext
  match a with
  | ⟨0, _⟩ => blk_simp [jx6]; try (first | rfl | simp)
  | ⟨1, _⟩ => blk_simp [jx6]; try (first | rfl | simp)
  | ⟨2, _⟩ => blk_simp [jx6]; try (first | rfl | simp)

theorem jx7 : ∀ t : Fin grid0.N, win0_7.index t = ![0, 0, 0] := by decide +kernel

theorem blk7 (t : Fin cfg0.N) (n : Fin 256) :
    (iblk m c 7 t : FVec Ideal S1x1x256 .f32) (Idealize.ShloMosaic.ix3 0 0 n) = aH m c (Idealize.ShloMosaic.ix2 0 n) := by
  blk_simp [iblk]
  refine Eq.trans (congrArg (V m c main_v2 : FVec Ideal S2x1x256 .f32) ?_) (V_h m c n)
  funext a
  apply Fin.ext
  match a with
  | ⟨0, _⟩ => blk_simp [jx7]; try (first | rfl | simp)
  | ⟨1, _⟩ => blk_simp [jx7]; try (first | rfl | simp)
  | ⟨2, _⟩ => blk_simp [jx7]; try (first | rfl | simp)

theorem jx8 : ∀ t : Fin grid0.N, win0_8.index t = ![0, 0, 0] := by decide +kernel

theorem blk8 (t : Fin cfg0.N) (n k : Fin 256) :
    (iblk m c 8 t : FVec Ideal S1x256x256 .bf16) (Idealize.ShloMosaic.ix3 0 n k) = aP m c (Idealize.ShloMosaic.ix3 0 n k) := by
  blk_simp [iblk]
  refine Eq.trans (congrArg (V m c main_v3 : FVec Ideal S2x256x256 .bf16) ?_) (V_p m c n k)
  funext a
  apply Fin.ext
  match a with
  | ⟨0, _⟩ => blk_simp [jx8]; try (first | rfl | simp)
  | ⟨1, _⟩ => blk_simp [jx8]; try (first | rfl | simp)
  | ⟨2, _⟩ => blk_simp [jx8]; try (first | rfl | simp)

theorem jx9 : ∀ t : Fin grid0.N, win0_9.index t = ![0, 0, 0] := by decide +kernel

theorem blk9 (t : Fin cfg0.N) (n : Fin 512) (k : Fin 1024) :
    (iblk m c 9 t : FVec Ideal S1x512x1024 .bf16) (Idealize.ShloMosaic.ix3 0 n k) = aO m c (Idealize.ShloMosaic.ix3 0 ⟨n.val, by omega⟩ k) := by
  blk_simp [iblk]
  refine Eq.trans (congrArg (V m c main_v7 : FVec Ideal S2x1024x1024 .bf16) ?_) (V_o m c ⟨n.val, by omega⟩ k)
  funext a
  apply Fin.ext
  match a with
  | ⟨0, _⟩ => blk_simp [jx9]; try (first | rfl | simp)
  | ⟨1, _⟩ => blk_simp [jx9]; try (first | rfl | simp)
  | ⟨2, _⟩ => blk_simp [jx9]; try (first | rfl | simp)

theorem jx10 : ∀ t : Fin grid0.N, win0_10.index t = ![0, 1, 0] := by decide +kernel

theorem blk10 (t : Fin cfg0.N) (n : Fin 512) (k : Fin 1024) :
    (iblk m c 10 t : FVec Ideal S1x512x1024 .bf16) (Idealize.ShloMosaic.ix3 0 n k) = aO m c (Idealize.ShloMosaic.ix3 0 ⟨512 + n.val, by omega⟩ k) := by
  blk_simp [iblk]
  refine Eq.trans (congrArg (V m c main_v7 : FVec Ideal S2x1024x1024 .bf16) ?_) (V_o m c ⟨512 + n.val, by omega⟩ k)
  funext a
  apply Fin.ext
  match a with
  | ⟨0, _⟩ => blk_simp [jx10]; try (first | rfl | simp)
  | ⟨1, _⟩ => blk_simp [jx10]; try (first | rfl | simp)
  | ⟨2, _⟩ => blk_simp [jx10]; try (first | rfl | simp)

/-! ## The buffer's rows -/

theorem wk_blk (t : Fin cfg0.N) (k : ℕ) (n : Fin 256) : wk (iblk m c 4 t) k n = WK (aC m c) k n := by
  unfold wk WK
  by_cases h : k < 31
  · rw [dif_pos h, dif_pos h]
    exact blk4 m c t _ n
  · rw [dif_neg h, dif_neg h]

theorem ub_hi (t : Fin cfg0.N) (xs : ℕ → Fin 256 → EReal) (r : ℕ) (n : Fin 256) (h : 32 ≤ r) (h' : r < 1056) (s : ℕ) (hs : s = 1024 * (grid0.coords t 1).val + r - 2) :
    ub (iblk m c 1 t) xs r n = GU (aU m c) (bt t) s n := by
  have hl := (grid0.coords t 1).isLt
  change _ < 2 at hl
  unfold ub GU
  rw [dif_pos ⟨h, h'⟩, dif_pos ⟨by omega, by omega⟩]
  refine (blk1 m c t _ _).trans (congrArg (fun i => aU m c (Idealize.ShloMosaic.ix3 (bt t) i ⟨n.val, by omega⟩)) (Fin.ext ?_))
  show 1024 * (grid0.coords t 1).val + (r - 32) = s - 30
  omega

theorem ub_A (t : Fin cfg0.N) (h0 : t.val % 2 = 0) (r : ℕ) (n : Fin 256) (h2 : 2 ≤ r) (h' : r < 1056) (s : ℕ) (hs : s = 1024 * (grid0.coords t 1).val + r - 2) :
    ub (iblk m c 1 t) (fun _ _ => 0) r n = GU (aU m c) (bt t) s n := by
  by_cases h : 32 ≤ r
  · exact ub_hi m c t _ r n h h' s hs
  · have := co1 t
    unfold ub GU
    rw [dif_neg (by omega), dif_neg (by omega)]

theorem ub_B (t t' : Fin cfg0.N) (h0 : ¬t.val % 2 = 0) (ht : t'.val = t.val - 1) (xs : ℕ → Fin 256 → EReal)
    (hx : ∀ (r : ℕ) (n : Fin 256), r < 32 → xs r n = ub (iblk m c 1 t') (fun _ _ => 0) (1024 + r) n)
    (r : ℕ) (n : Fin 256) (h2 : 2 ≤ r) (h' : r < 1056) (s : ℕ) (hs : s = 1024 * (grid0.coords t 1).val + r - 2) :
    ub (iblk m c 1 t) xs r n = GU (aU m c) (bt t) s n := by
  by_cases h : 32 ≤ r
  · exact ub_hi m c t _ r n h h' s hs
  · have c1 := co1 t
    have c1' := co1 t'
    have eb : bt t' = bt t := Fin.ext (by
      show (grid0.coords t' 0).val = (grid0.coords t 0).val
      rw [co0, co0]
      omega)
    have e : ub (iblk m c 1 t) xs r n = xs r n := by
      unfold ub
      rw [dif_neg (by omega)]
    rw [e, hx r n (by omega), ← eb]
    exact ub_hi m c t' _ _ n (by omega) (by omega) s (by omega)

theorem cv_congr {w w' g g' : ℕ → EReal} {b b' : EReal} (hb : b = b') {k : ℕ} (hw : ∀ i < k, w i = w' i) (hg : ∀ i < k, g i = g' i) : cv w g b k = cv w' g' b' k := by
  rw [cv_eq, cv_eq, hb]
  exact congrArg _ (Finset.sum_congr rfl fun i hi => by rw [hw i (Finset.mem_range.mp hi), hg i (Finset.mem_range.mp hi)])

abbrev OU (b : Fin 16) (t : Fin 2048) (o : Fin 1024) : EReal :=
  OUT (aX m c) (aU m c) (aS m c) (aT m c) (aC m c) (aB m c) (aG m c) (aH m c) (aP m c) (aO m c) b t o

theorem out_blk (t : Fin cfg0.N) (xs : ℕ → Fin 256 → EReal)
    (hu : ∀ (r : ℕ) (n : Fin 256) (h2 : 2 ≤ r) (h' : r < 1056) (s : ℕ) (hs : s = 1024 * (grid0.coords t 1).val + r - 2), ub (iblk m c 1 t) xs r n = GU (aU m c) (bt t) s n)
    (y o : Fin 1024) :
    B11 (iblk m c 0 t) (iblk m c 1 t) (iblk m c 2 t) (iblk m c 3 t) (iblk m c 4 t) (iblk m c 5 t) (iblk m c 6 t) (iblk m c 7 t) (iblk m c 8 t) (iblk m c 9 t) (iblk m c 10 t) xs y o
      = OU m c (bt t) (tm t y) o := by
  have hc : cb (iblk m c 1 t) (iblk m c 4 t) (iblk m c 5 t) xs y.val = CB (aU m c) (aC m c) (aB m c) (bt t) (tm t y) := funext fun j =>
    cv_congr (blk5 m c t j) (fun k hk => wk_blk m c t k j) (fun k hk => hu _ j (by omega) (by omega) _ (by
      show k + (1024 * (grid0.coords t 1).val + y.val) = 1024 * (grid0.coords t 1).val + (2 + k + y.val) - 2
      omega))
  unfold B11 OU OUT
  refine congrArg₂ (· + ·) (congrArg₂ (· + ·) (blk0 m c t y o) (congrArg₂ (· + ·)
    (Finset.sum_congr rfl fun d _ => congrArg₂ (· * ·) (blk3 m c t d y) (blk10 m c t d o))
    (Finset.sum_congr rfl fun k _ => congrArg₂ (· * ·) (blk2 m c t y k) (blk9 m c t ⟨256 + k.val, by omega⟩ o))))
    (Finset.sum_congr rfl fun k _ => congrArg₂ (· * ·) ?_ (blk9 m c t ⟨k.val, by omega⟩ o))
  unfold yc YC
  rw [hc]
  refine congrArg₂ (· * ·) (Finset.sum_congr rfl fun n _ => congrArg₂ (· * ·) (congrArg sl ?_) (blk8 m c t n k)) (blk1 m c t y _)
  exact congrArg₂ (fun g h => ln (CB (aU m c) (aC m c) (aB m c) (bt t) (tm t y)) g h n) (funext fun j => blk6 m c t j) (funext fun j => blk7 m c t j)

theorem carried (t' : Fin cfg0.N) (h0 : t'.val % 2 = 0) (r : ℕ) (n : Fin 256) (hr : r < 32) :
    cs ((outsAt0 m c t'.val t'.isLt).2 : FVec Ideal S1056x256 .f32) r n = ub (iblk m c 1 t') (fun _ _ => 0) (1024 + r) n := by
  unfold cs
  rw [dif_pos (by omega), outsAt0_A m c t' h0]
  dsimp only
  exact sc_A _ _ _ _ _ _ _ _ _ _ _ _ _ _ _ _ _ _ _ _ _ _ _ _ _ _ _ _ _ _ _ _ _ _ _ _ _ _ _ _ _ _ _ _ ⟨r, by omega⟩ hr n

theorem aft11 (t : Fin cfg0.N) (y : S1x1024x1024.Idx) :
    ((dats m 0 c).after 11 t : FVec Ideal S1x1024x1024 .f32) y = OU m c (bt t) (tm t (y 1)) (y 2) := by
  rw [after0_11]
  by_cases h0 : t.val % 2 = 0
  · rw [outsAt0_A m c t h0]
    dsimp only
    rw [out11_A]
    exact out_blk m c t _ (ub_A m c t h0) _ _
  · rw [outsAt0_B m c t h0]
    dsimp only
    rw [out11_B]
    exact out_blk m c t _ (ub_B m c t ⟨t.val - 1, Nat.lt_of_le_of_lt (Nat.sub_le _ _) t.isLt⟩ h0 rfl _
      (carried m c ⟨t.val - 1, Nat.lt_of_le_of_lt (Nat.sub_le _ _) t.isLt⟩ (by show (t.val - 1) % 2 = 0; omega))) _ _

theorem jx11 : ∀ t : Fin grid0.N, win0_11.index t = ![(grid0.coords t 0).val, (grid0.coords t 1).val, 0] := by decide +kernel

def W11 : S16x2048x1024.Idx → Elt Ideal .f32 := fun i => OU m c (i 0) (i 1) (i 2)

theorem fin11 : (dats m 0 c).arrAt 11 cfg0.N = W11 m c := by
  refine (dats m 0 c).arrAt_eq_of_covers 11 _ (by decide +kernel) fun t hf y => ?_
  blk_simp
  have h0 : (y 0).val < 1 := (y 0).isLt
  have e : (win0_11.blk t).view.emb y = Idealize.ShloMosaic.ix3 (n0 := 16) (n1 := 2048) (n2 := 1024) (bt t) (tm t (y 1)) (y 2) := by
    funext a
    apply Fin.ext
    match a with
    | ⟨0, _⟩ => blk_simp [jx11]; try (unfold bt; rfl)
    | ⟨1, _⟩ => blk_simp [jx11]; show (grid0.coords t 1).val * 1024 + (y 1).val = 1024 * (grid0.coords t 1).val + (y 1).val; omega
    | ⟨2, _⟩ => blk_simp [jx11]; try rfl
  rw [e]
  exact aft11 m c t y

end Outproj
-- ==== Proof.OutRef.lean ====
/- The out-projection reference's result, stage by stage, read at an index. -/
module

public import proofs.«01_k».proof.Proof.OutHost
public import proofs.«01_k».proof.Proof.InClose
public import proofs.«01_k».proof.Proof.Gen.Reference3Ideal.Run

@[expose] public section

set_option maxRecDepth 16384

noncomputable section

namespace Outproj.Ref

open Cert.Reference3Ideal Cert.Reference3Ideal.Gen Cert.Reference3Ideal.Value
open Idealize.ShloMosaic Idealize.ShloMosaic.TcCoe Idealize.ShloMosaic.StableHlo

variable (V : Valuation τ sig (Elt Ideal))

abbrev vX : FVec Ideal S16x2048x1024 .f32 := V (Proc.devRef .tc main_arg0)
abbrev vU : FVec Ideal S16x2048x512 .f32 := V (Proc.devRef .tc main_arg1)
abbrev vS : FVec Ideal S16x2048x256 .f32 := V (Proc.devRef .tc main_arg2)
abbrev vT : FVec Ideal S16x2048x512 .f32 := V (Proc.devRef .tc main_arg3)
abbrev vC : FVec Ideal S2x31x256 .f32 := V (Proc.devRef .tc main_arg4)
abbrev vB : FVec Ideal S2x256 .f32 := V (Proc.devRef .tc main_arg5)
abbrev vG : FVec Ideal S2x256 .f32 := V (Proc.devRef .tc main_arg6)
abbrev vH : FVec Ideal S2x256 .f32 := V (Proc.devRef .tc main_arg7)
abbrev vP : FVec Ideal S2x256x256 .f32 := V (Proc.devRef .tc main_arg8)
abbrev vO : FVec Ideal S2x1024x1024 .f32 := V (Proc.devRef .tc main_arg9)

theorem v2_at (k : Fin 31) (n : Fin 256) : (res_main_v2 V : FVec Ideal S31x256 .f32) (Idealize.ShloMosaic.ix2 k n) = vC V (Idealize.ShloMosaic.ix3 0 k n) := by
  unfold res_main_v2
  pointwise []

theorem v3_at (b : Fin 16) (s : Fin 2078) (n : Fin 256) : (res_main_v3 V : FVec Ideal S16x2078x256 .f32) (Idealize.ShloMosaic.ix3 b s n)
    = GU (vU V) b s.val n := by
  unfold res_main_v3 GU
  pointwise []
  have z : (FloatOps.sitofp FTy.f32 0#32 : Ideal .f32) = (0 : EReal) := by
    show (((0#32 : BitVec 32).toInt : ℝ) : EReal) = 0
    simp
  have hs := s.isLt
  by_cases h : 30 ≤ s.val
  · rw [dif_pos h, dif_pos ⟨h, by omega⟩]
  · rw [dif_neg h, dif_neg fun h' => h h'.1]
    exact z

/-- A sum of taps, one after the other. -/
def ct (w g : ℕ → EReal) : ℕ → EReal
  | 0 => w 0 * g 0
  | k + 1 => ct w g k + w (k + 1) * g (k + 1)

theorem ct_eq (w g : ℕ → EReal) (k : ℕ) : ct w g k = ∑ i ∈ Finset.range (k + 1), w i * g i := by
  induction k with
  | zero => simp [ct]
  | succ k ih => rw [ct, ih, Finset.sum_range_succ _ (k + 1)]

def wr (w : FVec Ideal S31x256 .f32) (n : Fin 256) (k : ℕ) : EReal := if h : k < 31 then w (Idealize.ShloMosaic.ix2 ⟨k, h⟩ n) else 0
def gr (g : FVec Ideal S16x2078x256 .f32) (b : Fin 16) (t : Fin 2048) (n : Fin 256) (k : ℕ) : EReal :=
  if h : k + t.val < 2078 then g (Idealize.ShloMosaic.ix3 b ⟨k + t.val, h⟩ n) else 0

theorem wr_of (w : FVec Ideal S31x256 .f32) (n : Fin 256) (k : ℕ) (h : k < 31) : wr w n k = w (Idealize.ShloMosaic.ix2 ⟨k, h⟩ n) := dif_pos h
theorem gr_of (g : FVec Ideal S16x2078x256 .f32) (b : Fin 16) (t : Fin 2048) (n : Fin 256) (k : ℕ) (h : k < 31) :
    gr g b t n k = g (Idealize.ShloMosaic.ix3 b ⟨k + t.val, by omega⟩ n) := dif_pos _

theorem v86_at (b : Fin 16) (t : Fin 2048) (n : Fin 256) : (res_main_v86 V : FVec Ideal S16x2048x256 .f32) (Idealize.ShloMosaic.ix3 b t n)
    = ct (wr (res_main_v2 V) n) (gr (res_main_v3 V) b t n) 11 := by
  unfold res_main_v86
  generalize (res_main_v2 V : FVec Ideal S31x256 .f32) = w
  generalize (res_main_v3 V : FVec Ideal S16x2078x256 .f32) = g
  pointwise []
  simp (disch := omega) only [ct, wr_of, gr_of, Nat.zero_add]
  rfl

theorem v163_at (b : Fin 16) (t : Fin 2048) (n : Fin 256) : (res_main_v163 V : FVec Ideal S16x2048x256 .f32) (Idealize.ShloMosaic.ix3 b t n)
    = ct (wr (res_main_v2 V) n) (gr (res_main_v3 V) b t n) 22 := by
  refine Eq.trans ?_ (show (((((((((((ct (wr (res_main_v2 V) n) (gr (res_main_v3 V) b t n) 11 + _) + _) + _) + _) + _) + _) + _) + _) + _) + _) + _ : EReal) = _ from rfl)
  rw [← v86_at]
  unfold res_main_v163
  generalize (res_main_v86 V : FVec Ideal S16x2048x256 .f32) = x
  generalize (res_main_v2 V : FVec Ideal S31x256 .f32) = w
  generalize (res_main_v3 V : FVec Ideal S16x2078x256 .f32) = g
  pointwise []
  simp (disch := omega) only [ct, wr_of, gr_of, Nat.zero_add]
  rfl

theorem v224_at (b : Fin 16) (t : Fin 2048) (n : Fin 256) : (res_main_v224 V : FVec Ideal S16x2048x256 .f32) (Idealize.ShloMosaic.ix3 b t n)
    = ct (wr (res_main_v2 V) n) (gr (res_main_v3 V) b t n) 30 + vB V (Idealize.ShloMosaic.ix2 0 n) := by
  refine Eq.trans ?_ (show ((((((((ct (wr (res_main_v2 V) n) (gr (res_main_v3 V) b t n) 22 + _) + _) + _) + _) + _) + _) + _) + _ : EReal) + _ = _ from rfl)
  rw [← v163_at]
  unfold res_main_v224
  generalize (res_main_v163 V : FVec Ideal S16x2048x256 .f32) = x
  generalize (res_main_v2 V : FVec Ideal S31x256 .f32) = w
  generalize (res_main_v3 V : FVec Ideal S16x2078x256 .f32) = g
  pointwise []
  simp (disch := omega) only [ct, wr_of, gr_of, Nat.zero_add]
  rfl

/-- The convolution. -/
theorem conv_at (b : Fin 16) (t : Fin 2048) : (fun n => (res_main_v224 V : FVec Ideal S16x2048x256 .f32) (Idealize.ShloMosaic.ix3 b t n)) = CB (vU V) (vC V) (vB V) b t := by
  funext n
  rw [v224_at, ct_eq]
  unfold CB
  rw [cv_eq, add_comm]
  refine congrArg _ (Finset.sum_congr rfl fun k hk => ?_)
  have hk' : k < 31 := Finset.mem_range.mp hk
  rw [wr_of _ _ _ hk', gr_of _ _ _ _ _ hk', v2_at, v3_at]
  unfold WK
  rw [dif_pos hk']

theorem v234_at (b : Fin 16) (t : Fin 2048) (n : Fin 256) : (res_main_v234 V : FVec Ideal S16x2048x256 .f32) (Idealize.ShloMosaic.ix3 b t n) = xc (CB (vU V) (vC V) (vB V) b t) n := by
  rw [← conv_at]
  unfold res_main_v234 xc
  generalize (res_main_v224 V : FVec Ideal S16x2048x256 .f32) = x
  pointwise []

/-- The layer norm. -/
theorem v250_at (b : Fin 16) (t : Fin 2048) (n : Fin 256) : (res_main_v250 V : FVec Ideal S16x2048x256 .f32) (Idealize.ShloMosaic.ix3 b t n)
    = ln (CB (vU V) (vC V) (vB V) b t) (fun j => vG V (Idealize.ShloMosaic.ix2 0 j)) (fun j => vH V (Idealize.ShloMosaic.ix2 0 j)) n := by
  unfold ln
  simp only [← v234_at]
  unfold res_main_v250 Inproj.inv
  generalize (res_main_v234 V : FVec Ideal S16x2048x256 .f32) = x
  pointwise []

/-- The gated branch. -/
def ycV (l : FVec Ideal S16x2048x256 .f32) (P : FVec Ideal S2x256x256 .f32) (U : FVec Ideal S16x2048x512 .f32) : FVec Ideal S16x2048x256 .f32 :=
  mulf (Host.dotGeneral dot_S16x2048x256_S256x256_S16x2048x256_2_0_01_1_n_n none (mulf l (Host.divf (broadcastInDim S16x2048x256 ![] bcast_S_S16x2048x256 (constant S_ .f32 0x3F800000#32)) (addf (broadcastInDim S16x2048x256 ![] bcast_S_S16x2048x256 (constant S_ .f32 0x3F800000#32)) (Host.exp (Host.negf l))))) (shapeCast _ (extractStridedSlice S1x256x256 ![0, 0, 0] P slices_S2x256x256_S1x256x256_0_0_0) shapeCasts_S1x256x256_S256x256)) (extractStridedSlice S16x2048x256 ![0, 0, 256] U slices_S16x2048x512_S16x2048x256_0_0_256)

theorem ycV_at (l : FVec Ideal S16x2048x256 .f32) (P : FVec Ideal S2x256x256 .f32) (U : FVec Ideal S16x2048x512 .f32) (b : Fin 16) (t : Fin 2048) (c : Fin 256) :
    ycV l P U (Idealize.ShloMosaic.ix3 b t c) = (∑ n : Fin 256, Inproj.Ref.sil (l (Idealize.ShloMosaic.ix3 b t n)) * (P (Idealize.ShloMosaic.ix3 0 n c) : EReal)) * (U (Idealize.ShloMosaic.ix3 b t ⟨256 + c.val, by omega⟩) : EReal) := by
  unfold ycV Inproj.Ref.sil
  pointwise []

/-- The three branches, side by side. -/
def catV (y s : FVec Ideal S16x2048x256 .f32) (a : FVec Ideal S16x2048x512 .f32) : FVec Ideal S16x2048x1024 .f32 :=
  concatenate S16x2048x1024 2 [⟨S16x2048x256, y⟩, ⟨S16x2048x256, s⟩, ⟨S16x2048x512, a⟩] concatenates_S16x2048x256_S16x2048x256_S16x2048x512_S16x2048x1024_d2

theorem catV_at (y s : FVec Ideal S16x2048x256 .f32) (a : FVec Ideal S16x2048x512 .f32) (b : Fin 16) (t : Fin 2048) (n : Fin 1024) :
    catV y s a (Idealize.ShloMosaic.ix3 b t n) = if h : n.val < 256 then y (Idealize.ShloMosaic.ix3 b t ⟨n.val, h⟩)
      else if h' : n.val < 512 then s (Idealize.ShloMosaic.ix3 b t ⟨n.val - 256, by omega⟩) else a (Idealize.ShloMosaic.ix3 b t ⟨n.val - 512, by omega⟩) := by
  unfold catV
  pointwise []
  by_cases h : n.val < 256
  · rw [dif_pos h, dif_pos h]
  · rw [dif_neg h, dif_neg h]
    by_cases h' : n.val < 512
    · rw [dif_pos (show n.val - 256 < 256 by omega), dif_pos h']
    · rw [dif_neg (show ¬n.val - 256 < 256 by omega), dif_neg h']
      exact congrArg (fun i => a (Idealize.ShloMosaic.ix3 b t i)) (Fin.ext (by show n.val - 256 - 256 = n.val - 512; omega))

def outV (X : FVec Ideal S16x2048x1024 .f32) (y : FVec Ideal S16x2048x1024 .f32) (O : FVec Ideal S2x1024x1024 .f32) : FVec Ideal S16x2048x1024 .f32 :=
  addf X (Host.dotGeneral dot_S16x2048x1024_S1024x1024_S16x2048x1024_2_0_01_1_n_n none y (shapeCast _ (extractStridedSlice S1x1024x1024 ![0, 0, 0] O slices_S2x1024x1024_S1x1024x1024_0_0_0) shapeCasts_S1x1024x1024_S1024x1024))

theorem outV_at (X : FVec Ideal S16x2048x1024 .f32) (y : FVec Ideal S16x2048x1024 .f32) (O : FVec Ideal S2x1024x1024 .f32) (b : Fin 16) (t : Fin 2048) (o : Fin 1024) :
    outV X y O (Idealize.ShloMosaic.ix3 b t o) = (X (Idealize.ShloMosaic.ix3 b t o) : EReal) + ∑ n : Fin 1024, (y (Idealize.ShloMosaic.ix3 b t n) : EReal) * O (Idealize.ShloMosaic.ix3 0 n o) := by
  unfold outV
  pointwise []

/-- The result, as the stages give it. -/
def resV : FVec Ideal S16x2048x1024 .f32 :=
  outV (vX V) (catV (ycV (res_main_v250 V) (vP V) (vU V)) (vS V) (vT V)) (vO V)

end Outproj.Ref
-- ==== Proof.OutClose.lean ====
/- The out-projection's result over the extended reals: the kernel's and the reference's are one. -/
module

public import proofs.«01_k».proof.Defs
public import proofs.«01_k».proof.Proof.OutRef

@[expose] public section

set_option maxRecDepth 16384

noncomputable section

namespace Outproj

open Idealize.ShloMosaic Idealize.ShloMosaic.TcCoe Idealize.ShloMosaic.StableHlo
open Inproj (sl)

theorem n256 : Ideal.ofBits .f32 0x43800000#32 = ((256 : ℝ) : EReal) := by simp [Ideal.ofBits, Ideal.ieee, -EReal.coe_mul]; norm_num

theorem inv_real256 (f : Fin 256 → ℝ) :
    ∃ r : ℝ, Inproj.inv (∑ j : Fin 256, (f j : EReal) * (f j : EReal)) (Ideal.ofBits .f32 0x43800000#32) = (r : EReal) := by
  obtain ⟨e, he, ee⟩ := Inproj.eps_pos
  have hs : ∑ j : Fin 256, (f j : EReal) * (f j : EReal) = ((∑ j : Fin 256, f j * f j : ℝ) : EReal) := by
    rw [← Fox.coe_sum]
    exact Finset.sum_congr rfl fun j _ => (EReal.coe_mul _ _).symm
  have h0 : 0 ≤ ∑ j : Fin 256, f j * f j := Finset.sum_nonneg fun j _ => mul_self_nonneg _
  unfold Inproj.inv
  rw [hs, n256, ee, Ideal.div_coe (by norm_num), ← EReal.coe_mul, ← EReal.coe_add, Ideal.rsqrt_coe]
  have hp : 0 < (∑ j : Fin 256, f j * f j) * (1 / 256) + e := by positivity
  rw [if_neg (not_lt.mpr hp.le), if_neg hp.ne']
  exact ⟨_, rfl⟩

/-- The squares' sum is never negative; at infinity its inverse root is zero, and below it every entry is a real, so a
    normalised row is real whatever the row. -/
theorem row_real (x : Fin 256 → EReal) (k : Fin 256) (n : ℝ) :
    ∃ r : ℝ, x k * Inproj.inv (∑ j : Fin 256, x j * x j) (Ideal.ofBits .f32 0x43800000#32) * (n : EReal) = (r : EReal) := by
  by_cases hx : ∀ j, ∃ r : ℝ, x j = (r : EReal)
  · choose f hf using hx
    obtain ⟨s, hs⟩ := inv_real256 f
    refine ⟨f k * s * n, ?_⟩
    simp only [hf]
    rw [hs, EReal.coe_mul, EReal.coe_mul]
  · obtain ⟨j, hj⟩ := not_forall.mp hx
    have sq : ∀ y : EReal, 0 ≤ y * y := fun y => by
      induction y with
      | bot => simp
      | coe r => rw [← EReal.coe_mul]; exact EReal.coe_nonneg.mpr (mul_self_nonneg r)
      | top => simp
    have top : x j * x j = ⊤ := by
      generalize x j = y at hj
      induction y with
      | bot => simp
      | coe r => exact absurd ⟨r, rfl⟩ hj
      | top => simp
    have hs : ∑ j : Fin 256, x j * x j = ⊤ :=
      top_le_iff.mp (top ▸ Finset.single_le_sum (f := fun j => x j * x j) (fun i _ => sq (x i)) (Finset.mem_univ j))
    obtain ⟨e, _, ee⟩ := Inproj.eps_pos
    refine ⟨0, ?_⟩
    have hi : Inproj.inv ⊤ (Ideal.ofBits .f32 0x43800000#32) = 0 := by
      unfold Inproj.inv
      rw [n256, ee, Ideal.div_coe (by norm_num), EReal.top_mul_coe_of_pos (by norm_num), EReal.top_add_coe, Ideal.rsqrt_top]
    rw [hs, hi, mul_zero, zero_mul]
    rfl

theorem ln_real (c g b : Fin 256 → EReal) (hg : ∀ j, ∃ r : ℝ, g j = (r : EReal)) (hb : ∀ j, ∃ r : ℝ, b j = (r : EReal)) (n : Fin 256) :
    ∃ r : ℝ, ln c g b n = (r : EReal) := by
  obtain ⟨x, hx⟩ := hg n
  obtain ⟨y, hy⟩ := hb n
  obtain ⟨z, hz⟩ := row_real (xc c) n x
  refine ⟨z + y, ?_⟩
  unfold ln
  rw [hx, hy, hz, EReal.coe_add]

theorem split (f : Fin 1024 → EReal) : ∑ n : Fin 1024, f n
    = (∑ c : Fin 256, f ⟨c.val, by omega⟩) + ((∑ c : Fin 256, f ⟨256 + c.val, by omega⟩) + ∑ d : Fin 512, f ⟨512 + d.val, by omega⟩) := by
  have h1 : ∑ n : Fin (256 + 768), f n = (∑ c : Fin 256, f ⟨c.val, by omega⟩) + ∑ d : Fin 768, f ⟨256 + d.val, by omega⟩ :=
    Fin.sum_univ_add (a := 256) (b := 768) f
  have h2 : ∑ d : Fin (256 + 512), f ⟨256 + d.val, by omega⟩
      = (∑ c : Fin 256, f ⟨256 + c.val, by omega⟩) + ∑ d : Fin 512, f ⟨256 + (256 + d.val), by omega⟩ :=
    Fin.sum_univ_add (a := 256) (b := 512) fun d : Fin (256 + 512) => f ⟨256 + d.val, by omega⟩
  refine h1.trans (congrArg _ (h2.trans (congrArg _ (Finset.sum_congr rfl fun d _ => congrArg f (Fin.ext ?_)))))
  show 256 + (256 + d.val) = 512 + d.val
  omega

section
open Cert.Reference3Ideal Cert.Reference3Ideal.Gen Cert.Reference3Ideal.Value Ref

variable (V : Valuation τ sig (Elt Ideal))

theorem cat_y (y s : FVec Ideal S16x2048x256 .f32) (a : FVec Ideal S16x2048x512 .f32) (b : Fin 16) (t : Fin 2048) (n : Fin 256) :
    catV y s a (Idealize.ShloMosaic.ix3 b t ⟨n.val, by omega⟩) = y (Idealize.ShloMosaic.ix3 b t n) := by
  rw [catV_at, dif_pos (show n.val < 256 from n.isLt)]

theorem cat_s (y s : FVec Ideal S16x2048x256 .f32) (a : FVec Ideal S16x2048x512 .f32) (b : Fin 16) (t : Fin 2048) (n : Fin 256) :
    catV y s a (Idealize.ShloMosaic.ix3 b t ⟨256 + n.val, by omega⟩) = s (Idealize.ShloMosaic.ix3 b t n) := by
  rw [catV_at, dif_neg (show ¬256 + n.val < 256 by omega), dif_pos (show 256 + n.val < 512 by omega)]
  exact congrArg (fun i => s (Idealize.ShloMosaic.ix3 b t i)) (Fin.ext (by show 256 + n.val - 256 = n.val; omega))

theorem cat_a (y s : FVec Ideal S16x2048x256 .f32) (a : FVec Ideal S16x2048x512 .f32) (b : Fin 16) (t : Fin 2048) (n : Fin 512) :
    catV y s a (Idealize.ShloMosaic.ix3 b t ⟨512 + n.val, by omega⟩) = a (Idealize.ShloMosaic.ix3 b t n) := by
  rw [catV_at, dif_neg (show ¬512 + n.val < 256 by omega), dif_neg (show ¬512 + n.val < 512 by omega)]
  exact congrArg (fun i => a (Idealize.ShloMosaic.ix3 b t i)) (Fin.ext (by show 512 + n.val - 512 = n.val; omega))

theorem yc_at (hG : ∀ i, ∃ r : ℝ, vG V i = (r : EReal)) (hH : ∀ i, ∃ r : ℝ, vH V i = (r : EReal)) (b : Fin 16) (t : Fin 2048) (c : Fin 256) :
    ycV (res_main_v250 V) (vP V) (vU V) (Idealize.ShloMosaic.ix3 b t c)
      = YC (vU V) (vC V) (vB V) (vG V) (vH V) (vP V) b t c := by
  rw [ycV_at]
  unfold YC
  refine congrArg (fun s : EReal => s * (vU V (Idealize.ShloMosaic.ix3 b t ⟨256 + c.val, by omega⟩) : EReal)) (Finset.sum_congr rfl fun n _ => ?_)
  rw [v250_at]
  obtain ⟨r, hr⟩ := ln_real (CB (vU V) (vC V) (vB V) b t) (fun j => vG V (Idealize.ShloMosaic.ix2 0 j)) (fun j => vH V (Idealize.ShloMosaic.ix2 0 j))
    (fun j => hG _) (fun j => hH _) n
  rw [hr, ← Inproj.sl_eq]

theorem res_at (hG : ∀ i, ∃ r : ℝ, vG V i = (r : EReal)) (hH : ∀ i, ∃ r : ℝ, vH V i = (r : EReal)) (b : Fin 16) (t : Fin 2048) (o : Fin 1024) :
    resV V (Idealize.ShloMosaic.ix3 b t o)
      = OUT (vX V) (vU V) (vS V) (vT V) (vC V) (vB V) (vG V) (vH V) (vP V) (vO V) b t o := by
  unfold resV OUT
  rw [outV_at, split]
  simp only [cat_y, cat_s, cat_a, yc_at V hG hH]
  rw [add_assoc]
  refine congrArg _ ?_
  rw [add_comm]
  exact congrArg (fun s : EReal => s + _) (add_comm _ _)

end

theorem pre_facts : Cert.Pre_finite3.Facts := ⟨by decide⟩

theorem gain_real (m : (ℓ : Loc Cert.Kernel3Ideal.nD Cert.Kernel3Ideal.τ Cert.Kernel3Ideal.sig) → Buf (Elt Ideal) ℓ) (c : Dev Cert.Kernel3Ideal.nD)
    (h : Cert.Pre_Kernel3Ideal_finite3 (hPre_finite3 := pre_facts) m) :
    (∀ i, ∃ r : ℝ, aG m c i = (r : EReal)) ∧ ∀ i, ∃ r : ℝ, aH m c i = (r : EReal) :=
  ⟨fun i => Fox.real_of_abs _ (congrFun (h c).1 i), fun i => Fox.real_of_abs _ (congrFun (h c).2 i)⟩

/-- With the same arguments, the kernel's array is the reference's. -/
theorem same (m : (ℓ : Loc Cert.Kernel3Ideal.nD Cert.Kernel3Ideal.τ Cert.Kernel3Ideal.sig) → Buf (Elt Ideal) ℓ) (c : Dev Cert.Kernel3Ideal.nD)
    (h : Cert.Pre_Kernel3Ideal_finite3 (hPre_finite3 := pre_facts) m)
    (V : Valuation Cert.Reference3Ideal.τ Cert.Reference3Ideal.sig (Elt Ideal))
    (e0 : Ref.vX V = aX m c) (e1 : Ref.vU V = aU m c) (e2 : Ref.vS V = aS m c) (e3 : Ref.vT V = aT m c) (e4 : Ref.vC V = aC m c)
    (e5 : Ref.vB V = aB m c) (e6 : Ref.vG V = aG m c) (e7 : Ref.vH V = aH m c) (e8 : Ref.vP V = aP m c) (e9 : Ref.vO V = aO m c) :
    Ref.resV V = W11 m c := by
  obtain ⟨hG, hH⟩ := gain_real m c h
  funext i
  have ei : i = Idealize.ShloMosaic.ix3 (n0 := 16) (n1 := 2048) (n2 := 1024) (i 0) (i 1) (i 2) := by
    funext a
    fin_cases a <;> rfl
  refine (congrArg (Ref.resV V) ei).trans ((res_at V (by rw [e6]; exact hG) (by rw [e7]; exact hH) (i 0) (i 1) (i 2)).trans ?_)
  rw [e0, e1, e2, e3, e4, e5, e6, e7, e8, e9]
  rfl

end Outproj

end
-- ==== Proof.lean ====
/- The claims about the forgetting attention kernel, the in-projection kernel and the out-projection kernel: for each, both frames from one run, the reference's frame from its own run, the
   rule the idealization used, and the equality of the two results over the extended reals. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Frame
public import proofs.«01_k».proof.Proof.Gen.Reference2Ideal
public import proofs.«01_k».proof.Proof.InRefRun
public import proofs.«01_k».proof.Proof.Gen.Kernel3
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Twin
public import proofs.«01_k».proof.Proof.InTwin
public import proofs.«01_k».proof.Proof.InClose
public import proofs.«01_k».proof.Proof.InConvOut
public import proofs.«01_k».proof.Proof.OutTwin
public import proofs.«01_k».proof.Proof.OutClose
public import proofs.«01_k».proof.Proof.Close
public import Idealize.ShloMosaic.Adequacy
public import Idealize.ShloMosaic.Init

@[expose] public section

noncomputable section

namespace Cert.Proof

open Idealize.ShloMosaic Idealize.ShloMosaic.TcCoe Idealize.SL.Sem

/-- The reference declares no semaphore, so its run is its frame. -/
theorem frame_reference : Cert.quiescent_ReferenceIdeal (hReferenceIdeal := Cert.ReferenceIdeal.Gen.facts) := fun m ρ _ =>
  (θ_run Cert.ReferenceIdeal.defs _ _).mono (fun _ h => ⟨fun c => (h c).2, funext fun x => nomatch x.2⟩)
    (Cert.ReferenceIdeal.Value.run (F := Ideal) m ρ)

/-- Over the extended reals, where the precondition holds, the two results are one. -/
theorem equal : Cert.algebraic_KernelIdeal_ReferenceIdeal_pre_finite (hKernelIdeal := Cert.KernelIdeal.Gen.facts)
    (hReferenceIdeal := Cert.ReferenceIdeal.Gen.facts) (hPre_finite := Fox.pre_facts) := fun m g m' g' hpre hargs => by
  open Cert.KernelIdeal Cert.KernelIdeal.Gen Fox in
  refine ⟨fun c => Pipeline.afterTail₀ cfgs (dats m) 0 (V0 m) [hostOps1] c main_v71, ?_, ?_⟩
  · open Cert.KernelIdeal Cert.KernelIdeal.Gen Fox in
    exact (θ_run defs _ _).mono (fun _ h c => ⟨(h.1 c).2 main_v71 (Pipeline.mem_restRefs_of main_v71 (by decide) (by decide)),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c),
      ((h.1 c).2 main_arg3 (Pipeline.mem_restRefs_of main_arg3 (by decide) (by decide))).trans (W_main_arg3 m (dats m) c),
      ((h.1 c).2 main_arg4 (Pipeline.mem_restRefs_of main_arg4 (by decide) (by decide))).trans (W_main_arg4 m (dats m) c)⟩) (run_main m g)
  · refine (θ_run Cert.ReferenceIdeal.defs _ _).mono (fun _ h c => ⟨(h c).1.trans ?_, (h c).2⟩) (Cert.ReferenceIdeal.Value.run (F := Ideal) m' g')
    obtain ⟨e0, e1, e2, e3, e4⟩ := hargs c
    refine (Fox.Ref.res_eq m' c).trans ?_
    rw [e0, e1, e2, e3, e4]
    exact (Fox.same (Fox.fin_of m c hpre)).symm

theorem frame_reference2 : Cert.quiescent_Reference2Ideal (hReference2Ideal := Cert.Reference2Ideal.Gen.facts) := fun m ρ _ =>
  (θ_run Cert.Reference2Ideal.defs _ _).mono (fun _ h => ⟨fun c => (h c).2.2.2.2.2.2, funext fun x => nomatch x.2⟩)
    (Inproj.Ref.run m ρ)

theorem frame_ideal2 : Cert.quiescent_Kernel2Ideal (hKernel2Ideal := Cert.Kernel2Ideal.Gen.facts) := fun m ρ _ =>
  Cert.Kernel2Ideal.Gen.frame m ρ

section
open Cert.Kernel2Ideal Cert.Kernel2Ideal.Gen

/-- The in-projection kernel's run, read at its six results and its arguments. -/
theorem run2 (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v11_0) = Inproj.W7 m c
      ∧ r.2.mem ((c.tc : Thread nD τ).loc main_v21) = Pipeline.afterTail₀ cfgs (dats m) 0 (V0 m) [hostOps1] c main_v21
      ∧ r.2.mem ((c.tc : Thread nD τ).loc main_v14) = Pipeline.afterTail₀ cfgs (dats m) 0 (V0 m) [hostOps1] c main_v14
      ∧ r.2.mem ((c.tc : Thread nD τ).loc main_v17) = Pipeline.afterTail₀ cfgs (dats m) 0 (V0 m) [hostOps1] c main_v17
      ∧ r.2.mem ((c.tc : Thread nD τ).loc main_v20) = Pipeline.afterTail₀ cfgs (dats m) 0 (V0 m) [hostOps1] c main_v20
      ∧ r.2.mem ((c.tc : Thread nD τ).loc main_v24) = Pipeline.afterTail₀ cfgs (dats m) 0 (V0 m) [hostOps1] c main_v24) :=
  (θ_run defs _ _).mono (fun _ h c => ⟨((h c).1 7).trans (Inproj.fin7 m c),
    (h c).2 main_v21 (Pipeline.mem_restRefs_of main_v21 (by decide) (by decide)),
    (h c).2 main_v14 (Pipeline.mem_restRefs_of main_v14 (by decide) (by decide)),
    (h c).2 main_v17 (Pipeline.mem_restRefs_of main_v17 (by decide) (by decide)),
    (h c).2 main_v20 (Pipeline.mem_restRefs_of main_v20 (by decide) (by decide)),
    (h c).2 main_v24 (Pipeline.mem_restRefs_of main_v24 (by decide) (by decide))⟩) (run_main m g)

end

/-- Over the extended reals, where the precondition holds, the six results are one. -/
theorem equal2 : Cert.algebraic_Kernel2Ideal_Reference2Ideal_pre_finite2 (hKernel2Ideal := Cert.Kernel2Ideal.Gen.facts)
    (hReference2Ideal := Cert.Reference2Ideal.Gen.facts) (hPre_finite2 := Inproj.pre_facts) := fun m g m' g' hpre hargs => by
  open Cert.Kernel2Ideal Cert.Kernel2Ideal.Gen in
  refine ⟨fun c => Inproj.W7 m c, fun c => Pipeline.afterTail₀ cfgs (dats m) 0 (V0 m) [hostOps1] c main_v21,
    fun c => Pipeline.afterTail₀ cfgs (dats m) 0 (V0 m) [hostOps1] c main_v14,
    fun c => Pipeline.afterTail₀ cfgs (dats m) 0 (V0 m) [hostOps1] c main_v17,
    fun c => Pipeline.afterTail₀ cfgs (dats m) 0 (V0 m) [hostOps1] c main_v20,
    fun c => Pipeline.afterTail₀ cfgs (dats m) 0 (V0 m) [hostOps1] c main_v24, ?_, ?_⟩
  · exact (θ_run Cert.Kernel2Ideal.defs _ _).mono
      (fun _ h c => ⟨(h.1 c).1, (h.1 c).2.1, (h.1 c).2.2.1, (h.1 c).2.2.2.1, (h.1 c).2.2.2.2.1, (h.1 c).2.2.2.2.2, h.2 c⟩)
      (θ_run_and (run2 m g) (Cert.Kernel2Ideal.Gen.unchanged m g))
  · refine (θ_run Cert.Reference2Ideal.defs _ _).mono (fun _ h c => ⟨(h c).1.trans ?_, (h c).2.1.trans ?_, (h c).2.2.1.trans ?_,
      (h c).2.2.2.1.trans ?_, (h c).2.2.2.2.1.trans ?_, (h c).2.2.2.2.2.1.trans ?_, (h c).2.2.2.2.2.2⟩) (Inproj.Ref.run m' g')
    all_goals obtain ⟨e0, e1, e2, e3, e4, e5, e6⟩ := hargs c
    · unfold Inproj.Ref.bX Inproj.Ref.bN Inproj.Ref.bW
      rw [e0, e1, e2]
      exact (Inproj.out_u (Inproj.P_real m c hpre)).symm
    · unfold Inproj.Ref.bX Inproj.Ref.bN Inproj.Ref.bW Inproj.Ref.bS
      rw [e0, e1, e2, e4]
      exact (Inproj.out_y (Inproj.P_real m c hpre)).symm
    · unfold Inproj.Ref.bX Inproj.Ref.bN Inproj.Ref.bW Inproj.Ref.bQ
      rw [e0, e1, e2, e5]
      exact (Inproj.out_q m c).symm
    · unfold Inproj.Ref.bX Inproj.Ref.bN Inproj.Ref.bW Inproj.Ref.bK
      rw [e0, e1, e2, e6]
      exact (Inproj.out_k m c).symm
    · unfold Inproj.Ref.bX Inproj.Ref.bN Inproj.Ref.bW
      rw [e0, e1, e2]
      exact (Inproj.out_v m c).symm
    · unfold Inproj.Ref.bX Inproj.Ref.bN Inproj.Ref.bW
      rw [e0, e1, e2]
      exact (Inproj.out_g (Inproj.P_real m c hpre)).symm

theorem frame_reference3 : Cert.quiescent_Reference3Ideal (hReference3Ideal := Cert.Reference3Ideal.Gen.facts) := fun m ρ _ =>
  (θ_run Cert.Reference3Ideal.defs _ _).mono (fun _ h => ⟨fun c => (h c).2, funext fun x => nomatch x.2⟩)
    (Cert.Reference3Ideal.Value.run (F := Ideal) m ρ)

theorem frame_ideal3 : Cert.quiescent_Kernel3Ideal (hKernel3Ideal := Cert.Kernel3Ideal.Gen.facts) := fun m ρ _ =>
  Cert.Kernel3Ideal.Gen.frame m ρ

section
open Cert.Kernel3Ideal Cert.Kernel3Ideal.Gen

/-- The out-projection kernel's run, read at its result. -/
theorem run3 (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v8) = Outproj.W11 m c) :=
  (θ_run defs _ _).mono (fun _ h c => ((h c).1 11).trans (Outproj.fin11 m c)) (run_main m g)

end

/-- Over the extended reals, where the precondition holds, the two results are one. -/
theorem equal3 : Cert.algebraic_Kernel3Ideal_Reference3Ideal_pre_finite3 (hKernel3Ideal := Cert.Kernel3Ideal.Gen.facts)
    (hReference3Ideal := Cert.Reference3Ideal.Gen.facts) (hPre_finite3 := Outproj.pre_facts) := fun m g m' g' hpre hargs => by
  refine ⟨fun c => Outproj.W11 m c, ?_, ?_⟩
  · exact (θ_run Cert.Kernel3Ideal.defs _ _).mono (fun _ h c => ⟨h.1 c, h.2 c⟩)
      (θ_run_and (run3 m g) (Cert.Kernel3Ideal.Gen.unchanged m g))
  · refine (θ_run Cert.Reference3Ideal.defs _ _).mono (fun _ h c => ⟨(h c).1.trans ?_, (h c).2⟩) (Cert.Reference3Ideal.Value.run (F := Ideal) m' g')
    obtain ⟨e0, e1, e2, e3, e4, e5, e6, e7, e8, e9⟩ := hargs c
    exact Outproj.same m c hpre (Idealize.ShloMosaic.StableHlo.launchContents m' c) e0 e1 e2 e3 e4 e5 e6 e7 e8 e9

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Fox.pre_facts, Inproj.pre_facts, Outproj.pre_facts,
  Fox.quiet_kernel, Fox.quiet_ideal, fun m ρ _ => Fox.quiet_ideal m ρ trivial, frame_reference,
  fun m ρ _ => frame_reference m ρ trivial,
  Inproj.quiet_kernel, frame_ideal2, fun m ρ _ => frame_ideal2 m ρ trivial, frame_reference2,
  fun m ρ _ => frame_reference2 m ρ trivial,
  Outproj.quiet_kernel, frame_ideal3, fun m ρ _ => frame_ideal3 m ρ trivial, frame_reference3,
  fun m ρ _ => frame_reference3 m ρ trivial,
  IdealRules.named_const.statement Cert.KernelIdeal.κ "mask" .f32 0xF149F2CA#32 ⊥ rfl, equal, trivial, equal2, trivial, equal3⟩

end Cert.Proof

end
